-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_expert_tables [hPre_expert_tables : Cert.Pre_expert_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_expert_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_heads [hPre_finite_heads : Cert.Pre_finite_heads.Facts] (m : (ℓ : Loc Cert.InprojIdeal.nD Cert.InprojIdeal.τ Cert.InprojIdeal.sig) → Buf (Elt Ideal) ℓ) : Prop :=
  ∀ c : Dev Cert.InprojIdeal.nD,
    (Cert.Pre_finite_heads.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12)) (m ((c.tc : Thread Cert.InprojIdeal.nD Cert.InprojIdeal.τ).loc Cert.InprojIdeal.main_arg13))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_heads [hPre_finite_heads : Cert.Pre_finite_heads.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_heads.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8)) (m ((c.tc : Thread Cert.InprojReferenceIdeal.nD Cert.InprojReferenceIdeal.τ).loc Cert.InprojReferenceIdeal.main_arg9)) (m ((c.tc : Thread Cert.InprojReferenceIdeal.nD Cert.InprojReferenceIdeal.τ).loc Cert.InprojReferenceIdeal.main_arg10)) (m ((c.tc : Thread Cert.InprojReferenceIdeal.nD Cert.InprojReferenceIdeal.τ).loc Cert.InprojReferenceIdeal.main_arg11)) (m ((c.tc : Thread Cert.InprojReferenceIdeal.nD Cert.InprojReferenceIdeal.τ).loc Cert.InprojReferenceIdeal.main_arg12)) (m ((c.tc : Thread Cert.InprojReferenceIdeal.nD Cert.InprojReferenceIdeal.τ).loc Cert.InprojReferenceIdeal.main_arg13))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InprojCtx (m : (ℓ : Loc Cert.InprojCtx.nD Cert.InprojCtx.τ Cert.InprojCtx.sig) → Buf (Elt Bits) ℓ) : Prop :=
  True

def Pre_InprojCtxIdeal (m : (ℓ : Loc Cert.InprojCtxIdeal.nD Cert.InprojCtxIdeal.τ Cert.InprojCtxIdeal.sig) → Buf (Elt Ideal) ℓ) : Prop :=
  True

def Pre_InprojCtxIdeal_finite_keys [hPre_finite_keys : Cert.Pre_finite_keys.Facts] (m : (ℓ : Loc Cert.InprojCtxIdeal.nD Cert.InprojCtxIdeal.τ Cert.InprojCtxIdeal.sig) → Buf (Elt Ideal) ℓ) : Prop :=
  ∀ c : Dev Cert.InprojCtxIdeal.nD,
    (Cert.Pre_finite_keys.fn (F := Ideal) (m ((c.tc : Thread Cert.InprojCtxIdeal.nD Cert.InprojCtxIdeal.τ).loc Cert.InprojCtxIdeal.main_arg0)) (m ((c.tc : Thread Cert.InprojCtxIdeal.nD Cert.InprojCtxIdeal.τ).loc Cert.InprojCtxIdeal.main_arg1)) (m ((c.tc : Thread Cert.InprojCtxIdeal.nD Cert.InprojCtxIdeal.τ).loc Cert.InprojCtxIdeal.main_arg2)) (m ((c.tc : Thread Cert.InprojCtxIdeal.nD Cert.InprojCtxIdeal.τ).loc Cert.InprojCtxIdeal.main_arg3)) (m ((c.tc : Thread Cert.InprojCtxIdeal.nD Cert.InprojCtxIdeal.τ).loc Cert.InprojCtxIdeal.main_arg4)) (m ((c.tc : Thread Cert.InprojCtxIdeal.nD Cert.InprojCtxIdeal.τ).loc Cert.InprojCtxIdeal.main_arg5)) (m ((c.tc : Thread Cert.InprojCtxIdeal.nD Cert.InprojCtxIdeal.τ).loc Cert.InprojCtxIdeal.main_arg6)) (m ((c.tc : Thread Cert.InprojCtxIdeal.nD Cert.InprojCtxIdeal.τ).loc Cert.InprojCtxIdeal.main_arg7))) = (fun _ => 1#1)

def Pre_InprojCtxReferenceIdeal (m : (ℓ : Loc Cert.InprojCtxReferenceIdeal.nD Cert.InprojCtxReferenceIdeal.τ Cert.InprojCtxReferenceIdeal.sig) → Buf (Elt Ideal) ℓ) : Prop :=
  True

def Pre_InprojCtxReferenceIdeal_finite_keys [hPre_finite_keys : Cert.Pre_finite_keys.Facts] (m : (ℓ : Loc Cert.InprojCtxReferenceIdeal.nD Cert.InprojCtxReferenceIdeal.τ Cert.InprojCtxReferenceIdeal.sig) → Buf (Elt Ideal) ℓ) : Prop :=
  ∀ c : Dev Cert.InprojCtxReferenceIdeal.nD,
    (Cert.Pre_finite_keys.fn (F := Ideal) (m ((c.tc : Thread Cert.InprojCtxReferenceIdeal.nD Cert.InprojCtxReferenceIdeal.τ).loc Cert.InprojCtxReferenceIdeal.main_arg0)) (m ((c.tc : Thread Cert.InprojCtxReferenceIdeal.nD Cert.InprojCtxReferenceIdeal.τ).loc Cert.InprojCtxReferenceIdeal.main_arg1)) (m ((c.tc : Thread Cert.InprojCtxReferenceIdeal.nD Cert.InprojCtxReferenceIdeal.τ).loc Cert.InprojCtxReferenceIdeal.main_arg2)) (m ((c.tc : Thread Cert.InprojCtxReferenceIdeal.nD Cert.InprojCtxReferenceIdeal.τ).loc Cert.InprojCtxReferenceIdeal.main_arg3)) (m ((c.tc : Thread Cert.InprojCtxReferenceIdeal.nD Cert.InprojCtxReferenceIdeal.τ).loc Cert.InprojCtxReferenceIdeal.main_arg4)) (m ((c.tc : Thread Cert.InprojCtxReferenceIdeal.nD Cert.InprojCtxReferenceIdeal.τ).loc Cert.InprojCtxReferenceIdeal.main_arg5)) (m ((c.tc : Thread Cert.InprojCtxReferenceIdeal.nD Cert.InprojCtxReferenceIdeal.τ).loc Cert.InprojCtxReferenceIdeal.main_arg6)) (m ((c.tc : Thread Cert.InprojCtxReferenceIdeal.nD Cert.InprojCtxReferenceIdeal.τ).loc Cert.InprojCtxReferenceIdeal.main_arg7))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Pos (m : (ℓ : Loc Cert.Pos.nD Cert.Pos.τ Cert.Pos.sig) → Buf (Elt Bits) ℓ) : Prop :=
  True

def Pre_PosIdeal (m : (ℓ : Loc Cert.PosIdeal.nD Cert.PosIdeal.τ Cert.PosIdeal.sig) → Buf (Elt Ideal) ℓ) : Prop :=
  True

def Pre_PosReferenceIdeal (m : (ℓ : Loc Cert.PosReferenceIdeal.nD Cert.PosReferenceIdeal.τ Cert.PosReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_expert_tables [hExpertsReferenceIdeal : Cert.ExpertsReferenceIdeal.Facts] [hPre_expert_tables : Cert.Pre_expert_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_expert_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojIdeal_pre_finite_heads [hInprojIdeal : Cert.InprojIdeal.Facts] [hPre_finite_heads : Cert.Pre_finite_heads.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_heads m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11)
      ∧ r.2.mem ((c.tc : Thread Cert.InprojReferenceIdeal.nD Cert.InprojReferenceIdeal.τ).loc Cert.InprojReferenceIdeal.main_arg12) = m ((c.tc : Thread Cert.InprojReferenceIdeal.nD Cert.InprojReferenceIdeal.τ).loc Cert.InprojReferenceIdeal.main_arg12)
      ∧ r.2.mem ((c.tc : Thread Cert.InprojReferenceIdeal.nD Cert.InprojReferenceIdeal.τ).loc Cert.InprojReferenceIdeal.main_arg13) = m ((c.tc : Thread Cert.InprojReferenceIdeal.nD Cert.InprojReferenceIdeal.τ).loc Cert.InprojReferenceIdeal.main_arg13))
      ∧ r.2.sem = fun _ => 0)

def quiescent_InprojReferenceIdeal_pre_finite_heads [hInprojReferenceIdeal : Cert.InprojReferenceIdeal.Facts] [hPre_finite_heads : Cert.Pre_finite_heads.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_heads m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11)
      ∧ r.2.mem ((c.tc : Thread Cert.InprojReferenceIdeal.nD Cert.InprojReferenceIdeal.τ).loc Cert.InprojReferenceIdeal.main_arg12) = m ((c.tc : Thread Cert.InprojReferenceIdeal.nD Cert.InprojReferenceIdeal.τ).loc Cert.InprojReferenceIdeal.main_arg12)
      ∧ r.2.mem ((c.tc : Thread Cert.InprojReferenceIdeal.nD Cert.InprojReferenceIdeal.τ).loc Cert.InprojReferenceIdeal.main_arg13) = m ((c.tc : Thread Cert.InprojReferenceIdeal.nD Cert.InprojReferenceIdeal.τ).loc Cert.InprojReferenceIdeal.main_arg13))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_InprojCtx [hInprojCtx : Cert.InprojCtx.Facts] : Prop :=
  ∀ (m : (ℓ : Loc Cert.InprojCtx.nD Cert.InprojCtx.τ Cert.InprojCtx.sig) → Buf (Elt Bits) ℓ) (g : Dev Cert.InprojCtx.nD → PrngReg), Pre_InprojCtx m →
    θ_run (Cert.InprojCtx.defs (F := Bits)) (onTc (τ := Cert.InprojCtx.τ) (Cert.InprojCtx.main (F := Bits))) ⟨m, fun _ => 0, g⟩ (fun r => (∀ c : Dev Cert.InprojCtx.nD,
      r.2.mem ((c.tc : Thread Cert.InprojCtx.nD Cert.InprojCtx.τ).loc Cert.InprojCtx.main_arg0) = m ((c.tc : Thread Cert.InprojCtx.nD Cert.InprojCtx.τ).loc Cert.InprojCtx.main_arg0)
      ∧ r.2.mem ((c.tc : Thread Cert.InprojCtx.nD Cert.InprojCtx.τ).loc Cert.InprojCtx.main_arg1) = m ((c.tc : Thread Cert.InprojCtx.nD Cert.InprojCtx.τ).loc Cert.InprojCtx.main_arg1)
      ∧ r.2.mem ((c.tc : Thread Cert.InprojCtx.nD Cert.InprojCtx.τ).loc Cert.InprojCtx.main_arg2) = m ((c.tc : Thread Cert.InprojCtx.nD Cert.InprojCtx.τ).loc Cert.InprojCtx.main_arg2)
      ∧ r.2.mem ((c.tc : Thread Cert.InprojCtx.nD Cert.InprojCtx.τ).loc Cert.InprojCtx.main_arg3) = m ((c.tc : Thread Cert.InprojCtx.nD Cert.InprojCtx.τ).loc Cert.InprojCtx.main_arg3)
      ∧ r.2.mem ((c.tc : Thread Cert.InprojCtx.nD Cert.InprojCtx.τ).loc Cert.InprojCtx.main_arg4) = m ((c.tc : Thread Cert.InprojCtx.nD Cert.InprojCtx.τ).loc Cert.InprojCtx.main_arg4)
      ∧ r.2.mem ((c.tc : Thread Cert.InprojCtx.nD Cert.InprojCtx.τ).loc Cert.InprojCtx.main_arg5) = m ((c.tc : Thread Cert.InprojCtx.nD Cert.InprojCtx.τ).loc Cert.InprojCtx.main_arg5)
      ∧ r.2.mem ((c.tc : Thread Cert.InprojCtx.nD Cert.InprojCtx.τ).loc Cert.InprojCtx.main_arg6) = m ((c.tc : Thread Cert.InprojCtx.nD Cert.InprojCtx.τ).loc Cert.InprojCtx.main_arg6)
      ∧ r.2.mem ((c.tc : Thread Cert.InprojCtx.nD Cert.InprojCtx.τ).loc Cert.InprojCtx.main_arg7) = m ((c.tc : Thread Cert.InprojCtx.nD Cert.InprojCtx.τ).loc Cert.InprojCtx.main_arg7))
      ∧ r.2.sem = fun _ => 0)

def quiescent_InprojCtxIdeal [hInprojCtxIdeal : Cert.InprojCtxIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3)
      ∧ r.2.mem ((c.tc : Thread Cert.InprojCtxIdeal.nD Cert.InprojCtxIdeal.τ).loc Cert.InprojCtxIdeal.main_arg4) = m ((c.tc : Thread Cert.InprojCtxIdeal.nD Cert.InprojCtxIdeal.τ).loc Cert.InprojCtxIdeal.main_arg4)
      ∧ r.2.mem ((c.tc : Thread Cert.InprojCtxIdeal.nD Cert.InprojCtxIdeal.τ).loc Cert.InprojCtxIdeal.main_arg5) = m ((c.tc : Thread Cert.InprojCtxIdeal.nD Cert.InprojCtxIdeal.τ).loc Cert.InprojCtxIdeal.main_arg5)
      ∧ r.2.mem ((c.tc : Thread Cert.InprojCtxIdeal.nD Cert.InprojCtxIdeal.τ).loc Cert.InprojCtxIdeal.main_arg6) = m ((c.tc : Thread Cert.InprojCtxIdeal.nD Cert.InprojCtxIdeal.τ).loc Cert.InprojCtxIdeal.main_arg6)
      ∧ r.2.mem ((c.tc : Thread Cert.InprojCtxIdeal.nD Cert.InprojCtxIdeal.τ).loc Cert.InprojCtxIdeal.main_arg7) = m ((c.tc : Thread Cert.InprojCtxIdeal.nD Cert.InprojCtxIdeal.τ).loc Cert.InprojCtxIdeal.main_arg7))
      ∧ r.2.sem = fun _ => 0)

def quiescent_InprojCtxIdeal_pre_finite_keys [hInprojCtxIdeal : Cert.InprojCtxIdeal.Facts] [hPre_finite_keys : Cert.Pre_finite_keys.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal_finite_keys m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3)
      ∧ r.2.mem ((c.tc : Thread Cert.InprojCtxIdeal.nD Cert.InprojCtxIdeal.τ).loc Cert.InprojCtxIdeal.main_arg4) = m ((c.tc : Thread Cert.InprojCtxIdeal.nD Cert.InprojCtxIdeal.τ).loc Cert.InprojCtxIdeal.main_arg4)
      ∧ r.2.mem ((c.tc : Thread Cert.InprojCtxIdeal.nD Cert.InprojCtxIdeal.τ).loc Cert.InprojCtxIdeal.main_arg5) = m ((c.tc : Thread Cert.InprojCtxIdeal.nD Cert.InprojCtxIdeal.τ).loc Cert.InprojCtxIdeal.main_arg5)
      ∧ r.2.mem ((c.tc : Thread Cert.InprojCtxIdeal.nD Cert.InprojCtxIdeal.τ).loc Cert.InprojCtxIdeal.main_arg6) = m ((c.tc : Thread Cert.InprojCtxIdeal.nD Cert.InprojCtxIdeal.τ).loc Cert.InprojCtxIdeal.main_arg6)
      ∧ r.2.mem ((c.tc : Thread Cert.InprojCtxIdeal.nD Cert.InprojCtxIdeal.τ).loc Cert.InprojCtxIdeal.main_arg7) = m ((c.tc : Thread Cert.InprojCtxIdeal.nD Cert.InprojCtxIdeal.τ).loc Cert.InprojCtxIdeal.main_arg7))
      ∧ r.2.sem = fun _ => 0)

def quiescent_InprojCtxReferenceIdeal [hInprojCtxReferenceIdeal : Cert.InprojCtxReferenceIdeal.Facts] : Prop :=
  ∀ (m : (ℓ : Loc Cert.InprojCtxReferenceIdeal.nD Cert.InprojCtxReferenceIdeal.τ Cert.InprojCtxReferenceIdeal.sig) → Buf (Elt Ideal) ℓ) (g : Dev Cert.InprojCtxReferenceIdeal.nD → PrngReg), Pre_InprojCtxReferenceIdeal m →
    θ_run (Cert.InprojCtxReferenceIdeal.defs (F := Ideal)) (onTc (τ := Cert.InprojCtxReferenceIdeal.τ) (Cert.InprojCtxReferenceIdeal.main (F := Ideal))) ⟨m, fun _ => 0, g⟩ (fun r => (∀ c : Dev Cert.InprojCtxReferenceIdeal.nD,
      r.2.mem ((c.tc : Thread Cert.InprojCtxReferenceIdeal.nD Cert.InprojCtxReferenceIdeal.τ).loc Cert.InprojCtxReferenceIdeal.main_arg0) = m ((c.tc : Thread Cert.InprojCtxReferenceIdeal.nD Cert.InprojCtxReferenceIdeal.τ).loc Cert.InprojCtxReferenceIdeal.main_arg0)
      ∧ r.2.mem ((c.tc : Thread Cert.InprojCtxReferenceIdeal.nD Cert.InprojCtxReferenceIdeal.τ).loc Cert.InprojCtxReferenceIdeal.main_arg1) = m ((c.tc : Thread Cert.InprojCtxReferenceIdeal.nD Cert.InprojCtxReferenceIdeal.τ).loc Cert.InprojCtxReferenceIdeal.main_arg1)
      ∧ r.2.mem ((c.tc : Thread Cert.InprojCtxReferenceIdeal.nD Cert.InprojCtxReferenceIdeal.τ).loc Cert.InprojCtxReferenceIdeal.main_arg2) = m ((c.tc : Thread Cert.InprojCtxReferenceIdeal.nD Cert.InprojCtxReferenceIdeal.τ).loc Cert.InprojCtxReferenceIdeal.main_arg2)
      ∧ r.2.mem ((c.tc : Thread Cert.InprojCtxReferenceIdeal.nD Cert.InprojCtxReferenceIdeal.τ).loc Cert.InprojCtxReferenceIdeal.main_arg3) = m ((c.tc : Thread Cert.InprojCtxReferenceIdeal.nD Cert.InprojCtxReferenceIdeal.τ).loc Cert.InprojCtxReferenceIdeal.main_arg3)
      ∧ r.2.mem ((c.tc : Thread Cert.InprojCtxReferenceIdeal.nD Cert.InprojCtxReferenceIdeal.τ).loc Cert.InprojCtxReferenceIdeal.main_arg4) = m ((c.tc : Thread Cert.InprojCtxReferenceIdeal.nD Cert.InprojCtxReferenceIdeal.τ).loc Cert.InprojCtxReferenceIdeal.main_arg4)
      ∧ r.2.mem ((c.tc : Thread Cert.InprojCtxReferenceIdeal.nD Cert.InprojCtxReferenceIdeal.τ).loc Cert.InprojCtxReferenceIdeal.main_arg5) = m ((c.tc : Thread Cert.InprojCtxReferenceIdeal.nD Cert.InprojCtxReferenceIdeal.τ).loc Cert.InprojCtxReferenceIdeal.main_arg5)
      ∧ r.2.mem ((c.tc : Thread Cert.InprojCtxReferenceIdeal.nD Cert.InprojCtxReferenceIdeal.τ).loc Cert.InprojCtxReferenceIdeal.main_arg6) = m ((c.tc : Thread Cert.InprojCtxReferenceIdeal.nD Cert.InprojCtxReferenceIdeal.τ).loc Cert.InprojCtxReferenceIdeal.main_arg6)
      ∧ r.2.mem ((c.tc : Thread Cert.InprojCtxReferenceIdeal.nD Cert.InprojCtxReferenceIdeal.τ).loc Cert.InprojCtxReferenceIdeal.main_arg7) = m ((c.tc : Thread Cert.InprojCtxReferenceIdeal.nD Cert.InprojCtxReferenceIdeal.τ).loc Cert.InprojCtxReferenceIdeal.main_arg7))
      ∧ r.2.sem = fun _ => 0)

def quiescent_InprojCtxReferenceIdeal_pre_finite_keys [hInprojCtxReferenceIdeal : Cert.InprojCtxReferenceIdeal.Facts] [hPre_finite_keys : Cert.Pre_finite_keys.Facts] : Prop :=
  ∀ (m : (ℓ : Loc Cert.InprojCtxReferenceIdeal.nD Cert.InprojCtxReferenceIdeal.τ Cert.InprojCtxReferenceIdeal.sig) → Buf (Elt Ideal) ℓ) (g : Dev Cert.InprojCtxReferenceIdeal.nD → PrngReg), Pre_InprojCtxReferenceIdeal_finite_keys m →
    θ_run (Cert.InprojCtxReferenceIdeal.defs (F := Ideal)) (onTc (τ := Cert.InprojCtxReferenceIdeal.τ) (Cert.InprojCtxReferenceIdeal.main (F := Ideal))) ⟨m, fun _ => 0, g⟩ (fun r => (∀ c : Dev Cert.InprojCtxReferenceIdeal.nD,
      r.2.mem ((c.tc : Thread Cert.InprojCtxReferenceIdeal.nD Cert.InprojCtxReferenceIdeal.τ).loc Cert.InprojCtxReferenceIdeal.main_arg0) = m ((c.tc : Thread Cert.InprojCtxReferenceIdeal.nD Cert.InprojCtxReferenceIdeal.τ).loc Cert.InprojCtxReferenceIdeal.main_arg0)
      ∧ r.2.mem ((c.tc : Thread Cert.InprojCtxReferenceIdeal.nD Cert.InprojCtxReferenceIdeal.τ).loc Cert.InprojCtxReferenceIdeal.main_arg1) = m ((c.tc : Thread Cert.InprojCtxReferenceIdeal.nD Cert.InprojCtxReferenceIdeal.τ).loc Cert.InprojCtxReferenceIdeal.main_arg1)
      ∧ r.2.mem ((c.tc : Thread Cert.InprojCtxReferenceIdeal.nD Cert.InprojCtxReferenceIdeal.τ).loc Cert.InprojCtxReferenceIdeal.main_arg2) = m ((c.tc : Thread Cert.InprojCtxReferenceIdeal.nD Cert.InprojCtxReferenceIdeal.τ).loc Cert.InprojCtxReferenceIdeal.main_arg2)
      ∧ r.2.mem ((c.tc : Thread Cert.InprojCtxReferenceIdeal.nD Cert.InprojCtxReferenceIdeal.τ).loc Cert.InprojCtxReferenceIdeal.main_arg3) = m ((c.tc : Thread Cert.InprojCtxReferenceIdeal.nD Cert.InprojCtxReferenceIdeal.τ).loc Cert.InprojCtxReferenceIdeal.main_arg3)
      ∧ r.2.mem ((c.tc : Thread Cert.InprojCtxReferenceIdeal.nD Cert.InprojCtxReferenceIdeal.τ).loc Cert.InprojCtxReferenceIdeal.main_arg4) = m ((c.tc : Thread Cert.InprojCtxReferenceIdeal.nD Cert.InprojCtxReferenceIdeal.τ).loc Cert.InprojCtxReferenceIdeal.main_arg4)
      ∧ r.2.mem ((c.tc : Thread Cert.InprojCtxReferenceIdeal.nD Cert.InprojCtxReferenceIdeal.τ).loc Cert.InprojCtxReferenceIdeal.main_arg5) = m ((c.tc : Thread Cert.InprojCtxReferenceIdeal.nD Cert.InprojCtxReferenceIdeal.τ).loc Cert.InprojCtxReferenceIdeal.main_arg5)
      ∧ r.2.mem ((c.tc : Thread Cert.InprojCtxReferenceIdeal.nD Cert.InprojCtxReferenceIdeal.τ).loc Cert.InprojCtxReferenceIdeal.main_arg6) = m ((c.tc : Thread Cert.InprojCtxReferenceIdeal.nD Cert.InprojCtxReferenceIdeal.τ).loc Cert.InprojCtxReferenceIdeal.main_arg6)
      ∧ r.2.mem ((c.tc : Thread Cert.InprojCtxReferenceIdeal.nD Cert.InprojCtxReferenceIdeal.τ).loc Cert.InprojCtxReferenceIdeal.main_arg7) = m ((c.tc : Thread Cert.InprojCtxReferenceIdeal.nD Cert.InprojCtxReferenceIdeal.τ).loc Cert.InprojCtxReferenceIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Pos [hPos : Cert.Pos.Facts] : Prop :=
  ∀ (m : (ℓ : Loc Cert.Pos.nD Cert.Pos.τ Cert.Pos.sig) → Buf (Elt Bits) ℓ) (g : Dev Cert.Pos.nD → PrngReg), Pre_Pos m →
    θ_run (Cert.Pos.defs (F := Bits)) (onTc (τ := Cert.Pos.τ) (Cert.Pos.main (F := Bits))) ⟨m, fun _ => 0, g⟩ (fun r => (∀ c : Dev Cert.Pos.nD,
      r.2.mem ((c.tc : Thread Cert.Pos.nD Cert.Pos.τ).loc Cert.Pos.main_arg0) = m ((c.tc : Thread Cert.Pos.nD Cert.Pos.τ).loc Cert.Pos.main_arg0)
      ∧ r.2.mem ((c.tc : Thread Cert.Pos.nD Cert.Pos.τ).loc Cert.Pos.main_arg1) = m ((c.tc : Thread Cert.Pos.nD Cert.Pos.τ).loc Cert.Pos.main_arg1))
      ∧ r.2.sem = fun _ => 0)

def quiescent_PosIdeal [hPosIdeal : Cert.PosIdeal.Facts] : Prop :=
  ∀ (m : (ℓ : Loc Cert.PosIdeal.nD Cert.PosIdeal.τ Cert.PosIdeal.sig) → Buf (Elt Ideal) ℓ) (g : Dev Cert.PosIdeal.nD → PrngReg), Pre_PosIdeal m →
    θ_run (Cert.PosIdeal.defs (F := Ideal)) (onTc (τ := Cert.PosIdeal.τ) (Cert.PosIdeal.main (F := Ideal))) ⟨m, fun _ => 0, g⟩ (fun r => (∀ c : Dev Cert.PosIdeal.nD,
      r.2.mem ((c.tc : Thread Cert.PosIdeal.nD Cert.PosIdeal.τ).loc Cert.PosIdeal.main_arg0) = m ((c.tc : Thread Cert.PosIdeal.nD Cert.PosIdeal.τ).loc Cert.PosIdeal.main_arg0)
      ∧ r.2.mem ((c.tc : Thread Cert.PosIdeal.nD Cert.PosIdeal.τ).loc Cert.PosIdeal.main_arg1) = m ((c.tc : Thread Cert.PosIdeal.nD Cert.PosIdeal.τ).loc Cert.PosIdeal.main_arg1))
      ∧ r.2.sem = fun _ => 0)

def quiescent_PosReferenceIdeal [hPosReferenceIdeal : Cert.PosReferenceIdeal.Facts] : Prop :=
  ∀ (m : (ℓ : Loc Cert.PosReferenceIdeal.nD Cert.PosReferenceIdeal.τ Cert.PosReferenceIdeal.sig) → Buf (Elt Ideal) ℓ) (g : Dev Cert.PosReferenceIdeal.nD → PrngReg), Pre_PosReferenceIdeal m →
    θ_run (Cert.PosReferenceIdeal.defs (F := Ideal)) (onTc (τ := Cert.PosReferenceIdeal.τ) (Cert.PosReferenceIdeal.main (F := Ideal))) ⟨m, fun _ => 0, g⟩ (fun r => (∀ c : Dev Cert.PosReferenceIdeal.nD,
      r.2.mem ((c.tc : Thread Cert.PosReferenceIdeal.nD Cert.PosReferenceIdeal.τ).loc Cert.PosReferenceIdeal.main_arg0) = m ((c.tc : Thread Cert.PosReferenceIdeal.nD Cert.PosReferenceIdeal.τ).loc Cert.PosReferenceIdeal.main_arg0)
      ∧ r.2.mem ((c.tc : Thread Cert.PosReferenceIdeal.nD Cert.PosReferenceIdeal.τ).loc Cert.PosReferenceIdeal.main_arg1) = m ((c.tc : Thread Cert.PosReferenceIdeal.nD Cert.PosReferenceIdeal.τ).loc Cert.PosReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Inproj_InprojIdeal : Prop :=
  True

def algebraic_InprojIdeal_InprojReferenceIdeal_pre_finite_heads [hInprojIdeal : Cert.InprojIdeal.Facts] [hInprojReferenceIdeal : Cert.InprojReferenceIdeal.Facts] [hPre_finite_heads : Cert.Pre_finite_heads.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_heads m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)
      ∧ m' ((c.tc : Thread Cert.InprojReferenceIdeal.nD Cert.InprojReferenceIdeal.τ).loc Cert.InprojReferenceIdeal.main_arg11) = m ((c.tc : Thread Cert.InprojIdeal.nD Cert.InprojIdeal.τ).loc Cert.InprojIdeal.main_arg11)
      ∧ m' ((c.tc : Thread Cert.InprojReferenceIdeal.nD Cert.InprojReferenceIdeal.τ).loc Cert.InprojReferenceIdeal.main_arg12) = m ((c.tc : Thread Cert.InprojIdeal.nD Cert.InprojIdeal.τ).loc Cert.InprojIdeal.main_arg12)
      ∧ m' ((c.tc : Thread Cert.InprojReferenceIdeal.nD Cert.InprojReferenceIdeal.τ).loc Cert.InprojReferenceIdeal.main_arg13) = m ((c.tc : Thread Cert.InprojIdeal.nD Cert.InprojIdeal.τ).loc Cert.InprojIdeal.main_arg13)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)) (v5 : (c : Dev Cert.InprojIdeal.nD) → Buf (Elt Ideal) ((c.tc : Thread Cert.InprojIdeal.nD Cert.InprojIdeal.τ).loc Cert.InprojIdeal.main_v9_5)) (v6 : (c : Dev Cert.InprojIdeal.nD) → Buf (Elt Ideal) ((c.tc : Thread Cert.InprojIdeal.nD Cert.InprojIdeal.τ).loc Cert.InprojIdeal.main_v9_6)) (v7 : (c : Dev Cert.InprojIdeal.nD) → Buf (Elt Ideal) ((c.tc : Thread Cert.InprojIdeal.nD Cert.InprojIdeal.τ).loc Cert.InprojIdeal.main_v9_7)) (v8 : (c : Dev Cert.InprojIdeal.nD) → Buf (Elt Ideal) ((c.tc : Thread Cert.InprojIdeal.nD Cert.InprojIdeal.τ).loc Cert.InprojIdeal.main_v9_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_v9_5) = v5 c
          ∧ r.2.mem ((c.tc : Thread Cert.InprojIdeal.nD Cert.InprojIdeal.τ).loc Cert.InprojIdeal.main_v9_6) = v6 c
          ∧ r.2.mem ((c.tc : Thread Cert.InprojIdeal.nD Cert.InprojIdeal.τ).loc Cert.InprojIdeal.main_v9_7) = v7 c
          ∧ r.2.mem ((c.tc : Thread Cert.InprojIdeal.nD Cert.InprojIdeal.τ).loc Cert.InprojIdeal.main_v9_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v141) = v0 c
          ∧ r.2.mem ((c.tc : Thread Cert.InprojReferenceIdeal.nD Cert.InprojReferenceIdeal.τ).loc Cert.InprojReferenceIdeal.main_v143) = v1 c
          ∧ r.2.mem ((c.tc : Thread Cert.InprojReferenceIdeal.nD Cert.InprojReferenceIdeal.τ).loc Cert.InprojReferenceIdeal.main_v145) = v2 c
          ∧ r.2.mem ((c.tc : Thread Cert.InprojReferenceIdeal.nD Cert.InprojReferenceIdeal.τ).loc Cert.InprojReferenceIdeal.main_v147) = v3 c
          ∧ r.2.mem ((c.tc : Thread Cert.InprojReferenceIdeal.nD Cert.InprojReferenceIdeal.τ).loc Cert.InprojReferenceIdeal.main_v86) = v4 c
          ∧ r.2.mem ((c.tc : Thread Cert.InprojReferenceIdeal.nD Cert.InprojReferenceIdeal.τ).loc Cert.InprojReferenceIdeal.main_v88) = v5 c
          ∧ r.2.mem ((c.tc : Thread Cert.InprojReferenceIdeal.nD Cert.InprojReferenceIdeal.τ).loc Cert.InprojReferenceIdeal.main_v148) = v6 c
          ∧ r.2.mem ((c.tc : Thread Cert.InprojReferenceIdeal.nD Cert.InprojReferenceIdeal.τ).loc Cert.InprojReferenceIdeal.main_v151) = v7 c
          ∧ r.2.mem ((c.tc : Thread Cert.InprojReferenceIdeal.nD Cert.InprojReferenceIdeal.τ).loc Cert.InprojReferenceIdeal.main_v154) = v8 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10)
          ∧ r.2.mem ((c.tc : Thread Cert.InprojReferenceIdeal.nD Cert.InprojReferenceIdeal.τ).loc Cert.InprojReferenceIdeal.main_arg11) = m' ((c.tc : Thread Cert.InprojReferenceIdeal.nD Cert.InprojReferenceIdeal.τ).loc Cert.InprojReferenceIdeal.main_arg11)
          ∧ r.2.mem ((c.tc : Thread Cert.InprojReferenceIdeal.nD Cert.InprojReferenceIdeal.τ).loc Cert.InprojReferenceIdeal.main_arg12) = m' ((c.tc : Thread Cert.InprojReferenceIdeal.nD Cert.InprojReferenceIdeal.τ).loc Cert.InprojReferenceIdeal.main_arg12)
          ∧ r.2.mem ((c.tc : Thread Cert.InprojReferenceIdeal.nD Cert.InprojReferenceIdeal.τ).loc Cert.InprojReferenceIdeal.main_arg13) = m' ((c.tc : Thread Cert.InprojReferenceIdeal.nD Cert.InprojReferenceIdeal.τ).loc Cert.InprojReferenceIdeal.main_arg13))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v74) = v0 c
          ∧ r.2.mem ((c.tc : Thread Cert.MergeReferenceIdeal.nD Cert.MergeReferenceIdeal.τ).loc Cert.MergeReferenceIdeal.main_v93) = v1 c
          ∧ r.2.mem ((c.tc : Thread Cert.MergeReferenceIdeal.nD Cert.MergeReferenceIdeal.τ).loc Cert.MergeReferenceIdeal.main_v103) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_InprojCtx_InprojCtxIdeal : Prop :=
  True

def algebraic_InprojCtxIdeal_InprojCtxReferenceIdeal_pre_finite_keys [hInprojCtxIdeal : Cert.InprojCtxIdeal.Facts] [hInprojCtxReferenceIdeal : Cert.InprojCtxReferenceIdeal.Facts] [hPre_finite_keys : Cert.Pre_finite_keys.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg)
    (m' : (ℓ : Loc Cert.InprojCtxReferenceIdeal.nD Cert.InprojCtxReferenceIdeal.τ Cert.InprojCtxReferenceIdeal.sig) → Buf (Elt Ideal) ℓ) (g' : Dev Cert.InprojCtxReferenceIdeal.nD → PrngReg), Pre_InprojCtxIdeal_finite_keys m →
    (∀ c : Dev Cert.InprojCtxIdeal.nD,
      m' ((c.tc : Thread Cert.InprojCtxReferenceIdeal.nD Cert.InprojCtxReferenceIdeal.τ).loc Cert.InprojCtxReferenceIdeal.main_arg0) = m ((c.tc : Thread Cert.InprojCtxIdeal.nD Cert.InprojCtxIdeal.τ).loc Cert.InprojCtxIdeal.main_arg0)
      ∧ m' ((c.tc : Thread Cert.InprojCtxReferenceIdeal.nD Cert.InprojCtxReferenceIdeal.τ).loc Cert.InprojCtxReferenceIdeal.main_arg1) = m ((c.tc : Thread Cert.InprojCtxIdeal.nD Cert.InprojCtxIdeal.τ).loc Cert.InprojCtxIdeal.main_arg1)
      ∧ m' ((c.tc : Thread Cert.InprojCtxReferenceIdeal.nD Cert.InprojCtxReferenceIdeal.τ).loc Cert.InprojCtxReferenceIdeal.main_arg2) = m ((c.tc : Thread Cert.InprojCtxIdeal.nD Cert.InprojCtxIdeal.τ).loc Cert.InprojCtxIdeal.main_arg2)
      ∧ m' ((c.tc : Thread Cert.InprojCtxReferenceIdeal.nD Cert.InprojCtxReferenceIdeal.τ).loc Cert.InprojCtxReferenceIdeal.main_arg3) = m ((c.tc : Thread Cert.InprojCtxIdeal.nD Cert.InprojCtxIdeal.τ).loc Cert.InprojCtxIdeal.main_arg3)
      ∧ m' ((c.tc : Thread Cert.InprojCtxReferenceIdeal.nD Cert.InprojCtxReferenceIdeal.τ).loc Cert.InprojCtxReferenceIdeal.main_arg4) = m ((c.tc : Thread Cert.InprojCtxIdeal.nD Cert.InprojCtxIdeal.τ).loc Cert.InprojCtxIdeal.main_arg4)
      ∧ m' ((c.tc : Thread Cert.InprojCtxReferenceIdeal.nD Cert.InprojCtxReferenceIdeal.τ).loc Cert.InprojCtxReferenceIdeal.main_arg5) = m ((c.tc : Thread Cert.InprojCtxIdeal.nD Cert.InprojCtxIdeal.τ).loc Cert.InprojCtxIdeal.main_arg5)
      ∧ m' ((c.tc : Thread Cert.InprojCtxReferenceIdeal.nD Cert.InprojCtxReferenceIdeal.τ).loc Cert.InprojCtxReferenceIdeal.main_arg6) = m ((c.tc : Thread Cert.InprojCtxIdeal.nD Cert.InprojCtxIdeal.τ).loc Cert.InprojCtxIdeal.main_arg6)
      ∧ m' ((c.tc : Thread Cert.InprojCtxReferenceIdeal.nD Cert.InprojCtxReferenceIdeal.τ).loc Cert.InprojCtxReferenceIdeal.main_arg7) = m ((c.tc : Thread Cert.InprojCtxIdeal.nD Cert.InprojCtxIdeal.τ).loc Cert.InprojCtxIdeal.main_arg7)) →
    ∃ (v0 : (c : Dev Cert.InprojCtxIdeal.nD) → Buf (Elt Ideal) ((c.tc : Thread Cert.InprojCtxIdeal.nD Cert.InprojCtxIdeal.τ).loc Cert.InprojCtxIdeal.main_v9_0)) (v1 : (c : Dev Cert.InprojCtxIdeal.nD) → Buf (Elt Ideal) ((c.tc : Thread Cert.InprojCtxIdeal.nD Cert.InprojCtxIdeal.τ).loc Cert.InprojCtxIdeal.main_v9_1)) (v2 : (c : Dev Cert.InprojCtxIdeal.nD) → Buf (Elt Ideal) ((c.tc : Thread Cert.InprojCtxIdeal.nD Cert.InprojCtxIdeal.τ).loc Cert.InprojCtxIdeal.main_v9_2)) (v3 : (c : Dev Cert.InprojCtxIdeal.nD) → Buf (Elt Ideal) ((c.tc : Thread Cert.InprojCtxIdeal.nD Cert.InprojCtxIdeal.τ).loc Cert.InprojCtxIdeal.main_v9_3)) (v4 : (c : Dev Cert.InprojCtxIdeal.nD) → Buf (Elt Ideal) ((c.tc : Thread Cert.InprojCtxIdeal.nD Cert.InprojCtxIdeal.τ).loc Cert.InprojCtxIdeal.main_v9_4)) (v5 : (c : Dev Cert.InprojCtxIdeal.nD) → Buf (Elt Ideal) ((c.tc : Thread Cert.InprojCtxIdeal.nD Cert.InprojCtxIdeal.τ).loc Cert.InprojCtxIdeal.main_v9_5)),
      θ_run (Cert.InprojCtxIdeal.defs (F := Ideal)) (onTc (τ := Cert.InprojCtxIdeal.τ) (Cert.InprojCtxIdeal.main (F := Ideal))) ⟨m, fun _ => 0, g⟩ (fun r => ∀ c : Dev Cert.InprojCtxIdeal.nD,
          r.2.mem ((c.tc : Thread Cert.InprojCtxIdeal.nD Cert.InprojCtxIdeal.τ).loc Cert.InprojCtxIdeal.main_v9_0) = v0 c
          ∧ r.2.mem ((c.tc : Thread Cert.InprojCtxIdeal.nD Cert.InprojCtxIdeal.τ).loc Cert.InprojCtxIdeal.main_v9_1) = v1 c
          ∧ r.2.mem ((c.tc : Thread Cert.InprojCtxIdeal.nD Cert.InprojCtxIdeal.τ).loc Cert.InprojCtxIdeal.main_v9_2) = v2 c
          ∧ r.2.mem ((c.tc : Thread Cert.InprojCtxIdeal.nD Cert.InprojCtxIdeal.τ).loc Cert.InprojCtxIdeal.main_v9_3) = v3 c
          ∧ r.2.mem ((c.tc : Thread Cert.InprojCtxIdeal.nD Cert.InprojCtxIdeal.τ).loc Cert.InprojCtxIdeal.main_v9_4) = v4 c
          ∧ r.2.mem ((c.tc : Thread Cert.InprojCtxIdeal.nD Cert.InprojCtxIdeal.τ).loc Cert.InprojCtxIdeal.main_v9_5) = v5 c
          ∧ r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
          ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
          ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
          ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3)
          ∧ r.2.mem ((c.tc : Thread Cert.InprojCtxIdeal.nD Cert.InprojCtxIdeal.τ).loc Cert.InprojCtxIdeal.main_arg4) = m ((c.tc : Thread Cert.InprojCtxIdeal.nD Cert.InprojCtxIdeal.τ).loc Cert.InprojCtxIdeal.main_arg4)
          ∧ r.2.mem ((c.tc : Thread Cert.InprojCtxIdeal.nD Cert.InprojCtxIdeal.τ).loc Cert.InprojCtxIdeal.main_arg5) = m ((c.tc : Thread Cert.InprojCtxIdeal.nD Cert.InprojCtxIdeal.τ).loc Cert.InprojCtxIdeal.main_arg5)
          ∧ r.2.mem ((c.tc : Thread Cert.InprojCtxIdeal.nD Cert.InprojCtxIdeal.τ).loc Cert.InprojCtxIdeal.main_arg6) = m ((c.tc : Thread Cert.InprojCtxIdeal.nD Cert.InprojCtxIdeal.τ).loc Cert.InprojCtxIdeal.main_arg6)
          ∧ r.2.mem ((c.tc : Thread Cert.InprojCtxIdeal.nD Cert.InprojCtxIdeal.τ).loc Cert.InprojCtxIdeal.main_arg7) = m ((c.tc : Thread Cert.InprojCtxIdeal.nD Cert.InprojCtxIdeal.τ).loc Cert.InprojCtxIdeal.main_arg7))
      ∧ θ_run (Cert.InprojCtxReferenceIdeal.defs (F := Ideal)) (onTc (τ := Cert.InprojCtxReferenceIdeal.τ) (Cert.InprojCtxReferenceIdeal.main (F := Ideal))) ⟨m', fun _ => 0, g'⟩ (fun r => ∀ c : Dev Cert.InprojCtxReferenceIdeal.nD,
          r.2.mem ((c.tc : Thread Cert.InprojCtxReferenceIdeal.nD Cert.InprojCtxReferenceIdeal.τ).loc Cert.InprojCtxReferenceIdeal.main_v57) = v0 c
          ∧ r.2.mem ((c.tc : Thread Cert.InprojCtxReferenceIdeal.nD Cert.InprojCtxReferenceIdeal.τ).loc Cert.InprojCtxReferenceIdeal.main_v59) = v1 c
          ∧ r.2.mem ((c.tc : Thread Cert.InprojCtxReferenceIdeal.nD Cert.InprojCtxReferenceIdeal.τ).loc Cert.InprojCtxReferenceIdeal.main_v61) = v2 c
          ∧ r.2.mem ((c.tc : Thread Cert.InprojCtxReferenceIdeal.nD Cert.InprojCtxReferenceIdeal.τ).loc Cert.InprojCtxReferenceIdeal.main_v63) = v3 c
          ∧ r.2.mem ((c.tc : Thread Cert.InprojCtxReferenceIdeal.nD Cert.InprojCtxReferenceIdeal.τ).loc Cert.InprojCtxReferenceIdeal.main_v53) = v4 c
          ∧ r.2.mem ((c.tc : Thread Cert.InprojCtxReferenceIdeal.nD Cert.InprojCtxReferenceIdeal.τ).loc Cert.InprojCtxReferenceIdeal.main_v55) = v5 c
          ∧ r.2.mem ((c.tc : Thread Cert.InprojCtxReferenceIdeal.nD Cert.InprojCtxReferenceIdeal.τ).loc Cert.InprojCtxReferenceIdeal.main_arg0) = m' ((c.tc : Thread Cert.InprojCtxReferenceIdeal.nD Cert.InprojCtxReferenceIdeal.τ).loc Cert.InprojCtxReferenceIdeal.main_arg0)
          ∧ r.2.mem ((c.tc : Thread Cert.InprojCtxReferenceIdeal.nD Cert.InprojCtxReferenceIdeal.τ).loc Cert.InprojCtxReferenceIdeal.main_arg1) = m' ((c.tc : Thread Cert.InprojCtxReferenceIdeal.nD Cert.InprojCtxReferenceIdeal.τ).loc Cert.InprojCtxReferenceIdeal.main_arg1)
          ∧ r.2.mem ((c.tc : Thread Cert.InprojCtxReferenceIdeal.nD Cert.InprojCtxReferenceIdeal.τ).loc Cert.InprojCtxReferenceIdeal.main_arg2) = m' ((c.tc : Thread Cert.InprojCtxReferenceIdeal.nD Cert.InprojCtxReferenceIdeal.τ).loc Cert.InprojCtxReferenceIdeal.main_arg2)
          ∧ r.2.mem ((c.tc : Thread Cert.InprojCtxReferenceIdeal.nD Cert.InprojCtxReferenceIdeal.τ).loc Cert.InprojCtxReferenceIdeal.main_arg3) = m' ((c.tc : Thread Cert.InprojCtxReferenceIdeal.nD Cert.InprojCtxReferenceIdeal.τ).loc Cert.InprojCtxReferenceIdeal.main_arg3)
          ∧ r.2.mem ((c.tc : Thread Cert.InprojCtxReferenceIdeal.nD Cert.InprojCtxReferenceIdeal.τ).loc Cert.InprojCtxReferenceIdeal.main_arg4) = m' ((c.tc : Thread Cert.InprojCtxReferenceIdeal.nD Cert.InprojCtxReferenceIdeal.τ).loc Cert.InprojCtxReferenceIdeal.main_arg4)
          ∧ r.2.mem ((c.tc : Thread Cert.InprojCtxReferenceIdeal.nD Cert.InprojCtxReferenceIdeal.τ).loc Cert.InprojCtxReferenceIdeal.main_arg5) = m' ((c.tc : Thread Cert.InprojCtxReferenceIdeal.nD Cert.InprojCtxReferenceIdeal.τ).loc Cert.InprojCtxReferenceIdeal.main_arg5)
          ∧ r.2.mem ((c.tc : Thread Cert.InprojCtxReferenceIdeal.nD Cert.InprojCtxReferenceIdeal.τ).loc Cert.InprojCtxReferenceIdeal.main_arg6) = m' ((c.tc : Thread Cert.InprojCtxReferenceIdeal.nD Cert.InprojCtxReferenceIdeal.τ).loc Cert.InprojCtxReferenceIdeal.main_arg6)
          ∧ r.2.mem ((c.tc : Thread Cert.InprojCtxReferenceIdeal.nD Cert.InprojCtxReferenceIdeal.τ).loc Cert.InprojCtxReferenceIdeal.main_arg7) = m' ((c.tc : Thread Cert.InprojCtxReferenceIdeal.nD Cert.InprojCtxReferenceIdeal.τ).loc Cert.InprojCtxReferenceIdeal.main_arg7))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v3) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Pos_PosIdeal : Prop :=
  True

def algebraic_PosIdeal_PosReferenceIdeal [hPosIdeal : Cert.PosIdeal.Facts] [hPosReferenceIdeal : Cert.PosReferenceIdeal.Facts] : Prop :=
  ∀ (m : (ℓ : Loc Cert.PosIdeal.nD Cert.PosIdeal.τ Cert.PosIdeal.sig) → Buf (Elt Ideal) ℓ) (g : Dev Cert.PosIdeal.nD → PrngReg)
    (m' : (ℓ : Loc Cert.PosReferenceIdeal.nD Cert.PosReferenceIdeal.τ Cert.PosReferenceIdeal.sig) → Buf (Elt Ideal) ℓ) (g' : Dev Cert.PosReferenceIdeal.nD → PrngReg), Pre_PosIdeal m →
    (∀ c : Dev Cert.PosIdeal.nD,
      m' ((c.tc : Thread Cert.PosReferenceIdeal.nD Cert.PosReferenceIdeal.τ).loc Cert.PosReferenceIdeal.main_arg0) = m ((c.tc : Thread Cert.PosIdeal.nD Cert.PosIdeal.τ).loc Cert.PosIdeal.main_arg0)
      ∧ m' ((c.tc : Thread Cert.PosReferenceIdeal.nD Cert.PosReferenceIdeal.τ).loc Cert.PosReferenceIdeal.main_arg1) = m ((c.tc : Thread Cert.PosIdeal.nD Cert.PosIdeal.τ).loc Cert.PosIdeal.main_arg1)) →
    ∃ (v0 : (c : Dev Cert.PosIdeal.nD) → Buf (Elt Ideal) ((c.tc : Thread Cert.PosIdeal.nD Cert.PosIdeal.τ).loc Cert.PosIdeal.main_v7)),
      θ_run (Cert.PosIdeal.defs (F := Ideal)) (onTc (τ := Cert.PosIdeal.τ) (Cert.PosIdeal.main (F := Ideal))) ⟨m, fun _ => 0, g⟩ (fun r => ∀ c : Dev Cert.PosIdeal.nD,
          r.2.mem ((c.tc : Thread Cert.PosIdeal.nD Cert.PosIdeal.τ).loc Cert.PosIdeal.main_v7) = v0 c
          ∧ r.2.mem ((c.tc : Thread Cert.PosIdeal.nD Cert.PosIdeal.τ).loc Cert.PosIdeal.main_arg0) = m ((c.tc : Thread Cert.PosIdeal.nD Cert.PosIdeal.τ).loc Cert.PosIdeal.main_arg0)
          ∧ r.2.mem ((c.tc : Thread Cert.PosIdeal.nD Cert.PosIdeal.τ).loc Cert.PosIdeal.main_arg1) = m ((c.tc : Thread Cert.PosIdeal.nD Cert.PosIdeal.τ).loc Cert.PosIdeal.main_arg1))
      ∧ θ_run (Cert.PosReferenceIdeal.defs (F := Ideal)) (onTc (τ := Cert.PosReferenceIdeal.τ) (Cert.PosReferenceIdeal.main (F := Ideal))) ⟨m', fun _ => 0, g'⟩ (fun r => ∀ c : Dev Cert.PosReferenceIdeal.nD,
          r.2.mem ((c.tc : Thread Cert.PosReferenceIdeal.nD Cert.PosReferenceIdeal.τ).loc Cert.PosReferenceIdeal.main_v15) = v0 c
          ∧ r.2.mem ((c.tc : Thread Cert.PosReferenceIdeal.nD Cert.PosReferenceIdeal.τ).loc Cert.PosReferenceIdeal.main_arg0) = m' ((c.tc : Thread Cert.PosReferenceIdeal.nD Cert.PosReferenceIdeal.τ).loc Cert.PosReferenceIdeal.main_arg0)
          ∧ r.2.mem ((c.tc : Thread Cert.PosReferenceIdeal.nD Cert.PosReferenceIdeal.τ).loc Cert.PosReferenceIdeal.main_arg1) = m' ((c.tc : Thread Cert.PosReferenceIdeal.nD Cert.PosReferenceIdeal.τ).loc Cert.PosReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hInprojCtx : Cert.InprojCtx.Facts) (hInprojCtxIdeal : Cert.InprojCtxIdeal.Facts) (hInprojCtxReferenceIdeal : Cert.InprojCtxReferenceIdeal.Facts) (hAda : Cert.Ada.Facts) (hAdaIdeal : Cert.AdaIdeal.Facts) (hAdaReferenceIdeal : Cert.AdaReferenceIdeal.Facts) (hPos : Cert.Pos.Facts) (hPosIdeal : Cert.PosIdeal.Facts) (hPosReferenceIdeal : Cert.PosReferenceIdeal.Facts) (hPre_finite_scores : Cert.Pre_finite_scores.Facts) (hPre_expert_tables : Cert.Pre_expert_tables.Facts) (hPre_finite_heads : Cert.Pre_finite_heads.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsReferenceIdeal (hExpertsReferenceIdeal := hExpertsReferenceIdeal)
    ∧ quiescent_ExpertsReferenceIdeal_pre_expert_tables (hExpertsReferenceIdeal := hExpertsReferenceIdeal) (hPre_expert_tables := hPre_expert_tables)
    ∧ quiescent_Inproj (hInproj := hInproj)
    ∧ quiescent_InprojIdeal (hInprojIdeal := hInprojIdeal)
    ∧ quiescent_InprojIdeal_pre_finite_heads (hInprojIdeal := hInprojIdeal) (hPre_finite_heads := hPre_finite_heads)
    ∧ quiescent_InprojReferenceIdeal (hInprojReferenceIdeal := hInprojReferenceIdeal)
    ∧ quiescent_InprojReferenceIdeal_pre_finite_heads (hInprojReferenceIdeal := hInprojReferenceIdeal) (hPre_finite_heads := hPre_finite_heads)
    ∧ quiescent_Merge (hMerge := hMerge)
    ∧ quiescent_MergeIdeal (hMergeIdeal := hMergeIdeal)
    ∧ quiescent_MergeReferenceIdeal (hMergeReferenceIdeal := hMergeReferenceIdeal)
    ∧ quiescent_InprojCtx (hInprojCtx := hInprojCtx)
    ∧ quiescent_InprojCtxIdeal (hInprojCtxIdeal := hInprojCtxIdeal)
    ∧ quiescent_InprojCtxIdeal_pre_finite_keys (hInprojCtxIdeal := hInprojCtxIdeal) (hPre_finite_keys := hPre_finite_keys)
    ∧ quiescent_InprojCtxReferenceIdeal (hInprojCtxReferenceIdeal := hInprojCtxReferenceIdeal)
    ∧ quiescent_InprojCtxReferenceIdeal_pre_finite_keys (hInprojCtxReferenceIdeal := hInprojCtxReferenceIdeal) (hPre_finite_keys := hPre_finite_keys)
    ∧ quiescent_Ada (hAda := hAda)
    ∧ quiescent_AdaIdeal (hAdaIdeal := hAdaIdeal)
    ∧ quiescent_AdaReferenceIdeal (hAdaReferenceIdeal := hAdaReferenceIdeal)
    ∧ quiescent_Pos (hPos := hPos)
    ∧ quiescent_PosIdeal (hPosIdeal := hPosIdeal)
    ∧ quiescent_PosReferenceIdeal (hPosReferenceIdeal := hPosReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_expert_tables := hPre_expert_tables)
    ∧ preserves_Inproj_InprojIdeal
    ∧ algebraic_InprojIdeal_InprojReferenceIdeal_pre_finite_heads (hInprojIdeal := hInprojIdeal) (hInprojReferenceIdeal := hInprojReferenceIdeal) (hPre_finite_heads := hPre_finite_heads)
    ∧ preserves_Merge_MergeIdeal
    ∧ algebraic_MergeIdeal_MergeReferenceIdeal (hMergeIdeal := hMergeIdeal) (hMergeReferenceIdeal := hMergeReferenceIdeal)
    ∧ preserves_InprojCtx_InprojCtxIdeal
    ∧ algebraic_InprojCtxIdeal_InprojCtxReferenceIdeal_pre_finite_keys (hInprojCtxIdeal := hInprojCtxIdeal) (hInprojCtxReferenceIdeal := hInprojCtxReferenceIdeal) (hPre_finite_keys := hPre_finite_keys)
    ∧ preserves_Ada_AdaIdeal
    ∧ algebraic_AdaIdeal_AdaReferenceIdeal (hAdaIdeal := hAdaIdeal) (hAdaReferenceIdeal := hAdaReferenceIdeal)
    ∧ preserves_Pos_PosIdeal
    ∧ algebraic_PosIdeal_PosReferenceIdeal (hPosIdeal := hPosIdeal) (hPosReferenceIdeal := hPosReferenceIdeal)
-- ==== Pre_expert_tables.lean ====
abbrev S2304 : Shape := ⟨1, ![2304]⟩
abbrev S1 : Shape := ⟨1, ![1]⟩
abbrev S589824x1024 : Shape := ⟨2, ![589824, 1024]⟩
abbrev S256x1024x256 : Shape := ⟨3, ![256, 1024, 256]⟩
abbrev S256x256x1024 : Shape := ⟨3, ![256, 256, 1024]⟩
abbrev S_ : Shape := ⟨0, ![]⟩

class Facts : Prop where
  bcast_S_S2304 : S_.BroadcastsInDim S2304 (![] : Fin 0 → Fin S2304.rank)
  reducesTo_S2304_S_d0 : S2304.ReducesTo [0] S_
  h_S_ : 0 < S_.numel
  shapeCasts_S1_S_ : S1.ShapeCasts S_

variable [Facts]

def fn {F : FTy → Type} [FloatOps F] (main_arg0 : IVec S2304 32) (main_arg1 : IVec S1 32) (main_arg2 : FVec F S589824x1024 .f32) (main_arg3 : FVec F S256x1024x256 .f32) (main_arg4 : FVec F S256x1024x256 .f32) (main_arg5 : FVec F S256x256x1024 .f32) : IVec S_ 1 :=
  let main_c : IVec S_ 32 := constantI S_ 32 0#32
  let main_v0 : IVec S2304 32 := broadcastInDim S2304 ![] bcast_S_S2304 main_c
  let main_v1 : IVec S2304 1 := cmpi .sge main_arg0 main_v0
  let main_c_0 : IVec S_ 32 := constantI S_ 32 256#32
  let main_v2 : IVec S2304 32 := broadcastInDim S2304 ![] bcast_S_S2304 main_c_0
  let main_v3 : IVec S2304 1 := cmpi .slt main_arg0 main_v2
  let main_v4 : IVec S2304 1 := andi main_v1 main_v3
  let main_c_1 : IVec S_ 1 := constantI S_ 1 1#1
  let main_v5 : IVec S_ 1 := (fun x v => Host.reduce IntOp.andi x v reducesTo_S2304_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_finite_heads.lean ====
abbrev S32x2048x1024 : Shape := ⟨3, ![32, 2048, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S1024x512 : Shape := ⟨2, ![1024, 512]⟩
abbrev S1024x2048 : Shape := ⟨2, ![1024, 2048]⟩
abbrev S1x512 : Shape := ⟨2, ![1, 512]⟩
abbrev S2048x512 : Shape := ⟨2, ![2048, 512]⟩
abbrev S32x2x1x1024 : Shape := ⟨4, ![32, 2, 1, 1024]⟩
abbrev S_ : Shape := ⟨0, ![]⟩

class Facts : Prop where
  slices_S40x6x1x1024_S32x2x1x1024_0_0_0_0 : S40x6x1x1024.Slices ![0, 0, 0, 0] S32x2x1x1024
  bcast_S_S32x2x1x1024 : S_.BroadcastsInDim S32x2x1x1024 (![] : Fin 0 → Fin S32x2x1x1024.rank)
  reducesTo_S32x2x1x1024_S_d0_1_2_3 : S32x2x1x1024.ReducesTo [0, 1, 2, 3] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1024x256_S1024x128_0_0 : S1024x256.Slices ![0, 0] S1024x128
  bitsLt_bf16_f32 : FTy.bits .bf16 < FTy.bits .f32
  bcast_S_S1024x128 : S_.BroadcastsInDim S1024x128 (![] : Fin 0 → Fin S1024x128.rank)
  reducesTo_S1024x128_S_d0_1 : S1024x128.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg8 : FVec F S1024x512 .bf16) (main_v13 : IVec S_ 1) (main_v14 : FVec F S1024x128 .bf16) (main_v15 : FVec F S1024x128 .f32) (main_v16 : FVec F S1024x128 .f32) : IVec S_ 1 :=
  let main_v17 : IVec S1024x128 1 := cmpf .olt main_v15 main_v16
  let main_v18 : FVec F S1024x128 .f32 := (extf .f32 · bitsLt_bf16_f32) main_v14
  let main_cst_5 : FVec F S_ .f32 := constant S_ .f32 0xFF800000#32
  let main_v19 : FVec F S1024x128 .f32 := broadcastInDim S1024x128 ![] bcast_S_S1024x128 main_cst_5
  let main_v20 : IVec S1024x128 1 := cmpf .ogt main_v18 main_v19
  let main_v21 : IVec S1024x128 1 := andi main_v17 main_v20
  let main_c_6 : IVec S_ 1 := constantI S_ 1 1#1
  let main_v22 : IVec S_ 1 := (fun x v => Host.reduce IntOp.andi x v reducesTo_S1024x128_S_d0_1 h_S_) main_v21 main_c_6
  let main_v23 : IVec S_ 1 := andi main_v13 main_v22
  let main_v24 : FVec F S1024x512 .f32 := (extf .f32 · bitsLt_bf16_f32) main_arg8
  let main_cst_7 : FVec F S_ .f32 := constant S_ .f32 0x7F800000#32
  let main_v25 : FVec F S1024x512 .f32 := broadcastInDim S1024x512 ![] bcast_S_S1024x512 main_cst_7
  let main_v26 : IVec S1024x512 1 := cmpf .olt main_v24 main_v25
  let main_v27 : FVec F S1024x512 .f32 := (extf .f32 · bitsLt_bf16_f32) main_arg8
  let main_cst_8 : FVec F S_ .f32 := constant S_ .f32 0xFF800000#32
  let main_v28 : FVec F S1024x512 .f32 := broadcastInDim S1024x512 ![] bcast_S_S1024x512 main_cst_8
  let main_v29 : IVec S1024x512 1 := cmpf .ogt main_v27 main_v28
  let main_v30 : IVec S1024x512 1 := andi main_v26 main_v29
  let main_c_9 : IVec S_ 1 := constantI S_ 1 1#1
  let main_v31 : IVec S_ 1 := (fun x v => Host.reduce IntOp.andi x v reducesTo_S1024x512_S_d0_1 h_S_) main_v30 main_c_9
  let main_v32 : IVec S_ 1 := andi main_v23 main_v31
  main_v32

def fn {F : FTy → Type} [FloatOps F] (main_arg0 : FVec F S32x2048x1024 .f32) (main_arg1 : FVec F S40x6x1x1024 .f32) (main_arg2 : FVec F S1x1024 .f32) (main_arg3 : FVec F S1024x256 .bf16) (main_arg4 : FVec F S1024x1536 .bf16) (main_arg5 : FVec F S1024x128 .bf16) (main_arg6 : FVec F S1x128 .f32) (main_arg7 : FVec F S1x128 .f32) (main_arg8 : FVec F S1024x512 .bf16) (main_arg9 : FVec F S1024x512 .bf16) (main_arg10 : FVec F S1024x2048 .bf16) (main_arg11 : FVec F S1x512 .f32) (main_arg12 : FVec F S2048x512 .f32) (main_arg13 : FVec F S2048x512 .f32) : IVec S_ 1 :=
  let main_v0 : FVec F S32x2x1x1024 .f32 := (extractStridedSlice S32x2x1x1024 ![0, 0, 0, 0] · slices_S40x6x1x1024_S32x2x1x1024_0_0_0_0) main_arg1
  let main_cst : FVec F S_ .f32 := constant S_ .f32 0x7F800000#32
  let main_v1 : FVec F S32x2x1x1024 .f32 := broadcastInDim S32x2x1x1024 ![] bcast_S_S32x2x1x1024 main_cst
  let main_v2 : IVec S32x2x1x1024 1 := cmpf .olt main_v0 main_v1
  let main_cst_0 : FVec F S_ .f32 := constant S_ .f32 0xFF800000#32
  let main_v3 : FVec F S32x2x1x1024 .f32 := broadcastInDim S32x2x1x1024 ![] bcast_S_S32x2x1x1024 main_cst_0
  let main_v4 : IVec S32x2x1x1024 1 := cmpf .ogt main_v0 main_v3
  let main_v5 : IVec S32x2x1x1024 1 := andi main_v2 main_v4
  let main_c : IVec S_ 1 := constantI S_ 1 1#1
  let main_v6 : IVec S_ 1 := (fun x v => Host.reduce IntOp.andi x v reducesTo_S32x2x1x1024_S_d0_1_2_3 h_S_) main_v5 main_c
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_arg2 main_v7
  let main_cst_2 : FVec F S_ .f32 := constant S_ .f32 0xFF800000#32
  let main_v9 : FVec F S1x1024 .f32 := broadcastInDim S1x1024 ![] bcast_S_S1x1024 main_cst_2
  let main_v10 : IVec S1x1024 1 := cmpf .ogt main_arg2 main_v9
  let main_v11 : IVec S1x1024 1 := andi main_v8 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v6 main_v12
  let main_v14 : FVec F S1024x128 .bf16 := (extractStridedSlice S1024x128 ![0, 0] · slices_S1024x256_S1024x128_0_0) main_arg3
  let main_v15 : FVec F S1024x128 .f32 := (extf .f32 · bitsLt_bf16_f32) main_v14
  let main_cst_4 : FVec F S_ .f32 := constant S_ .f32 0x7F800000#32
  let main_v16 : FVec F S1024x128 .f32 := broadcastInDim S1024x128 ![] bcast_S_S1024x128 main_cst_4
  fn_part1 (F := F) main_arg8 main_v13 main_v14 main_v15 main_v16
-- ==== Pre_finite_keys.lean ====
abbrev S32x256x1024 : Shape := ⟨3, ![32, 256, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S1x2x1x1024 : Shape := ⟨4, ![1, 2, 1, 1024]⟩
abbrev S2x1x1024 : Shape := ⟨3, ![2, 1, 1024]⟩
abbrev S_ : Shape := ⟨0, ![]⟩

class Facts : Prop where
  slices_S40x6x1x1024_S1x2x1x1024_32_0_0_0 : S40x6x1x1024.Slices ![32, 0, 0, 0] S1x2x1x1024
  shapeCasts_S1x2x1x1024_S2x1x1024 : S1x2x1x1024.ShapeCasts S2x1x1024
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1024x256_S1024x128_0_0 : S1024x256.Slices ![0, 0] S1024x128
  bitsLt_bf16_f32 : FTy.bits .bf16 < FTy.bits .f32
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v14 : IVec S_ 1) (main_v15 : FVec F S1024x128 .bf16) (main_v16 : FVec F S1024x128 .f32) (main_cst_4 : FVec F S_ .f32) : IVec S_ 1 :=
  let main_v17 : FVec F S1024x128 .f32 := broadcastInDim S1024x128 ![] bcast_S_S1024x128 main_cst_4
  let main_v18 : IVec S1024x128 1 := cmpf .olt main_v16 main_v17
  let main_v19 : FVec F S1024x128 .f32 := (extf .f32 · bitsLt_bf16_f32) main_v15
  let main_cst_5 : FVec F S_ .f32 := constant S_ .f32 0xFF800000#32
  let main_v20 : FVec F S1024x128 .f32 := broadcastInDim S1024x128 ![] bcast_S_S1024x128 main_cst_5
  let main_v21 : IVec S1024x128 1 := cmpf .ogt main_v19 main_v20
  let main_v22 : IVec S1024x128 1 := andi main_v18 main_v21
  let main_c_6 : IVec S_ 1 := constantI S_ 1 1#1
  let main_v23 : IVec S_ 1 := (fun x v => Host.reduce IntOp.andi x v reducesTo_S1024x128_S_d0_1 h_S_) main_v22 main_c_6
  let main_v24 : IVec S_ 1 := andi main_v14 main_v23
  main_v24

def fn {F : FTy → Type} [FloatOps F] (main_arg0 : FVec F S32x256x1024 .f32) (main_arg1 : FVec F S40x6x1x1024 .f32) (main_arg2 : FVec F S1x1024 .f32) (main_arg3 : FVec F S1024x256 .bf16) (main_arg4 : FVec F S1024x1536 .bf16) (main_arg5 : FVec F S1024x128 .bf16) (main_arg6 : FVec F S1x128 .f32) (main_arg7 : FVec F S1x128 .f32) : IVec S_ 1 :=
  let main_v0 : FVec F S1x2x1x1024 .f32 := (extractStridedSlice S1x2x1x1024 ![32, 0, 0, 0] · slices_S40x6x1x1024_S1x2x1x1024_32_0_0_0) main_arg1
  let main_v1 : FVec F S2x1x1024 .f32 := shapeCast S2x1x1024 main_v0 shapeCasts_S1x2x1x1024_S2x1x1024
  let main_cst : FVec F S_ .f32 := constant S_ .f32 0x7F800000#32
  let main_v2 : FVec F S2x1x1024 .f32 := broadcastInDim S2x1x1024 ![] bcast_S_S2x1x1024 main_cst
  let main_v3 : IVec S2x1x1024 1 := cmpf .olt main_v1 main_v2
  let main_cst_0 : FVec F S_ .f32 := constant S_ .f32 0xFF800000#32
  let main_v4 : FVec F S2x1x1024 .f32 := broadcastInDim S2x1x1024 ![] bcast_S_S2x1x1024 main_cst_0
  let main_v5 : IVec S2x1x1024 1 := cmpf .ogt main_v1 main_v4
  let main_v6 : IVec S2x1x1024 1 := andi main_v3 main_v5
  let main_c : IVec S_ 1 := constantI S_ 1 1#1
  let main_v7 : IVec S_ 1 := (fun x v => Host.reduce IntOp.andi x v reducesTo_S2x1x1024_S_d0_1_2 h_S_) main_v6 main_c
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_arg2 main_v8
  let main_cst_2 : FVec F S_ .f32 := constant S_ .f32 0xFF800000#32
  let main_v10 : FVec F S1x1024 .f32 := broadcastInDim S1x1024 ![] bcast_S_S1x1024 main_cst_2
  let main_v11 : IVec S1x1024 1 := cmpf .ogt main_arg2 main_v10
  let main_v12 : IVec S1x1024 1 := andi main_v9 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v7 main_v13
  let main_v15 : FVec F S1024x128 .bf16 := (extractStridedSlice S1024x128 ![0, 0] · slices_S1024x256_S1024x128_0_0) main_arg3
  let main_v16 : FVec F S1024x128 .f32 := (extf .f32 · bitsLt_bf16_f32) main_v15
  let main_cst_4 : FVec F S_ .f32 := constant S_ .f32 0x7F800000#32
  fn_part1 (F := F) main_v14 main_v15 main_v16 main_cst_4
-- ==== Pre_finite_scores.lean ====
abbrev S32x2048x512 : Shape := ⟨3, ![32, 2048, 512]⟩
abbrev S32x256x128 : Shape := ⟨3, ![32, 256, 128]⟩
abbrev S32x2048x128 : Shape := ⟨3, ![32, 2048, 128]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn_part1 {F : FTy → Type} [FloatOps F] (main_arg2 : FVec F S32x2048x128 .bf16) (main_v16 : IVec S_ 1) (main_v17 : FVec F S32x2048x128 .f32) : IVec S_ 1 :=
  let main_cst_4 : FVec F S_ .f32 := constant S_ .f32 0x7F800000#32
  let main_v18 : FVec F S32x2048x128 .f32 := broadcastInDim S32x2048x128 ![] bcast_S_S32x2048x128 main_cst_4
  let main_v19 : IVec S32x2048x128 1 := cmpf .olt main_v17 main_v18
  let main_v20 : FVec F S32x2048x128 .f32 := (extf .f32 · bitsLt_bf16_f32) main_arg2
  let main_cst_5 : FVec F S_ .f32 := constant S_ .f32 0xFF800000#32
  let main_v21 : FVec F S32x2048x128 .f32 := broadcastInDim S32x2048x128 ![] bcast_S_S32x2048x128 main_cst_5
  let main_v22 : IVec S32x2048x128 1 := cmpf .ogt main_v20 main_v21
  let main_v23 : IVec S32x2048x128 1 := andi main_v19 main_v22
  let main_c_6 : IVec S_ 1 := constantI S_ 1 1#1
  let main_v24 : IVec S_ 1 := (fun x v => Host.reduce IntOp.andi x v reducesTo_S32x2048x128_S_d0_1_2 h_S_) main_v23 main_c_6
  let main_v25 : IVec S_ 1 := andi main_v16 main_v24
  main_v25

def fn {F : FTy → Type} [FloatOps F] (main_arg0 : FVec F S32x2048x512 .bf16) (main_arg1 : FVec F S32x256x128 .bf16) (main_arg2 : FVec F S32x2048x128 .bf16) (main_arg3 : FVec F S32x256x128 .bf16) (main_arg4 : FVec F S32x2048x128 .bf16) : IVec S_ 1 :=
  let main_v0 : FVec F S32x2048x512 .f32 := (extf .f32 · bitsLt_bf16_f32) main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_v3 : FVec F S32x2048x512 .f32 := (extf .f32 · bitsLt_bf16_f32) main_arg0
  let main_cst_0 : FVec F S_ .f32 := constant S_ .f32 0xFF800000#32
  let main_v4 : FVec F S32x2048x512 .f32 := broadcastInDim S32x2048x512 ![] bcast_S_S32x2048x512 main_cst_0
  let main_v5 : IVec S32x2048x512 1 := cmpf .ogt main_v3 main_v4
  let main_v6 : IVec S32x2048x512 1 := andi main_v2 main_v5
  let main_c : IVec S_ 1 := constantI S_ 1 1#1
  let main_v7 : IVec S_ 1 := (fun x v => Host.reduce IntOp.andi x v reducesTo_S32x2048x512_S_d0_1_2 h_S_) main_v6 main_c
  let main_v8 : FVec F S32x256x128 .f32 := (extf .f32 · bitsLt_bf16_f32) main_arg1
  let main_cst_1 : FVec F S_ .f32 := constant S_ .f32 0x7F800000#32
  let main_v9 : FVec F S32x256x128 .f32 := broadcastInDim S32x256x128 ![] bcast_S_S32x256x128 main_cst_1
  let main_v10 : IVec S32x256x128 1 := cmpf .olt main_v8 main_v9
  let main_v11 : FVec F S32x256x128 .f32 := (extf .f32 · bitsLt_bf16_f32) main_arg1
  let main_cst_2 : FVec F S_ .f32 := constant S_ .f32 0xFF800000#32
  let main_v12 : FVec F S32x256x128 .f32 := broadcastInDim S32x256x128 ![] bcast_S_S32x256x128 main_cst_2
  let main_v13 : IVec S32x256x128 1 := cmpf .ogt main_v11 main_v12
  let main_v14 : IVec S32x256x128 1 := andi main_v10 main_v13
  let main_c_3 : IVec S_ 1 := constantI S_ 1 1#1
  let main_v15 : IVec S_ 1 := (fun x v => Host.reduce IntOp.andi x v reducesTo_S32x256x128_S_d0_1_2 h_S_) main_v14 main_c_3
  let main_v16 : IVec S_ 1 := andi main_v7 main_v15
  let main_v17 : FVec F S32x2048x128 .f32 := (extf .f32 · bitsLt_bf16_f32) main_arg2
  fn_part1 (F := F) main_arg2 main_v16 main_v17
-- ==== Kernel.lean ====
abbrev S32x2048x512 : Shape := ⟨3, ![32, 2048, 512]⟩
abbrev S32x256x128 : Shape := ⟨3, ![32, 256, 128]⟩
abbrev S32x2048x128 : Shape := ⟨3, ![32, 2048, 128]⟩
abbrev S1x256x512 : Shape := ⟨3, ![1, 256, 512]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S32x2048x512, .bf16⟩
  | .hbm, ⟨1, _⟩ => ⟨S32x256x128, .bf16⟩
  | .hbm, ⟨2, _⟩ => ⟨S32x2048x128, .bf16⟩
  | .hbm, ⟨3, _⟩ => ⟨S32x256x128, .bf16⟩
  | .hbm, ⟨4, _⟩ => ⟨S32x2048x128, .bf16⟩
  | .hbm, ⟨5, _⟩ => ⟨S32x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x256x512, .bf16⟩
  | .local _ .vmem, ⟨11, _⟩ => ⟨S1x256x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x2048x512 : Shape := ⟨3, ![32, 2048, 512]⟩
abbrev S32x256x128 : Shape := ⟨3, ![32, 256, 128]⟩
abbrev S32x2048x128 : Shape := ⟨3, ![32, 2048, 128]⟩
abbrev S32x256x2x64 : Shape := ⟨4, ![32, 256, 2, 64]⟩
abbrev S32x2048x2x64 : Shape := ⟨4, ![32, 2048, 2, 64]⟩
abbrev S32x2304x2x64 : Shape := ⟨4, ![32, 2304, 2, 64]⟩
abbrev S32x2048x4x2x64 : Shape := ⟨5, ![32, 2048, 4, 2, 64]⟩
abbrev S32x2x2304x2048x4 : Shape := ⟨5, ![32, 2, 2304, 2048, 4]⟩
abbrev S32x2x4x2048x2304 : Shape := ⟨5, ![32, 2, 4, 2048, 2304]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x256x128, .bf16⟩
  | .hbm, ⟨2, _⟩ => ⟨S32x2048x128, .bf16⟩
  | .hbm, ⟨3, _⟩ => ⟨S32x256x128, .bf16⟩
  | .hbm, ⟨4, _⟩ => ⟨S32x2048x128, .bf16⟩
  | .hbm, ⟨5, _⟩ => ⟨S32x256x128, .f32⟩
  | .hbm, ⟨6, _⟩ => ⟨S32x256x2x64, .f32⟩
  | .hbm, ⟨7, _⟩ => ⟨S32x2048x128, .f32⟩
  | .hbm, ⟨8, _⟩ => ⟨S32x2048x2x64, .f32⟩
  | .hbm, ⟨9, _⟩ => ⟨S32x2304x2x64, .f32⟩
  | .hbm, ⟨10, _⟩ => ⟨S32x256x128, .f32⟩
  | .hbm, ⟨11, _⟩ => ⟨S32x256x2x64, .f32⟩
  | .hbm, ⟨12, _⟩ => ⟨S32x2048x128, .f32⟩
  | .hbm, ⟨13, _⟩ => ⟨S32x2048x2x64, .f32⟩
  | .hbm, ⟨14, _⟩ => ⟨S32x2304x2x64, .f32⟩
  | .hbm, ⟨15, _⟩ => ⟨S32x2048x512, .f32⟩
  | .hbm, ⟨16, _⟩ => ⟨S32x2048x4x2x64, .f32⟩
  | .hbm, ⟨17, _⟩ => ⟨S32x2x2304x2048x4, .f32⟩
  | .hbm, ⟨18, _⟩ => ⟨S32x2x4x2048x2304, .f32⟩
  | .hbm, ⟨19, _⟩ => ⟨S_, .f32⟩
  | .hbm, ⟨20, _⟩ => ⟨S32x2x4x2048, .f32⟩
  | .hbm, ⟨21, _⟩ => ⟨S_, .f32⟩
  | .hbm, ⟨22, _⟩ => ⟨S32x2x4x2048, .f32⟩
  | .hbm, ⟨23, _⟩ => ⟨S32x2x4x2048, .f32⟩
  | .hbm, ⟨24, _⟩ => ⟨S32x2x4x2048x1, .f32⟩
  | .hbm, ⟨25, _⟩ => ⟨S32x2x4x2048x2304, .f32⟩
  | .hbm, ⟨26, _⟩ => ⟨S32x2x4x2048x2304, .f32⟩
  | .hbm, ⟨27, _⟩ => ⟨S32x2x4x2048x2304, .f32⟩
  | .hbm, ⟨28, _⟩ => ⟨S_, .f32⟩
  | .hbm, ⟨29, _⟩ => ⟨S32x2x4x2048, .f32⟩
  | .hbm, ⟨30, _⟩ => ⟨S32x2x4x2048x1, .f32⟩
  | .hbm, ⟨31, _⟩ => ⟨S32x2x4x2048x2304, .f32⟩
  | .hbm, ⟨32, _⟩ => ⟨S32x2x4x2048x2304, .f32⟩
  | .hbm, ⟨33, _⟩ => ⟨S32x2x64x4x2048, .f32⟩
  | .hbm, ⟨34, _⟩ => ⟨S32x2048x4x2x64, .f32⟩
  | .hbm, ⟨35, _⟩ => ⟨S32x2048x512, .f32⟩
  | .hbm, ⟨36, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Experts.lean ====
abbrev S2304 : Shape := ⟨1, ![2304]⟩
abbrev S1 : Shape := ⟨1, ![1]⟩
abbrev S589824x1024 : Shape := ⟨2, ![589824, 1024]⟩
abbrev S256x1024x256 : Shape := ⟨3, ![256, 1024, 256]⟩
abbrev S256x256x1024 : Shape := ⟨3, ![256, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩

abbrev nBuf : Space → Nat
  | .hbm => 5
  | .vmem => 12
  | .smem => 2
  | _ => 0

abbrev bufTy : (tb : Table) → Fin (tcTables nBuf tb) → BufTy
  | .hbm, ⟨0, _⟩ => ⟨S589824x1024, .f32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S589824x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S256x1024, .bf16⟩
  | .local _ .smem, ⟨0, _⟩ => ⟨S2304, .i32⟩
  | .local _ .smem, ⟨1, _⟩ => ⟨S1, .i32⟩
  | _, _ => ⟨S589824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S2304 : Shape := ⟨1, ![2304]⟩
abbrev S1 : Shape := ⟨1, ![1]⟩
abbrev S589824x1024 : Shape := ⟨2, ![589824, 1024]⟩
abbrev S256x1024x256 : Shape := ⟨3, ![256, 1024, 256]⟩
abbrev S256x256x1024 : Shape := ⟨3, ![256, 256, 1024]⟩
abbrev S2304x256x1024 : Shape := ⟨3, ![2304, 256, 1024]⟩
abbrev S_ : Shape := ⟨0, ![]⟩
abbrev S2304x1 : Shape := ⟨2, ![2304, 1]⟩
abbrev S2304x1024x256 : Shape := ⟨3, ![2304, 1024, 256]⟩
abbrev S2304x256x256 : Shape := ⟨3, ![2304, 256, 256]⟩
abbrev S2304x1x1 : Shape := ⟨3, ![2304, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S2304, .i32⟩
  | .hbm, ⟨1, _⟩ => ⟨S1, .i32⟩
  | .hbm, ⟨2, _⟩ => ⟨S589824x1024, .f32⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S2304x256x1024, .f32⟩
  | .hbm, ⟨7, _⟩ => ⟨S_, .i32⟩
  | .hbm, ⟨8, _⟩ => ⟨S2304, .i32⟩
  | .hbm, ⟨9, _⟩ => ⟨S2304, .i1⟩
  | .hbm, ⟨10, _⟩ => ⟨S_, .i32⟩
  | .hbm, ⟨11, _⟩ => ⟨S2304, .i32⟩
  | .hbm, ⟨12, _⟩ => ⟨S2304, .i32⟩
  | .hbm, ⟨13, _⟩ => ⟨S2304, .i32⟩
  | .hbm, ⟨14, _⟩ => ⟨S2304x1, .i32⟩
  | .hbm, ⟨15, _⟩ => ⟨S2304x1024x256, .f32⟩
  | .hbm, ⟨16, _⟩ => ⟨S2304x256x256, .f32⟩
  | .hbm, ⟨17, _⟩ => ⟨S_, .i32⟩
  | .hbm, ⟨18, _⟩ => ⟨S2304, .i32⟩
  | .hbm, ⟨19, _⟩ => ⟨S2304, .i1⟩
  | .hbm, ⟨20, _⟩ => ⟨S_, .i32⟩
  | .hbm, ⟨21, _⟩ => ⟨S2304, .i32⟩
  | .hbm, ⟨22, _⟩ => ⟨S2304, .i32⟩
  | .hbm, ⟨23, _⟩ => ⟨S2304, .i32⟩
  | .hbm, ⟨24, _⟩ => ⟨S2304x1, .i32⟩
  | .hbm, ⟨25, _⟩ => ⟨S2304x1024x256, .f32⟩
  | .hbm, ⟨26, _⟩ => ⟨S2304x256x256, .f32⟩
  | .hbm, ⟨27, _⟩ => ⟨S2304x256x256, .f32⟩
  | .hbm, ⟨28, _⟩ => ⟨S2304x256x256, .f32⟩
  | .hbm, ⟨29, _⟩ => ⟨S_, .f32⟩
  | .hbm, ⟨30, _⟩ => ⟨S2304x256x256, .f32⟩
  | .hbm, ⟨31, _⟩ => ⟨S2304x256x256, .f32⟩
  | .hbm, ⟨32, _⟩ => ⟨S_, .f32⟩
  | .hbm, ⟨33, _⟩ => ⟨S2304x256x256, .f32⟩
  | .hbm, ⟨34, _⟩ => ⟨S2304x256x256, .f32⟩
  | .hbm, ⟨35, _⟩ => ⟨S2304x256x256, .f32⟩
  | .hbm, ⟨36, _⟩ => ⟨S2304x256x256, .f32⟩
  | .hbm, ⟨37, _⟩ => ⟨S_, .i32⟩
  | .hbm, ⟨38, _⟩ => ⟨S2304, .i32⟩
  | .hbm, ⟨39, _⟩ => ⟨S2304, .i1⟩
  | .hbm, ⟨40, _⟩ => ⟨S_, .i32⟩
  | .hbm, ⟨41, _⟩ => ⟨S2304, .i32⟩
  | .hbm, ⟨42, _⟩ => ⟨S2304, .i32⟩
  | .hbm, ⟨43, _⟩ => ⟨S2304, .i32⟩
  | .hbm, ⟨44, _⟩ => ⟨S2304x1, .i32⟩
  | .hbm, ⟨45, _⟩ => ⟨S2304x256x1024, .f32⟩
  | .hbm, ⟨46, _⟩ => ⟨S2304x256x1024, .f32⟩
  | .hbm, ⟨47, _⟩ => ⟨S2304, .i32⟩
  | .hbm, ⟨48, _⟩ => ⟨S_, .i32⟩
  | .hbm, ⟨49, _⟩ => ⟨S2304, .i32⟩
  | .hbm, ⟨50, _⟩ => ⟨S2304, .i1⟩
  | .hbm, ⟨51, _⟩ => ⟨S2304x1x1, .i1⟩
  | .hbm, ⟨52, _⟩ => ⟨S_, .f32⟩
  | .hbm, ⟨53, _⟩ => ⟨S_, .f32⟩
  | .hbm, ⟨54, _⟩ => ⟨S2304x256x1024, .i1⟩
  | .hbm, ⟨55, _⟩ => ⟨S2304x256x1024, .f32⟩
  | .hbm, ⟨56, _⟩ => ⟨S2304x256x1024, .f32⟩
  | .hbm, ⟨57, _⟩ => ⟨S589824x1024, .f32⟩
  | _, _ => ⟨S2304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Inproj.lean ====
abbrev S32x2048x1024 : Shape := ⟨3, ![32, 2048, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S1024x512 : Shape := ⟨2, ![1024, 512]⟩
abbrev S1024x2048 : Shape := ⟨2, ![1024, 2048]⟩
abbrev S1x512 : Shape := ⟨2, ![1, 512]⟩
abbrev S2048x512 : Shape := ⟨2, ![2048, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S32x2048x128 : Shape := ⟨3, ![32, 2048, 128]⟩
abbrev S32x2048x512 : Shape := ⟨3, ![32, 2048, 512]⟩
abbrev S32x16x2048 : Shape := ⟨3, ![32, 16, 2048]⟩
abbrev S32x2048x2048 : Shape := ⟨3, ![32, 2048, 2048]⟩
abbrev S1x256x1024 : Shape := ⟨3, ![1, 256, 1024]⟩
abbrev S1x1x1x1024 : Shape := ⟨4, ![1, 1, 1, 1024]⟩
abbrev S256x512 : Shape := ⟨2, ![256, 512]⟩
abbrev S1x256x128 : Shape := ⟨3, ![1, 256, 128]⟩
abbrev S1x256x512 : Shape := ⟨3, ![1, 256, 512]⟩
abbrev S1x16x256 : Shape := ⟨3, ![1, 16, 256]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x128 : Shape := ⟨2, ![128, 128]⟩
abbrev S256x1536 : Shape := ⟨2, ![256, 1536]⟩
abbrev S1024x16 : Shape := ⟨2, ![1024, 16]⟩
abbrev S16x1024 : Shape := ⟨2, ![16, 1024]⟩
abbrev S1x16 : Shape := ⟨2, ![1, 16]⟩
abbrev S16x1 : Shape := ⟨2, ![16, 1]⟩
abbrev S16x256 : Shape := ⟨2, ![16, 256]⟩
abbrev S256x2048 : Shape := ⟨2, ![256, 2048]⟩

abbrev nBuf : Space → Nat
  | .hbm => 33
  | .vmem => 39
  | .smem => 0
  | _ => 0

abbrev bufTy : (tb : Table) → Fin (tcTables nBuf tb) → BufTy
  | .hbm, ⟨0, _⟩ => ⟨S32x2048x1024, .f32⟩
  | .hbm, ⟨1, _⟩ => ⟨S40x6x1x1024, .f32⟩
  | .hbm, ⟨2, _⟩ => ⟨S1x1024, .f32⟩
  | .hbm, ⟨3, _⟩ => ⟨S1024x256, .bf16⟩
  | .hbm, ⟨4, _⟩ => ⟨S1024x1536, .bf16⟩
  | .hbm, ⟨5, _⟩ => ⟨S1024x128, .bf16⟩
  | .hbm, ⟨6, _⟩ => ⟨S1x128, .f32⟩
  | .hbm, ⟨7, _⟩ => ⟨S1x128, .f32⟩
  | .hbm, ⟨8, _⟩ => ⟨S1024x512, .bf16⟩
  | .hbm, ⟨9, _⟩ => ⟨S1024x512, .bf16⟩
  | .hbm, ⟨10, _⟩ => ⟨S1024x2048, .bf16⟩
  | .hbm, ⟨11, _⟩ => ⟨S1x512, .f32⟩
  | .hbm, ⟨12, _⟩ => ⟨S2048x512, .f32⟩
  | .hbm, ⟨13, _⟩ => ⟨S2048x512, .f32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S32x2048x128, .bf16⟩
  | .hbm, ⟨25, _⟩ => ⟨S32x2048x128, .bf16⟩
  | .hbm, ⟨26, _⟩ => ⟨S32x2048x1024, .bf16⟩
  | .hbm, ⟨27, _⟩ => ⟨S32x2048x512, .bf16⟩
  | .hbm, ⟨28, _⟩ => ⟨S32x2048x128, .f32⟩
  | .hbm, ⟨29, _⟩ => ⟨S32x16x2048, .f32⟩
  | .hbm, ⟨30, _⟩ => ⟨S32x2048x512, .bf16⟩
  | .hbm, ⟨31, _⟩ => ⟨S32x2048x512, .bf16⟩
  | .hbm, ⟨32, _⟩ => ⟨S32x2048x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x256, .bf16⟩
  | .local _ .vmem, ⟨8, _⟩ => ⟨S1024x1536, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S512x512, .bf16⟩
  | .local _ .vmem, ⟨13, _⟩ => ⟨S1024x512, .bf16⟩
  | .local _ .vmem, ⟨14, _⟩ => ⟨S1024x512, .bf16⟩
  | .local _ .vmem, ⟨15, _⟩ => ⟨S1024x2048, .bf16⟩
  | .local _ .vmem, ⟨16, _⟩ => ⟨S1x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S1x256x128, .bf16⟩
  | .local _ .vmem, ⟨22, _⟩ => ⟨S1x256x128, .bf16⟩
  | .local _ .vmem, ⟨23, _⟩ => ⟨S1x256x128, .bf16⟩
  | .local _ .vmem, ⟨24, _⟩ => ⟨S1x256x128, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x128, .f32⟩
  | .local _ .vmem, ⟨30, _⟩ => ⟨S1x256x128, .f32⟩
  | .local _ .vmem, ⟨31, _⟩ => ⟨S1x16x256, .f32⟩
  | .local _ .vmem, ⟨32, _⟩ => ⟨S1x16x256, .f32⟩
  | .local _ .vmem, ⟨33, _⟩ => ⟨S1x256x512, .bf16⟩
  | .local _ .vmem, ⟨34, _⟩ => ⟨S1x256x512, .bf16⟩
  | .local _ .vmem, ⟨35, _⟩ => ⟨S1x256x512, .bf16⟩
  | .local _ .vmem, ⟨36, _⟩ => ⟨S1x256x512, .bf16⟩
  | .local _ .vmem, ⟨37, _⟩ => ⟨S1x256x2048, .bf16⟩
  | .local _ .vmem, ⟨38, _⟩ => ⟨S1x256x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== InprojReferenceIdeal.lean ====
abbrev S32x2048x1024 : Shape := ⟨3, ![32, 2048, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S1024x512 : Shape := ⟨2, ![1024, 512]⟩
abbrev S1024x2048 : Shape := ⟨2, ![1024, 2048]⟩
abbrev S1x512 : Shape := ⟨2, ![1, 512]⟩
abbrev S2048x512 : Shape := ⟨2, ![2048, 512]⟩
abbrev S32x1x1x1024 : Shape := ⟨4, ![32, 1, 1, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x256 : Shape := ⟨3, ![32, 2048, 256]⟩
abbrev S32x2048x128 : Shape := ⟨3, ![32, 2048, 128]⟩
abbrev S32x2048x2x64 : Shape := ⟨4, ![32, 2048, 2, 64]⟩
abbrev S2x64 : Shape := ⟨2, ![2, 64]⟩
abbrev S32x2048x2 : Shape := ⟨3, ![32, 2048, 2]⟩
abbrev S32x2048x2x1 : Shape := ⟨4, ![32, 2048, 2, 1]⟩
abbrev S1x1x2x64 : Shape := ⟨4, ![1, 1, 2, 64]⟩
abbrev S2048x128 : Shape := ⟨2, ![2048, 128]⟩
abbrev S2048x2x2x2x16 : Shape := ⟨5, ![2048, 2, 2, 2, 16]⟩
abbrev S32x2048x2x2x2x16 : Shape := ⟨6, ![32, 2048, 2, 2, 2, 16]⟩
abbrev S32x2048x2x2x1x16 : Shape := ⟨6, ![32, 2048, 2, 2, 1, 16]⟩
abbrev S32x2048x2x2x16 : Shape := ⟨5, ![32, 2048, 2, 2, 16]⟩
abbrev S2048x2x2x1x16 : Shape := ⟨5, ![2048, 2, 2, 1, 16]⟩
abbrev S2048x2x2x16 : Shape := ⟨4, ![2048, 2, 2, 16]⟩
abbrev S1x2048x2x2x16 : Shape := ⟨5, ![1, 2048, 2, 2, 16]⟩
abbrev S32x2048x1536 : Shape := ⟨3, ![32, 2048, 1536]⟩
abbrev S1x1x128 : Shape := ⟨3, ![1, 1, 128]⟩
abbrev S32x2048x8 : Shape := ⟨3, ![32, 2048, 8]⟩
abbrev S32x2048x120 : Shape := ⟨3, ![32, 2048, 120]⟩
abbrev S32x2048x16 : Shape := ⟨3, ![32, 2048, 16]⟩
abbrev S32x16x2048 : Shape := ⟨3, ![32, 16, 2048]⟩
abbrev S32x2048x512 : Shape := ⟨3, ![32, 2048, 512]⟩
abbrev S32x2048x8x64 : Shape := ⟨4, ![32, 2048, 8, 64]⟩
abbrev S8x64 : Shape := ⟨2, ![8, 64]⟩
abbrev S32x2048x8x1 : Shape := ⟨4, ![32, 2048, 8, 1]⟩
abbrev S1x1x8x64 : Shape := ⟨4, ![1, 1, 8, 64]⟩
abbrev S2048x8x2x2x16 : Shape := ⟨5, ![2048, 8, 2, 2, 16]⟩
abbrev S32x2048x8x2x2x16 : Shape := ⟨6, ![32, 2048, 8, 2, 2, 16]⟩
abbrev S32x2048x8x2x1x16 : Shape := ⟨6, ![32, 2048, 8, 2, 1, 16]⟩
abbrev S32x2048x8x2x16 : Shape := ⟨5, ![32, 2048, 8, 2, 16]⟩
abbrev S2048x8x2x1x16 : Shape := ⟨5, ![2048, 8, 2, 1, 16]⟩
abbrev S2048x8x2x16 : Shape := ⟨4, ![2048, 8, 2, 16]⟩
abbrev S1x2048x8x2x16 : Shape := ⟨5, ![1, 2048, 8, 2, 16]⟩
abbrev S32x2048x2048 : Shape := ⟨3, ![32, 2048, 2048]⟩

abbrev nBuf : Space → Nat
  | .hbm => 195
  | .vmem => 0
  | .smem => 0
  | _ => 0

abbrev hbmTy0_0 (i : Nat) : BufTy := match i % 128 with
  | 0 => ⟨S32x2048x1024, .f32⟩
  | 1 => ⟨S40x6x1x1024, .f32⟩
  | 2 => ⟨S1x1024, .f32⟩
  | 3 => ⟨S1024x256, .bf16⟩
  | 4 => ⟨S1024x1536, .bf16⟩
  | 5 => ⟨S1024x128, .bf16⟩
  | 6 => ⟨S1x128, .f32⟩
  | 7 => ⟨S1x128, .f32⟩
  | 8 => ⟨S1024x512, .bf16⟩
  | 9 => ⟨S1024x512, .bf16⟩
  | 10 => ⟨S1024x2048, .bf16⟩
  | 11 => ⟨S1x512, .f32⟩
  | 12 => ⟨S2048x512, .f32⟩
  | 13 => ⟨S2048x512, .f32⟩
  | 14 => ⟨S32x1x1x1024, .f32⟩
  | 15 => ⟨S32x1x1024, .f32⟩
  | 16 => ⟨S32x1x1x1024, .f32⟩
  | 17 => ⟨S32x1x1024, .f32⟩
  | 18 => ⟨S32x2048x1024, .f32⟩
  | 19 => ⟨S_, .f32⟩
  | 20 => ⟨S32x2048, .f32⟩
  | 21 => ⟨S32x2048x1, .f32⟩
  | 22 => ⟨S_, .f32⟩
  | 23 => ⟨S32x2048x1, .f32⟩
  | 24 => ⟨S32x2048x1, .f32⟩
  | 25 => ⟨S_, .f32⟩
  | 26 => ⟨S32x2048x1, .f32⟩
  | 27 => ⟨S32x2048x1, .f32⟩
  | 28 => ⟨S32x2048x1, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | 34 => ⟨S_, .f32⟩
  | 35 => ⟨S32x1x1024, .f32⟩
  | 36 => ⟨S32x1x1024, .f32⟩
  | 37 => ⟨S32x2048x1024, .f32⟩
  | 38 => ⟨S32x2048x1024, .f32⟩
  | 39 => ⟨S32x2048x1024, .f32⟩
  | 40 => ⟨S32x2048x1024, .f32⟩
  | 41 => ⟨S1024x256, .f32⟩
  | 42 => ⟨S32x2048x256, .f32⟩
  | 43 => ⟨S32x2048x128, .f32⟩
  | 44 => ⟨S32x2048x2x64, .f32⟩
  | 45 => ⟨S2x64, .f32⟩
  | 46 => ⟨S32x2048x2x64, .f32⟩
  | 47 => ⟨S_, .f32⟩
  | 48 => ⟨S32x2048x2, .f32⟩
  | 49 => ⟨S32x2048x2x1, .f32⟩
  | 50 => ⟨S_, .f32⟩
  | 51 => ⟨S32x2048x2x1, .f32⟩
  | 52 => ⟨S32x2048x2x1, .f32⟩
  | 53 => ⟨S_, .f32⟩
  | 54 => ⟨S32x2048x2x1, .f32⟩
  | 55 => ⟨S32x2048x2x1, .f32⟩
  | 56 => ⟨S32x2048x2x1, .f32⟩
  | 57 => ⟨S32x2048x2x64, .f32⟩
  | 58 => ⟨S32x2048x2x64, .f32⟩
  | 59 => ⟨S1x1x2x64, .f32⟩
  | 60 => ⟨S32x2048x2x64, .f32⟩
  | 61 => ⟨S32x2048x2x64, .f32⟩
  | 62 => ⟨S2048x128, .f32⟩
  | 63 => ⟨S2048x2x2x2x16, .f32⟩
  | 64 => ⟨S2048x128, .f32⟩
  | 65 => ⟨S2048x2x2x2x16, .f32⟩
  | 66 => ⟨S32x2048x2x2x2x16, .f32⟩
  | 67 => ⟨S32x2048x2x2x1x16, .f32⟩
  | 68 => ⟨S32x2048x2x2x16, .f32⟩
  | 69 => ⟨S32x2048x2x2x1x16, .f32⟩
  | 70 => ⟨S32x2048x2x2x16, .f32⟩
  | 71 => ⟨S2048x2x2x1x16, .f32⟩
  | 72 => ⟨S2048x2x2x16, .f32⟩
  | 73 => ⟨S1x2048x2x2x16, .f32⟩
  | 74 => ⟨S32x2048x2x2x16, .f32⟩
  | 75 => ⟨S32x2048x2x2x16, .f32⟩
  | 76 => ⟨S2048x2x2x1x16, .f32⟩
  | 77 => ⟨S2048x2x2x16, .f32⟩
  | 78 => ⟨S1x2048x2x2x16, .f32⟩
  | 79 => ⟨S32x2048x2x2x16, .f32⟩
  | 80 => ⟨S32x2048x2x2x16, .f32⟩
  | 81 => ⟨S32x2048x2x2x16, .f32⟩
  | 82 => ⟨S2048x2x2x1x16, .f32⟩
  | 83 => ⟨S2048x2x2x16, .f32⟩
  | 84 => ⟨S1x2048x2x2x16, .f32⟩
  | 85 => ⟨S32x2048x2x2x16, .f32⟩
  | 86 => ⟨S32x2048x2x2x16, .f32⟩
  | 87 => ⟨S2048x2x2x1x16, .f32⟩
  | 88 => ⟨S2048x2x2x16, .f32⟩
  | 89 => ⟨S1x2048x2x2x16, .f32⟩
  | 90 => ⟨S32x2048x2x2x16, .f32⟩
  | 91 => ⟨S32x2048x2x2x16, .f32⟩
  | 92 => ⟨S32x2048x2x2x16, .f32⟩
  | 93 => ⟨S32x2048x2x2x1x16, .f32⟩
  | 94 => ⟨S32x2048x2x2x1x16, .f32⟩
  | 95 => ⟨S32x2048x2x2x2x16, .f32⟩
  | 96 => ⟨S32x2048x128, .f32⟩
  | 97 => ⟨S1024x1536, .f32⟩
  | 98 => ⟨S32x2048x1536, .f32⟩
  | 99 => ⟨S1024x128, .f32⟩
  | 100 => ⟨S32x2048x128, .f32⟩
  | 101 => ⟨S1x1x128, .f32⟩
  | 102 => ⟨S32x2048x128, .f32⟩
  | 103 => ⟨S32x2048x128, .f32⟩
  | 104 => ⟨S32x2048x8, .f32⟩
  | 105 => ⟨S32x2048x120, .f32⟩
  | 106 => ⟨S32x2048x120, .f32⟩
  | 107 => ⟨S_, .f32⟩
  | 108 => ⟨S32x2048x120, .f32⟩
  | 109 => ⟨S32x2048x120, .f32⟩
  | 110 => ⟨S32x2048x120, .f32⟩
  | 111 => ⟨S32x2048x120, .f32⟩
  | 112 => ⟨S32x2048x120, .i1⟩
  | 113 => ⟨S32x2048x120, .f32⟩
  | 114 => ⟨S32x2048x120, .f32⟩
  | 115 => ⟨S32x2048x120, .f32⟩
  | 116 => ⟨S32x2048x120, .f32⟩
  | 117 => ⟨S32x2048x120, .f32⟩
  | 118 => ⟨S32x2048x120, .f32⟩
  | 119 => ⟨S32x2048x120, .f32⟩
  | 120 => ⟨S32x2048x120, .f32⟩
  | 121 => ⟨S32x2048x120, .f32⟩
  | 122 => ⟨S32x2048x128, .f32⟩
  | 123 => ⟨S32x2048x16, .f32⟩
  | 124 => ⟨S32x16x2048, .f32⟩
  | 125 => ⟨S1024x512, .f32⟩
  | 126 => ⟨S32x2048x512, .f32⟩
  | 127 => ⟨S32x2048x8x64, .f32⟩
  | _ => ⟨S32x2048x1024, .f32⟩

abbrev hbmTy0_1 (i : Nat) : BufTy := match i % 128 with
  | 0 => ⟨S8x64, .f32⟩
  | 1 => ⟨S32x2048x8x64, .f32⟩
  | 2 => ⟨S_, .f32⟩
  | 3 => ⟨S32x2048x8, .f32⟩
  | 4 => ⟨S32x2048x8x1, .f32⟩
  | 5 => ⟨S_, .f32⟩
  | 6 => ⟨S32x2048x8x1, .f32⟩
  | 7 => ⟨S32x2048x8x1, .f32⟩
  | 8 => ⟨S_, .f32⟩
  | 9 => ⟨S32x2048x8x1, .f32⟩
  | 10 => ⟨S32x2048x8x1, .f32⟩
  | 11 => ⟨S32x2048x8x1, .f32⟩
  | 12 => ⟨S32x2048x8x64, .f32⟩
  | 13 => ⟨S32x2048x8x64, .f32⟩
  | 14 => ⟨S1x1x8x64, .f32⟩
  | 15 => ⟨S32x2048x8x64, .f32⟩
  | 16 => ⟨S32x2048x8x64, .f32⟩
  | 17 => ⟨S2048x8x2x2x16, .f32⟩
  | 18 => ⟨S2048x8x2x2x16, .f32⟩
  | 19 => ⟨S32x2048x8x2x2x16, .f32⟩
  | 20 => ⟨S32x2048x8x2x1x16, .f32⟩
  | 21 => ⟨S32x2048x8x2x16, .f32⟩
  | 22 => ⟨S32x2048x8x2x1x16, .f32⟩
  | 23 => ⟨S32x2048x8x2x16, .f32⟩
  | 24 => ⟨S2048x8x2x1x16, .f32⟩
  | 25 => ⟨S2048x8x2x16, .f32⟩
  | 26 => ⟨S1x2048x8x2x16, .f32⟩
  | 27 => ⟨S32x2048x8x2x16, .f32⟩
  | 28 => ⟨S32x2048x8x2x16, .f32⟩
  | 29 => ⟨S2048x8x2x1x16, .f32⟩
  | 30 => ⟨S2048x8x2x16, .f32⟩
  | 31 => ⟨S1x2048x8x2x16, .f32⟩
  | 32 => ⟨S32x2048x8x2x16, .f32⟩
  | 33 => ⟨S32x2048x8x2x16, .f32⟩
  | 34 => ⟨S32x2048x8x2x16, .f32⟩
  | 35 => ⟨S2048x8x2x1x16, .f32⟩
  | 36 => ⟨S2048x8x2x16, .f32⟩
  | 37 => ⟨S1x2048x8x2x16, .f32⟩
  | 38 => ⟨S32x2048x8x2x16, .f32⟩
  | 39 => ⟨S32x2048x8x2x16, .f32⟩
  | 40 => ⟨S2048x8x2x1x16, .f32⟩
  | 41 => ⟨S2048x8x2x16, .f32⟩
  | 42 => ⟨S1x2048x8x2x16, .f32⟩
  | 43 => ⟨S32x2048x8x2x16, .f32⟩
  | 44 => ⟨S32x2048x8x2x16, .f32⟩
  | 45 => ⟨S32x2048x8x2x16, .f32⟩
  | 46 => ⟨S32x2048x8x2x1x16, .f32⟩
  | 47 => ⟨S32x2048x8x2x1x16, .f32⟩
  | 48 => ⟨S32x2048x8x2x2x16, .f32⟩
  | 49 => ⟨S32x2048x512, .f32⟩
  | 50 => ⟨S_, .f32⟩
  | 51 => ⟨S32x2048x512, .f32⟩
  | 52 => ⟨S32x2048x512, .f32⟩
  | 53 => ⟨S32x2048x128, .bf16⟩
  | 54 => ⟨S32x2048x128, .f32⟩
  | 55 => ⟨S32x2048x128, .bf16⟩
  | 56 => ⟨S32x2048x1024, .f32⟩
  | 57 => ⟨S32x2048x1024, .bf16⟩
  | 58 => ⟨S32x2048x512, .f32⟩
  | 59 => ⟨S32x2048x512, .bf16⟩
  | 60 => ⟨S32x2048x512, .bf16⟩
  | 61 => ⟨S1024x512, .f32⟩
  | 62 => ⟨S32x2048x512, .f32⟩
  | 63 => ⟨S32x2048x512, .bf16⟩
  | 64 => ⟨S1024x2048, .f32⟩
  | 65 => ⟨S32x2048x2048, .f32⟩
  | 66 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_call0_v0 : Ref sig .tc := ⟨.hbm, 106, rfl⟩
abbrev main_call0_call0_cst : Ref sig .tc := ⟨.hbm, 107, rfl⟩
abbrev main_call0_call0_v0 : Ref sig .tc := ⟨.hbm, 108, rfl⟩
abbrev main_call0_call0_v1 : Ref sig .tc := ⟨.hbm, 109, rfl⟩
abbrev main_call0_call0_v2 : Ref sig .tc := ⟨.hbm, 110, rfl⟩
abbrev main_call0_call0_v3 : Ref sig .tc := ⟨.hbm, 111, rfl⟩
abbrev main_call0_call0_v4 : Ref sig .tc := ⟨.hbm, 112, rfl⟩
abbrev main_call0_call0_v5 : Ref sig .tc := ⟨.hbm, 113, rfl⟩
abbrev main_call0_call0_v6 : Ref sig .tc := ⟨.hbm, 114, rfl⟩
abbrev main_call0_call0_v7 : Ref sig .tc := ⟨.hbm, 115, rfl⟩
abbrev main_call0_call0_v8 : Ref sig .tc := ⟨.hbm, 116, rfl⟩
abbrev main_call0_call0_v9 : Ref sig .tc := ⟨.hbm, 117, rfl⟩
abbrev main_call0_call0_v10 : Ref sig .tc := ⟨.hbm, 118, rfl⟩
abbrev main_call0_call0_v11 : Ref sig .tc := ⟨.hbm, 119, rfl⟩
abbrev main_call0_v1 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_6 : Ref sig .tc := ⟨.hbm, 130, rfl⟩
abbrev main_v94 : Ref sig .tc := ⟨.hbm, 131, rfl⟩
abbrev main_v95 : Ref sig .tc := ⟨.hbm, 132, rfl⟩
abbrev main_cst_7 : Ref sig .tc := ⟨.hbm, 133, rfl⟩
abbrev main_v96 : Ref sig .tc := ⟨.hbm, 134, rfl⟩
abbrev main_v97 : Ref sig .tc := ⟨.hbm, 135, rfl⟩
abbrev main_cst_8 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_9 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S40x6x1x1024 : Shape := ⟨4, ![40, 6, 1, 1024]⟩
abbrev S1x512 : Shape := ⟨2, ![1, 512]⟩
abbrev S1x1024 : Shape := ⟨2, ![1, 1024]⟩
abbrev S512x1024 : Shape := ⟨2, ![512, 1024]⟩
abbrev S1024x1024 : Shape := ⟨2, ![1024, 1024]⟩
abbrev S256x1024 : Shape := ⟨2, ![256, 1024]⟩
abbrev S256x65536 : Shape := ⟨2, ![256, 65536]⟩
abbrev S1x256x1024 : Shape := ⟨3, ![1, 256, 1024]⟩
abbrev S1x256x512 : Shape := ⟨3, ![1, 256, 512]⟩
abbrev S1x256x2048 : Shape := ⟨3, ![1, 256, 2048]⟩
abbrev S1x1x1x1024 : Shape := ⟨4, ![1, 1, 1, 1024]⟩
abbrev S256x256 : Shape := ⟨2, ![256, 256]⟩
abbrev S256x512 : Shape := ⟨2, ![256, 512]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x2048 : Shape := ⟨2, ![256, 2048]⟩

abbrev nBuf : Space → Nat
  | .hbm => 17
  | .vmem => 31
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x2048x512, .bf16⟩
  | .hbm, ⟨4, _⟩ => ⟨S32x2048x512, .bf16⟩
  | .hbm, ⟨5, _⟩ => ⟨S32x2048x2048, .bf16⟩
  | .hbm, ⟨6, _⟩ => ⟨S40x6x1x1024, .f32⟩
  | .hbm, ⟨7, _⟩ => ⟨S1x512, .f32⟩
  | .hbm, ⟨8, _⟩ => ⟨S1x1024, .f32⟩
  | .hbm, ⟨9, _⟩ => ⟨S1x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S256x1024, .bf16⟩
  | .hbm, ⟨14, _⟩ => ⟨S32x2048x1024, .f32⟩
  | .hbm, ⟨15, _⟩ => ⟨S32x2048x1024, .f32⟩
  | .hbm, ⟨16, _⟩ => ⟨S256x65536, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x512, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S256x1024, .bf16⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S256x256, .f32⟩
  | .local _ .vmem, ⟨30, _⟩ => ⟨S256x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg1.toNat, c4_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeReferenceIdeal.lean ====
abbrev S32x2048x1024 : Shape := ⟨3, ![32, 2048, 1024]⟩
abbrev S32x2048x512 : Shape := ⟨3, ![32, 2048, 512]⟩
abbrev S32x2048x2048 : Shape := ⟨3, ![32, 2048, 2048]⟩
abbrev S40x6x1x1024 : Shape := ⟨4, ![40, 6, 1, 1024]⟩
abbrev S1x512 : Shape := ⟨2, ![1, 512]⟩
abbrev S1x1024 : Shape := ⟨2, ![1, 1024]⟩
abbrev S512x1024 : Shape := ⟨2, ![512, 1024]⟩
abbrev S1024x1024 : Shape := ⟨2, ![1024, 1024]⟩
abbrev S256x1024 : Shape := ⟨2, ![256, 1024]⟩
abbrev S32x1x1x1024 : Shape := ⟨4, ![32, 1, 1, 1024]⟩
abbrev S32x1x1024 : Shape := ⟨3, ![32, 1, 1024]⟩
abbrev S32x2048x4x128 : Shape := ⟨4, ![32, 2048, 4, 128]⟩
abbrev S4x128 : Shape := ⟨2, ![4, 128]⟩
abbrev S_ : Shape := ⟨0, ![]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩
abbrev S65536x256 : Shape := ⟨2, ![65536, 256]⟩
abbrev S256x65536 : Shape := ⟨2, ![256, 65536]⟩

abbrev nBuf : Space → Nat
  | .hbm => 136
  | .vmem => 0
  | .smem => 0
  | _ => 0

abbrev hbmTy0_0 (i : Nat) : BufTy := match i % 128 with
  | 0 => ⟨S32x2048x1024, .f32⟩
  | 1 => ⟨S32x2048x512, .bf16⟩
  | 2 => ⟨S32x2048x512, .bf16⟩
  | 3 => ⟨S32x2048x512, .bf16⟩
  | 4 => ⟨S32x2048x512, .bf16⟩
  | 5 => ⟨S32x2048x2048, .bf16⟩
  | 6 => ⟨S40x6x1x1024, .f32⟩
  | 7 => ⟨S1x512, .f32⟩
  | 8 => ⟨S1x1024, .f32⟩
  | 9 => ⟨S1x1024, .f32⟩
  | 10 => ⟨S512x1024, .bf16⟩
  | 11 => ⟨S512x1024, .bf16⟩
  | 12 => ⟨S1024x1024, .bf16⟩
  | 13 => ⟨S256x1024, .bf16⟩
  | 14 => ⟨S32x1x1x1024, .f32⟩
  | 15 => ⟨S32x1x1024, .f32⟩
  | 16 => ⟨S32x1x1x1024, .f32⟩
  | 17 => ⟨S32x1x1024, .f32⟩
  | 18 => ⟨S32x1x1x1024, .f32⟩
  | 19 => ⟨S32x1x1024, .f32⟩
  | 20 => ⟨S32x2048x512, .f32⟩
  | 21 => ⟨S32x2048x512, .f32⟩
  | 22 => ⟨S32x2048x512, .f32⟩
  | 23 => ⟨S32x2048x4x128, .f32⟩
  | 24 => ⟨S4x128, .f32⟩
  | 25 => ⟨S32x2048x4x128, .f32⟩
  | 26 => ⟨S_, .f32⟩
  | 27 => ⟨S32x2048x4, .f32⟩
  | 28 => ⟨S32x2048x4x1, .f32⟩
  | 29 => ⟨S_, .f32⟩
  | 30 => ⟨S32x2048x4x1, .f32⟩
  | 31 => ⟨S32x2048x4x1, .f32⟩
  | 32 => ⟨S_, .f32⟩
  | 33 => ⟨S32x2048x4x1, .f32⟩
  | 34 => ⟨S32x2048x4x1, .f32⟩
  | 35 => ⟨S32x2048x4x1, .f32⟩
  | 36 => ⟨S32x2048x4x128, .f32⟩
  | 37 => ⟨S32x2048x4x128, .f32⟩
  | 38 => ⟨S1x1x4x128, .f32⟩
  | 39 => ⟨S32x2048x4x128, .f32⟩
  | 40 => ⟨S32x2048x4x128, .f32⟩
  | 41 => ⟨S32x2048x512, .f32⟩
  | 42 => ⟨S32x2048x512, .f32⟩
  | 43 => ⟨S32x2048x512, .f32⟩
  | 44 => ⟨S32x2048x512, .f32⟩
  | 45 => ⟨S_, .f32⟩
  | 46 => ⟨S32x2048x512, .f32⟩
  | 47 => ⟨S32x2048x512, .f32⟩
  | 48 => ⟨S_, .f32⟩
  | 49 => ⟨S32x2048x512, .f32⟩
  | 50 => ⟨S32x2048x512, .f32⟩
  | 51 => ⟨S32x2048x512, .f32⟩
  | 52 => ⟨S32x2048x1024, .bf16⟩
  | 53 => ⟨S32x2048x1024, .f32⟩
  | 54 => ⟨S32x2048x1024, .bf16⟩
  | 55 => ⟨S32x2048x1024, .f32⟩
  | 56 => ⟨S32x2048x1024, .f32⟩
  | 57 => ⟨S32x2048x1024, .f32⟩
  | 58 => ⟨S_, .f32⟩
  | 59 => ⟨S32x2048x1024, .f32⟩
  | 60 => ⟨S32x2048x1024, .f32⟩
  | 61 => ⟨S_, .f32⟩
  | 62 => ⟨S32x2048x1024, .f32⟩
  | 63 => ⟨S32x2048x1024, .f32⟩
  | 64 => ⟨S32x2048x512, .f32⟩
  | 65 => ⟨S512x1024, .f32⟩
  | 66 => ⟨S32x2048x1024, .f32⟩
  | 67 => ⟨S32x2048x1024, .f32⟩
  | 68 => ⟨S32x2048x1024, .f32⟩
  | 69 => ⟨S32x2048x1024, .f32⟩
  | 70 => ⟨S_, .f32⟩
  | 71 => ⟨S32x2048x1024, .f32⟩
  | 72 => ⟨S32x2048x1024, .f32⟩
  | 73 => ⟨S_, .f32⟩
  | 74 => ⟨S32x2048x1024, .f32⟩
  | 75 => ⟨S32x2048x1024, .f32⟩
  | 76 => ⟨S512x1024, .f32⟩
  | 77 => ⟨S32x2048x1024, .f32⟩
  | 78 => ⟨S32x2048x1024, .f32⟩
  | 79 => ⟨S32x2048x1024, .f32⟩
  | 80 => ⟨S1024x1024, .f32⟩
  | 81 => ⟨S32x2048x1024, .f32⟩
  | 82 => ⟨S32x2048x1024, .f32⟩
  | 83 => ⟨S_, .f32⟩
  | 84 => ⟨S32x2048, .f32⟩
  | 85 => ⟨S32x2048x1, .f32⟩
  | 86 => ⟨S_, .f32⟩
  | 87 => ⟨S32x2048x1, .f32⟩
  | 88 => ⟨S32x2048x1, .f32⟩
  | 89 => ⟨S_, .f32⟩
  | 90 => ⟨S32x2048x1, .f32⟩
  | 91 => ⟨S32x2048x1, .f32⟩
  | 92 => ⟨S32x2048x1, .f32⟩
  | 93 => ⟨S32x2048x1024, .f32⟩
  | 94 => ⟨S32x2048x1024, .f32⟩
  | 95 => ⟨S1x1x1024, .f32⟩
  | 96 => ⟨S32x2048x1024, .f32⟩
  | 97 => ⟨S32x2048x1024, .f32⟩
  | 98 => ⟨S32x2048x1024, .f32⟩
  | 99 => ⟨S32x2048x1024, .f32⟩
  | 100 => ⟨S32x2048x1024, .f32⟩
  | 101 => ⟨S32x2048x1024, .f32⟩
  | 102 => ⟨S_, .f32⟩
  | 103 => ⟨S32x2048, .f32⟩
  | 104 => ⟨S32x2048x1, .f32⟩
  | 105 => ⟨S_, .f32⟩
  | 106 => ⟨S32x2048x1, .f32⟩
  | 107 => ⟨S32x2048x1, .f32⟩
  | 108 => ⟨S_, .f32⟩
  | 109 => ⟨S32x2048x1, .f32⟩
  | 110 => ⟨S32x2048x1, .f32⟩
  | 111 => ⟨S32x2048x1, .f32⟩
  | 112 => ⟨S32x2048x1024, .f32⟩
  | 113 => ⟨S32x2048x1024, .f32⟩
  | 114 => ⟨S1x1x1024, .f32⟩
  | 115 => ⟨S32x2048x1024, .f32⟩
  | 116 => ⟨S32x2048x1024, .f32⟩
  | 117 => ⟨S_, .f32⟩
  | 118 => ⟨S32x1x1024, .f32⟩
  | 119 => ⟨S32x1x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S65536x1024, .f32⟩
  | 125 => ⟨S256x1024, .f32⟩
  | 126 => ⟨S65536x256, .f32⟩
  | 127 => ⟨S65536x256, .f32⟩
  | _ => ⟨S32x2048x1024, .f32⟩

abbrev hbmTy0_1 (i : Nat) : BufTy := match i % 128 with
  | 0 => ⟨S65536x256, .f32⟩
  | 1 => ⟨S_, .f32⟩
  | 2 => ⟨S65536x256, .f32⟩
  | 3 => ⟨S65536x256, .f32⟩
  | 4 => ⟨S_, .f32⟩
  | 5 => ⟨S65536x256, .f32⟩
  | 6 => ⟨S65536x256, .f32⟩
  | 7 => ⟨S256x65536, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_11 : Ref sig .tc := ⟨.hbm, 102, rfl⟩
abbrev main_v76 : Ref sig .tc := ⟨.hbm, 103, rfl⟩
abbrev main_v77 : Ref sig .tc := ⟨.hbm, 104, rfl⟩
abbrev main_cst_12 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_15 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== InprojCtx.lean ====
abbrev S32x256x1024 : Shape := ⟨3, ![32, 256, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S32x256x128 : Shape := ⟨3, ![32, 256, 128]⟩
abbrev S32x256x512 : Shape := ⟨3, ![32, 256, 512]⟩
abbrev S32x16x256 : Shape := ⟨3, ![32, 16, 256]⟩
abbrev S1x256x1024 : Shape := ⟨3, ![1, 256, 1024]⟩
abbrev S1x1x1x1024 : Shape := ⟨4, ![1, 1, 1, 1024]⟩
abbrev S1x256x128 : Shape := ⟨3, ![1, 256, 128]⟩
abbrev S1x256x512 : Shape := ⟨3, ![1, 256, 512]⟩
abbrev S1x16x256 : Shape := ⟨3, ![1, 16, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x128 : Shape := ⟨2, ![128, 128]⟩
abbrev S256x1536 : Shape := ⟨2, ![256, 1536]⟩
abbrev S256x512 : Shape := ⟨2, ![256, 512]⟩
abbrev S1024x16 : Shape := ⟨2, ![1024, 16]⟩
abbrev S16x1024 : Shape := ⟨2, ![16, 1024]⟩
abbrev S1x16 : Shape := ⟨2, ![1, 16]⟩
abbrev S16x1 : Shape := ⟨2, ![16, 1]⟩
abbrev S16x256 : Shape := ⟨2, ![16, 256]⟩

abbrev nBuf : Space → Nat
  | .hbm => 24
  | .vmem => 23
  | .smem => 0
  | _ => 0

abbrev bufTy : (tb : Table) → Fin (tcTables nBuf tb) → BufTy
  | .hbm, ⟨0, _⟩ => ⟨S32x256x1024, .f32⟩
  | .hbm, ⟨1, _⟩ => ⟨S40x6x1x1024, .f32⟩
  | .hbm, ⟨2, _⟩ => ⟨S1x1024, .f32⟩
  | .hbm, ⟨3, _⟩ => ⟨S1024x256, .bf16⟩
  | .hbm, ⟨4, _⟩ => ⟨S1024x1536, .bf16⟩
  | .hbm, ⟨5, _⟩ => ⟨S1024x128, .bf16⟩
  | .hbm, ⟨6, _⟩ => ⟨S1x128, .f32⟩
  | .hbm, ⟨7, _⟩ => ⟨S1x128, .f32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .bf16⟩
  | .hbm, ⟨18, _⟩ => ⟨S32x256x128, .bf16⟩
  | .hbm, ⟨19, _⟩ => ⟨S32x256x128, .bf16⟩
  | .hbm, ⟨20, _⟩ => ⟨S32x256x1024, .bf16⟩
  | .hbm, ⟨21, _⟩ => ⟨S32x256x512, .bf16⟩
  | .hbm, ⟨22, _⟩ => ⟨S32x256x128, .f32⟩
  | .hbm, ⟨23, _⟩ => ⟨S32x16x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1024, .f32⟩
  | .local _ .vmem, ⟨5, _⟩ => ⟨S1024x256, .bf16⟩
  | .local _ .vmem, ⟨6, _⟩ => ⟨S1024x1536, .bf16⟩
  | .local _ .vmem, ⟨7, _⟩ => ⟨S1024x128, .bf16⟩
  | .local _ .vmem, ⟨8, _⟩ => ⟨S1x128, .f32⟩
  | .local _ .vmem, ⟨9, _⟩ => ⟨S1x128, .f32⟩
  | .local _ .vmem, ⟨10, _⟩ => ⟨S512x512, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x128, .f32⟩
  | .local _ .vmem, ⟨20, _⟩ => ⟨S1x256x128, .f32⟩
  | .local _ .vmem, ⟨21, _⟩ => ⟨S1x16x256, .f32⟩
  | .local _ .vmem, ⟨22, _⟩ => ⟨S1x16x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  let c0_i32_1 : BitVec 32 := 0#32
  let c0_i32_2 : BitVec 32 := 0#32
  ![c32_i32.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let c1_i32 : BitVec 32 := 1#32
  let c0_i32 : BitVec 32 := 0#32
  let c0_i32_0 : BitVec 32 := 0#32
  let c0_i32_1 : BitVec 32 := 0#32
  ![c32_i32.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InprojCtxReferenceIdeal.lean ====
abbrev S32x256x1024 : Shape := ⟨3, ![32, 256, 1024]⟩
abbrev S40x6x1x1024 : Shape := ⟨4, ![40, 6, 1, 1024]⟩
abbrev S1x1024 : Shape := ⟨2, ![1, 1024]⟩
abbrev S1024x256 : Shape := ⟨2, ![1024, 256]⟩
abbrev S1024x1536 : Shape := ⟨2, ![1024, 1536]⟩
abbrev S1024x128 : Shape := ⟨2, ![1024, 128]⟩
abbrev S1x128 : Shape := ⟨2, ![1, 128]⟩
abbrev S1x1x1x1024 : Shape := ⟨4, ![1, 1, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x256 : Shape := ⟨3, ![32, 256, 256]⟩
abbrev S32x256x128 : Shape := ⟨3, ![32, 256, 128]⟩
abbrev S32x256x2x64 : Shape := ⟨4, ![32, 256, 2, 64]⟩
abbrev S2x64 : Shape := ⟨2, ![2, 64]⟩
abbrev S32x256x2 : Shape := ⟨3, ![32, 256, 2]⟩
abbrev S32x256x2x1 : Shape := ⟨4, ![32, 256, 2, 1]⟩
abbrev S1x1x2x64 : Shape := ⟨4, ![1, 1, 2, 64]⟩
abbrev S32x256x1536 : Shape := ⟨3, ![32, 256, 1536]⟩
abbrev S1x1x128 : Shape := ⟨3, ![1, 1, 128]⟩
abbrev S32x256x8 : Shape := ⟨3, ![32, 256, 8]⟩
abbrev S32x256x120 : Shape := ⟨3, ![32, 256, 120]⟩
abbrev S32x256x16 : Shape := ⟨3, ![32, 256, 16]⟩
abbrev S32x16x256 : Shape := ⟨3, ![32, 16, 256]⟩
abbrev S32x256x512 : Shape := ⟨3, ![32, 256, 512]⟩

abbrev nBuf : Space → Nat
  | .hbm => 94
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S40x6x1x1024, .f32⟩
  | .hbm, ⟨2, _⟩ => ⟨S1x1024, .f32⟩
  | .hbm, ⟨3, _⟩ => ⟨S1024x256, .bf16⟩
  | .hbm, ⟨4, _⟩ => ⟨S1024x1536, .bf16⟩
  | .hbm, ⟨5, _⟩ => ⟨S1024x128, .bf16⟩
  | .hbm, ⟨6, _⟩ => ⟨S1x128, .f32⟩
  | .hbm, ⟨7, _⟩ => ⟨S1x128, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S1024x256, .f32⟩
  | .hbm, ⟨38, _⟩ => ⟨S32x256x256, .f32⟩
  | .hbm, ⟨39, _⟩ => ⟨S32x256x128, .f32⟩
  | .hbm, ⟨40, _⟩ => ⟨S32x256x2x64, .f32⟩
  | .hbm, ⟨41, _⟩ => ⟨S2x64, .f32⟩
  | .hbm, ⟨42, _⟩ => ⟨S32x256x2x64, .f32⟩
  | .hbm, ⟨43, _⟩ => ⟨S_, .f32⟩
  | .hbm, ⟨44, _⟩ => ⟨S32x256x2, .f32⟩
  | .hbm, ⟨45, _⟩ => ⟨S32x256x2x1, .f32⟩
  | .hbm, ⟨46, _⟩ => ⟨S_, .f32⟩
  | .hbm, ⟨47, _⟩ => ⟨S32x256x2x1, .f32⟩
  | .hbm, ⟨48, _⟩ => ⟨S32x256x2x1, .f32⟩
  | .hbm, ⟨49, _⟩ => ⟨S_, .f32⟩
  | .hbm, ⟨50, _⟩ => ⟨S32x256x2x1, .f32⟩
  | .hbm, ⟨51, _⟩ => ⟨S32x256x2x1, .f32⟩
  | .hbm, ⟨52, _⟩ => ⟨S32x256x2x1, .f32⟩
  | .hbm, ⟨53, _⟩ => ⟨S32x256x2x64, .f32⟩
  | .hbm, ⟨54, _⟩ => ⟨S32x256x2x64, .f32⟩
  | .hbm, ⟨55, _⟩ => ⟨S1x1x2x64, .f32⟩
  | .hbm, ⟨56, _⟩ => ⟨S32x256x2x64, .f32⟩
  | .hbm, ⟨57, _⟩ => ⟨S32x256x2x64, .f32⟩
  | .hbm, ⟨58, _⟩ => ⟨S1024x1536, .f32⟩
  | .hbm, ⟨59, _⟩ => ⟨S32x256x1536, .f32⟩
  | .hbm, ⟨60, _⟩ => ⟨S1024x128, .f32⟩
  | .hbm, ⟨61, _⟩ => ⟨S32x256x128, .f32⟩
  | .hbm, ⟨62, _⟩ => ⟨S1x1x128, .f32⟩
  | .hbm, ⟨63, _⟩ => ⟨S32x256x128, .f32⟩
  | .hbm, ⟨64, _⟩ => ⟨S32x256x128, .f32⟩
  | .hbm, ⟨65, _⟩ => ⟨S32x256x8, .f32⟩
  | .hbm, ⟨66, _⟩ => ⟨S32x256x120, .f32⟩
  | .hbm, ⟨67, _⟩ => ⟨S32x256x120, .f32⟩
  | .hbm, ⟨68, _⟩ => ⟨S_, .f32⟩
  | .hbm, ⟨69, _⟩ => ⟨S32x256x120, .f32⟩
  | .hbm, ⟨70, _⟩ => ⟨S32x256x120, .f32⟩
  | .hbm, ⟨71, _⟩ => ⟨S32x256x120, .f32⟩
  | .hbm, ⟨72, _⟩ => ⟨S32x256x120, .f32⟩
  | .hbm, ⟨73, _⟩ => ⟨S32x256x120, .i1⟩
  | .hbm, ⟨74, _⟩ => ⟨S32x256x120, .f32⟩
  | .hbm, ⟨75, _⟩ => ⟨S32x256x120, .f32⟩
  | .hbm, ⟨76, _⟩ => ⟨S32x256x120, .f32⟩
  | .hbm, ⟨77, _⟩ => ⟨S32x256x120, .f32⟩
  | .hbm, ⟨78, _⟩ => ⟨S32x256x120, .f32⟩
  | .hbm, ⟨79, _⟩ => ⟨S32x256x120, .f32⟩
  | .hbm, ⟨80, _⟩ => ⟨S32x256x120, .f32⟩
  | .hbm, ⟨81, _⟩ => ⟨S32x256x120, .f32⟩
  | .hbm, ⟨82, _⟩ => ⟨S32x256x120, .f32⟩
  | .hbm, ⟨83, _⟩ => ⟨S32x256x128, .f32⟩
  | .hbm, ⟨84, _⟩ => ⟨S32x256x16, .f32⟩
  | .hbm, ⟨85, _⟩ => ⟨S32x16x256, .f32⟩
  | .hbm, ⟨86, _⟩ => ⟨S32x256x128, .f32⟩
  | .hbm, ⟨87, _⟩ => ⟨S32x256x128, .bf16⟩
  | .hbm, ⟨88, _⟩ => ⟨S32x256x128, .f32⟩
  | .hbm, ⟨89, _⟩ => ⟨S32x256x128, .bf16⟩
  | .hbm, ⟨90, _⟩ => ⟨S32x256x1024, .f32⟩
  | .hbm, ⟨91, _⟩ => ⟨S32x256x1024, .bf16⟩
  | .hbm, ⟨92, _⟩ => ⟨S32x256x512, .f32⟩
  | .hbm, ⟨93, _⟩ => ⟨S32x256x512, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call0_v0 : Ref sig .tc := ⟨.hbm, 67, rfl⟩
abbrev main_call0_call0_cst : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_call0_v2 : Ref sig .tc := ⟨.hbm, 71, rfl⟩
abbrev main_call0_call0_v3 : Ref sig .tc := ⟨.hbm, 72, rfl⟩
abbrev main_call0_call0_v4 : Ref sig .tc := ⟨.hbm, 73, rfl⟩
abbrev main_call0_call0_v5 : Ref sig .tc := ⟨.hbm, 74, rfl⟩
abbrev main_call0_call0_v6 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_v9 : Ref sig .tc := ⟨.hbm, 78, rfl⟩
abbrev main_call0_call0_v10 : Ref sig .tc := ⟨.hbm, 79, rfl⟩
abbrev main_call0_call0_v11 : Ref sig .tc := ⟨.hbm, 80, rfl⟩
abbrev main_call0_v1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]
-- ==== Ada.lean ====
abbrev S40x1024 : Shape := ⟨2, ![40, 1024]⟩
abbrev S1024x6144 : Shape := ⟨2, ![1024, 6144]⟩
abbrev S1x6144 : Shape := ⟨2, ![1, 6144]⟩
abbrev S40x6144 : Shape := ⟨2, ![40, 6144]⟩
abbrev S1024x1536 : Shape := ⟨2, ![1024, 1536]⟩
abbrev S1x1536 : Shape := ⟨2, ![1, 1536]⟩
abbrev S40x1536 : Shape := ⟨2, ![40, 1536]⟩

abbrev nBuf : Space → Nat
  | .hbm => 4
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x6144, .f32⟩
  | .local _ .vmem, ⟨0, _⟩ => ⟨S40x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S40x1536, .f32⟩
  | .local _ .vmem, ⟨6, _⟩ => ⟨S40x1536, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S40x1024 : Shape := ⟨2, ![40, 1024]⟩
abbrev S1024x6144 : Shape := ⟨2, ![1024, 6144]⟩
abbrev S1x6144 : Shape := ⟨2, ![1, 6144]⟩
abbrev S_ : Shape := ⟨0, ![]⟩
abbrev S40x6144 : Shape := ⟨2, ![40, 6144]⟩

abbrev nBuf : Space → Nat
  | .hbm => 15
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S40x6144, .f32⟩
  | .hbm, ⟨14, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Pos.lean ====
abbrev S8x65536 : Shape := ⟨2, ![8, 65536]⟩
abbrev S256x1 : Shape := ⟨2, ![256, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x512 : Shape := ⟨2, ![8, 512]⟩
abbrev S256x128 : Shape := ⟨2, ![256, 128]⟩
abbrev S256x512 : Shape := ⟨2, ![256, 512]⟩
abbrev S256 : Shape := ⟨1, ![256]⟩

abbrev nBuf : Space → Nat
  | .hbm => 10
  | .vmem => 7
  | .smem => 0
  | _ => 0

abbrev bufTy : (tb : Table) → Fin (tcTables nBuf tb) → BufTy
  | .hbm, ⟨0, _⟩ => ⟨S8x65536, .i32⟩
  | .hbm, ⟨1, _⟩ => ⟨S256x1, .f32⟩
  | .hbm, ⟨2, _⟩ => ⟨S512, .i32⟩
  | .hbm, ⟨3, _⟩ => ⟨S512x1, .i32⟩
  | .hbm, ⟨4, _⟩ => ⟨S1x512, .i32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S512x512, .bf16⟩
  | .hbm, ⟨9, _⟩ => ⟨S8x65536, .i32⟩
  | .local _ .vmem, ⟨0, _⟩ => ⟨S8x512, .i32⟩
  | .local _ .vmem, ⟨1, _⟩ => ⟨S8x512, .i32⟩
  | .local _ .vmem, ⟨2, _⟩ => ⟨S256x1, .f32⟩
  | .local _ .vmem, ⟨3, _⟩ => ⟨S512x512, .bf16⟩
  | .local _ .vmem, ⟨4, _⟩ => ⟨S8x512, .i32⟩
  | .local _ .vmem, ⟨5, _⟩ => ⟨S8x512, .i32⟩
  | .local _ .vmem, ⟨6, _⟩ => ⟨S256x128, .f32⟩
  | _, _ => ⟨S8x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PosReferenceIdeal.lean ====
abbrev S8x65536 : Shape := ⟨2, ![8, 65536]⟩
abbrev S256x1 : Shape := ⟨2, ![256, 1]⟩
abbrev S8x1x65536 : Shape := ⟨3, ![8, 1, 65536]⟩
abbrev S256 : Shape := ⟨1, ![256]⟩
abbrev S1x256x1 : Shape := ⟨3, ![1, 256, 1]⟩
abbrev S8x256x65536 : Shape := ⟨3, ![8, 256, 65536]⟩
abbrev S_ : Shape := ⟨0, ![]⟩
abbrev S256x65536 : Shape := ⟨2, ![256, 65536]⟩
abbrev S1x256x65536 : Shape := ⟨3, ![1, 256, 65536]⟩

abbrev nBuf : Space → Nat
  | .hbm => 26
  | .vmem => 0
  | .smem => 0
  | _ => 0

abbrev bufTy : (tb : Table) → Fin (tcTables nBuf tb) → BufTy
  | .hbm, ⟨0, _⟩ => ⟨S8x65536, .i32⟩
  | .hbm, ⟨1, _⟩ => ⟨S256x1, .f32⟩
  | .hbm, ⟨2, _⟩ => ⟨S8x1x65536, .i32⟩
  | .hbm, ⟨3, _⟩ => ⟨S256, .i32⟩
  | .hbm, ⟨4, _⟩ => ⟨S1x256x1, .i32⟩
  | .hbm, ⟨5, _⟩ => ⟨S8x256x65536, .i32⟩
  | .hbm, ⟨6, _⟩ => ⟨S8x256x65536, .i32⟩
  | .hbm, ⟨7, _⟩ => ⟨S8x256x65536, .i1⟩
  | .hbm, ⟨8, _⟩ => ⟨S_, .i1⟩
  | .hbm, ⟨9, _⟩ => ⟨S256x65536, .i1⟩
  | .hbm, ⟨10, _⟩ => ⟨S256x65536, .f32⟩
  | .hbm, ⟨11, _⟩ => ⟨S_, .f32⟩
  | .hbm, ⟨12, _⟩ => ⟨S_, .f32⟩
  | .hbm, ⟨13, _⟩ => ⟨S256x65536, .f32⟩
  | .hbm, ⟨14, _⟩ => ⟨S256x65536, .f32⟩
  | .hbm, ⟨15, _⟩ => ⟨S256x65536, .f32⟩
  | .hbm, ⟨16, _⟩ => ⟨S256x65536, .f32⟩
  | .hbm, ⟨17, _⟩ => ⟨S1x256x65536, .f32⟩
  | .hbm, ⟨18, _⟩ => ⟨S_, .f32⟩
  | .hbm, ⟨19, _⟩ => ⟨S_, .f32⟩
  | .hbm, ⟨20, _⟩ => ⟨S8x256x65536, .f32⟩
  | .hbm, ⟨21, _⟩ => ⟨S8x256x65536, .f32⟩
  | .hbm, ⟨22, _⟩ => ⟨S8x256x65536, .f32⟩
  | .hbm, ⟨23, _⟩ => ⟨S_, .f32⟩
  | .hbm, ⟨24, _⟩ => ⟨S8x65536, .f32⟩
  | .hbm, ⟨25, _⟩ => ⟨S8x65536, .i32⟩
  | _, _ => ⟨S8x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_call0_call0_cst : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Attn.Pre.lean ====
/- What the precondition says: the queries and the keys are real numbers. -/
module

public import proofs.«01_k».proof.Defs
public import Idealize.ShloMosaic.Lib.Claim
public import Idealize.ShloMosaic.Lib.Pointwise
public import Idealize.ShloMosaic.Lib.ReduceAll

@[expose] public section

set_option maxRecDepth 16384

noncomputable section

namespace Cert.Pre_finite_scores

open Idealize.ShloMosaic

/-- The side conditions of the predicate's operations. -/
instance facts : Facts where
  bitsLt_bf16_f32 := by decide
  bcast_S_S32x2048x512 := by decide
  reducesTo_S32x2048x512_S_d0_1_2 := by decide
  h_S_ := by decide
  bcast_S_S32x256x128 := by decide
  reducesTo_S32x256x128_S_d0_1_2 := by decide
  bcast_S_S32x2048x128 := by decide
  reducesTo_S32x2048x128_S_d0_1_2 := by decide

/-- An element that is below plus infinity and above minus infinity is a real number. -/
theorem real_elem (x : EReal) (h : IntOp.andi (BitVec.ofBool (decide (x < Ideal.ofBits FTy.f32 2139095040#32))) (BitVec.ofBool (decide (Ideal.ofBits FTy.f32 4286578688#32 < x))) = 1#1) :
    ∃ r : ℝ, x = r := by
  have ht : Ideal.ofBits FTy.f32 2139095040#32 = ⊤ := by simp [Ideal.ofBits, Ideal.ieee]
  have hb : Ideal.ofBits FTy.f32 4286578688#32 = ⊥ := by simp [Ideal.ofBits, Ideal.ieee]
  rw [ht, hb] at h
  obtain ⟨h1, h2⟩ := IntOp.andi_eq_one.1 h
  have h1 : x < ⊤ := by by_contra hc; simp [hc] at h1
  have h2 : ⊥ < x := by by_contra hc; simp [hc] at h2
  exact ⟨x.toReal, (EReal.coe_toReal h1.ne h2.ne').symm⟩

/-- Under the precondition every element of the queries and of the keys is a real number. -/
theorem real_of (x0 : FVec Ideal S32x2048x512 .bf16) (x1 : FVec Ideal S32x256x128 .bf16) (x2 : FVec Ideal S32x2048x128 .bf16) (x3 : FVec Ideal S32x256x128 .bf16) (x4 : FVec Ideal S32x2048x128 .bf16)
    (h : fn (F := Ideal) x0 x1 x2 x3 x4 = fun _ => 1#1) :
    (∀ i, ∃ r : ℝ, x0 i = r) ∧ (∀ i, ∃ r : ℝ, x1 i = r) ∧ (∀ i, ∃ r : ℝ, x2 i = r) := by
  haveI : Subsingleton S_.Idx := ⟨fun a b => funext fun i => i.elim0⟩
  have h0 := congrFun h ix0
  unfold fn fn_part1 at h0
  obtain ⟨h1, h2⟩ := IntOp.andi_eq_one.1 h0
  obtain ⟨h3, h4⟩ := IntOp.andi_eq_one.1 h1
  refine ⟨fun i => ?_, fun i => ?_, fun i => ?_⟩
  · have e := Host.reduce_andi_all _ _ _ _ _ h3 i
    exact real_elem _ e
  · have e := Host.reduce_andi_all _ _ _ _ _ h4 i
    exact real_elem _ e
  · have e := Host.reduce_andi_all _ _ _ _ _ h2 i
    exact real_elem _ e

end Cert.Pre_finite_scores

end
-- ==== Proof.Inproj.Math.lean ====
/- The mathematics of one row of the input projection, on the extended reals. -/
module

public import Idealize.ShloMosaic.Lib.Pointwise

@[expose] public section

noncomputable section

namespace Cert.Inproj

open Idealize.ShloMosaic

/-- The small number added under the root. -/
abbrev eps : EReal := Ideal.ofBits .f32 0x358637BD#32

/-- A token's normalised and modulated row. -/
def hrow (x g sc sh : Fin 1024 → EReal) (k : Fin 1024) : EReal :=
  x k * Ideal.rsqrt (Ideal.div (∑ i, x i * x i) (Ideal.ofBits .f32 0x44800000#32) + eps) * g k * (1 + sc k) + sh k

/-- A row times the columns of a weight. -/
def proj {n : ℕ} (h : Fin 1024 → EReal) (w : Fin 1024 → Fin n → EReal) (j : Fin n) : EReal := ∑ i, h i * w i j

/-- The sum of the squares of the 64 lanes of a lane's head. -/
def headSum {n : ℕ} (hn : n % 64 = 0) (p : Fin n → EReal) (j : Fin n) : EReal :=
  ∑ d : Fin 64, p ⟨(j : ℕ) / 64 * 64 + d, by omega⟩ * p ⟨(j : ℕ) / 64 * 64 + d, by omega⟩

/-- A lane normalised over its head and scaled. -/
def normed {n : ℕ} (hn : n % 64 = 0) (p g : Fin n → EReal) (j : Fin n) : EReal :=
  p j * Ideal.rsqrt (Ideal.div (headSum hn p j) (Ideal.ofBits .f32 0x42800000#32) + eps) * g j

/-- The lane that a lane is rotated with: sixteen further or sixteen back within its 32 lanes. -/
def partner {n : ℕ} (hn : n % 64 = 0) (j : Fin n) : Fin n :=
  if h : (j : ℕ) % 32 < 16 then ⟨j + 16, by omega⟩ else ⟨j - 16, by omega⟩

/-- The rotation of a lane by its angle. -/
def rope {n : ℕ} (hn : n % 64 = 0) (a c s : Fin n → EReal) (j : Fin n) : EReal := a j * c j + a (partner hn j) * s j

/-- The logarithm of the logistic function, as the kernel writes it. -/
def logSig (x : EReal) : EReal := min x 0 - Ideal.log (1 + Ideal.exp (0 - max x (-x)))

/-- A gate: the first eight lanes as they are, the others through the logarithm of the logistic function. -/
def gate (l : ℕ) (x : EReal) : EReal := if l < 8 then x else logSig x

/-- The sum against the matrix of ones within a head is the sum over the head. -/
theorem sum_head {n : ℕ} (hn : n % 64 = 0) (s : Fin n → EReal) (b : Fin n → EReal) (j : Fin n)
    (hb : ∀ i, b i = if (i : ℕ) / 64 = (j : ℕ) / 64 then 1 else 0) :
    ∑ i, s i * b i = ∑ d : Fin 64, s ⟨(j : ℕ) / 64 * 64 + d, by omega⟩ := by
  symm
  refine Finset.sum_of_injOn (fun d : Fin 64 => (⟨(j : ℕ) / 64 * 64 + d, by omega⟩ : Fin n)) ?_ (fun _ _ => Finset.mem_coe.2 (Finset.mem_univ _)) ?_ ?_
  · intro a _ c _ h
    have := congrArg Fin.val h
    simp only at this
    exact Fin.ext (by omega)
  · intro i _ hi
    rw [hb, if_neg, mul_zero]
    intro h
    exact hi ⟨⟨(i : ℕ) % 64, by omega⟩, Finset.mem_coe.2 (Finset.mem_univ _), Fin.ext (by simp only; omega)⟩
  · intro d _
    rw [hb, if_pos (by simp only; omega), mul_one]

/-- Division by sixty-four is the product with its reciprocal. -/
theorem div64 (x : EReal) : Ideal.div x (Ideal.ofBits .f32 0x42800000#32) = x * Ideal.ofBits .f32 0x3C800000#32 := by
  have h1 : Ideal.ofBits .f32 0x42800000#32 = ((64 : ℝ) : EReal) := by simp [Ideal.ofBits, Ideal.ieee]; norm_num; rw [← EReal.coe_mul]; norm_num
  have h2 : Ideal.ofBits .f32 0x3C800000#32 = (((64 : ℝ)⁻¹ : ℝ) : EReal) := by simp [Ideal.ofBits, Ideal.ieee]; norm_num; rw [← EReal.coe_mul]; norm_num
  rw [h1, h2, Ideal.div, if_neg (by exact_mod_cast (by norm_num : (64 : ℝ) ≠ 0)), ← EReal.coe_inv]

/-- The kernel's sum over a head, in three pieces of which two are zero for real numbers. -/
theorem split_sum {n : ℕ} (hn : n % 64 = 0) (p b : Fin n → EReal) (j : Fin n) (hp : ∀ i, ∃ r : ℝ, p i = r)
    (hb : ∀ i, b i = if (i : ℕ) / 64 = (j : ℕ) / 64 then 1 else 0) :
    (∑ i, p i * p i * b i + ∑ i, (p i * p i - p i * p i) * b i + ∑ i, (p i * p i - p i * p i - (p i * p i - p i * p i)) * b i)
      * Ideal.ofBits .f32 0x3C800000#32 = Ideal.div (headSum hn p j) (Ideal.ofBits .f32 0x42800000#32) := by
  have hz : ∀ i, p i * p i - p i * p i = 0 := by
    intro i
    obtain ⟨r, hr⟩ := hp i
    rw [hr, ← EReal.coe_mul, ← EReal.coe_sub, sub_self, EReal.coe_zero]
  simp only [hz, sub_zero, zero_mul, Finset.sum_const_zero, add_zero]
  rw [div64, sum_head hn (fun i => p i * p i) b j hb]
  rfl

/-- The reciprocal root of a positive real number. -/
theorem rsqrt_pos (r : ℝ) (h : 0 < r) : Ideal.rsqrt (r : EReal) = (((Real.sqrt r)⁻¹ : ℝ) : EReal) := by
  change (if r < 0 then ⊥ else if r = 0 then ⊤ else (((Real.sqrt r)⁻¹ : ℝ) : EReal)) = _
  rw [if_neg (not_lt.2 h.le), if_neg h.ne']

/-- The logarithm of a positive real number. -/
theorem log_pos (r : ℝ) (h : 0 < r) : Ideal.log (r : EReal) = ((Real.log r : ℝ) : EReal) := by
  change (if r ≤ 0 then ⊥ else ((Real.log r : ℝ) : EReal)) = _
  rw [if_neg (not_le.2 h)]

/-- The logarithm of one and the exponential of minus infinity is zero. -/
theorem log_bot : Ideal.log (1 + Ideal.exp ⊥) = ((0 : ℝ) : EReal) := by
  have h : (1 : EReal) + Ideal.exp ⊥ = ((1 : ℝ) : EReal) := by
    change (1 : EReal) + 0 = _
    rw [add_zero, EReal.coe_one]
  rw [h, log_pos 1 one_pos, Real.log_one]

/-- A finite sum of real numbers is real. -/
theorem sum_real {ι : Type*} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The row is real when the factors are, whatever the token: an infinite token has an infinite mean and is scaled to zero. -/
theorem hrow_real (x g sc sh : Fin 1024 → EReal) (hg : ∀ i, ∃ r : ℝ, g i = r) (hsc : ∀ i, ∃ r : ℝ, sc i = r) (hsh : ∀ i, ∃ r : ℝ, sh i = r) (k : Fin 1024) :
    ∃ r : ℝ, hrow x g sc sh k = r := by
  have key : ∃ r : ℝ, x k * Ideal.rsqrt (Ideal.div (∑ i, x i * x i) (Ideal.ofBits .f32 0x44800000#32) + eps) = r := by
    have h1 : Ideal.ofBits .f32 0x44800000#32 = ((1024 : ℝ) : EReal) := by simp [Ideal.ofBits, Ideal.ieee]; norm_num; rw [← EReal.coe_mul]; norm_num
    obtain ⟨e, he0, he⟩ : ∃ e : ℝ, 0 < e ∧ eps = e := by
      refine ⟨_, ?_, by simp [eps, Ideal.ofBits, Ideal.ieee]; rfl⟩
      positivity
    have hnn : ∀ i, 0 ≤ x i * x i := by
      intro i
      rcases le_total 0 (x i) with h | h
      · exact mul_nonneg h h
      · exact EReal.mul_nonneg_iff.2 (Or.inr ⟨h, h⟩)
    rw [h1, he, Ideal.div, if_neg (by exact_mod_cast (by norm_num : (1024 : ℝ) ≠ 0)), ← EReal.coe_inv]
    by_cases ht : ∑ i, x i * x i = ⊤
    · rw [ht, EReal.top_mul_coe_of_pos (by norm_num), EReal.top_add_coe]
      exact ⟨0, by change x k * 0 = _; rw [mul_zero, EReal.coe_zero]⟩
    · have hs0 : 0 ≤ ∑ i, x i * x i := Finset.sum_nonneg fun i _ => hnn i
      have hsb : ∑ i, x i * x i ≠ ⊥ := fun h => by rw [h] at hs0; exact absurd hs0 (by simp)
      have hle : x k * x k ≤ ∑ i, x i * x i := Finset.single_le_sum (f := fun i => x i * x i) (fun i _ => hnn i) (Finset.mem_univ k)
      have hxt : x k ≠ ⊤ := fun h => by rw [h] at hle; exact ht (top_le_iff.1 (by simpa using hle))
      have hxb : x k ≠ ⊥ := fun h => by rw [h] at hle; exact ht (top_le_iff.1 (by simpa using hle))
      obtain ⟨q, hq⟩ : ∃ q : ℝ, x k = q := ⟨_, (EReal.coe_toReal hxt hxb).symm⟩
      obtain ⟨s, hs⟩ : ∃ s : ℝ, ∑ i, x i * x i = s := ⟨_, (EReal.coe_toReal ht hsb).symm⟩
      rw [hs] at hs0
      have hs0 : 0 ≤ s := by exact_mod_cast hs0
      have hpos : 0 < s * (1024 : ℝ)⁻¹ + e := by positivity
      rw [hs, hq, ← EReal.coe_mul, ← EReal.coe_add]
      refine ⟨q * (Real.sqrt (s * (1024 : ℝ)⁻¹ + e))⁻¹, ?_⟩
      rw [EReal.coe_mul]
      rw [rsqrt_pos _ hpos]
  obtain ⟨a, ha⟩ := key
  obtain ⟨b, hb⟩ := hg k
  obtain ⟨c, hc⟩ := hsc k
  obtain ⟨d, hd⟩ := hsh k
  exact ⟨a * b * (1 + c) + d, by rw [hrow, ha, hb, hc, hd]; push_cast; rfl⟩

/-- The product of a real row with real columns is real. -/
theorem proj_real {n : ℕ} (h : Fin 1024 → EReal) (w : Fin 1024 → Fin n → EReal) (hh : ∀ i, ∃ r : ℝ, h i = r) (hw : ∀ i j, ∃ r : ℝ, w i j = r) (j : Fin n) :
    ∃ r : ℝ, proj h w j = r := by
  refine sum_real _ _ fun i => ?_
  obtain ⟨a, ha⟩ := hh i
  obtain ⟨b, hb⟩ := hw i j
  exact ⟨a * b, by rw [ha, hb, EReal.coe_mul]⟩

/-- The kernel's logarithm of the logistic function is the reference's, at every extended real. -/
theorem logSig_eq (x : EReal) : -(max (-x) 0 + Ideal.log1p (Ideal.exp (-(max (-x - 0) (-(-x - 0)))))) = logSig x := by
  unfold logSig Ideal.log1p
  rw [sub_zero, neg_neg, zero_sub, max_comm (-x) x]
  obtain ⟨l, hl⟩ : ∃ l : ℝ, Ideal.log (1 + Ideal.exp (-(max x (-x)))) = l := by
    induction x using EReal.rec with
    | bot => exact ⟨0, by simpa using log_bot⟩
    | top => exact ⟨0, by simpa using log_bot⟩
    | coe r =>
      have e : -(max (r : EReal) (-(r : EReal))) = ((-(max r (-r)) : ℝ) : EReal) := by push_cast; rfl
      rw [e]
      have e2 : (1 : EReal) + Ideal.exp ((-(max r (-r)) : ℝ) : EReal) = ((1 + Real.exp (-(max r (-r))) : ℝ) : EReal) := by
        push_cast; rfl
      rw [e2]
      exact ⟨Real.log (1 + Real.exp (-(max r (-r)))), log_pos _ (by positivity)⟩
  rw [hl]
  rw [EReal.neg_add (Or.inr (EReal.coe_ne_top l)) (Or.inr (EReal.coe_ne_bot l))]
  congr 1
  rcases le_total x 0 with h | h
  · rw [min_eq_left h, max_eq_left (by simpa using h), neg_neg]
  · rw [min_eq_right h, max_eq_right (by simpa using h), neg_zero]

end Cert.Inproj

end
-- ==== Proof.InprojCtx.Pre.lean ====
/- What the precondition of the context projection says: the numbers behind the heads are real. -/
module

public import proofs.«01_k».proof.Defs
public import proofs.«01_k».proof.Proof.Attn.Pre
public import proofs.«01_k».proof.Proof.Inproj.Math
public import Idealize.ShloMosaic.Lib.Claim
public import Idealize.ShloMosaic.Lib.Pointwise
public import Idealize.ShloMosaic.Lib.ReduceAll

@[expose] public section

set_option maxRecDepth 16384

noncomputable section

namespace Cert.Pre_finite_keys

open Idealize.ShloMosaic

/-- The side conditions of the predicate's operations. -/
instance facts : Facts where
  slices_S40x6x1x1024_S1x2x1x1024_32_0_0_0 := by decide
  shapeCasts_S1x2x1x1024_S2x1x1024 := by decide
  bcast_S_S2x1x1024 := by decide
  reducesTo_S2x1x1024_S_d0_1_2 := by decide
  h_S_ := by decide
  bcast_S_S1x1024 := by decide
  reducesTo_S1x1024_S_d0_1 := by decide
  slices_S1024x256_S1024x128_0_0 := by decide
  bitsLt_bf16_f32 := by decide
  bcast_S_S1024x128 := by decide
  reducesTo_S1024x128_S_d0_1 := by decide

/-- Under the precondition the shift and scale of the context, the scale of the rows and the key columns are real. -/
theorem real_of (x0 : FVec Ideal S32x256x1024 .f32) (x1 : FVec Ideal S40x6x1x1024 .f32) (x2 : FVec Ideal S1x1024 .f32) (x3 : FVec Ideal S1024x256 .bf16) (x4 : FVec Ideal S1024x1536 .bf16)
    (x5 : FVec Ideal S1024x128 .bf16) (x6 x7 : FVec Ideal S1x128 .f32) (h : fn (F := Ideal) x0 x1 x2 x3 x4 x5 x6 x7 = fun _ => 1#1) :
    (∀ (t : Fin 2) (i : Fin 1024), ∃ r : ℝ, x1 (ix4 ⟨32, by norm_num⟩ ⟨t, by omega⟩ 0 i) = r) ∧ (∀ i, ∃ r : ℝ, x2 i = r)
      ∧ (∀ (i : Fin 1024) (j : Fin 128), ∃ r : ℝ, x3 (ix2 i ⟨j, by omega⟩) = r) := by
  haveI : Subsingleton S_.Idx := ⟨fun a b => funext fun i => i.elim0⟩
  have h0 := congrFun h ix0
  unfold fn fn_part1 at h0
  obtain ⟨h1, h7⟩ := IntOp.andi_eq_one.1 h0
  obtain ⟨h3, h4⟩ := IntOp.andi_eq_one.1 h1
  refine ⟨fun t i => ?_, fun i => ?_, fun i j => ?_⟩
  · have e := Host.reduce_andi_all _ _ _ _ _ h3 (ix3 t 0 i)
    obtain ⟨r, hr⟩ := Cert.Pre_finite_scores.real_elem _ e
    refine ⟨r, hr.symm.trans ?_ |>.symm⟩
    pointwise
  · have e := Host.reduce_andi_all _ _ _ _ _ h4 i
    exact Cert.Pre_finite_scores.real_elem _ e
  · have e := Host.reduce_andi_all _ _ _ _ _ h7 (ix2 i j)
    obtain ⟨r, hr⟩ := Cert.Pre_finite_scores.real_elem _ e
    refine ⟨r, hr.symm.trans ?_ |>.symm⟩
    pointwise

end Cert.Pre_finite_keys

end
-- ==== Proof.InprojCtx.Body.lean ====
/- What the context projection kernel writes, read at an index of its blocks. -/
module

public import proofs.«01_k».proof.Proof.Gen.InprojCtxIdeal.Frame
public import proofs.«01_k».proof.Proof.Inproj.Math
public import Idealize.ShloMosaic.Lib.Claim
public import Idealize.ShloMosaic.Lib.Pipeline.ValueKit
public import Idealize.ShloMosaic.Lib.Pointwise

@[expose] public section

set_option maxRecDepth 16384

noncomputable section

namespace Cert.InprojCtxIdeal.Body

open Idealize.ShloMosaic Idealize.ShloMosaic.TcCoe Idealize.SL.Sem
open Cert.InprojCtxIdeal Cert.InprojCtxIdeal.Gen

variable (x0 : Vec Ideal S1x256x1024 .f32) (x1 x2 : Vec Ideal S1x1x1x1024 .f32) (x3 : Vec Ideal S1x1024 .f32)

/-- The normalised row of a token of the block. -/
def hb (r : Fin 256) (k : Fin 1024) : EReal :=
  Inproj.hrow (fun i => x0 (ix3 0 r i)) (fun i => x3 (ix2 0 i)) (fun i => x2 (ix4 0 0 0 i)) (fun i => x1 (ix4 0 0 0 i)) k

/-- The normalised rows at an index. -/
theorem hb_at (r : Fin 256) (k : Fin 1024) : k0_pay2 x0 x3 x2 x1 (ix2 r k) = hb x0 x1 x2 x3 r k := by
  pointwise [k0_pay2]
  rfl

/-- The products with the key and value columns at an index. -/
theorem kv_at (w : Vec Ideal S1024x256 .bf16) (r : Fin 256) (j : Fin 256) :
    k0_pay3 x0 x3 x2 x1 w (ix2 r j) = Inproj.proj (hb x0 x1 x2 x3 r) (fun i j => w (ix2 i j)) j := by
  pointwise [k0_pay3]
  simp only [hb_at]
  rfl

/-- The values' columns at an index. -/
theorem v_at (w : FVec Ideal S256x256 .f32) (r : Fin 256) (j : Fin 128) :
    k0_pay9 w (ix3 0 r j) = w (ix2 r ⟨128 + j, by omega⟩) := by
  pointwise [k0_pay9]

variable (h : FVec Ideal S256x1024 .bf16)

/-- The products with the first columns of the inner cell's weight at an index. -/
theorem mqk_at (w : Vec Ideal S1024x1536 .bf16) (r : Fin 256) (j : Fin 1024) :
    k0_pay11 h w (ix3 0 r j) = Inproj.proj (fun i => h (ix2 r i)) (fun i j => w (ix2 i j)) (⟨j, by omega⟩ : Fin 1536) := by
  pointwise [k0_pay11, k0_pay10]
  rfl

/-- The products with the last columns of the inner cell's weight at an index. -/
theorem mv_at (w : Vec Ideal S1024x1536 .bf16) (r : Fin 256) (j : Fin 512) :
    k0_pay13 (k0_pay12 h w) (ix3 0 r j) = Inproj.proj (fun i => h (ix2 r i)) (fun i j => w (ix2 i j)) (⟨1024 + j, by omega⟩ : Fin 1536) := by
  pointwise [k0_pay13, k0_pay12, k0_pay10]
  rfl

/-- A choice by a decided bit. -/
theorem sel (p : Prop) [Decidable p] (a b : EReal) : Scalar.select (if p then 1#1 else 0#1) a b = if p then a else b := by
  by_cases hp : p
  · rw [if_pos hp, if_pos hp]; rfl
  · rw [if_neg hp, if_neg hp]; rfl

/-- A gate's lane at an index. -/
theorem gc_at (w : Vec Ideal S1024x128 .bf16) (b : Vec Ideal S1x128 .f32) (r : Fin 256) (j : Fin 128) :
    k0_pay14 h w b (ix3 0 r j)
      = Inproj.gate j (Inproj.proj (fun i => h (ix2 r i)) (fun i j => w (ix2 i j)) j + b (ix2 0 j)) := by
  have hs : ∀ l : Fin 128, IntOp.cmpi .slt (BitVec.ofNat 32 (l : ℕ)) 8#32 = if (l : ℕ) < 8 then 1#1 else 0#1 := by decide
  pointwise [k0_pay14]
  rw [hs, sel]
  rfl

/-- A gate's row at an index. -/
theorem gt_at (w : Vec Ideal S1024x128 .bf16) (b : Vec Ideal S1x128 .f32) (l : Fin 16) (r : Fin 256) :
    k0_pay1 (k0_pay15 h w b) k0_pay16 (k0_pay17 h w b) (ix3 0 l r)
      = Inproj.gate l (Inproj.proj (fun i => h (ix2 r i)) (fun i j => w (ix2 i j)) (⟨l, by omega⟩ : Fin 128) + b (ix2 0 ⟨l, by omega⟩)) := by
  have hs : ∀ l : Fin 16, IntOp.cmpi .slt (BitVec.ofNat 32 (l : ℕ)) 8#32 = if (l : ℕ) < 8 then 1#1 else 0#1 := by decide
  pointwise [k0_pay1, k0_pay15, k0_pay16, k0_pay17]
  rw [hs, sel]
  simp only [mul_comm (w _)]
  rfl

/-- The normalised key columns at an index, for real products and a matrix of ones within the heads. -/
theorem kn_at (w : Vec Ideal S1024x256 .bf16) (g : Vec Ideal S1x128 .f32) (d : Vec Ideal S128x128 .bf16) (r : Fin 256) (j : Fin 128)
    (hd : ∀ i j : Fin 128, d (ix2 i j) = if (i : ℕ) / 64 = (j : ℕ) / 64 then 1 else 0)
    (hp : ∀ i : Fin 128, ∃ q : ℝ, Inproj.proj (hb x0 x1 x2 x3 r) (fun i j => w (ix2 i j)) (⟨i, by omega⟩ : Fin 256) = q) :
    k0_pay8 (k0_pay4 x0 x3 x2 x1 w) g (k0_pay5 d) (k0_pay6 x0 x3 x2 x1 w) (k0_pay7 x0 x3 x2 x1 w) (ix3 0 r j)
      = Inproj.normed (n := 128) (by norm_num) (fun j => Inproj.proj (hb x0 x1 x2 x3 r) (fun i j => w (ix2 i j)) (⟨j, by omega⟩ : Fin 256)) (fun j => g (ix2 0 j)) j := by
  pointwise [k0_pay8, k0_pay4, k0_pay5, k0_pay6, k0_pay7]
  simp only [kv_at]
  unfold Inproj.normed
  rw [← Inproj.split_sum (n := 128) (by norm_num) _ (fun i => d (ix2 i j)) j hp (fun i => hd i j)]

end Cert.InprojCtxIdeal.Body

end
-- ==== Proof.InprojCtx.Final.lean ====
/- The context projection kernel's six results as functions of its arguments. -/
module

public import proofs.«01_k».proof.Proof.InprojCtx.Body

@[expose] public section

set_option maxRecDepth 16384

noncomputable section

namespace Cert.InprojCtxIdeal.Body

open Idealize.ShloMosaic Idealize.ShloMosaic.TcCoe Idealize.SL.Sem
open Cert.InprojCtxIdeal Cert.InprojCtxIdeal.Gen

variable (m : (ℓ : Loc nD τ sig) → Buf (Elt Ideal) ℓ) (c : Dev nD)

/-- Zero offsets of two, three and four axes. -/
theorem origin2 : ∀ a : Fin 2, (![0, 0] : Fin 2 → ℕ) a = 0 := by decide
theorem origin3 : ∀ a : Fin 3, (![0, 0, 0] : Fin 3 → ℕ) a = 0 := by decide
theorem origin4 : ∀ a : Fin 4, (![0, 0, 0, 0] : Fin 4 → ℕ) a = 0 := by decide

/-- The block that each windowed array has at a grid point. -/
theorem idx : ∀ t : Fin cfg0.N, win0_0.index t = ![t.val % 32, 0, 0] ∧ win0_1.index t = ![32, 0, 0, 0] ∧ win0_2.index t = ![32, 1, 0, 0]
    ∧ win0_10.index t = ![t.val % 32, 0, 0] ∧ win0_11.index t = ![t.val % 32, 0, 0] ∧ win0_12.index t = ![t.val % 32, 0, 0]
    ∧ win0_13.index t = ![t.val % 32, 0, 0] ∧ win0_14.index t = ![t.val % 32, 0, 0] ∧ win0_15.index t = ![t.val % 32, 0, 0] :=
  (by decide +kernel : ∀ t : Fin grid0.N, _)

/-- The arrays that are one block have the same block at every point. -/
theorem idx0 : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The sequence that a point works on. -/
def bOf (t : Fin cfg0.N) : Fin 32 := ⟨t.val % 32, Nat.mod_lt _ (by norm_num)⟩

/-- A context token's normalised row from the arguments: its scale and shift are those of row 32. -/
def H (X : FVec Ideal S32x256x1024 .f32) (M : FVec Ideal S40x6x1x1024 .f32) (G : FVec Ideal S1x1024 .f32) (b : Fin 32) (s : Fin 256) : Fin 1024 → EReal :=
  Inproj.hrow (fun i => X (ix3 b s i)) (fun i => G (ix2 0 i)) (fun i => M (ix4 ⟨32, by norm_num⟩ 1 0 i)) (fun i => M (ix4 ⟨32, by norm_num⟩ 0 0 i))

/-- The tokens' block at an index. -/
theorem in0 (t : Fin cfg0.N) (r : Fin 256) (k : Fin 1024) : iblk m c 0 t (ix3 0 r k) = m ((c.tc : Thread nD τ).loc main_arg0) (ix3 (bOf t) r k) := by
  rw [← V_main_arg0 m c]
  blk_point [iblk, idx t, bOf]

/-- The shifts' block at an index. -/
theorem in1 (t : Fin cfg0.N) (k : Fin 1024) : iblk m c 1 t (ix4 0 0 0 k) = m ((c.tc : Thread nD τ).loc main_arg1) (ix4 ⟨32, by norm_num⟩ 0 0 k) := by
  rw [← V_main_arg1 m c]
  blk_point [iblk, idx t, bOf]

/-- The scales' block at an index. -/
theorem in2 (t : Fin cfg0.N) (k : Fin 1024) : iblk m c 2 t (ix4 0 0 0 k) = m ((c.tc : Thread nD τ).loc main_arg1) (ix4 ⟨32, by norm_num⟩ 1 0 k) := by
  rw [← V_main_arg1 m c]
  blk_point [iblk, idx t, bOf]

/-- The norm's factors. -/
theorem in3 (t : Fin cfg0.N) (k : Fin 1024) : iblk m c 3 t (ix2 0 k) = m ((c.tc : Thread nD τ).loc main_arg2) (ix2 0 k) := by
  rw [← V_main_arg2 m c]
  blk_point [iblk, idx0 t]

/-- The key and value weight. -/
theorem in4 (t : Fin cfg0.N) (i : Fin 1024) (k : Fin 256) : iblk m c 4 t (ix2 i k) = m ((c.tc : Thread nD τ).loc main_arg3) (ix2 i k) := by
  rw [← V_main_arg3 m c]
  blk_point [iblk, idx0 t]

/-- The inner cell weight. -/
theorem in5 (t : Fin cfg0.N) (i : Fin 1024) (k : Fin 1536) : iblk m c 5 t (ix2 i k) = m ((c.tc : Thread nD τ).loc main_arg4) (ix2 i k) := by
  rw [← V_main_arg4 m c]
  blk_point [iblk, idx0 t]

/-- The gate weight. -/
theorem in6 (t : Fin cfg0.N) (i : Fin 1024) (k : Fin 128) : iblk m c 6 t (ix2 i k) = m ((c.tc : Thread nD τ).loc main_arg5) (ix2 i k) := by
  rw [← V_main_arg5 m c]
  blk_point [iblk, idx0 t]

/-- The gate bias. -/
theorem in7 (t : Fin cfg0.N) (k : Fin 128) : iblk m c 7 t (ix2 0 k) = m ((c.tc : Thread nD τ).loc main_arg6) (ix2 0 k) := by
  rw [← V_main_arg6 m c]
  blk_point [iblk, idx0 t]

/-- The key norm factors. -/
theorem in8 (t : Fin cfg0.N) (k : Fin 128) : iblk m c 8 t (ix2 0 k) = m ((c.tc : Thread nD τ).loc main_arg7) (ix2 0 k) := by
  rw [← V_main_arg7 m c]
  blk_point [iblk, idx0 t]

/-- The matrix of ones within the heads, as the host computes it. -/
def ones : FVec Ideal S512x512 .bf16 :=
  uitofp .bf16 (cmpi .eq
      (broadcastInDim S512x512 ![0, 1] bcast_S512x1_S512x512_0_1 (broadcastInDim S512x1 ![0] bcast_S512_S512x1_0 (Host.divsi (iotaInDim S512 32 0) (broadcastInDim S512 ![] bcast_S_S512 (constantI S_ 32 64#32)))))
      (broadcastInDim S512x512 ![0, 1] bcast_S1x512_S512x512_0_1 (broadcastInDim S1x512 ![1] bcast_S512_S1x512_1 (Host.divsi (iotaInDim S512 32 0) (broadcastInDim S512 ![] bcast_S_S512 (constantI S_ 32 64#32))))))

/-- The array that the region finds is that matrix. -/
theorem V_ones : V m c main_v8 = ones := by
  unfold V
  simp only [hostOps0]
  after_results_simp
  rfl

/-- The matrix at an index. -/
theorem ones_at (i j : Fin 512) : ones (ix2 i j) = if (i : ℕ) / 64 = (j : ℕ) / 64 then (1 : EReal) else 0 := by
  have hdiv : ∀ i : Fin 512, IntOp.divsi .host (BitVec.ofNat 32 (i : ℕ)) 64#32 = BitVec.ofNat 32 ((i : ℕ) / 64) := by decide +kernel
  have heq : ∀ a b : Fin 8, IntOp.cmpi .eq (BitVec.ofNat 32 (a : ℕ)) (BitVec.ofNat 32 (b : ℕ)) = if (a : ℕ) = (b : ℕ) then 1#1 else 0#1 := by decide
  have h1 : FloatOps.uitofp (F := Ideal) .bf16 (1#1 : BitVec 1) = (1 : EReal) := by
    change (((1#1 : BitVec 1).toNat : ℝ) : EReal) = 1
    simp
  have h0 : FloatOps.uitofp (F := Ideal) .bf16 (0#1 : BitVec 1) = (0 : EReal) := by
    change (((0#1 : BitVec 1).toNat : ℝ) : EReal) = 0
    simp
  pointwise [ones]
  rw [hdiv, hdiv]
  have e := heq ⟨(i : ℕ) / 64, by omega⟩ ⟨(j : ℕ) / 64, by omega⟩
  simp only at e
  rw [e]
  by_cases h : (i : ℕ) / 64 = (j : ℕ) / 64
  · rw [if_pos h, if_pos h, h1]
  · rw [if_neg h, if_neg h, h0]

/-- The matrix's block at an index. -/
theorem in9 (t : Fin cfg0.N) (i j : Fin 512) : iblk m c 9 t (ix2 i j) = if (i : ℕ) / 64 = (j : ℕ) / 64 then (1 : EReal) else 0 := by
  rw [← ones_at, ← V_ones m c]
  blk_point [iblk, idx0 t]

/-- The normalised rows of a point's block are the tokens' rows. -/
theorem hb_eq (t : Fin cfg0.N) (r : Fin 256) : hb (iblk m c 0 t) (iblk m c 1 t) (iblk m c 2 t) (iblk m c 3 t) r
    = H (m ((c.tc : Thread nD τ).loc main_arg0)) (m ((c.tc : Thread nD τ).loc main_arg1)) (m ((c.tc : Thread nD τ).loc main_arg2)) (bOf t) r := by
  funext k
  unfold hb H
  simp only [in0, in1, in2, in3]

variable (x0 : Vec Ideal S1x256x1024 .f32) (x1 x2 : Vec Ideal S1x1x1x1024 .f32) (x3 : Vec Ideal S1x1024 .f32) (x4 : Vec Ideal S1024x256 .bf16) (x5 : Vec Ideal S1024x1536 .bf16) (x6 : Vec Ideal S1024x128 .bf16) (x7 x8 : Vec Ideal S1x128 .f32) (x9 : Vec Ideal S512x512 .bf16)

/-- The normalised rows that the later products read. -/
theorem p18_at (r : Fin 256) : (fun k => k0_pay18 (F := Ideal) x0 x1 x2 x3 x4 x5 x6 x7 x8 x9 (ix2 r k)) = hb x0 x1 x2 x3 r := by
  funext k
  unfold k0_pay18
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  rw [e0, e1, e2, e3, hb_at]

/-- The value columns: the block from the input blocks. -/
theorem out11_at (r : Fin 256) (j : Fin 128) :
    out0_11 (F := Ideal) x0 x1 x2 x3 x4 x5 x6 x7 x8 x9 (ix3 0 r j)
      = Inproj.proj (hb x0 x1 x2 x3 r) (fun i j => x4 (ix2 i j)) (⟨128 + j, by omega⟩ : Fin 256) := by
  unfold out0_11
  rw [View.canon_cons_unit_lit (h := origin3)]
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  have e4 : View.ld x4 r0_3 = x4 := View.ld_unit_lit _ _ origin2
  rw [e0, e1, e2, e3, e4, v_at, kv_at]

/-- The value columns, from the arguments. -/
def G11 (X : FVec Ideal S32x256x1024 .f32) (M : FVec Ideal S40x6x1x1024 .f32) (G : FVec Ideal S1x1024 .f32) (W : FVec Ideal S1024x256 .bf16) : FVec Ideal S32x256x128 .bf16 :=
  fun j => Inproj.proj (H X M G (j 0) (j 1)) (fun i k => W (ix2 i k)) (⟨128 + (j 2 : ℕ), by have : (j 2 : ℕ) < 128 := (j 2).isLt; omega⟩ : Fin 256)

/-- The value columns: the kernel's result array. -/
theorem final11 : (dats m 0 c).arrAt 11 (cfgs 0).N
    = G11 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 11 _ (by decide +kernel) fun t hf y => ?_
  blk_simp
  rw [after0_11]
  have hy : ∀ y : S1x256x128.Idx, (win0_11.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out11_at, hb_eq]
  simp only [in4]
  rfl

/-- The query and key columns of the inner cell: the block from the input blocks. -/
theorem out12_at (r : Fin 256) (j : Fin 1024) :
    out0_12 (F := Ideal) x0 x1 x2 x3 x4 x5 x6 x7 x8 x9 (ix3 0 r j)
      = Inproj.proj (hb x0 x1 x2 x3 r) (fun i j => x5 (ix2 i j)) (⟨j, by omega⟩ : Fin 1536) := by
  unfold out0_12
  rw [View.canon_cons_unit_lit (h := origin3)]
  have e5 : View.ld x5 r0_7 = x5 := View.ld_unit_lit _ _ origin2
  rw [e5, mqk_at, p18_at]

/-- The query and key columns of the inner cell, from the arguments. -/
def G12 (X : FVec Ideal S32x256x1024 .f32) (M : FVec Ideal S40x6x1x1024 .f32) (G : FVec Ideal S1x1024 .f32) (W : FVec Ideal S1024x1536 .bf16) : FVec Ideal S32x256x1024 .bf16 :=
  fun j => Inproj.proj (H X M G (j 0) (j 1)) (fun i k => W (ix2 i k)) (⟨(j 2 : ℕ), by have : (j 2 : ℕ) < 1024 := (j 2).isLt; omega⟩ : Fin 1536)

/-- The query and key columns of the inner cell: the kernel's result array. -/
theorem final12 : (dats m 0 c).arrAt 12 (cfgs 0).N
    = G12 (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 12 _ (by decide +kernel) fun t hf y => ?_
  blk_simp
  rw [after0_12]
  have hy : ∀ y : S1x256x1024.Idx, (win0_12.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out12_at, hb_eq]
  simp only [in5]
  rfl

/-- The value columns of the inner cell: the block from the input blocks. -/
theorem out13_at (r : Fin 256) (j : Fin 512) :
    out0_13 (F := Ideal) x0 x1 x2 x3 x4 x5 x6 x7 x8 x9 (ix3 0 r j)
      = Inproj.proj (hb x0 x1 x2 x3 r) (fun i j => x5 (ix2 i j)) (⟨1024 + j, by omega⟩ : Fin 1536) := by
  unfold out0_13
  rw [View.canon_cons_unit_lit (h := origin3)]
  have e5 : View.ld x5 r0_7 = x5 := View.ld_unit_lit _ _ origin2
  rw [e5, mv_at, p18_at]

/-- The value columns of the inner cell, from the arguments. -/
def G13 (X : FVec Ideal S32x256x1024 .f32) (M : FVec Ideal S40x6x1x1024 .f32) (G : FVec Ideal S1x1024 .f32) (W : FVec Ideal S1024x1536 .bf16) : FVec Ideal S32x256x512 .bf16 :=
  fun j => Inproj.proj (H X M G (j 0) (j 1)) (fun i k => W (ix2 i k)) (⟨1024 + (j 2 : ℕ), by have : (j 2 : ℕ) < 512 := (j 2).isLt; omega⟩ : Fin 1536)

/-- The value columns of the inner cell: the kernel's result array. -/
theorem final13 : (dats m 0 c).arrAt 13 (cfgs 0).N
    = G13 (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 13 _ (by decide +kernel) fun t hf y => ?_
  blk_simp
  rw [after0_13]
  have hy : ∀ y : S1x256x512.Idx, (win0_13.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out13_at, hb_eq]
  simp only [in5]
  rfl

/-- The gates by lanes: the block from the input blocks. -/
theorem out14_at (r : Fin 256) (j : Fin 128) :
    out0_14 (F := Ideal) x0 x1 x2 x3 x4 x5 x6 x7 x8 x9 (ix3 0 r j)
      = Inproj.gate j (Inproj.proj (hb x0 x1 x2 x3 r) (fun i j => x6 (ix2 i j)) j + x7 (ix2 0 j)) := by
  unfold out0_14
  rw [View.canon_cons_unit_lit (h := origin3)]
  have e6 : View.ld x6 r0_9 = x6 := View.ld_unit_lit _ _ origin2
  have e7 : View.ld x7 r0_4 = x7 := View.ld_unit_lit _ _ origin2
  rw [e6, e7, gc_at, p18_at]

/-- The gates by lanes, from the arguments. -/
def G14 (X : FVec Ideal S32x256x1024 .f32) (M : FVec Ideal S40x6x1x1024 .f32) (G : FVec Ideal S1x1024 .f32) (W : FVec Ideal S1024x128 .bf16) (B : FVec Ideal S1x128 .f32) : FVec Ideal S32x256x128 .f32 :=
  fun j => Inproj.gate (j 2 : ℕ) (Inproj.proj (H X M G (j 0) (j 1)) (fun i k => W (ix2 i k)) (j 2) + B (ix2 0 (j 2)))

/-- The gates by lanes: the kernel's result array. -/
theorem final14 : (dats m 0 c).arrAt 14 (cfgs 0).N
    = G14 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 14 _ (by decide +kernel) fun t hf y => ?_
  blk_simp
  rw [after0_14]
  have hy : ∀ y : S1x256x128.Idx, (win0_14.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out14_at, hb_eq]
  simp only [in6, in7]
  rfl

/-- The gates by rows: the block from the input blocks. -/
theorem out15_at (r : Fin 256) (j : Fin 16) :
    out0_15 (F := Ideal) x0 x1 x2 x3 x4 x5 x6 x7 x8 x9 (ix3 0 j r)
      = Inproj.gate j (Inproj.proj (hb x0 x1 x2 x3 r) (fun i j => x6 (ix2 i j)) (⟨j, by omega⟩ : Fin 128) + x7 (ix2 0 ⟨j, by omega⟩)) := by
  unfold out0_15
  rw [View.canon_cons_unit_lit (h := origin3)]
  have e6 : View.ld x6 r0_9 = x6 := View.ld_unit_lit _ _ origin2
  have e7 : View.ld x7 r0_4 = x7 := View.ld_unit_lit _ _ origin2
  rw [e6, e7, gt_at, p18_at]

/-- The gates by rows, from the arguments. -/
def G15 (X : FVec Ideal S32x256x1024 .f32) (M : FVec Ideal S40x6x1x1024 .f32) (G : FVec Ideal S1x1024 .f32) (W : FVec Ideal S1024x128 .bf16) (B : FVec Ideal S1x128 .f32) : FVec Ideal S32x16x256 .f32 :=
  fun j => Inproj.gate (j 1 : ℕ) (Inproj.proj (H X M G (j 0) (j 2)) (fun i k => W (ix2 i k)) (⟨(j 1 : ℕ), by have : (j 1 : ℕ) < 16 := (j 1).isLt; omega⟩ : Fin 128) + B (ix2 0 ⟨(j 1 : ℕ), by have : (j 1 : ℕ) < 16 := (j 1).isLt; omega⟩))

/-- The gates by rows: the kernel's result array. -/
theorem final15 : (dats m 0 c).arrAt 15 (cfgs 0).N
    = G15 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 15 _ (by decide +kernel) fun t hf y => ?_
  blk_simp
  rw [after0_15]
  have hy : ∀ y : S1x16x256.Idx, (win0_15.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out15_at, hb_eq]
  simp only [in6, in7]
  rfl

/-- The key columns: the block from the input blocks. -/
theorem out10_at (r : Fin 256) (j : Fin 128)
    (hd : ∀ i j : Fin 512, x9 (ix2 i j) = if (i : ℕ) / 64 = (j : ℕ) / 64 then 1 else 0)
    (hp : ∀ i : Fin 128, ∃ q : ℝ, Inproj.proj (hb x0 x1 x2 x3 r) (fun i j => x4 (ix2 i j)) (⟨i, by omega⟩ : Fin 256) = q) :
    out0_10 (F := Ideal) x0 x1 x2 x3 x4 x5 x6 x7 x8 x9 (ix3 0 r j)
      = Inproj.normed (n := 128) (by norm_num) (fun j => Inproj.proj (hb x0 x1 x2 x3 r) (fun i j => x4 (ix2 i j)) (⟨j, by omega⟩ : Fin 256)) (fun j => x8 (ix2 0 j)) j := by
  unfold out0_10
  rw [View.canon_cons_unit_lit (h := origin3)]
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  have e4 : View.ld x4 r0_3 = x4 := View.ld_unit_lit _ _ origin2
  have e8 : View.ld x8 r0_4 = x8 := View.ld_unit_lit _ _ origin2
  have ed : ∀ i j : Fin 128, View.ld x9 r0_5 (ix2 i j) = if (i : ℕ) / 64 = (j : ℕ) / 64 then (1 : EReal) else 0 := by
    intro i j
    rw [← hd ⟨i, by omega⟩ ⟨j, by omega⟩]
    pointwise []
    blk_ext
  rw [e0, e1, e2, e3, e4, e8, kn_at _ _ _ _ _ _ _ _ _ ed hp]

/-- The key columns, from the arguments. -/
def G10 (X : FVec Ideal S32x256x1024 .f32) (M : FVec Ideal S40x6x1x1024 .f32) (G : FVec Ideal S1x1024 .f32) (W : FVec Ideal S1024x256 .bf16) (N : FVec Ideal S1x128 .f32) : FVec Ideal S32x256x128 .bf16 :=
  fun j => Inproj.normed (n := 128) (by norm_num) (fun k => Inproj.proj (H X M G (j 0) (j 1)) (fun i k => W (ix2 i k)) (⟨k, by omega⟩ : Fin 256)) (fun k => N (ix2 0 k)) (j 2)

/-- The key columns: the kernel's result array. -/
theorem final10
    (hreal : ∀ b s (i : Fin 128), ∃ q : ℝ, Inproj.proj (H (m ((c.tc : Thread nD τ).loc main_arg0)) (m ((c.tc : Thread nD τ).loc main_arg1)) (m ((c.tc : Thread nD τ).loc main_arg2)) b s) (fun i k => (m ((c.tc : Thread nD τ).loc main_arg3)) (ix2 i k)) (⟨i, by omega⟩ : Fin 256) = q) : (dats m 0 c).arrAt 10 (cfgs 0).N
    = G10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) := by
  refine (dats m 0 c).arrAt_eq_of_covers 10 _ (by decide +kernel) fun t hf y => ?_
  blk_simp
  rw [after0_10]
  have hy : ∀ y : S1x256x128.Idx, (win0_10.blk t).view.emb y = ix3 (bOf t) (y 1) (y 2) := by
    intro y
    idx_vars y
    obtain rfl : y0 = 0 := Subsingleton.elim _ _
    blk_ext [idx t, bOf]
  rw [hy y]
  idx_vars y
  obtain rfl : y0 = 0 := Subsingleton.elim _ _
  rw [out10_at (hd := in9 m c t) (hp := fun i => by rw [hb_eq]; simp only [in4]; exact hreal _ _ i), hb_eq]
  simp only [in4, in8]
  rfl

end Cert.InprojCtxIdeal.Body

end
-- ==== Proof.InprojCtx.Ref.lean ====
/- The context projection reference read at an index; its six results are the kernel's functions of the arguments. -/
module

public import proofs.«01_k».proof.Proof.Gen.InprojCtxReferenceIdeal.Run
public import proofs.«01_k».proof.Proof.InprojCtx.Final
public import Idealize.ShloMosaic.Lib.Claim
public import Idealize.ShloMosaic.Lib.Pointwise

@[expose] public section

set_option maxRecDepth 16384

noncomputable section

namespace Cert.InprojCtxReferenceIdeal.Hand

open Idealize.ShloMosaic Idealize.ShloMosaic.TcCoe Idealize.SL.Sem
open Cert.InprojCtxReferenceIdeal Cert.InprojCtxReferenceIdeal.Gen

/-- The normalised rows. -/
def rows (a0 : FVec Ideal S32x256x1024 .f32) (a1 : FVec Ideal S40x6x1x1024 .f32) (a2 : FVec Ideal S1x1024 .f32) : FVec Ideal S32x256x1024 .f32 :=
  addf (mulf (mulf (mulf a0 (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf a0 a0) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![1, 2] bcast_S1x1024_S1x1x1024_1_2 a2))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (shapeCast _ (extractStridedSlice S1x1x1x1024 ![32, 1, 0, 0] a1 slices_S40x6x1x1024_S1x1x1x1024_32_1_0_0) shapeCasts_S1x1x1x1024_S1x1024))))) (broadcastInDim S32x256x1024 ![0, 1, 2] bcast_S1x1x1024_S32x256x1024_0_1_2 (broadcastInDim S1x1x1024 ![1, 2] bcast_S1x1024_S1x1x1024_1_2 (shapeCast _ (extractStridedSlice S1x1x1x1024 ![32, 0, 0, 0] a1 slices_S40x6x1x1024_S1x1x1x1024_32_0_0_0) shapeCasts_S1x1x1x1024_S1x1024)))

/-- The key and value columns. -/
def kv (h : FVec Ideal S32x256x1024 .f32) (a3 : FVec Ideal S1024x256 .bf16) : FVec Ideal S32x256x256 .f32 :=
  Host.dotGeneral dot_S32x256x1024_S1024x256_S32x256x256_2_0_01_1_n_n none h (extf .f32 a3 bitsLt_bf16_f32)

/-- The keys by heads. -/
def keys (p : FVec Ideal S32x256x256 .f32) : FVec Ideal S32x256x2x64 .f32 :=
  shapeCast _ (extractStridedSlice S32x256x128 ![0, 0, 0] p slices_S32x256x256_S32x256x128_0_0_0) shapeCasts_S32x256x128_S32x256x2x64

/-- The normalised keys. -/
def normK (k : FVec Ideal S32x256x2x64 .f32) (g : FVec Ideal S1x128 .f32) : FVec Ideal S32x256x2x64 .f32 :=
  mulf (mulf k (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 (Host.reduceAdd (mulf k k) (constant S_ .f32 0x00000000#32) reducesTo_S32x256x2x64_S32x256x2_d3 h_S_)) (broadcastInDim S32x256x2x1 ![] bcast_S_S32x256x2x1 (constant S_ .f32 0x42800000#32))) (broadcastInDim S32x256x2x1 ![] bcast_S_S32x256x2x1 (constant S_ .f32 0x358637BD#32)))))) (broadcastInDim S32x256x2x64 ![0, 1, 2, 3] bcast_S1x1x2x64_S32x256x2x64_0_1_2_3 (broadcastInDim S1x1x2x64 ![2, 3] bcast_S2x64_S1x1x2x64_2_3 (shapeCast _ g shapeCasts_S1x128_S2x64)))

/-- The keys. -/
def joinK (t : FVec Ideal S32x256x2x64 .f32) : FVec Ideal S32x256x128 .bf16 :=
  truncf .bf16 (shapeCast _ t shapeCasts_S32x256x2x64_S32x256x128) bitsLt_bf16_f32

/-- The columns of the inner cell. -/
def cell (h : FVec Ideal S32x256x1024 .f32) (a4 : FVec Ideal S1024x1536 .bf16) : FVec Ideal S32x256x1536 .f32 :=
  Host.dotGeneral dot_S32x256x1024_S1024x1536_S32x256x1536_2_0_01_1_n_n none h (extf .f32 a4 bitsLt_bf16_f32)

/-- The gates before the logistic function. -/
def pre (h : FVec Ideal S32x256x1024 .f32) (a5 : FVec Ideal S1024x128 .bf16) (a6 : FVec Ideal S1x128 .f32) : FVec Ideal S32x256x128 .f32 :=
  addf (Host.dotGeneral dot_S32x256x1024_S1024x128_S32x256x128_2_0_01_1_n_n none h (extf .f32 a5 bitsLt_bf16_f32)) (broadcastInDim S32x256x128 ![0, 1, 2] bcast_S1x1x128_S32x256x128_0_1_2 (broadcastInDim S1x1x128 ![1, 2] bcast_S1x128_S1x1x128_1_2 a6))

/-- The negated gates. -/
def minus (p : FVec Ideal S32x256x128 .f32) : FVec Ideal S32x256x120 .f32 :=
  Host.negf (extractStridedSlice S32x256x120 ![0, 0, 8] p slices_S32x256x128_S32x256x120_0_0_8)

/-- The negated gates less zero. -/
def diff (n : FVec Ideal S32x256x120 .f32) : FVec Ideal S32x256x120 .f32 :=
  subf n (broadcastInDim S32x256x120 ![] bcast_S_S32x256x120 (constant S_ .f32 0x00000000#32))

/-- The logarithm of the logistic function. -/
def soft (n d : FVec Ideal S32x256x120 .f32) : FVec Ideal S32x256x120 .f32 :=
  (Host.negf (select (cmpf .une d d) (addf n (broadcastInDim S32x256x120 ![] bcast_S_S32x256x120 (constant S_ .f32 0x00000000#32))) (addf (maximumf n (broadcastInDim S32x256x120 ![] bcast_S_S32x256x120 (constant S_ .f32 0x00000000#32))) (Host.log1p (Host.exp (Host.negf (Host.absf d)))))))

/-- The gates. -/
def gates (p : FVec Ideal S32x256x128 .f32) (q : FVec Ideal S32x256x120 .f32) : FVec Ideal S32x256x128 .f32 :=
  concatenate S32x256x128 2 [⟨S32x256x8, (extractStridedSlice S32x256x8 ![0, 0, 0] p slices_S32x256x128_S32x256x8_0_0_0)⟩, ⟨S32x256x120, q⟩] concatenates_S32x256x8_S32x256x120_S32x256x128_d2

/-- The gates by rows. -/
def turned (g : FVec Ideal S32x256x128 .f32) : FVec Ideal S32x16x256 .f32 :=
  transpose S32x16x256 [0, 2, 1] (extractStridedSlice S32x256x16 ![0, 0, 0] g slices_S32x256x128_S32x256x16_0_0_0) transposes_S32x256x16_S32x16x256_0_2_1

/-- The value columns. -/
def outK (p : FVec Ideal S32x256x256 .f32) : FVec Ideal S32x256x128 .bf16 :=
  truncf .bf16 (extractStridedSlice S32x256x128 ![0, 0, 128] p slices_S32x256x256_S32x256x128_0_0_128) bitsLt_bf16_f32

/-- The query and key columns of the inner cell. -/
def outM (p : FVec Ideal S32x256x1536 .f32) : FVec Ideal S32x256x1024 .bf16 :=
  truncf .bf16 (extractStridedSlice S32x256x1024 ![0, 0, 0] p slices_S32x256x1536_S32x256x1024_0_0_0) bitsLt_bf16_f32

/-- The value columns of the inner cell. -/
def outV (p : FVec Ideal S32x256x1536 .f32) : FVec Ideal S32x256x512 .bf16 :=
  truncf .bf16 (extractStridedSlice S32x256x512 ![0, 0, 1024] p slices_S32x256x1536_S32x256x512_0_0_1024) bitsLt_bf16_f32

variable (b : Fin 32) (s : Fin 256)

/-- The normalised rows at an index. -/
theorem rows_at (a0 : FVec Ideal S32x256x1024 .f32) (a1 : FVec Ideal S40x6x1x1024 .f32) (a2 : FVec Ideal S1x1024 .f32) (k : Fin 1024) :
    rows a0 a1 a2 (ix3 b s k) = Inproj.hrow (fun i => a0 (ix3 b s i)) (fun i => a2 (ix2 0 i)) (fun i => a1 (ix4 ⟨32, by norm_num⟩ 1 0 i)) (fun i => a1 (ix4 ⟨32, by norm_num⟩ 0 0 i)) k := by
  pointwise [rows]
  rfl

variable (h : FVec Ideal S32x256x1024 .f32)

/-- The key and value columns at an index. -/
theorem kv_at (a3 : FVec Ideal S1024x256 .bf16) (j : Fin 256) : kv h a3 (ix3 b s j) = Inproj.proj (fun i => h (ix3 b s i)) (fun i j => a3 (ix2 i j)) j := by
  pointwise [kv]
  rfl

/-- The keys by heads at an index. -/
theorem keys_at (p : FVec Ideal S32x256x256 .f32) (g : Fin 2) (d : Fin 64) : keys p (ix4 b s g d) = p (ix3 b s ⟨(g : ℕ) * 64 + d, by omega⟩) := by
  pointwise [keys]

/-- The normalised keys at an index. -/
theorem normK_at (k : FVec Ideal S32x256x2x64 .f32) (f : FVec Ideal S1x128 .f32) (g : Fin 2) (d : Fin 64) :
    normK k f (ix4 b s g d) = k (ix4 b s g d) * Ideal.rsqrt (Ideal.div (∑ d, k (ix4 b s g d) * k (ix4 b s g d)) (Ideal.ofBits .f32 0x42800000#32) + Inproj.eps) * f (ix2 0 ⟨(g : ℕ) * 64 + d, by omega⟩) := by
  pointwise [normK]

/-- The keys at an index. -/
theorem joinK_at (t : FVec Ideal S32x256x2x64 .f32) (j : Fin 128) : joinK t (ix3 b s j) = t (ix4 b s ⟨(j : ℕ) / 64, by omega⟩ ⟨(j : ℕ) % 64, by omega⟩) := by
  pointwise [joinK]

/-- The columns of the inner cell at an index. -/
theorem cell_at (a4 : FVec Ideal S1024x1536 .bf16) (j : Fin 1536) : cell h a4 (ix3 b s j) = Inproj.proj (fun i => h (ix3 b s i)) (fun i j => a4 (ix2 i j)) j := by
  pointwise [cell]
  rfl

/-- The gates before the logistic function at an index. -/
theorem pre_at (a5 : FVec Ideal S1024x128 .bf16) (a6 : FVec Ideal S1x128 .f32) (j : Fin 128) :
    pre h a5 a6 (ix3 b s j) = Inproj.proj (fun i => h (ix3 b s i)) (fun i j => a5 (ix2 i j)) j + a6 (ix2 0 j) := by
  pointwise [pre]
  rfl

/-- The logarithm of the logistic function at an index. -/
theorem soft_at (p : FVec Ideal S32x256x128 .f32) (j : Fin 120) : soft (minus p) (diff (minus p)) (ix3 b s j) = Inproj.logSig (p (ix3 b s ⟨8 + j, by omega⟩)) := by
  rw [← Inproj.logSig_eq]
  pointwise [soft, minus, diff]
  rw [if_neg fun hne => hne rfl]
  rfl

/-- The gates at an index. -/
theorem gates_at (p : FVec Ideal S32x256x128 .f32) (q : FVec Ideal S32x256x120 .f32) (j : Fin 128) :
    gates p q (ix3 b s j) = if hj : (j : ℕ) < 8 then p (ix3 b s j) else q (ix3 b s ⟨j - 8, by omega⟩) := by
  pointwise [gates]

/-- The gates by rows at an index. -/
theorem turned_at (g : FVec Ideal S32x256x128 .f32) (j : Fin 16) : turned g (ix3 b j s) = g (ix3 b s ⟨j, by omega⟩) := by
  pointwise [turned]

/-- The value columns at an index. -/
theorem outK_at (p : FVec Ideal S32x256x256 .f32) (j : Fin 128) : outK p (ix3 b s j) = p (ix3 b s ⟨128 + j, by omega⟩) := by
  pointwise [outK]

/-- The query and key columns of the inner cell at an index. -/
theorem outM_at (p : FVec Ideal S32x256x1536 .f32) (j : Fin 1024) : outM p (ix3 b s j) = p (ix3 b s ⟨j, by omega⟩) := by
  pointwise [outM]

/-- The value columns of the inner cell at an index. -/
theorem outV_at (p : FVec Ideal S32x256x1536 .f32) (j : Fin 512) : outV p (ix3 b s j) = p (ix3 b s ⟨1024 + j, by omega⟩) := by
  pointwise [outV]

variable (a0 : FVec Ideal S32x256x1024 .f32) (a1 : FVec Ideal S40x6x1x1024 .f32) (a2 : FVec Ideal S1x1024 .f32)

/-- A row of the normalised rows is the row the kernel's results are stated with. -/
theorem rows_row : (fun i => rows a0 a1 a2 (ix3 b s i)) = Cert.InprojCtxIdeal.Body.H a0 a1 a2 b s := funext fun i => rows_at b s a0 a1 a2 i

/-- The gate of a lane. -/
theorem gate_at (p : FVec Ideal S32x256x128 .f32) (j : Fin 128) : gates p (soft (minus p) (diff (minus p))) (ix3 b s j) = Inproj.gate (j : ℕ) (p (ix3 b s j)) := by
  rw [gates_at]
  unfold Inproj.gate
  split
  · rfl
  · rename_i hj
    rw [soft_at]
    congr 2
    congr 1
    apply Fin.ext
    show 8 + ((j : ℕ) - 8) = j
    omega

/-- The normalised keys at a lane. -/
theorem normK_lane (p : FVec Ideal S32x256x256 .f32) (f : FVec Ideal S1x128 .f32) (g : Fin 2) (d : Fin 64) (j : Fin 128) (hj : (j : ℕ) = (g : ℕ) * 64 + d) :
    normK (keys p) f (ix4 b s g d) = Inproj.normed (n := 128) (by norm_num) (fun k => p (ix3 b s ⟨k, by omega⟩)) (fun k => f (ix2 0 k)) j := by
  have hlt : (g : ℕ) * 64 + (d : ℕ) < 128 := by omega
  obtain rfl : j = ⟨(g : ℕ) * 64 + d, hlt⟩ := Fin.ext hj
  rw [normK_at]
  simp only [keys_at]
  unfold Inproj.normed Inproj.headSum
  have e : ((g : ℕ) * 64 + (d : ℕ)) / 64 = g := by omega
  simp only [e]

/-- Result 0 of the reference. -/
theorem ref10 (a3 : FVec Ideal S1024x256 .bf16) (a7 : FVec Ideal S1x128 .f32) : joinK (normK (keys (kv (rows a0 a1 a2) a3)) a7) = Cert.InprojCtxIdeal.Body.G10 a0 a1 a2 a3 a7 := by
  funext i
  obtain ⟨b, s, j, rfl⟩ : ∃ x y z, i = ix3 x y z := ⟨i 0, i 1, i 2, by funext q; fin_cases q <;> rfl⟩
  rw [joinK_at, normK_lane b s _ _ _ _ j (by show (j : ℕ) = (j : ℕ) / 64 * 64 + (j : ℕ) % 64; omega)]
  simp only [kv_at, rows_row]
  rfl

/-- Result 1 of the reference. -/
theorem ref11 (a3 : FVec Ideal S1024x256 .bf16) : outK (kv (rows a0 a1 a2) a3) = Cert.InprojCtxIdeal.Body.G11 a0 a1 a2 a3 := by
  funext i
  obtain ⟨b, s, j, rfl⟩ : ∃ x y z, i = ix3 x y z := ⟨i 0, i 1, i 2, by funext q; fin_cases q <;> rfl⟩
  rw [outK_at, kv_at, rows_row]
  rfl

/-- Result 2 of the reference. -/
theorem ref12 (a4 : FVec Ideal S1024x1536 .bf16) : outM (cell (rows a0 a1 a2) a4) = Cert.InprojCtxIdeal.Body.G12 a0 a1 a2 a4 := by
  funext i
  obtain ⟨b, s, j, rfl⟩ : ∃ x y z, i = ix3 x y z := ⟨i 0, i 1, i 2, by funext q; fin_cases q <;> rfl⟩
  rw [outM_at, cell_at, rows_row]
  rfl

/-- Result 3 of the reference. -/
theorem ref13 (a4 : FVec Ideal S1024x1536 .bf16) : outV (cell (rows a0 a1 a2) a4) = Cert.InprojCtxIdeal.Body.G13 a0 a1 a2 a4 := by
  funext i
  obtain ⟨b, s, j, rfl⟩ : ∃ x y z, i = ix3 x y z := ⟨i 0, i 1, i 2, by funext q; fin_cases q <;> rfl⟩
  rw [outV_at, cell_at, rows_row]
  rfl

/-- Result 4 of the reference. -/
theorem ref14 (a5 : FVec Ideal S1024x128 .bf16) (a6 : FVec Ideal S1x128 .f32) : gates (pre (rows a0 a1 a2) a5 a6) (soft (minus (pre (rows a0 a1 a2) a5 a6)) (diff (minus (pre (rows a0 a1 a2) a5 a6)))) = Cert.InprojCtxIdeal.Body.G14 a0 a1 a2 a5 a6 := by
  funext i
  obtain ⟨b, s, j, rfl⟩ : ∃ x y z, i = ix3 x y z := ⟨i 0, i 1, i 2, by funext q; fin_cases q <;> rfl⟩
  rw [gate_at, pre_at, rows_row]
  rfl

/-- Result 5 of the reference. -/
theorem ref15 (a5 : FVec Ideal S1024x128 .bf16) (a6 : FVec Ideal S1x128 .f32) : turned (gates (pre (rows a0 a1 a2) a5 a6) (soft (minus (pre (rows a0 a1 a2) a5 a6)) (diff (minus (pre (rows a0 a1 a2) a5 a6))))) = Cert.InprojCtxIdeal.Body.G15 a0 a1 a2 a5 a6 := by
  funext i
  obtain ⟨b, j, s, rfl⟩ : ∃ x y z, i = ix3 x y z := ⟨i 0, i 1, i 2, by funext q; fin_cases q <;> rfl⟩
  rw [turned_at, gate_at, pre_at, rows_row]
  rfl

end Cert.InprojCtxReferenceIdeal.Hand

end
-- ==== Proof.Merge.Math.lean ====
/- The mathematics of one row of the merge, on the extended reals. -/
module

public import Idealize.ShloMosaic.Lib.Pointwise

@[expose] public section

noncomputable section

namespace Cert.MergeMath

open Idealize.ShloMosaic

/-- The small number added under the root. -/
abbrev eps : EReal := Ideal.ofBits .f32 0x358637BD#32

/-- The logistic function. -/
def sig (x : EReal) : EReal := Ideal.div 1 (1 + Ideal.exp (-x))

/-- The logistic function with the negation as a difference from zero. -/
theorem sig_sub (x : EReal) : Ideal.div 1 (1 + Ideal.exp (0 - x)) = sig x := by
  rw [zero_sub]
  rfl

/-- The sum of the squares of the 128 lanes of a lane's head. -/
def headSum (p : Fin 512 → EReal) (j : Fin 512) : EReal :=
  ∑ d : Fin 128, p ⟨(j : ℕ) / 128 * 128 + d, by omega⟩ * p ⟨(j : ℕ) / 128 * 128 + d, by omega⟩

/-- A lane normalised over its head and scaled. -/
def normed (p g : Fin 512 → EReal) (j : Fin 512) : EReal :=
  p j * Ideal.rsqrt (Ideal.div (headSum p j) (Ideal.ofBits .f32 0x43000000#32) + eps) * g j

/-- A lane of the inner cell's gated result. -/
def cell (h g o : Fin 512 → EReal) (j : Fin 512) : EReal := normed h g j * sig (o j)

/-- The two branches, each projected and weighted by its gate. -/
def mix (ga gm : Fin 1024 → EReal) (a h : Fin 512 → EReal) (wa wh : Fin 512 → Fin 1024 → EReal) (k : Fin 1024) : EReal :=
  sig (ga k) * ∑ i, a i * wa i k + sig (gm k) * ∑ i, h i * wh i k

/-- A row times the columns of the output weight. -/
def proj (y : Fin 1024 → EReal) (w : Fin 1024 → Fin 1024 → EReal) (k : Fin 1024) : EReal := ∑ i, y i * w i k

/-- The projected mixture of a token: the two directions' rows, the output gate, the attention's row, the two gates and the weights. -/
def yrow (f b o a : Fin 512 → EReal) (ga gm : Fin 1024 → EReal) (g : Fin 512 → EReal) (wa wh : Fin 512 → Fin 1024 → EReal) (w : Fin 1024 → Fin 1024 → EReal) : Fin 1024 → EReal :=
  proj (mix ga gm a (cell (fun k => f k + b k) g o) wa wh) w

/-- A row normalised and scaled. -/
def norm (x g : Fin 1024 → EReal) (k : Fin 1024) : EReal :=
  x k * Ideal.rsqrt (Ideal.div (∑ i, x i * x i) (Ideal.ofBits .f32 0x44800000#32) + eps) * g k

/-- The residual row. -/
def resid (x s g y : Fin 1024 → EReal) (k : Fin 1024) : EReal := x k + s k * norm y g k

/-- The row that the experts read. -/
def fin (x g sc sh : Fin 1024 → EReal) (k : Fin 1024) : EReal := norm x g k * (1 + sc k) + sh k

/-- A row's score for an expert. -/
def score (x w : Fin 1024 → EReal) : EReal := sig (∑ i, x i * w i)

end Cert.MergeMath
-- ==== Proof.Ada.Final.lean ====
/- The modulation kernel's result and its reference's as one function of the arguments. -/
module

public import proofs.«01_k».proof.Proof.Gen.AdaIdeal.Value
public import proofs.«01_k».proof.Proof.Gen.AdaReferenceIdeal.Run
public import proofs.«01_k».proof.Proof.Merge.Math
public import Idealize.ShloMosaic.Lib.Pointwise
public import Idealize.ShloMosaic.Lib.Pipeline.ValueKit

@[expose] public section

set_option maxRecDepth 16384

noncomputable section

namespace Cert.AdaMath

open Idealize.ShloMosaic

/-- A condition row through the silu, against a column of the weights, and the column's bias. -/
def modulation (x : FVec Ideal ⟨2, ![40, 1024]⟩ .f32) (w : FVec Ideal ⟨2, ![1024, 6144]⟩ .f32) (b : FVec Ideal ⟨2, ![1, 6144]⟩ .f32) (r : Fin 40) (k : Fin 6144) : EReal :=
  (∑ d : Fin 1024, x (ix2 r d) * MergeMath.sig (x (ix2 r d)) * w (ix2 d k)) + b (ix2 0 k)

end Cert.AdaMath

namespace Cert.AdaIdeal.Body

open Idealize.ShloMosaic Idealize.ShloMosaic.TcCoe Idealize.SL.Sem
open Cert.AdaIdeal Cert.AdaIdeal.Gen

/-- One entry of what a point writes. -/
theorem pay_at (x : FVec Ideal S40x1024 .f32) (w : FVec Ideal S1024x1536 .f32) (b : FVec Ideal S1x1536 .f32) (r : Fin 40) (k : Fin 1536) :
    k0_pay1 x w b (ix2 r k) = (∑ d : Fin 1024, x (ix2 r d) * MergeMath.sig (x (ix2 r d)) * w (ix2 d k)) + b (ix2 0 k) := by
  simp only [← MergeMath.sig_sub]
  pointwise [k0_pay1]

variable (m : (ℓ : Loc nD τ sig) → Buf (Elt Ideal) ℓ) (c : Dev nD)

/-- Zero offsets of two axes. -/
theorem origin2 : ∀ a : Fin 2, (![0, 0] : Fin 2 → ℕ) a = 0 := by decide

/-- The block that each array has at a grid point: the columns' arrays move with the point. -/
theorem idx : ∀ t : Fin cfg0.N, win0_0.index t = ![0, 0] ∧ win0_1.index t = ![0, t.val % 4] ∧ win0_2.index t = ![0, t.val % 4] ∧ win0_3.index t = ![0, t.val % 4] :=
  (by decide +kernel : ∀ t : Fin grid0.N, _)

/-- A column of a point's block as a column of the whole. -/
def col (t : Fin cfg0.N) (k : Fin 1536) : Fin 6144 := ⟨t.val % 4 * 1536 + k, by have := Nat.mod_lt t.val (show 0 < 4 by norm_num); omega⟩

/-- The condition rows are one block. -/
theorem in0 (t : Fin cfg0.N) (r : Fin 40) (d : Fin 1024) : iblk m c 0 t (ix2 r d) = m ((c.tc : Thread nD τ).loc main_arg0) (ix2 r d) := by
  rw [← V_main_arg0 m c]
  blk_point [iblk, idx t]

/-- The weights' block at an index. -/
theorem in1 (t : Fin cfg0.N) (d : Fin 1024) (k : Fin 1536) : iblk m c 1 t (ix2 d k) = m ((c.tc : Thread nD τ).loc main_arg1) (ix2 d (col t k)) := by
  rw [← V_main_arg1 m c]
  blk_point [iblk, idx t, col]

/-- The bias's block at an index. -/
theorem in2 (t : Fin cfg0.N) (k : Fin 1536) : iblk m c 2 t (ix2 0 k) = m ((c.tc : Thread nD τ).loc main_arg2) (ix2 0 (col t k)) := by
  rw [← V_main_arg2 m c]
  blk_point [iblk, idx t, col]

/-- The block a point writes, from its input blocks. -/
theorem out3_at (x0 : Vec Ideal S40x1024 .f32) (x1 : Vec Ideal S1024x1536 .f32) (x2 : Vec Ideal S1x1536 .f32) (r : Fin 40) (k : Fin 1536) :
    out0_3 (F := Ideal) x0 x1 x2 (ix2 r k) = (∑ d : Fin 1024, x0 (ix2 r d) * MergeMath.sig (x0 (ix2 r d)) * x1 (ix2 d k)) + x2 (ix2 0 k) := by
  unfold out0_3
  rw [View.canon_cons_unit_lit (h := origin2)]
  have e0 : View.ld x0 r0_0 = x0 := View.ld_unit_lit _ _ origin2
  have e1 : View.ld x1 r0_1 = x1 := View.ld_unit_lit _ _ origin2
  have e2 : View.ld x2 r0_2 = x2 := View.ld_unit_lit _ _ origin2
  rw [e0, e1, e2, pay_at]

/-- The kernel's result array. -/
theorem final3 : (dats m 0 c).arrAt 3 (cfgs 0).N
    = fun i => AdaMath.modulation (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  have hy : ∀ y : S40x1536.Idx, (win0_3.blk t).view.emb y = ix2 (y 0) (col t (y 1)) := by
    intro y
    idx_vars y
    blk_ext [idx t, col]
  rw [hy y]
  idx_vars y
  rw [out3_at]
  simp only [in0, in1, in2]
  rfl

end Cert.AdaIdeal.Body

namespace Cert.AdaReferenceIdeal.Hand

open Idealize.ShloMosaic Idealize.ShloMosaic.TcCoe Idealize.SL.Sem
open Cert.AdaReferenceIdeal Cert.AdaReferenceIdeal.Gen

/-- The reference's operations, of its arguments. -/
def rows (x : FVec Ideal S40x1024 .f32) (w : FVec Ideal S1024x6144 .f32) (b : FVec Ideal S1x6144 .f32) : FVec Ideal S40x6144 .f32 :=
  addf (Host.dotGeneral dot_S40x1024_S1024x6144_S40x6144_1_0_0_1_n_n none (mulf x (Host.divf (broadcastInDim S40x1024 ![] bcast_S_S40x1024 (constant S_ .f32 0x3F800000#32)) (addf (broadcastInDim S40x1024 ![] bcast_S_S40x1024 (constant S_ .f32 0x3F800000#32)) (Host.exp (Host.negf x))))) w) (broadcastInDim S40x6144 ![0, 1] bcast_S1x6144_S40x6144_0_1 b)

/-- The reference is the modulation at every entry. -/
theorem ref3 (x : FVec Ideal S40x1024 .f32) (w : FVec Ideal S1024x6144 .f32) (b : FVec Ideal S1x6144 .f32) : rows x w b = fun i => AdaMath.modulation x w b (i 0) (i 1) := by
  funext i
  obtain ⟨r, k, rfl⟩ : ∃ p q, i = ix2 p q := ⟨i 0, i 1, by funext q; fin_cases q <;> rfl⟩
  pointwise [rows]
  rfl

end Cert.AdaReferenceIdeal.Hand

end
-- ==== Proof.Attn.Math.lean ====
/- The mathematics of one softmax row over two pieces of keys, on the extended reals. -/
module

public import Idealize.ShloMosaic.Lib.Pointwise

@[expose] public section

noncomputable section

namespace Cert.Attn

open Idealize.ShloMosaic

/-- The value that a maximum starts from: minus infinity. -/
abbrev bot : EReal := Ideal.ofBits .f32 4286578688#32

/-- The starting value of a maximum is the least extended real. -/
theorem bot_eq : bot = ⊥ := by simp [bot, Ideal.ofBits, Ideal.ieee]

/-- A finite sum of real numbers, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- A product of sums with a nonnegative real number on the right distributes. -/
theorem sum_mul_coe {ι : Type*} (s : Finset ι) (f : ι → EReal) (c : ℝ) (hc : 0 ≤ c) : (∑ k ∈ s, f k) * (c : EReal) = ∑ k ∈ s, f k * (c : EReal) := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

variable {a b n : ℕ}

/-- The largest score of the two pieces. -/
def top (sc : Fin a → EReal) (sx : Fin b → EReal) : EReal :=
  max (Finset.univ.fold max bot sc) (Finset.univ.fold max bot sx)

/-- The two pieces of scores in one row. -/
def row (h : n = a + b) (sc : Fin a → EReal) (sx : Fin b → EReal) (k : Fin n) : EReal :=
  if hk : (k : ℕ) < a then sc ⟨k, hk⟩ else sx ⟨k - a, by omega⟩

/-- The largest score of the row is the larger of the two pieces' largest scores. -/
theorem row_top (h : n = a + b) (sc : Fin a → EReal) (sx : Fin b → EReal) :
    max bot (Finset.univ.fold max bot (row h sc sx)) = top sc sx := by
  have hb := bot_eq
  rw [hb, top, hb, bot_sup_eq]
  have key : ∀ {N : ℕ} (f : Fin N → EReal) (c : EReal), Finset.univ.fold max ⊥ f ≤ c ↔ ∀ k, f k ≤ c := by
    intro N f c; rw [Finset.fold_max_le]; simp
  apply le_antisymm
  · rw [key]
    intro k
    unfold row
    split
    · exact le_max_of_le_left ((key sc _).mp le_rfl _)
    · exact le_max_of_le_right ((key sx _).mp le_rfl _)
  · refine max_le ((key _ _).mpr fun k => ?_) ((key _ _).mpr fun k => ?_)
    · refine le_trans (le_of_eq ?_) ((key (row h sc sx) _).mp le_rfl ⟨k, by omega⟩)
      simp [row]
    · refine le_trans (le_of_eq ?_) ((key (row h sc sx) _).mp le_rfl ⟨a + k, by omega⟩)
      simp [row]

/-- Of real scores the largest is real. -/
theorem top_real (sc : Fin a → ℝ) (sx : Fin b → ℝ) (ha : 0 < a) :
    ∃ M : ℝ, top (fun k => (sc k : EReal)) (fun k => (sx k : EReal)) = M := by
  have hb := bot_eq
  have h1 : top (fun k => (sc k : EReal)) (fun k => (sx k : EReal)) ≠ ⊤ := by
    rw [top, hb]
    apply ne_of_lt
    rw [max_lt_iff, Finset.fold_max_lt, Finset.fold_max_lt]
    simp
  have h2 : top (fun k => (sc k : EReal)) (fun k => (sx k : EReal)) ≠ ⊥ := by
    have : ((sc ⟨0, ha⟩ : ℝ) : EReal) ≤ top (fun k => (sc k : EReal)) (fun k => (sx k : EReal)) := by
      refine le_max_of_le_left ?_
      rw [Finset.le_fold_max]
      exact Or.inr ⟨⟨0, ha⟩, Finset.mem_univ _, le_rfl⟩
    intro h0
    rw [h0] at this
    exact absurd (le_bot_iff.mp this) (EReal.coe_ne_bot _)
  exact ⟨_, (EReal.coe_toReal h1 h2).symm⟩

/-- The sum of the exponentials of the scores less `M`. -/
def total (sc : Fin a → EReal) (sx : Fin b → EReal) (M : EReal) : EReal :=
  ∑ k, Ideal.exp (sc k - M) + ∑ k, Ideal.exp (sx k - M)

/-- The kernel's row: the weighted sum of the values divided once. -/
def mix (sc : Fin a → EReal) (sx : Fin b → EReal) (vc : Fin a → EReal) (vx : Fin b → EReal) : EReal :=
  Ideal.div (∑ k, Ideal.exp (sc k - top sc sx) * vc k + ∑ k, Ideal.exp (sx k - top sc sx) * vx k) (total sc sx (top sc sx))

/-- The reference's row: every weight divided, then the weighted sum of the values. -/
def mixRef (r v : Fin n → EReal) : EReal :=
  ∑ k, v k * Ideal.div (Ideal.exp (r k - max bot (Finset.univ.fold max bot r))) (∑ k, Ideal.exp (r k - max bot (Finset.univ.fold max bot r)))

/-- A sum over the row is the sum over the first piece and the sum over the second. -/
theorem sum_row (h : n = a + b) (f : Fin n → EReal) : ∑ k, f k = ∑ k : Fin a, f ⟨k, by omega⟩ + ∑ k : Fin b, f ⟨a + k, by omega⟩ := by
  subst h
  rw [Fin.sum_univ_add]
  rfl

/-- The row at an index of the first piece. -/
theorem row_left (h : n = a + b) (sc : Fin a → EReal) (sx : Fin b → EReal) (k : Fin a) : row h sc sx ⟨k, by omega⟩ = sc k := by
  simp [row]

/-- The row at an index of the second piece. -/
theorem row_right (h : n = a + b) (sc : Fin a → EReal) (sx : Fin b → EReal) (k : Fin b) : row h sc sx ⟨a + k, by omega⟩ = sx k := by
  simp [row]

/-- For real scores the two rows are equal, whatever the values. -/
theorem mixRef_eq (h : n = a + b) (ha : 0 < a) (sc : Fin a → ℝ) (sx : Fin b → ℝ) (vc : Fin a → EReal) (vx : Fin b → EReal) :
    mixRef (row h (fun k => (sc k : EReal)) (fun k => (sx k : EReal))) (row h vc vx)
      = mix (fun k => (sc k : EReal)) (fun k => (sx k : EReal)) vc vx := by
  unfold mixRef mix
  rw [row_top, sum_row h]
  rw [sum_row h (fun k => Ideal.exp (row h (fun k => (sc k : EReal)) (fun k => (sx k : EReal)) k - _))]
  simp only [row_left, row_right]
  change ∑ k, vc k * Ideal.div _ (total _ _ _) + ∑ k, vx k * Ideal.div _ (total _ _ _) = _
  obtain ⟨M, hM⟩ := top_real sc sx ha
  rw [hM]
  have e : ∀ x : ℝ, Ideal.exp ((x : EReal) - (M : EReal)) = ((Real.exp (x - M) : ℝ) : EReal) := fun x => by
    rw [← EReal.coe_sub]; rfl
  have hl : total (fun k => (sc k : EReal)) (fun k => (sx k : EReal)) (M : EReal)
      = ((∑ k, Real.exp (sc k - M) + ∑ k, Real.exp (sx k - M) : ℝ) : EReal) := by
    simp only [total, e, coe_sum, EReal.coe_add]
  have hpos : 0 < ∑ k, Real.exp (sc k - M) + ∑ k, Real.exp (sx k - M) := by
    refine add_pos_of_pos_of_nonneg (Finset.sum_pos (fun k _ => Real.exp_pos _) ⟨⟨0, ha⟩, Finset.mem_univ _⟩) (Finset.sum_nonneg fun k _ => (Real.exp_pos _).le)
  rw [hl]
  set L : ℝ := ∑ k, Real.exp (sc k - M) + ∑ k, Real.exp (sx k - M)
  have hc : 0 ≤ 1 / L := by positivity
  simp only [Ideal.div_coe hpos.ne']
  rw [EReal.right_distrib_of_nonneg_of_ne_top (by exact_mod_cast hc) (EReal.coe_ne_top _), sum_mul_coe _ _ _ hc, sum_mul_coe _ _ _ hc]
  refine congrArg₂ (· + ·) ?_ ?_ <;> refine Finset.sum_congr rfl fun k _ => ?_ <;> rw [← mul_assoc, mul_comm (Ideal.exp _)]

/-- The lane of the keys and of the values that belongs to lane `d` of the head of output column `e`. -/
def kvLane (e : Fin 512) (d : Fin 64) : Fin 128 := ⟨(e : ℕ) / 64 % 2 * 64 + d, by omega⟩

/-- The lane of the queries that belongs to lane `d` of the head of output column `e`. -/
def qLane (e : Fin 512) (d : Fin 64) : Fin 512 := ⟨(e : ℕ) / 128 * 128 + (e : ℕ) / 64 % 2 * 64 + d, by omega⟩

/-- The score of one query row and one key row for the head of output column `e`. -/
def score (Q : Fin 512 → EReal) (K : Fin 128 → EReal) (e : Fin 512) : EReal := ∑ d : Fin 64, K (kvLane e d) * Q (qLane e d)

/-- One element of the attention, in the kernel's form: context keys and latent keys as two pieces. -/
def attend (Q : Fin 512 → EReal) (Kc : Fin 256 → Fin 128 → EReal) (Kx : Fin 2048 → Fin 128 → EReal)
    (Vc : Fin 256 → Fin 128 → EReal) (Vx : Fin 2048 → Fin 128 → EReal) (e : Fin 512) : EReal :=
  mix (fun k => score Q (Kc k) e) (fun k => score Q (Kx k) e)
    (fun k => Vc k (kvLane e ⟨(e : ℕ) % 64, Nat.mod_lt _ (by norm_num)⟩)) (fun k => Vx k (kvLane e ⟨(e : ℕ) % 64, Nat.mod_lt _ (by norm_num)⟩))

/-- The same element in the reference's form. -/
def attendRef (Q : Fin 512 → EReal) (Kc : Fin 256 → Fin 128 → EReal) (Kx : Fin 2048 → Fin 128 → EReal)
    (Vc : Fin 256 → Fin 128 → EReal) (Vx : Fin 2048 → Fin 128 → EReal) (e : Fin 512) : EReal :=
  mixRef (n := 2304) (fun k => ∑ d : Fin 64, (row (n := 2304) (by norm_num) (fun k => Kc k (kvLane e d)) (fun k => Kx k (kvLane e d)) k) * Q (qLane e d))
    (row (n := 2304) (by norm_num) (fun k => Vc k (kvLane e ⟨(e : ℕ) % 64, Nat.mod_lt _ (by norm_num)⟩)) (fun k => Vx k (kvLane e ⟨(e : ℕ) % 64, Nat.mod_lt _ (by norm_num)⟩)))

/-- A score of finite queries and finite keys is a real number. -/
theorem score_real (Q : Fin 512 → ℝ) (K : Fin 128 → ℝ) (e : Fin 512) :
    score (fun i => (Q i : EReal)) (fun i => (K i : EReal)) e = ((∑ d : Fin 64, K (kvLane e d) * Q (qLane e d) : ℝ) : EReal) := by
  unfold score
  rw [← coe_sum]
  simp only [EReal.coe_mul]

/-- With finite queries and keys the two forms are equal. -/
theorem attendRef_eq (Q : Fin 512 → EReal) (Kc : Fin 256 → Fin 128 → EReal) (Kx : Fin 2048 → Fin 128 → EReal)
    (Vc : Fin 256 → Fin 128 → EReal) (Vx : Fin 2048 → Fin 128 → EReal) (e : Fin 512)
    (hQ : ∀ i, ∃ x : ℝ, Q i = x) (hKc : ∀ k i, ∃ x : ℝ, Kc k i = x) (hKx : ∀ k i, ∃ x : ℝ, Kx k i = x) :
    attendRef Q Kc Kx Vc Vx e = attend Q Kc Kx Vc Vx e := by
  choose q hq using hQ
  choose kc hkc using hKc
  choose kx hkx using hKx
  obtain rfl : Q = fun i => (q i : EReal) := funext hq
  obtain rfl : Kc = fun k i => (kc k i : EReal) := funext fun k => funext (hkc k)
  obtain rfl : Kx = fun k i => (kx k i : EReal) := funext fun k => funext (hkx k)
  unfold attendRef attend
  have e1 : ∀ k, score (fun i => (q i : EReal)) (fun i => (kc k i : EReal)) e = _ := fun k => score_real q (kc k) e
  have e2 : ∀ k, score (fun i => (q i : EReal)) (fun i => (kx k i : EReal)) e = _ := fun k => score_real q (kx k) e
  simp only [e1, e2]
  refine Eq.trans (congrArg (fun r => mixRef r _) ?_) (mixRef_eq (n := 2304) (by norm_num) (by norm_num) _ _ _ _)
  funext k
  simp only [row, ← e1, ← e2]
  unfold score
  split <;> rfl

/-- A sum over 128 lanes of which the mask keeps the first head's is the sum over that head's 64 lanes. -/
theorem sum_low (f : Fin 128 → EReal) :
    ∑ x : Fin 128, Scalar.select (IntOp.cmpi .slt (BitVec.ofNat 32 (x : ℕ)) 64#32) (f x) 0 = ∑ d : Fin 64, f ⟨d, by omega⟩ := by
  have hs : ∀ x : Fin 128, IntOp.cmpi .slt (BitVec.ofNat 32 (x : ℕ)) 64#32 = if (x : ℕ) < 64 then 1#1 else 0#1 := by decide
  simp only [hs, Scalar.select]
  rw [Fin.sum_univ_two_halves 64 64 rfl]
  simp

/-- The same for the second head's lanes. -/
theorem sum_high (f : Fin 128 → EReal) :
    ∑ x : Fin 128, Scalar.select (IntOp.xori (IntOp.cmpi .slt (BitVec.ofNat 32 (x : ℕ)) 64#32) 1#1) (f x) 0 = ∑ d : Fin 64, f ⟨64 + d, by omega⟩ := by
  have hs : ∀ x : Fin 128, IntOp.xori (IntOp.cmpi .slt (BitVec.ofNat 32 (x : ℕ)) 64#32) 1#1 = if (x : ℕ) < 64 then 0#1 else 1#1 := by decide
  simp only [hs, Scalar.select]
  rw [Fin.sum_univ_two_halves 64 64 rfl]
  simp

end Cert.Attn

end
-- ==== Proof.Attn.Ref.lean ====
/- The attention reference read at an index. -/
module

public import proofs.«01_k».proof.Proof.Gen.ReferenceIdeal.Run
public import proofs.«01_k».proof.Proof.Attn.Math
public import Idealize.ShloMosaic.Lib.Claim
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The keys, or the values, of the context and of the latent tokens side by side, head by head. -/
def cat (c : FVec Ideal S32x256x128 .bf16) (x : FVec Ideal S32x2048x128 .bf16) : FVec Ideal S32x2304x2x64 .f32 :=
  concatenate S32x2304x2x64 1 [⟨S32x256x2x64, (shapeCast _ (extf .f32 c bitsLt_bf16_f32) shapeCasts_S32x256x128_S32x256x2x64)⟩, ⟨S32x2048x2x64, (shapeCast _ (extf .f32 x bitsLt_bf16_f32) shapeCasts_S32x2048x128_S32x2048x2x64)⟩] concatenates_S32x256x2x64_S32x2048x2x64_S32x2304x2x64_d1

/-- The scores. -/
def scores (q : FVec Ideal S32x2048x512 .bf16) (k : FVec Ideal S32x2304x2x64 .f32) : FVec Ideal S32x2x4x2048x2304 .f32 :=
  transpose S32x2x4x2048x2304 [0, 1, 4, 3, 2] (Host.dotGeneral dot_S32x2304x2x64_S32x2048x4x2x64_S32x2x2304x2048x4_3_4_1_12_02_03 none k (shapeCast _ (extf .f32 q bitsLt_bf16_f32) shapeCasts_S32x2048x512_S32x2048x4x2x64)) transposes_S32x2x2304x2048x4_S32x2x4x2048x2304_0_1_4_3_2

/-- The largest score of each row. -/
def largest (s : FVec Ideal S32x2x4x2048x2304 .f32) : FVec Ideal S32x2x4x2048 .f32 :=
  Host.reduce FloatOps.maximumf s (constant S_ .f32 0xFF800000#32) reducesTo_S32x2x4x2048x2304_S32x2x4x2048_d4 h_S_

/-- The exponentials of the scores less the row's largest. -/
def expo (s : FVec Ideal S32x2x4x2048x2304 .f32) (M : FVec Ideal S32x2x4x2048 .f32) : FVec Ideal S32x2x4x2048x2304 .f32 :=
  Host.exp (subf s (broadcastInDim S32x2x4x2048x2304 ![0, 1, 2, 3, 4] bcast_S32x2x4x2048x1_S32x2x4x2048x2304_0_1_2_3_4 (broadcastInDim S32x2x4x2048x1 ![0, 1, 2, 3] bcast_S32x2x4x2048_S32x2x4x2048x1_0_1_2_3 (maximumf (broadcastInDim S32x2x4x2048 ![] bcast_S_S32x2x4x2048 (constant S_ .f32 0xFF800000#32)) M))))

/-- The weights. -/
def weights (p : FVec Ideal S32x2x4x2048x2304 .f32) : FVec Ideal S32x2x4x2048x2304 .f32 :=
  Host.divf p (broadcastInDim S32x2x4x2048x2304 ![0, 1, 2, 3, 4] bcast_S32x2x4x2048x1_S32x2x4x2048x2304_0_1_2_3_4 (broadcastInDim S32x2x4x2048x1 ![0, 1, 2, 3] bcast_S32x2x4x2048_S32x2x4x2048x1_0_1_2_3 (Host.reduceAdd p (constant S_ .f32 0x00000000#32) reducesTo_S32x2x4x2048x2304_S32x2x4x2048_d4 h_S_)))

/-- The weighted sum of the values. -/
def mixed (v : FVec Ideal S32x2304x2x64 .f32) (w : FVec Ideal S32x2x4x2048x2304 .f32) : FVec Ideal S32x2048x512 .bf16 :=
  truncf .bf16 (shapeCast _ (transpose S32x2048x4x2x64 [0, 4, 3, 1, 2] (Host.dotGeneral dot_S32x2304x2x64_S32x2x4x2048x2304_S32x2x64x4x2048_1_4_3_23_02_01 none v w) transposes_S32x2x64x4x2048_S32x2048x4x2x64_0_4_3_1_2) shapeCasts_S32x2048x4x2x64_S32x2048x512) bitsLt_bf16_f32

/-- The reference as one function of its five arguments. -/
def REF (x0 : FVec Ideal S32x2048x512 .bf16) (x1 : FVec Ideal S32x256x128 .bf16) (x2 : FVec Ideal S32x2048x128 .bf16) (x3 : FVec Ideal S32x256x128 .bf16) (x4 : FVec Ideal S32x2048x128 .bf16) : FVec Ideal S32x2048x512 .bf16 :=
  mixed (cat x3 x4) (weights (expo (scores x0 (cat x1 x2)) (largest (scores x0 (cat x1 x2)))))

/-- The joined keys (or values) at an index: the row of the two pieces. -/
theorem cat_at (c : FVec Ideal S32x256x128 .bf16) (x : FVec Ideal S32x2048x128 .bf16) (b : Fin 32) (k : Fin 2304) (h : Fin 2) (d : Fin 64) :
    cat c x (ix4 b k h d) = Attn.row (n := 2304) (by norm_num) (fun k : Fin 256 => c (ix3 b k ⟨(h : ℕ) * 64 + d, by omega⟩)) (fun k : Fin 2048 => x (ix3 b k ⟨(h : ℕ) * 64 + d, by omega⟩)) k := by
  pointwise [cat]
  rfl

/-- A score at an index. -/
theorem scores_at (q : FVec Ideal S32x2048x512 .bf16) (K : FVec Ideal S32x2304x2x64 .f32) (b : Fin 32) (h : Fin 2) (g : Fin 4) (s : Fin 2048) (k : Fin 2304) :
    scores q K (ix5 b h g s k) = ∑ d : Fin 64, K (ix4 b k h d) * q (ix3 b s ⟨(g : ℕ) * 128 + (h : ℕ) * 64 + d, by omega⟩) := by
  pointwise [scores]

/-- The largest score of a row. -/
theorem largest_at (S : FVec Ideal S32x2x4x2048x2304 .f32) (b : Fin 32) (h : Fin 2) (g : Fin 4) (s : Fin 2048) :
    largest S (ix4 b h g s) = Finset.univ.fold max Attn.bot fun k => S (ix5 b h g s k) := by
  pointwise [largest]

/-- An exponential at an index. -/
theorem expo_at (S : FVec Ideal S32x2x4x2048x2304 .f32) (M : FVec Ideal S32x2x4x2048 .f32) (b : Fin 32) (h : Fin 2) (g : Fin 4) (s : Fin 2048) (k : Fin 2304) :
    expo S M (ix5 b h g s k) = Ideal.exp (S (ix5 b h g s k) - max Attn.bot (M (ix4 b h g s))) := by
  pointwise [expo]

/-- A weight at an index. -/
theorem weights_at (S : FVec Ideal S32x2x4x2048x2304 .f32) (b : Fin 32) (h : Fin 2) (g : Fin 4) (s : Fin 2048) (k : Fin 2304) :
    weights S (ix5 b h g s k) = Ideal.div (S (ix5 b h g s k)) (∑ k, S (ix5 b h g s k)) := by
  pointwise [weights]

/-- The weighted sum at an index. -/
theorem mixed_at (v : FVec Ideal S32x2304x2x64 .f32) (w : FVec Ideal S32x2x4x2048x2304 .f32) (b : Fin 32) (s : Fin 2048) (e : Fin 512) :
    mixed v w (ix3 b s e) = ∑ k : Fin 2304, v (ix4 b k ⟨(e : ℕ) / 64 % 2, by omega⟩ ⟨(e : ℕ) % 64, by omega⟩) * w (ix5 b ⟨(e : ℕ) / 64 % 2, by omega⟩ ⟨(e : ℕ) / 128, by omega⟩ s k) := by
  pointwise [mixed]

/-- The reference at an index. -/
theorem ref_at (x0 : FVec Ideal S32x2048x512 .bf16) (x1 : FVec Ideal S32x256x128 .bf16) (x2 : FVec Ideal S32x2048x128 .bf16) (x3 : FVec Ideal S32x256x128 .bf16) (x4 : FVec Ideal S32x2048x128 .bf16) (b : Fin 32) (s : Fin 2048) (e : Fin 512) :
    REF x0 x1 x2 x3 x4 (ix3 b s e)
      = Attn.attendRef (fun i => x0 (ix3 b s i)) (fun k i => x1 (ix3 b k i)) (fun k i => x2 (ix3 b k i)) (fun k i => x3 (ix3 b k i)) (fun k i => x4 (ix3 b k i)) e := by
  unfold REF Attn.attendRef Attn.mixRef
  rw [mixed_at]
  simp only [weights_at, expo_at, largest_at, scores_at, cat_at]
  rfl

/-- The reference's run ends at this function of the arguments. -/
theorem run_eq (m : (ℓ : Loc nD τ sig) → Buf (Elt Ideal) ℓ) (c : Dev nD) :
    Value.res_out0 (F := Ideal) m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.Attn

end
-- ==== Proof.Attn.Slab.lean ====
/- What one slab of the attention kernel writes, named once for the four slabs. -/
module

public import proofs.«01_k».proof.Proof.Gen.KernelIdeal.Value
public import proofs.«01_k».proof.Proof.Attn.Math
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- One head of a slab: the masked queries against all 128 lanes of the keys, the exponentials of the scores, and the
    weighted sum of the values divided by the sum of the exponentials. -/
def half (q kc : FVec Ideal S256x128 .bf16) (kx : FVec Ideal S2048x128 .bf16) (vc : FVec Ideal S256x128 .bf16) (vx : FVec Ideal S2048x128 .bf16) : FVec Ideal S256x128 .f32 :=
  let sc := matmul dot_S256x128_S256x128_S256x256_1_1_0_0_n_n none q kc (constant S256x256 .f32 0x00000000#32)
  let sx := matmul dot_S256x128_S2048x128_S256x2048_1_1_0_0_n_n none q kx (constant S256x2048 .f32 0x00000000#32)
  let m := maximumf (shapeCast S256x1 (multiReduction .maximumf [1] S256 sc 0xFF800000#32 reduces_S256x256_S256 (.inl rfl) rfl) shapeCasts_S256_S256x1)
    (shapeCast S256x1 (multiReduction .maximumf [1] S256 sx 0xFF800000#32 reduces_S256x2048_S256 (.inl rfl) rfl) shapeCasts_S256_S256x1)
  let pc := exp (subf sc (broadcastTo S256x256 m broadcasts_S256x1_S256x256))
  let px := exp (subf sx (broadcastTo S256x2048 m broadcasts_S256x1_S256x2048))
  let l := addf (shapeCast S256x1 (multiReduction .add [1] S256 pc 0x00000000#32 reduces_S256x256_S256 (.inl rfl) rfl) shapeCasts_S256_S256x1)
    (shapeCast S256x1 (multiReduction .add [1] S256 px 0x00000000#32 reduces_S256x2048_S256 (.inl rfl) rfl) shapeCasts_S256_S256x1)
  divf (addf (matmul dot_S256x256_S256x128_S256x128_1_0_0_1_n_n none (truncf .bf16 pc bitsLt_bf16_f32) vc (constant S256x128 .f32 0x00000000#32))
    (matmul dot_S256x2048_S2048x128_S256x128_1_0_0_1_n_n none (truncf .bf16 px bitsLt_bf16_f32) vx (constant S256x128 .f32 0x00000000#32)))
    (broadcastTo S256x128 l broadcasts_S256x1_S256x128)

/-- The zero vector that fills the lanes of the other head. -/
def zeros : FVec Ideal S256x128 .bf16 := broadcast S256x128 (Scalar.ofBits .bf16 0x0000#16)

/-- The lanes of the second head. -/
def high : IVec S256x128 1 := xori k0_pay6 (constantI S256x128 1 1#1)

/-- A slab's store: the first head's lanes from the first half, the others from the second. -/
def slab (q : Vec Ideal S1x256x128 .bf16) (kc : Vec Ideal S1x256x128 .bf16) (kx : Vec Ideal S1x2048x128 .bf16) (vc : Vec Ideal S1x256x128 .bf16) (vx : Vec Ideal S1x2048x128 .bf16) : FVec Ideal S1x256x128 .bf16 :=
  shapeCast S1x256x128 (truncf .bf16 (select k0_pay6
    (half (select k0_pay6 (k0_pay7 q) zeros) (k0_pay2 kc) (k0_pay3 kx) (k0_pay4 vc) (k0_pay5 vx))
    (half (select high (k0_pay7 q) zeros) (k0_pay2 kc) (k0_pay3 kx) (k0_pay4 vc) (k0_pay5 vx))) bitsLt_bf16_f32) shapeCasts_S256x128_S1x256x128

variable (x0 : Vec Ideal S1x256x512 .bf16) (x1 : Vec Ideal S1x256x128 .bf16) (x2 : Vec Ideal S1x2048x128 .bf16) (x3 : Vec Ideal S1x256x128 .bf16) (x4 : Vec Ideal S1x2048x128 .bf16)

/-- The body's output block is four slabs, each of the matching 128 columns of the queries. -/
theorem out_eq : out0_5 x0 x1 x2 x3 x4
    = View.canon [⟨r0_5, slab (View.ld x0 r0_5) (View.ld x1 r0_0) (View.ld x2 r0_1) (View.ld x3 r0_0) (View.ld x4 r0_1)⟩,
      ⟨r0_4, slab (View.ld x0 r0_4) (View.ld x1 r0_0) (View.ld x2 r0_1) (View.ld x3 r0_0) (View.ld x4 r0_1)⟩,
      ⟨r0_3, slab (View.ld x0 r0_3) (View.ld x1 r0_0) (View.ld x2 r0_1) (View.ld x3 r0_0) (View.ld x4 r0_1)⟩,
      ⟨r0_2, slab (View.ld x0 r0_2) (View.ld x1 r0_0) (View.ld x2 r0_1) (View.ld x3 r0_0) (View.ld x4 r0_1)⟩] := rfl

/-- One head read at a row and a lane. -/
theorem half_at (q kc : FVec Ideal S256x128 .bf16) (kx : FVec Ideal S2048x128 .bf16) (vc : FVec Ideal S256x128 .bf16) (vx : FVec Ideal S2048x128 .bf16) (r : Fin 256) (l : Fin 128) :
    half q kc kx vc vx (ix2 r l) = Attn.mix (fun k => ∑ x : Fin 128, q (ix2 r x) * kc (ix2 k x)) (fun k => ∑ x : Fin 128, q (ix2 r x) * kx (ix2 k x))
      (fun k => vc (ix2 k l)) (fun k => vx (ix2 k l)) := by
  pointwise [half]
  rfl

/-- The slab read at a row and a lane. -/
theorem slab_at (q : Vec Ideal S1x256x128 .bf16) (kc : Vec Ideal S1x256x128 .bf16) (kx : Vec Ideal S1x2048x128 .bf16) (vc : Vec Ideal S1x256x128 .bf16) (vx : Vec Ideal S1x2048x128 .bf16) (r : Fin 256) (l : Fin 128) (h : Fin 2) (hh : (l : ℕ) / 64 = h) :
    slab q kc kx vc vx (ix3 0 r l)
      = Attn.mix (fun k => ∑ d : Fin 64, kc (ix3 0 k ⟨h * 64 + d, by omega⟩) * q (ix3 0 r ⟨h * 64 + d, by omega⟩))
          (fun k => ∑ d : Fin 64, kx (ix3 0 k ⟨h * 64 + d, by omega⟩) * q (ix3 0 r ⟨h * 64 + d, by omega⟩))
          (fun k => vc (ix3 0 k l)) (fun k => vx (ix3 0 k l)) := by
  have hs : ∀ l : Fin 128, IntOp.cmpi .slt (BitVec.ofNat 32 (l : ℕ)) 64#32 = if (l : ℕ) < 64 then 1#1 else 0#1 := by decide
  pointwise [slab, k0_pay6]
  rw [half_at, half_at, hs]
  pointwise [high, k0_pay6, zeros, k0_pay7, k0_pay2, k0_pay3, k0_pay4, k0_pay5]
  have key : ∀ (u : Fin 64 → Fin 128) (hu : ∀ d, (u d : ℕ) = h * 64 + d),
      Attn.mix (fun k => ∑ d : Fin 64, q (ix3 0 r (u d)) * kc (ix3 0 k (u d))) (fun k => ∑ d : Fin 64, q (ix3 0 r (u d)) * kx (ix3 0 k (u d)))
          (fun k => vc (ix3 0 k l)) (fun k => vx (ix3 0 k l))
        = Attn.mix (fun k => ∑ d : Fin 64, kc (ix3 0 k ⟨h * 64 + d, by omega⟩) * q (ix3 0 r ⟨h * 64 + d, by omega⟩))
          (fun k => ∑ d : Fin 64, kx (ix3 0 k ⟨h * 64 + d, by omega⟩) * q (ix3 0 r ⟨h * 64 + d, by omega⟩))
          (fun k => vc (ix3 0 k l)) (fun k => vx (ix3 0 k l)) := by
    intro u hu
    have e : ∀ d, u d = ⟨h * 64 + d, by omega⟩ := fun d => Fin.ext (hu d)
    simp only [e]
    refine congrArg₂ (fun x y => Attn.mix x y _ _) ?_ ?_ <;> funext k <;> exact Finset.sum_congr rfl fun d _ => mul_comm _ _
  by_cases hl : (l : ℕ) < 64
  · rw [if_pos hl]
    simp only [Attn.sum_low]
    exact key (fun d => ⟨d, by omega⟩) (fun d => by simp only; omega)
  · rw [if_neg hl]
    simp only [Attn.sum_high]
    exact key (fun d => ⟨64 + d, by omega⟩) (fun d => by simp only; omega)

end Cert.KernelIdeal.Attn

end
-- ==== Proof.Attn.Final.lean ====
/- The attention kernel's result as one function of its arguments. -/
module

public import proofs.«01_k».proof.Proof.Attn.Slab

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ)

/-- The block that each window has at a grid point. -/
theorem idx : ∀ t : Fin cfg0.N, win0_0.index t = ![t.val / 8, t.val % 8, 0] ∧ win0_1.index t = ![t.val / 8, 0, 0] ∧ win0_2.index t = ![t.val / 8, 0, 0]
    ∧ win0_3.index t = ![t.val / 8, 0, 0] ∧ win0_4.index t = ![t.val / 8, 0, 0] ∧ win0_5.index t = ![t.val / 8, t.val % 8, 0] :=
  (by decide +kernel : ∀ t : Fin grid0.N, _)

/-- The attention of the arguments. -/
def G (x0 : FVec Ideal S32x2048x512 .bf16) (x1 : FVec Ideal S32x256x128 .bf16) (x2 : FVec Ideal S32x2048x128 .bf16) (x3 : FVec Ideal S32x256x128 .bf16) (x4 : FVec Ideal S32x2048x128 .bf16) : FVec Ideal S32x2048x512 .bf16 :=
  fun j => Attn.attend (fun i => x0 (ix3 (j 0) (j 1) i)) (fun k i => x1 (ix3 (j 0) k i)) (fun k i => x2 (ix3 (j 0) k i)) (fun k i => x3 (ix3 (j 0) k i)) (fun k i => x4 (ix3 (j 0) k i)) (j 2)

/-- A slab's store at an index is the attention of the rows it reads, at output column `e`. -/
theorem piece_at (q kc : Vec Ideal S1x256x128 .bf16) (kx : Vec Ideal S1x2048x128 .bf16) (vc : Vec Ideal S1x256x128 .bf16) (vx : Vec Ideal S1x2048x128 .bf16)
    (x : S1x256x128.Idx) (Q : Fin 512 → EReal) (Kc : Fin 256 → Fin 128 → EReal) (Kx : Fin 2048 → Fin 128 → EReal)
    (Vc : Fin 256 → Fin 128 → EReal) (Vx : Fin 2048 → Fin 128 → EReal) (e : Fin 512) (J : Fin 4) (he : (e : ℕ) = J * 128 + (x 2 : ℕ))
    (hq : ∀ i : Fin 128, q (ix3 0 (x 1) i) = Q ⟨J * 128 + i, by omega⟩)
    (hkc : ∀ k i, kc (ix3 0 k i) = Kc k i) (hkx : ∀ k i, kx (ix3 0 k i) = Kx k i)
    (hvc : ∀ k i, vc (ix3 0 k i) = Vc k i) (hvx : ∀ k i, vx (ix3 0 k i) = Vx k i) :
    slab q kc kx vc vx x = Attn.attend Q Kc Kx Vc Vx e := by
  idx_vars x
  obtain rfl : x0 = 0 := Subsingleton.elim _ _
  have hx2 : (x2 : ℕ) < 128 := x2.isLt
  have hl : (x2 : ℕ) / 64 < 2 := by omega
  rw [slab_at q kc kx vc vx x1 x2 ⟨(x2 : ℕ) / 64, hl⟩ rfl]
  unfold Attn.attend Attn.score
  simp only [hq, hkc, hkx, hvc, hvx]
  have e1 : ∀ d : Fin 64, (⟨(x2 : ℕ) / 64 * 64 + d, by omega⟩ : Fin 128) = Attn.kvLane e d := fun d => Fin.ext (by simp only [Attn.kvLane]; omega)
  have e2 : ∀ d : Fin 64, (⟨(J : ℕ) * 128 + ((x2 : ℕ) / 64 * 64 + d), by omega⟩ : Fin 512) = Attn.qLane e d := fun d => Fin.ext (by simp only [Attn.qLane]; omega)
  have e3 : x2 = Attn.kvLane e ⟨(e : ℕ) % 64, Nat.mod_lt _ (by norm_num)⟩ := Fin.ext (by simp only [Attn.kvLane]; omega)
  simp only [e1, e2, ← e3]

/-- The body's output block at an index, from the input blocks. -/
theorem out_at (x0 : Vec Ideal S1x256x512 .bf16) (x1 : Vec Ideal S1x256x128 .bf16) (x2 : Vec Ideal S1x2048x128 .bf16) (x3 : Vec Ideal S1x256x128 .bf16) (x4 : Vec Ideal S1x2048x128 .bf16) (y : S1x256x512.Idx) :
    out0_5 x0 x1 x2 x3 x4 y = Attn.attend (fun i => x0 (ix3 0 (y 1) i)) (fun k i => x1 (ix3 0 k i)) (fun k i => x2 (ix3 0 k i)) (fun k i => x3 (ix3 0 k i)) (fun k i => x4 (ix3 0 k i)) (y 2) := by
  rw [out_eq]
  canon_tiles x h
  · refine piece_at _ _ _ _ _ x _ _ _ _ _ (y 2) 3 (by omega) (fun i => ?_) (fun k i => ?_) (fun k i => ?_) (fun k i => ?_) (fun k i => ?_) <;> pointwise [] <;> blk_ext
  · refine piece_at _ _ _ _ _ x _ _ _ _ _ (y 2) 2 (by omega) (fun i => ?_) (fun k i => ?_) (fun k i => ?_) (fun k i => ?_) (fun k i => ?_) <;> pointwise [] <;> blk_ext
  · refine piece_at _ _ _ _ _ x _ _ _ _ _ (y 2) 1 (by omega) (fun i => ?_) (fun k i => ?_) (fun k i => ?_) (fun k i => ?_) (fun k i => ?_) <;> pointwise [] <;> blk_ext
  · refine piece_at _ _ _ _ _ x _ _ _ _ _ (y 2) 0 (by omega) (fun i => ?_) (fun k i => ?_) (fun k i => ?_) (fun k i => ?_) (fun k i => ?_) <;> pointwise [] <;> blk_ext

/-- The kernel's result array is the attention of its arguments. -/
theorem final (c : Dev nD) : (dats m 0 c).arrAt 5 (cfgs 0).N
    = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5, out_at]
  have ht : t.val < 256 := lt_of_lt_of_eq t.isLt (by decide)
  have hG : ∀ (x0 : FVec Ideal S32x2048x512 .bf16) x1 x2 x3 x4 (j : S32x2048x512.Idx), G x0 x1 x2 x3 x4 j = Attn.attend (fun i => x0 (ix3 (j 0) (j 1) i)) (fun k i => x1 (ix3 (j 0) k i)) (fun k i => x2 (ix3 (j 0) k i)) (fun k i => x3 (ix3 (j 0) k i)) (fun k i => x4 (ix3 (j 0) k i)) (j 2) := fun _ _ _ _ _ _ => rfl
  rw [hG]
  have a0 : (fun i => iblk m c 0 t (ix3 0 (y 1) i)) = fun i : Fin 512 => m ((c.tc : Thread nD τ).loc main_arg0) (ix3 (((win0_5.blk t).view.emb y) 0) (((win0_5.blk t).view.emb y) 1) i) := by
    funext i
    blk_point [iblk, V, idx t]
  have a1 : (fun (k : Fin 256) (i : Fin 128) => iblk m c 1 t (ix3 0 k i)) = fun k i => m ((c.tc : Thread nD τ).loc main_arg1) (ix3 (((win0_5.blk t).view.emb y) 0) k i) := by
    funext k i
    blk_point [iblk, V, idx t]
  have a2 : (fun (k : Fin 2048) (i : Fin 128) => iblk m c 2 t (ix3 0 k i)) = fun k i => m ((c.tc : Thread nD τ).loc main_arg2) (ix3 (((win0_5.blk t).view.emb y) 0) k i) := by
    funext k i
    blk_point [iblk, V, idx t]
  have a3 : (fun (k : Fin 256) (i : Fin 128) => iblk m c 3 t (ix3 0 k i)) = fun k i => m ((c.tc : Thread nD τ).loc main_arg3) (ix3 (((win0_5.blk t).view.emb y) 0) k i) := by
    funext k i
    blk_point [iblk, V, idx t]
  have a4 : (fun (k : Fin 2048) (i : Fin 128) => iblk m c 4 t (ix3 0 k i)) = fun k i => m ((c.tc : Thread nD τ).loc main_arg4) (ix3 (((win0_5.blk t).view.emb y) 0) k i) := by
    funext k i
    blk_point [iblk, V, idx t]
  have a5 : (y 2 : Fin 512) = ((win0_5.blk t).view.emb y) 2 := by
    apply Fin.ext
    blk_simp [idx t] <;> try omega
  refine Eq.trans ?_ (congrArg _ a5)
  exact congr (congr (congr (congr (congrArg Attn.attend a0) a1) a2) a3) a4 |> fun h => congrFun h _

end Cert.KernelIdeal.Attn

end
-- ==== Proof.Experts.Pre.lean ====
/- What the precondition of the experts call says: the experts are in range and a block is in use. -/
module

public import proofs.«01_k».proof.Defs
public import Idealize.ShloMosaic.Lib.Claim
public import Idealize.ShloMosaic.Lib.Pointwise
public import Idealize.ShloMosaic.Lib.ReduceAll

@[expose] public section

set_option maxRecDepth 16384

noncomputable section

namespace Cert.Pre_expert_tables

open Idealize.ShloMosaic

/-- The side conditions of the predicate's operations. -/
instance facts : Facts where
  bcast_S_S2304 := by decide
  reducesTo_S2304_S_d0 := by decide
  h_S_ := by decide
  shapeCasts_S1_S_ := by decide

/-- A truth value that is one is true. -/
theorem true_of_one (b : Bool) (h : BitVec.ofBool b = 1#1) : b = true := by
  cases b
  · exact absurd h (by decide)
  · rfl
/-- A signed comparison that is true, as one of integers. -/
theorem le_of_sge (a b : BitVec 32) (h : IntOp.cmpi .sge a b = 1#1) : b.toInt ≤ a.toInt := by
  simpa [BitVec.sle] using true_of_one (b.sle a) h
/-- The strict one. -/
theorem lt_of_slt (a b : BitVec 32) (h : IntOp.cmpi .slt a b = 1#1) : a.toInt < b.toInt := by
  simpa [BitVec.slt] using true_of_one (a.slt b) h

/-- Under the precondition every block's expert is one of the 256 and at least one block is in use. -/
theorem tables_of {F : FTy → Type} [FloatOps F] (be : IVec S2304 32) (nu : IVec S1 32) (xs : FVec F S589824x1024 .f32) (wg wu : FVec F S256x1024x256 .f32) (wd : FVec F S256x256x1024 .f32)
    (h : fn (F := F) be nu xs wg wu wd = fun _ => 1#1) :
    (∀ i, 0 ≤ (be i).toInt ∧ (be i).toInt < 256) ∧ ∀ i, 1 ≤ (nu i).toInt := by
  haveI : Subsingleton S_.Idx := ⟨fun a b => funext fun i => i.elim0⟩
  haveI : Subsingleton S1.Idx := ⟨fun a b => funext fun i => by fin_cases i; exact Subsingleton.elim (α := Fin 1) _ _⟩
  have h0 := congrFun h ix0
  unfold fn at h0
  obtain ⟨h1, h2⟩ := IntOp.andi_eq_one.1 h0
  refine ⟨fun i => ?_, fun i => ?_⟩
  · have e := Host.reduce_andi_all _ _ _ _ _ h1 i
    obtain ⟨h3, h4⟩ := IntOp.andi_eq_one.1 e
    exact ⟨le_of_sge _ _ h3, lt_of_slt _ _ h4⟩
  · have e := le_of_sge _ _ h2
    rwa [show nu i = shapeCast S_ nu Facts.shapeCasts_S1_S_ ix0 from congrArg nu (Subsingleton.elim _ _)]

end Cert.Pre_expert_tables

end
-- ==== Proof.Experts.Ideal.Base.lean ====
/-
  The experts call (over the extended reals): what the kernel's tables and blocks are, and the program up to the grid.

  The call walks 2304 blocks of 256 tokens. Two integer tables steer it: the expert of each block and the
  number of blocks in use. Here the tables are read off the launch memory, each window's block at a point is
  named, and the blocks of the three weight windows are shown to depend on the expert's number alone.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers as the grid finds them: as launched, the program being the grid alone. -/
abbrev entry (c : Dev nD) (b : Ref sig .tc) : Buf (Elt F) ((c : Thread nD τ).loc b) := m ((c : Thread nD τ).loc b)

set_option maxHeartbeats 800000 in
/-- The program reaches its grid with every buffer as launched. -/
theorem main_reaches (𝒱₀ : Variants) :
    Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

/-- The two integer tables: the experts of the blocks and the number of blocks in use. -/
def tables : pre0.Contents (Elt F) := fun j => entry m (0 : Dev nD) (pre0.ref j)

/-- Every core finds those tables (there is one core). -/
theorem tables_entry (c : Dev nD) (j : Fin 2) : entry m c (pre0.ref j) = tables m j := by
  obtain rfl : c = 0 := Subsingleton.elim _ _; rfl

/-- What the grid asks of the tables: every block they name lies inside its array. -/
abbrev TablesOk : Prop := ok0 (F := F) (tables m)
/-- The tables with that fact. -/
abbrev good (hT : TablesOk m) : (pcfg0 (F := F)).Adm := ⟨tables m, hT⟩
/-- The grid at those tables. -/
abbrev gridAt (hT : TablesOk m) : Pipeline.Cfg sig Λ₀ := cfg0 (good m hT)

/-- The expert table as the body is handed it. -/
abbrev beRef : Memref sig .tc .smem S2304 .i32 := Memref.whole main_arg0
/-- It is a whole buffer. -/
abbrev beRef_whole : beRef.IsWhole := Memref.isWhole_whole _
/-- The table of the block count as the body is handed it. -/
abbrev nuRef : Memref sig .tc .smem S1 .i32 := Memref.whole main_arg1
/-- It is a whole buffer. -/
abbrev nuRef_whole : nuRef.IsWhole := Memref.isWhole_whole _

/-- The type of a table's contents on core `c`. -/
abbrev TabBuf (c : Dev nD) {S : Shape} {e : EltTy} (M : Memref sig .tc .smem S e) : Type := Buf (Elt F) (M.view.loc (c : Thread nD τ))
/-- A table held at half a share: it is only read. -/
abbrev tabHeld (c : Dev nD) {S : Shape} {e : EltTy} (M : Memref sig .tc .smem S e) (f : TabBuf (F := F) c M) : sProp 𝕄 :=
  M.view.loc (c : Thread nD τ) ↦{fullShare.right} f

/-- The share of the tables the grid hands the body, table by table. -/
theorem tables_split (c : Dev nD) : (Pipeline.ΦT pre0 (tables m) c : sProp 𝕄) = iprop(tabHeld c beRef (tables m 0) ∗ tabHeld c nuRef (tables m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`. -/
def blockAt (hT : TablesOk m) (c : Dev nD) (w : Fin (gridAt m hT).W) (t : Fin (gridAt m hT).N) :
    (((gridAt m hT).win w).xblock ((gridAt m hT).grid.coords t)).Idx → Elt F ((gridAt m hT).win w).elt :=
  (((gridAt m hT).win w).blk t).view.read (Elt F) (entry m c (Pipeline.arrRef spec0 w))

/-- The first input window finds its block at every point, for proof data that leave it there. -/
theorem finds0 (hT : TablesOk m) {c : Dev nD} (dat : Dat τ (Elt F) Unit ℕ (UR sig nD τ) ℕ (gridAt m hT) c)
    (hA : dat.A 0 = entry m c (Pipeline.arrRef spec0 0)) (hafter : ∀ t, dat.after 0 t = blockAt m hT c 0 t)
    (t : Fin (gridAt m hT).N) (d) : dat.before 0 t d = blockAt m hT c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- The gate weights' window finds its block at every point. -/
theorem finds1 (hT : TablesOk m) {c : Dev nD} (dat : Dat τ (Elt F) Unit ℕ (UR sig nD τ) ℕ (gridAt m hT) c)
    (hA : dat.A 1 = entry m c (Pipeline.arrRef spec0 1)) (hafter : ∀ t, dat.after 1 t = blockAt m hT c 1 t)
    (t : Fin (gridAt m hT).N) (d) : dat.before 1 t d = blockAt m hT c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
/-- The up weights' window finds its block at every point. -/
theorem finds2 (hT : TablesOk m) {c : Dev nD} (dat : Dat τ (Elt F) Unit ℕ (UR sig nD τ) ℕ (gridAt m hT) c)
    (hA : dat.A 2 = entry m c (Pipeline.arrRef spec0 2)) (hafter : ∀ t, dat.after 2 t = blockAt m hT c 2 t)
    (t : Fin (gridAt m hT).N) (d) : dat.before 2 t d = blockAt m hT c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
/-- The down weights' window finds its block at every point. -/
theorem finds3 (hT : TablesOk m) {c : Dev nD} (dat : Dat τ (Elt F) Unit ℕ (UR sig nD τ) ℕ (gridAt m hT) c)
    (hA : dat.A 3 = entry m c (Pipeline.arrRef spec0 3)) (hafter : ∀ t, dat.after 3 t = blockAt m hT c 3 t)
    (t : Fin (gridAt m hT).N) (d) : dat.before 3 t d = blockAt m hT c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The result's window is written back at every point. -/
theorem result_flushed (a : (pcfg0 (F := F)).Adm) : ∀ t : Fin (cfg0 a).N, ((cfg0 a).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

/-! ## The words the body reads -/

/-- The expert of the block before, as the body reads it at coordinates `i`. -/
abbrev prevWord (c : Dev nD) (i : grid0.Coords) (f : TabBuf (F := F) c beRef) : BitVec 32 :=
  beRef.view.readAt (Elt F) (Rect.unit (s := S2304) (k0_off2 i) S1.size (k0_off2_inb i)).toLoadRect f (Shape.Idx.first (numel1_S1.symm ▸ Nat.one_pos))
/-- The expert of the block, as the body reads it at coordinates `i`. -/
abbrev curWord (c : Dev nD) (i : grid0.Coords) (f : TabBuf (F := F) c beRef) : BitVec 32 :=
  beRef.view.readAt (Elt F) (Rect.unit (s := S2304) (k0_off1 i) S1.size (k0_off1_inb i)).toLoadRect f (Shape.Idx.first (numel1_S1.symm ▸ Nat.one_pos))
/-- The number of blocks in use, as the body reads it. -/
abbrev usedWord (c : Dev nD) (f : TabBuf (F := F) c nuRef) : BitVec 32 :=
  nuRef.view.readAt (Elt F) (Rect.unit (s := S1) ![0] S1.size inb_S1_S1_0).toLoadRect f (Shape.Idx.first (numel1_S1.symm ▸ Nat.one_pos))

/-- The first branch's condition: the first block or a new expert, and the block in use. -/
abbrev Reload (i : grid0.Coords) (p q n : BitVec 32) : Prop :=
  Scalar.cmpi .ne (Scalar.extui (Scalar.andi (Scalar.ori (Scalar.cmpi .eq (BitVec.ofNat 32 (i 0).val) 0#32) (Scalar.cmpi .ne q p))
    (Scalar.cmpi .slt (BitVec.ofNat 32 (i 0).val) n))) 0#32 = 1#1

/-! ## The kernel's buffers -/

/-- The staging buffer of each window at a point, and that it is a whole one. -/
abbrev bufA (hT : TablesOk m) (t : Fin (gridAt m hT).N) : Memref sig .tc .vmem S256x1024 .f32 := spec0_0.stage ((gridAt m hT).slots t 0)
abbrev bufB (hT : TablesOk m) (t : Fin (gridAt m hT).N) : Memref sig .tc .vmem S1x1024x256 .f32 := spec0_1.stage ((gridAt m hT).slots t 1)
abbrev bufC (hT : TablesOk m) (t : Fin (gridAt m hT).N) : Memref sig .tc .vmem S1x1024x256 .f32 := spec0_2.stage ((gridAt m hT).slots t 2)
abbrev bufD (hT : TablesOk m) (t : Fin (gridAt m hT).N) : Memref sig .tc .vmem S1x256x1024 .f32 := spec0_3.stage ((gridAt m hT).slots t 3)
abbrev bufE (hT : TablesOk m) (t : Fin (gridAt m hT).N) : Memref sig .tc .vmem S256x1024 .f32 := spec0_4.stage ((gridAt m hT).slots t 4)
/-- The two buffers of the kernel's own: the packed gate and up weights, and the down weights. -/
abbrev packBuf : Memref sig .tc .vmem S1024x512 .bf16 := Memref.whole cc0_scratch0
abbrev downBuf : Memref sig .tc .vmem S256x1024 .bf16 := Memref.whole cc0_scratch1

/-- The body at point `t`, on its tables, staging buffers and own buffers. -/
abbrev bodyOf (a : (pcfg0 (F := F)).Adm) (t : Fin (cfg0 a).N) : Prog (TpuEff nD τ sig (Elt F) Λ₀ .tc) PUnit :=
  cc0_experts (grid0.coords t) beRef beRef_whole nuRef nuRef_whole
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    packBuf (Memref.isWhole_whole _) downBuf (Memref.isWhole_whole _)

/-- What the grid keeps beside the windows: the kernel's two buffers at some contents and the generator register. -/
theorem own_buffers (c : Dev nD) :
    (Pipeline.ΦA spec0 c : sProp 𝕄)
      = iprop(iprop((∃ d, owns (c : Thread nD τ) packBuf fullShare d) ∗ (∃ d, owns (c : Thread nD τ) downBuf fullShare d)) ∗ (∃ r, prngReg c r)) := by
  unfold Pipeline.ΦA; rw [scopedRest0_eq]; simp only [packBuf, downBuf, owns_whole]; try rfl

/-! ## What the body leaves -/

/-- The whole of each kind of block, as the rectangle the body accesses. -/
abbrev rX : Rect S256x1024 := Rect.unit (s := S256x1024) ![0, 0] S256x1024.size inb_S256x1024_S256x1024_0_0
abbrev rG : Rect S1x1024x256 := Rect.unit (s := S1x1024x256) ![0, 0, 0] S1x1024x256.size inb_S1x1024x256_S1x1024x256_0_0_0
abbrev rD : Rect S1x256x1024 := Rect.unit (s := S1x256x1024) ![0, 0, 0] S1x256x1024.size inb_S1x256x1024_S1x256x1024_0_0_0
abbrev rP : Rect S1024x512 := Rect.unit (s := S1024x512) ![0, 0] S1024x512.size inb_S1024x512_S1024x512_0_0
/-- The left half of the packed buffer, the gate weights' -/
abbrev rL : Rect S1024x512 := Rect.unit (s := S1024x512) ![0, 0] S1024x256.size inb_S1024x512_S1024x256_0_0
/-- and the right half, the up weights'. -/
abbrev rR : Rect S1024x512 := Rect.unit (s := S1024x512) ![0, 256] S1024x256.size inb_S1024x512_S1024x256_0_256

/-- The packed buffer once refilled from the gate and up blocks. -/
def packOf (x1 x2 : Vec F S1x1024x256 .f32) : Vec F S1024x512 .bf16 :=
  View.canon [⟨rR, k0_pay2 (View.ld x2 rG)⟩, ⟨rL, k0_pay1 (View.ld x1 rG)⟩]
/-- The down buffer once refilled. -/
def downOf (x3 : Vec F S1x256x1024 .f32) : Vec F S256x1024 .bf16 :=
  View.canon [⟨rX, k0_pay3 (View.ld x3 rD)⟩]
/-- The result's block of a block in use. -/
def resOf (x0 : Vec F S256x1024 .f32) (p : Vec F S1024x512 .bf16) (d : Vec F S256x1024 .bf16) : Vec F S256x1024 .f32 :=
  View.canon [⟨rX, k0_pay4 (View.ld x0 rX) (View.ld p rP) (View.ld d rX)⟩]
/-- The result's block of a block not in use: zeros. -/
def resZero : Vec F S256x1024 .f32 :=
  View.canon [⟨rX, k0_pay5⟩]

/-- The two halves cover the packed buffer. -/
theorem pack_cover (p0 p1 : Vec F S1024x256 .bf16) (y : S1024x512.Idx) :
    ∃ pc ∈ ([⟨rR, p0⟩, ⟨rL, p1⟩] : List (View.Piece (Elt F) S1024x512 .bf16)), y ∈ pc.1.set :=
  View.cover_of_tiled [⟨rR, p0⟩, ⟨rL, p1⟩] S1024x256.size (by rfl) y
/-- The whole covers the down buffer -/
theorem down_cover (p0 : Vec F S256x1024 .bf16) (y : S256x1024.Idx) :
    ∃ pc ∈ ([⟨rX, p0⟩] : List (View.Piece (Elt F) S256x1024 .bf16)), y ∈ pc.1.set :=
  View.cover_of_tiled [⟨rX, p0⟩] S256x1024.size (by rfl) y
/-- and the result's block. -/
theorem res_cover (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

end Cert.ExpertsIdeal.Hand

end
-- ==== Proof.Experts.Ideal.Run.lean ====
/-
  The experts call (over the extended reals): one run of the body, in each of the three cases its conditions allow.

  A block in use whose expert is new refills the two weight buffers and computes; a block in use whose expert is
  the one before keeps them and computes; a block not in use keeps them and leaves zeros.
-/
module

public import proofs.«01_k».proof.Proof.Experts.Ideal.Base

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A block in use with a new expert: both weight buffers are refilled and the result computed from them. -/
theorem run_new (c : Dev nD) (i : grid0.Coords)
    (arg3 : Memref sig .tc .vmem S256x1024 .f32) (harg3 : arg3.IsWhole) (arg4 : Memref sig .tc .vmem S1x1024x256 .f32) (harg4 : arg4.IsWhole)
    (arg5 : Memref sig .tc .vmem S1x1024x256 .f32) (harg5 : arg5.IsWhole) (arg6 : Memref sig .tc .vmem S1x256x1024 .f32) (harg6 : arg6.IsWhole)
    (arg7 : Memref sig .tc .vmem S256x1024 .f32) (harg7 : arg7.IsWhole) (arg8 : Memref sig .tc .vmem S1024x512 .bf16) (harg8 : arg8.IsWhole)
    (arg9 : Memref sig .tc .vmem S256x1024 .bf16) (harg9 : arg9.IsWhole)
    (x0 : Vec F S256x1024 .f32) (x1 : Vec F S1x1024x256 .f32) (x2 : Vec F S1x1024x256 .f32) (x3 : Vec F S1x256x1024 .f32)
    (p : Vec F S1024x512 .bf16) (d : Vec F S256x1024 .bf16) (f0 : TabBuf (F := F) c beRef) (f1 : TabBuf (F := F) c nuRef)
    (hc1 : Reload i (prevWord c i f0) (curWord c i f0) (usedWord c f1)) (hc2 : k0_cond2 i (usedWord c f1) = 1#1)
    (hc3 : ¬ k0_cond3 i (usedWord c f1) = 1#1) (E : Set ℕ) (K : PUnit → sProp 𝕄) :
    iprop(owns (c : Thread nD τ) arg3 fullShare x0 ∗ owns (c : Thread nD τ) arg4 fullShare x1 ∗ owns (c : Thread nD τ) arg5 fullShare x2
            ∗ owns (c : Thread nD τ) arg6 fullShare x3 ∗ (∃ o, owns (c : Thread nD τ) arg7 fullShare o) ∗ owns (c : Thread nD τ) arg8 fullShare p ∗ owns (c : Thread nD τ) arg9 fullShare d ∗ tabHeld c beRef f0 ∗ tabHeld c nuRef f1
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (resOf x0 (packOf x1 x2) (downOf x3)) ∗ owns (c : Thread nD τ) arg8 fullShare (packOf x1 x2) ∗ owns (c : Thread nD τ) arg9 fullShare (downOf x3) ∗ tabHeld c beRef f0 ∗ tabHeld c nuRef f1) -∗ K ⟨⟩))
      ⊢ wp frame (wpE (defs₀ (F := F)) Variants.none c none) E (cc0_experts i beRef beRef_whole nuRef nuRef_whole
          arg3 harg3 arg4 harg4 arg5 harg5 arg6 harg6 arg7 harg7 arg8 harg8 arg9 harg9) K := by
  simp only [cc0_experts_eq_skeleton]; unfold cc0_experts_skel
  unfold owns
  iintro ⟨⟨%g0, %hg0, H0⟩, ⟨%g1, %hg1, H1⟩, ⟨%g2, %hg2, H2⟩, ⟨%g3, %hg3, H3⟩, ⟨%o4, %g4, -, H4⟩, ⟨%g5, %hg5, H5⟩, ⟨%g6, %hg6, H6⟩, HT0, HT1, Hk⟩
  subst hg0 hg1 hg2 hg3 hg5 hg6
  sl_exec (disch := first | sl_exact hc1 | sl_exact hc2 | sl_exact hc3)
  sl_step
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  isplitl [H4]
  · iexists _; isplitr; swap; · iexact H4
    ipureintro
    refine (View.read_writes_eq_canon _ _ _ (res_cover _)).trans ?_
    unfold resOf packOf downOf run_new.sl.v24 run_new.sl.v38
    rw [View.readCov_eq_canon', View.readCov_eq_canon']
    rfl
  isplitl [H5]
  · iexists _; isplitr; swap; · iexact H5
    ipureintro
    exact View.read_writes_eq_canon _ _ _ (pack_cover _ _)
  isplitl [H6]
  · iexists _; isplitr; swap; · iexact H6
    ipureintro
    exact View.read_writes_eq_canon _ _ _ (down_cover _)
  isplitl [HT0]; · iexact HT0
  iexact HT1

set_option maxHeartbeats 1000000 in
/-- A block in use with the expert before: the weight buffers are kept and the result computed from them. -/
theorem run_same (c : Dev nD) (i : grid0.Coords)
    (arg3 : Memref sig .tc .vmem S256x1024 .f32) (harg3 : arg3.IsWhole) (arg4 : Memref sig .tc .vmem S1x1024x256 .f32) (harg4 : arg4.IsWhole)
    (arg5 : Memref sig .tc .vmem S1x1024x256 .f32) (harg5 : arg5.IsWhole) (arg6 : Memref sig .tc .vmem S1x256x1024 .f32) (harg6 : arg6.IsWhole)
    (arg7 : Memref sig .tc .vmem S256x1024 .f32) (harg7 : arg7.IsWhole) (arg8 : Memref sig .tc .vmem S1024x512 .bf16) (harg8 : arg8.IsWhole)
    (arg9 : Memref sig .tc .vmem S256x1024 .bf16) (harg9 : arg9.IsWhole)
    (x0 : Vec F S256x1024 .f32) (x1 : Vec F S1x1024x256 .f32) (x2 : Vec F S1x1024x256 .f32) (x3 : Vec F S1x256x1024 .f32)
    (p : Vec F S1024x512 .bf16) (d : Vec F S256x1024 .bf16) (f0 : TabBuf (F := F) c beRef) (f1 : TabBuf (F := F) c nuRef)
    (hc1 : ¬ Reload i (prevWord c i f0) (curWord c i f0) (usedWord c f1)) (hc2 : k0_cond2 i (usedWord c f1) = 1#1)
    (hc3 : ¬ k0_cond3 i (usedWord c f1) = 1#1) (E : Set ℕ) (K : PUnit → sProp 𝕄) :
    iprop(owns (c : Thread nD τ) arg3 fullShare x0 ∗ owns (c : Thread nD τ) arg4 fullShare x1 ∗ owns (c : Thread nD τ) arg5 fullShare x2
            ∗ owns (c : Thread nD τ) arg6 fullShare x3 ∗ (∃ o, owns (c : Thread nD τ) arg7 fullShare o) ∗ owns (c : Thread nD τ) arg8 fullShare p ∗ owns (c : Thread nD τ) arg9 fullShare d ∗ tabHeld c beRef f0 ∗ tabHeld c nuRef f1
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (resOf x0 p d) ∗ owns (c : Thread nD τ) arg8 fullShare (p) ∗ owns (c : Thread nD τ) arg9 fullShare (d) ∗ tabHeld c beRef f0 ∗ tabHeld c nuRef f1) -∗ K ⟨⟩))
      ⊢ wp frame (wpE (defs₀ (F := F)) Variants.none c none) E (cc0_experts i beRef beRef_whole nuRef nuRef_whole
          arg3 harg3 arg4 harg4 arg5 harg5 arg6 harg6 arg7 harg7 arg8 harg8 arg9 harg9) K := by
  simp only [cc0_experts_eq_skeleton]; unfold cc0_experts_skel
  unfold owns
  iintro ⟨⟨%g0, %hg0, H0⟩, ⟨%g1, %hg1, H1⟩, ⟨%g2, %hg2, H2⟩, ⟨%g3, %hg3, H3⟩, ⟨%o4, %g4, -, H4⟩, ⟨%g5, %hg5, H5⟩, ⟨%g6, %hg6, H6⟩, HT0, HT1, Hk⟩
  subst hg0 hg1 hg2 hg3 hg5 hg6
  sl_exec (disch := first | sl_exact hc1 | sl_exact hc2 | sl_exact hc3)
  sl_step
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  isplitl [H4]
  · iexists _; isplitr; swap; · iexact H4
    ipureintro
    exact View.read_writes_eq_canon _ _ _ (res_cover _)
  isplitl [H5]
  · iexists _; isplitr; swap; · iexact H5
    ipureintro
    rfl
  isplitl [H6]
  · iexists _; isplitr; swap; · iexact H6
    ipureintro
    rfl
  isplitl [HT0]; · iexact HT0
  iexact HT1

set_option maxHeartbeats 1000000 in
/-- A block not in use: the weight buffers are kept and the result is zeros. -/
theorem run_idle (c : Dev nD) (i : grid0.Coords)
    (arg3 : Memref sig .tc .vmem S256x1024 .f32) (harg3 : arg3.IsWhole) (arg4 : Memref sig .tc .vmem S1x1024x256 .f32) (harg4 : arg4.IsWhole)
    (arg5 : Memref sig .tc .vmem S1x1024x256 .f32) (harg5 : arg5.IsWhole) (arg6 : Memref sig .tc .vmem S1x256x1024 .f32) (harg6 : arg6.IsWhole)
    (arg7 : Memref sig .tc .vmem S256x1024 .f32) (harg7 : arg7.IsWhole) (arg8 : Memref sig .tc .vmem S1024x512 .bf16) (harg8 : arg8.IsWhole)
    (arg9 : Memref sig .tc .vmem S256x1024 .bf16) (harg9 : arg9.IsWhole)
    (x0 : Vec F S256x1024 .f32) (x1 : Vec F S1x1024x256 .f32) (x2 : Vec F S1x1024x256 .f32) (x3 : Vec F S1x256x1024 .f32)
    (p : Vec F S1024x512 .bf16) (d : Vec F S256x1024 .bf16) (f0 : TabBuf (F := F) c beRef) (f1 : TabBuf (F := F) c nuRef)
    (hc1 : ¬ Reload i (prevWord c i f0) (curWord c i f0) (usedWord c f1)) (hc2 : ¬ k0_cond2 i (usedWord c f1) = 1#1)
    (hc3 : k0_cond3 i (usedWord c f1) = 1#1) (E : Set ℕ) (K : PUnit → sProp 𝕄) :
    iprop(owns (c : Thread nD τ) arg3 fullShare x0 ∗ owns (c : Thread nD τ) arg4 fullShare x1 ∗ owns (c : Thread nD τ) arg5 fullShare x2
            ∗ owns (c : Thread nD τ) arg6 fullShare x3 ∗ (∃ o, owns (c : Thread nD τ) arg7 fullShare o) ∗ owns (c : Thread nD τ) arg8 fullShare p ∗ owns (c : Thread nD τ) arg9 fullShare d ∗ tabHeld c beRef f0 ∗ tabHeld c nuRef f1
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (resZero) ∗ owns (c : Thread nD τ) arg8 fullShare (p) ∗ owns (c : Thread nD τ) arg9 fullShare (d) ∗ tabHeld c beRef f0 ∗ tabHeld c nuRef f1) -∗ K ⟨⟩))
      ⊢ wp frame (wpE (defs₀ (F := F)) Variants.none c none) E (cc0_experts i beRef beRef_whole nuRef nuRef_whole
          arg3 harg3 arg4 harg4 arg5 harg5 arg6 harg6 arg7 harg7 arg8 harg8 arg9 harg9) K := by
  simp only [cc0_experts_eq_skeleton]; unfold cc0_experts_skel
  unfold owns
  iintro ⟨⟨%g0, %hg0, H0⟩, ⟨%g1, %hg1, H1⟩, ⟨%g2, %hg2, H2⟩, ⟨%g3, %hg3, H3⟩, ⟨%o4, %g4, -, H4⟩, ⟨%g5, %hg5, H5⟩, ⟨%g6, %hg6, H6⟩, HT0, HT1, Hk⟩
  subst hg0 hg1 hg2 hg3 hg5 hg6
  sl_exec (disch := first | sl_exact hc1 | sl_exact hc2 | sl_exact hc3)
  sl_step
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  isplitl [H4]
  · iexists _; isplitr; swap; · iexact H4
    ipureintro
    exact View.read_writes_eq_canon _ _ _ (res_cover _)
  isplitl [H5]
  · iexists _; isplitr; swap; · iexact H5
    ipureintro
    rfl
  isplitl [H6]
  · iexists _; isplitr; swap; · iexact H6
    ipureintro
    rfl
  isplitl [HT0]; · iexact HT0
  iexact HT1

end Cert.ExpertsIdeal.Hand

end
-- ==== Proof.Experts.Ideal.Words.lean ====
/-
  The experts call (over the extended reals): the words the body branches on, read as numbers.

  The block count is a signed word, the position of a block a small number. The branches of the body are read
  off them, and the expert of the block before a point is the expert the point before read for its own block.
-/
module

public import proofs.«01_k».proof.Proof.Experts.Ideal.Base

@[expose] public section

noncomputable section

namespace Cert.ExpertsIdeal.Hand

open Cert.ExpertsIdeal.Gen
open Idealize.ShloMosaic Idealize.ShloMosaic.TcCoe
open Idealize.SL

variable {F : FTy → Type} [FloatOps F]

variable (m : (ℓ : Loc nD τ sig) → Buf (Elt F) ℓ)

/-- A truth value widened to a word is nonzero exactly when it is true. -/
theorem widened (b : Bool) : (Scalar.cmpi .ne (Scalar.extui (BitVec.ofBool b) : BitVec 32) 0#32 = 1#1) ↔ b = true := by
  cases b <;> decide

/-- A block is in use when its position is below the block count. -/
theorem used_iff_slt (i : grid0.Coords) (n : BitVec 32) : k0_cond2 i n = 1#1 ↔ (BitVec.ofNat 32 (i 0).val).slt n = true :=
  widened _

/-- The last branch is taken when the block is not in use. -/
theorem idle_iff (i : grid0.Coords) (n : BitVec 32) : k0_cond3 i n = 1#1 ↔ ¬ k0_cond2 i n = 1#1 := by
  rw [used_iff_slt]
  refine (widened _).trans ?_
  simp only [BitVec.slt, BitVec.sle, decide_eq_true_eq, not_lt]

/-- The weights are refilled when the block is the first or its expert is new, and it is in use. -/
theorem reload_iff (i : grid0.Coords) (p q n : BitVec 32) :
    Reload i p q n ↔ ((BitVec.ofNat 32 (i 0).val = 0#32 ∨ q ≠ p) ∧ k0_cond2 i n = 1#1) := by
  rw [used_iff_slt]
  have h : ∀ a b e : Bool, (Scalar.cmpi .ne (Scalar.extui (Scalar.andi (Scalar.ori (BitVec.ofBool a) (BitVec.ofBool b)) (BitVec.ofBool e)) : BitVec 32) 0#32 = 1#1)
      ↔ ((a = true ∨ b = true) ∧ e = true) := by decide
  refine (h (BitVec.ofNat 32 (i 0).val == 0#32) (q != p) _).trans ?_
  simp only [beq_iff_eq, bne_iff_ne]

/-- A small number as a signed word is itself. -/
theorem small_toInt (n : ℕ) (h : n < 2304) : (BitVec.ofNat 32 n).toInt = n := by
  rw [BitVec.toInt_eq_toNat_of_lt (by rw [BitVec.toNat_ofNat]; omega), BitVec.toNat_ofNat]; omega

/-- A block is in use when its position, as a number, is below the block count. -/
theorem used_iff (i : grid0.Coords) (n : BitVec 32) : k0_cond2 i n = 1#1 ↔ ((i 0).val : Int) < n.toInt := by
  rw [used_iff_slt, BitVec.slt, decide_eq_true_eq, small_toInt _ (i 0).isLt]

/-- The coordinate of point `t` is `t`. -/
theorem coord_val : ∀ t : Fin grid0.N, (grid0.coords t 0).val = t.val := by decide +kernel

/-- The offset at which the body reads the expert of the block before. -/
theorem before_offset (i : grid0.Coords) : k0_off2 i = ![(i 0).val - 1] := by
  have r_i0 : (i 0).val < 2304 := (i 0).isLt
  have h0 : Affine.IsInt (BitVec.ofNat 32 (i 0).val) (((i 0).val : Int)) := Affine.ofNat _ (by omega)
  have h1 : Affine.IsInt 1#32 (1) := Affine.ofNat _ (by omega)
  have h2 : Affine.IsInt _ (((i 0).val : Int) - 1) := Affine.subi h0 h1 (by omega)
  have h3 : Affine.IsInt 0#32 (0) := Affine.ofNat _ (by omega)
  have h4 : Affine.IsInt _ ((max (((i 0).val : Int) - 1) 0)) := Affine.maxsi h2 h3 (by omega)
  have h5 : Affine.IsInt _ ((max (((i 0).val : Int) - 1) 0)) := Affine.indexCast h4
  exact Affine.vec_cons h5 (by omega) <| Affine.vec_nil

/-- A word of the expert table, read at equal offsets. -/
theorem word_at (c : Dev nD) (f : TabBuf (F := F) c beRef) (o o' : Fin 1 → ℕ) (h : o = o')
    (hi : ∀ a, o a + S1.size a ≤ S2304.size a) (hi' : ∀ a, o' a + S1.size a ≤ S2304.size a) :
    (beRef.view.readAt (Elt F) (Rect.unit (s := S2304) o S1.size hi).toLoadRect f (Shape.Idx.first (numel1_S1.symm ▸ Nat.one_pos)) : BitVec 32)
      = beRef.view.readAt (Elt F) (Rect.unit (s := S2304) o' S1.size hi').toLoadRect f (Shape.Idx.first (numel1_S1.symm ▸ Nat.one_pos)) := by
  subst h; rfl

/-- The expert of the block before, read at a point, is the expert the point before reads. -/
theorem prev_eq_cur (c : Dev nD) (f : TabBuf (F := F) c beRef) (t u : Fin grid0.N) (h : u.val + 1 = t.val) :
    prevWord c (grid0.coords t) f = curWord c (grid0.coords u) f := by
  refine word_at c f _ _ ?_ _ _
  rw [before_offset, k0_off1_eq, coord_val, coord_val]
  congr 1; omega

/-- The point before a block in use is in use. -/
theorem used_before (n : BitVec 32) (t u : Fin grid0.N) (h : u.val + 1 = t.val) (ht : k0_cond2 (grid0.coords t) n = 1#1) :
    k0_cond2 (grid0.coords u) n = 1#1 := by
  rw [used_iff, coord_val] at ht ⊢; omega

/-- A point whose weights are kept, of a block in use, is not the first, and its expert is the one before. -/
theorem kept_same (c : Dev nD) (f : TabBuf (F := F) c beRef) (n : BitVec 32) (t : Fin grid0.N)
    (hr : ¬ Reload (grid0.coords t) (prevWord c (grid0.coords t) f) (curWord c (grid0.coords t) f) n)
    (hu : k0_cond2 (grid0.coords t) n = 1#1) :
    ∃ u : Fin grid0.N, u.val + 1 = t.val ∧ curWord c (grid0.coords t) f = curWord c (grid0.coords u) f := by
  rw [reload_iff] at hr
  have h1 : ¬ (BitVec.ofNat 32 (grid0.coords t 0).val = 0#32) := fun h => hr ⟨.inl h, hu⟩
  have h2 : curWord c (grid0.coords t) f = prevWord c (grid0.coords t) f := by
    by_contra h; exact hr ⟨.inr h, hu⟩
  rw [coord_val] at h1
  have h3 : t.val ≠ 0 := fun h => h1 (by rw [h])
  have ht := t.isLt
  exact ⟨⟨t.val - 1, by omega⟩, by show t.val - 1 + 1 = t.val; omega,
    h2.trans (prev_eq_cur c f t _ (by show t.val - 1 + 1 = t.val; omega))⟩

/-- The expert's number the gate weights' window is placed by, -/
theorem index1 (hT : TablesOk m) (t : Fin (gridAt m hT).N) :
    ((gridAt m hT).win 1).index t = ![(curWord (0 : Dev nD) (grid0.coords t) (tables m 0)).toNat, 0, 0] := rfl
/-- the up weights' -/
theorem index2 (hT : TablesOk m) (t : Fin (gridAt m hT).N) :
    ((gridAt m hT).win 2).index t = ![(curWord (0 : Dev nD) (grid0.coords t) (tables m 0)).toNat, 0, 0] := rfl
/-- and the down weights'. -/
theorem index3 (hT : TablesOk m) (t : Fin (gridAt m hT).N) :
    ((gridAt m hT).win 3).index t = ![(curWord (0 : Dev nD) (grid0.coords t) (tables m 0)).toNat, 0, 0] := rfl

end Cert.ExpertsIdeal.Hand

end
-- ==== Proof.Experts.Ideal.Frame.lean ====
/-
  The experts call (over the extended reals): every run of the program ends, with its arguments unchanged and its result named.

  Before each point the two weight buffers hold the weights of the block before it, if that block was in use;
  the body of a block in use with the same expert relies on it. After each point the result's buffer holds the
  block's product with its expert's weights, or zeros for a block not in use.
-/
module

public import proofs.«01_k».proof.Proof.Experts.Ideal.Run
public import proofs.«01_k».proof.Proof.Experts.Ideal.Words

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of point `t` is in use. -/
abbrev InUse (c : Dev nD) (t : Fin grid0.N) : Prop := k0_cond2 (grid0.coords t) (usedWord c (tables m 1)) = 1#1

/-- The packed weights of point `t`'s expert. -/
def packAt (hT : TablesOk m) (c : Dev nD) (t : Fin (gridAt m hT).N) : Vec F S1024x512 .bf16 :=
  packOf (blockAt m hT c 1 t) (blockAt m hT c 2 t)
/-- The down weights of point `t`'s expert. -/
def downAt (hT : TablesOk m) (c : Dev nD) (t : Fin (gridAt m hT).N) : Vec F S256x1024 .bf16 :=
  downOf (blockAt m hT c 3 t)
/-- The result's block after point `t`. -/
def resAt (hT : TablesOk m) (c : Dev nD) (t : Fin (gridAt m hT).N) : Vec F S256x1024 .f32 :=
  if InUse m c t then resOf (blockAt m hT c 0 t) (packAt m hT c t) (downAt m hT c t) else resZero

/-- What the weight buffers hold before point `s`: the weights of the point before, if that was in use. -/
def Carried (hT : TablesOk m) (c : Dev nD) (s : ℕ) (p : Vec F S1024x512 .bf16) (d : Vec F S256x1024 .bf16) : Prop :=
  ∀ u : Fin (gridAt m hT).N, u.val + 1 = s → InUse m c u → p = packAt m hT c u ∧ d = downAt m hT c u

/-- The two weight buffers before point `s`. -/
def weightsHeld (hT : TablesOk m) (c : Dev nD) (s : ℕ) : sProp 𝕄 :=
  iprop(∃ p, ∃ d, ⌜Carried m hT c s p d⌝ ∗ owns (c : Thread nD τ) packBuf fullShare p ∗ owns (c : Thread nD τ) downBuf fullShare d)

/-- The proof data of the grid: arrays as found, inputs left in place, the result's block as named, the weight
    buffers, the register and the tables carried along. -/
def gridData (hT : TablesOk m) (_ : Fin 1) (c : Dev nD) : Dat τ (Elt F) Unit ℕ (UR sig nD τ) ℕ (gridAt m hT) c where
  A w := entry m c (Pipeline.arrRef spec0 w)
  after w t := match w with
    | ⟨0, _⟩ => blockAt m hT c 0 t
    | ⟨1, _⟩ => blockAt m hT c 1 t
    | ⟨2, _⟩ => blockAt m hT c 2 t
    | ⟨3, _⟩ => blockAt m hT c 3 t
    | ⟨4, _⟩ => resAt m hT c t
  Φ s := iprop(weightsHeld m hT c s.val ∗ (∃ r, prngReg c r) ∗ Pipeline.ΦT pre0 (tables m) c)
  q _ := fullShare
  owed _ := 0

/-- The data's arrays are those found at the grid. -/
theorem data_arrays (hT : TablesOk m) (c : Dev nD) (w : Fin (gridAt m hT).W) :
    (gridData m hT 0 c).A w = entry m c (Pipeline.arrRef spec0 w) := by dsimp only [gridData]

/-- What each window's buffer holds after the body. -/
theorem left0 (hT : TablesOk m) (c : Dev nD) (t : Fin (gridAt m hT).N) : (gridData m hT 0 c).after 0 t = blockAt m hT c 0 t := by dsimp only [gridData]; try rfl
theorem left1 (hT : TablesOk m) (c : Dev nD) (t : Fin (gridAt m hT).N) : (gridData m hT 0 c).after 1 t = blockAt m hT c 1 t := by dsimp only [gridData]; try rfl
theorem left2 (hT : TablesOk m) (c : Dev nD) (t : Fin (gridAt m hT).N) : (gridData m hT 0 c).after 2 t = blockAt m hT c 2 t := by dsimp only [gridData]; try rfl
theorem left3 (hT : TablesOk m) (c : Dev nD) (t : Fin (gridAt m hT).N) : (gridData m hT 0 c).after 3 t = blockAt m hT c 3 t := by dsimp only [gridData]; try rfl
theorem left4 (hT : TablesOk m) (c : Dev nD) (t : Fin (gridAt m hT).N) : (gridData m hT 0 c).after 4 t = resAt m hT c t := by dsimp only [gridData]; try rfl

/-- What each input's buffer holds before the body. -/
theorem found0 (hT : TablesOk m) (c : Dev nD) (t : Fin (gridAt m hT).N) (d) : (gridData m hT 0 c).before 0 t d = blockAt m hT c 0 t :=
  finds0 m hT (gridData m hT 0 c) (data_arrays m hT c 0) (left0 m hT c) t d
theorem found1 (hT : TablesOk m) (c : Dev nD) (t : Fin (gridAt m hT).N) (d) : (gridData m hT 0 c).before 1 t d = blockAt m hT c 1 t :=
  finds1 m hT (gridData m hT 0 c) (data_arrays m hT c 1) (left1 m hT c) t d
theorem found2 (hT : TablesOk m) (c : Dev nD) (t : Fin (gridAt m hT).N) (d) : (gridData m hT 0 c).before 2 t d = blockAt m hT c 2 t :=
  finds2 m hT (gridData m hT 0 c) (data_arrays m hT c 2) (left2 m hT c) t d
theorem found3 (hT : TablesOk m) (c : Dev nD) (t : Fin (gridAt m hT).N) (d) : (gridData m hT 0 c).before 3 t d = blockAt m hT c 3 t :=
  finds3 m hT (gridData m hT 0 c) (data_arrays m hT c 3) (left3 m hT c) t d

/-! ## The same expert has the same weights -/

/-- Two points with one expert hold one block of gate weights, -/
theorem gate_same (hT : TablesOk m) (c : Dev nD) (t u : Fin (gridAt m hT).N)
    (h : curWord (0 : Dev nD) (grid0.coords t) (tables m 0) = curWord (0 : Dev nD) (grid0.coords u) (tables m 0)) :
    (blockAt m hT c 1 t : Vec F S1x1024x256 .f32) = blockAt m hT c 1 u :=
  ((found1 m hT c t (fun _ => Classical.arbitrary _)).symm.trans
    ((gridData m hT 0 c).before_in_eq_fetched 1 rfl (fun _ => rfl) (fun _ _ _ => rfl)
      (fun t => by rw [left1]; unfold Dat.blockOf blockAt; rw [data_arrays]; try rfl) t _)).trans
  (((gridData m hT 0 c).fetched_congr 1 ((index1 m hT t).trans ((congrArg (fun x : BitVec 32 => ![x.toNat, 0, 0]) h).trans (index1 m hT u).symm)) rfl _).trans
  (((gridData m hT 0 c).before_in_eq_fetched 1 rfl (fun _ => rfl) (fun _ _ _ => rfl)
      (fun t => by rw [left1]; unfold Dat.blockOf blockAt; rw [data_arrays]; try rfl) u _).symm.trans
    (found1 m hT c u (fun _ => Classical.arbitrary _))))
/-- one block of up weights -/
theorem up_same (hT : TablesOk m) (c : Dev nD) (t u : Fin (gridAt m hT).N)
    (h : curWord (0 : Dev nD) (grid0.coords t) (tables m 0) = curWord (0 : Dev nD) (grid0.coords u) (tables m 0)) :
    (blockAt m hT c 2 t : Vec F S1x1024x256 .f32) = blockAt m hT c 2 u :=
  ((found2 m hT c t (fun _ => Classical.arbitrary _)).symm.trans
    ((gridData m hT 0 c).before_in_eq_fetched 2 rfl (fun _ => rfl) (fun _ _ _ => rfl)
      (fun t => by rw [left2]; unfold Dat.blockOf blockAt; rw [data_arrays]; try rfl) t _)).trans
  (((gridData m hT 0 c).fetched_congr 2 ((index2 m hT t).trans ((congrArg (fun x : BitVec 32 => ![x.toNat, 0, 0]) h).trans (index2 m hT u).symm)) rfl _).trans
  (((gridData m hT 0 c).before_in_eq_fetched 2 rfl (fun _ => rfl) (fun _ _ _ => rfl)
      (fun t => by rw [left2]; unfold Dat.blockOf blockAt; rw [data_arrays]; try rfl) u _).symm.trans
    (found2 m hT c u (fun _ => Classical.arbitrary _))))
/-- and one block of down weights. -/
theorem down_same (hT : TablesOk m) (c : Dev nD) (t u : Fin (gridAt m hT).N)
    (h : curWord (0 : Dev nD) (grid0.coords t) (tables m 0) = curWord (0 : Dev nD) (grid0.coords u) (tables m 0)) :
    (blockAt m hT c 3 t : Vec F S1x256x1024 .f32) = blockAt m hT c 3 u :=
  ((found3 m hT c t (fun _ => Classical.arbitrary _)).symm.trans
    ((gridData m hT 0 c).before_in_eq_fetched 3 rfl (fun _ => rfl) (fun _ _ _ => rfl)
      (fun t => by rw [left3]; unfold Dat.blockOf blockAt; rw [data_arrays]; try rfl) t _)).trans
  (((gridData m hT 0 c).fetched_congr 3 ((index3 m hT t).trans ((congrArg (fun x : BitVec 32 => ![x.toNat, 0, 0]) h).trans (index3 m hT u).symm)) rfl _).trans
  (((gridData m hT 0 c).before_in_eq_fetched 3 rfl (fun _ => rfl) (fun _ _ _ => rfl)
      (fun t => by rw [left3]; unfold Dat.blockOf blockAt; rw [data_arrays]; try rfl) u _).symm.trans
    (found3 m hT c u (fun _ => Classical.arbitrary _))))

/-- A block in use whose weights are kept finds its own expert's weights in the buffers. -/
theorem carried_same (hT : TablesOk m) (c : Dev nD) (t : Fin (gridAt m hT).N) (p : Vec F S1024x512 .bf16) (d : Vec F S256x1024 .bf16)
    (hp : Carried m hT c t.val p d)
    (hr : ¬ Reload (grid0.coords t) (prevWord c (grid0.coords t) (tables m 0)) (curWord c (grid0.coords t) (tables m 0)) (usedWord c (tables m 1)))
    (hu : InUse m c t) : p = packAt m hT c t ∧ d = downAt m hT c t := by
  obtain rfl : c = 0 := Subsingleton.elim _ _
  obtain ⟨u, h1, h2⟩ := kept_same (0 : Dev nD) (tables m 0) _ t hr hu
  obtain ⟨h3, h4⟩ := hp u h1 (used_before _ t u h1 hu)
  refine ⟨h3.trans ?_, h4.trans ?_⟩
  · unfold packAt
    rw [show (blockAt m hT 0 1 u : Vec F S1x1024x256 .f32) = blockAt m hT 0 1 t from gate_same m hT 0 u t h2.symm,
      show (blockAt m hT 0 2 u : Vec F S1x1024x256 .f32) = blockAt m hT 0 2 t from up_same m hT 0 u t h2.symm]
  · unfold downAt
    rw [show (blockAt m hT 0 3 u : Vec F S1x256x1024 .f32) = blockAt m hT 0 3 t from down_same m hT 0 u t h2.symm]

/-- After a block in use, the buffers hold its expert's weights. -/
theorem carried_next (hT : TablesOk m) (c : Dev nD) (t : Fin (gridAt m hT).N) :
    Carried m hT c (t.val + 1) (packAt m hT c t) (downAt m hT c t) := by
  intro u hu _
  obtain rfl : u = t := Fin.ext (by omega)
  exact ⟨rfl, rfl⟩

/-- After a block not in use, nothing is asked of the buffers. -/
theorem carried_idle (hT : TablesOk m) (c : Dev nD) (t : Fin (gridAt m hT).N) (p : Vec F S1024x512 .bf16) (d : Vec F S256x1024 .bf16)
    (h : ¬ InUse m c t) : Carried m hT c (t.val + 1) p d := by
  intro u hu h'
  obtain rfl : u = t := Fin.ext (by omega)
  exact absurd h' h

/-! ## The body at every point -/

/-- What the body is called with at point `t`. -/
def pointPre (hT : TablesOk m) (c : Dev nD) (t : Fin (gridAt m hT).N) : sProp 𝕄 :=
  iprop((gridData m hT 0 c).Φ t.castSucc ∗ (gridData m hT 0 c).owesAt () t.castSucc
    ∗ (∃ d, owns (c : Thread nD τ) (bufA m hT t) fullShare ((gridData m hT 0 c).before 0 t d))
    ∗ (∃ d, owns (c : Thread nD τ) (bufB m hT t) fullShare ((gridData m hT 0 c).before 1 t d))
    ∗ (∃ d, owns (c : Thread nD τ) (bufC m hT t) fullShare ((gridData m hT 0 c).before 2 t d))
    ∗ (∃ d, owns (c : Thread nD τ) (bufD m hT t) fullShare ((gridData m hT 0 c).before 3 t d))
    ∗ (∃ d, owns (c : Thread nD τ) (bufE m hT t) fullShare ((gridData m hT 0 c).before 4 t d)))

/-- What it returns. -/
def pointPost (hT : TablesOk m) (c : Dev nD) (t : Fin (gridAt m hT).N) : sProp 𝕄 :=
  iprop((gridData m hT 0 c).Φ t.succ ∗ (gridData m hT 0 c).owesAt () t.succ
    ∗ owns (c : Thread nD τ) (bufA m hT t) fullShare ((gridData m hT 0 c).after 0 t)
    ∗ owns (c : Thread nD τ) (bufB m hT t) fullShare ((gridData m hT 0 c).after 1 t)
    ∗ owns (c : Thread nD τ) (bufC m hT t) fullShare ((gridData m hT 0 c).after 2 t)
    ∗ owns (c : Thread nD τ) (bufD m hT t) fullShare ((gridData m hT 0 c).after 3 t)
    ∗ owns (c : Thread nD τ) (bufE m hT t) fullShare ((gridData m hT 0 c).after 4 t))

set_option maxHeartbeats 1600000 in
/-- The body at any point runs from the one to the other. -/
theorem body_runs (hT : TablesOk m) (c : Dev nD) (t : Fin (gridAt m hT).N) :
    pointPre m hT c t ⊢ wp frame (wpE (defs₀ (F := F)) Variants.none c none) Set.univ (bodyOf (good m hT) t) (fun _ => pointPost m hT c t) := by
  unfold pointPre pointPost bodyOf
  simp only [found0, found1, found2, found3]
  rw [show (gridData m hT 0 c).owesAt () t.succ = (gridData m hT 0 c).owesAt () t.castSucc from rfl,
    left0, left1, left2, left3, left4]
  rw [show (gridData m hT 0 c).Φ t.castSucc = iprop(weightsHeld m hT c t.val ∗ (∃ r, prngReg c r) ∗ Pipeline.ΦT pre0 (tables m) c) from rfl,
    show (gridData m hT 0 c).Φ t.succ = iprop(weightsHeld m hT c (t.val + 1) ∗ (∃ r, prngReg c r) ∗ Pipeline.ΦT pre0 (tables m) c) from rfl,
    tables_split]
  unfold weightsHeld resAt
  by_cases h2 : InUse m c t
  · have h3 : ¬ k0_cond3 (grid0.coords t) (usedWord c (tables m 1)) = 1#1 := fun h => (idle_iff _ _).1 h h2
    rw [if_pos h2]
    by_cases h1 : Reload (grid0.coords t) (prevWord c (grid0.coords t) (tables m 0)) (curWord c (grid0.coords t) (tables m 0)) (usedWord c (tables m 1))
    · iintro ⟨⟨⟨%p, %d, %hp, HS0, HS1⟩, Hg, HT0, HT1⟩, Ho, ⟨%d0, H0⟩, ⟨%d1, H1⟩, ⟨%d2, H2⟩, ⟨%d3, H3⟩, ⟨%d4, H4⟩⟩
      iapply (run_new c (grid0.coords t) _ _ _ _ _ _ _ _ _ _ _ _ _ _ (blockAt m hT c 0 t) (blockAt m hT c 1 t) (blockAt m hT c 2 t) (blockAt m hT c 3 t) p d (tables m 0) (tables m 1) h1 h2 h3 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists _, _
          isplitr
          swap
          · isplitl [HS0]; · iexact HS0
            iexact HS1
          · ipureintro; exact carried_next m hT c t
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · iintro ⟨⟨⟨%p, %d, %hp, HS0, HS1⟩, Hg, HT0, HT1⟩, Ho, ⟨%d0, H0⟩, ⟨%d1, H1⟩, ⟨%d2, H2⟩, ⟨%d3, H3⟩, ⟨%d4, H4⟩⟩
      obtain ⟨rfl, rfl⟩ := carried_same m hT c t p d hp h1 h2
      iapply (run_same c (grid0.coords t) _ _ _ _ _ _ _ _ _ _ _ _ _ _ (blockAt m hT c 0 t) (blockAt m hT c 1 t) (blockAt m hT c 2 t) (blockAt m hT c 3 t) (packAt m hT c t) (downAt m hT c t) (tables m 0) (tables m 1) h1 h2 h3 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists _, _
          isplitr
          swap
          · isplitl [HS0]; · iexact HS0
            iexact HS1
          · ipureintro; exact carried_next m hT c t
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h3 : k0_cond3 (grid0.coords t) (usedWord c (tables m 1)) = 1#1 := (idle_iff _ _).2 h2
    rw [if_neg h2]
    have h1 : ¬ Reload (grid0.coords t) (prevWord c (grid0.coords t) (tables m 0)) (curWord c (grid0.coords t) (tables m 0)) (usedWord c (tables m 1)) :=
      fun h => h2 ((reload_iff _ _ _ _).1 h).2
    iintro ⟨⟨⟨%p, %d, %hp, HS0, HS1⟩, Hg, HT0, HT1⟩, Ho, ⟨%d0, H0⟩, ⟨%d1, H1⟩, ⟨%d2, H2⟩, ⟨%d3, H3⟩, ⟨%d4, H4⟩⟩
    iapply (run_idle c (grid0.coords t) _ _ _ _ _ _ _ _ _ _ _ _ _ _ (blockAt m hT c 0 t) (blockAt m hT c 1 t) (blockAt m hT c 2 t) (blockAt m hT c 3 t) p d (tables m 0) (tables m 1) h1 h2 h3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT0]; · iexact HT0
    isplitl [HT1]; · iexact HT1
    iintro ⟨H0, H1, H2, H3, H4, HS0, HS1, HT0, HT1⟩
    isplitl [HS0 HS1 Hg HT0 HT1]
    · isplitl [HS0 HS1]
      · iexists _, _
        isplitr
        swap
        · isplitl [HS0]; · iexact HS0
          iexact HS1
        · ipureintro; exact carried_idle m hT c t p d h2
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body the program calls at point `t` is this one. -/
theorem body_row (hT : TablesOk m) (t : Fin (gridAt m hT).N) :
    defs₀ (F := F) .tc (gridAt m hT).body ((gridAt m hT).bodyArgs t ((gridAt m hT).slots t)) = bodyOf (good m hT) t := by
  unfold defs₀; rw [Defs.onTc_tc]

/-- The result's buffer as the grid asks it, the window being written back at every point. -/
theorem result_left (hT : TablesOk m) (c : Dev nD) (t : Fin (gridAt m hT).N) :
    (owns (c : Thread nD τ) (bufE m hT t) fullShare ((gridData m hT 0 c).after 4 t) : sProp 𝕄) ⊢ (gridData m hT 0 c).leavesExact 4 t := by
  unfold Dat.leavesExact
  cases (gridAt m hT).idle 4 ((gridAt m hT).grid.coords t)
  · exact .rfl
  · rw [result_flushed (good m hT) t]; exact .rfl

/-- The body obligation, at every point. -/
theorem body_meets (hT : TablesOk m) (c : Dev nD) : BodyObligation (gridData (F := F) m hT 0 c) (defs₀ (F := F)) Variants.none () Set.univ := fun t => by
  rw [bigSep_W0, bigSep_W0, body_row m hT]
  exact triple_restated (body_runs m hT c t) rfl .rfl fun _ =>
    sep_mono .rfl (sep_mono .rfl (sep_mono .rfl (sep_mono .rfl (sep_mono .rfl (sep_mono .rfl (result_left m hT c t))))))

/-! ## The run -/

/-- Before the first point nothing is asked of the weight buffers. -/
theorem starts (hT : TablesOk m) (c : Dev nD) :
    iprop(Pipeline.ΦA spec0 c ∗ Pipeline.ΦT pre0 (tables m) c) ⊢ (gridData m hT 0 c).Φ 0 := by
  rw [show (gridData m hT 0 c).Φ 0 = iprop(weightsHeld m hT c 0 ∗ (∃ r, prngReg c r) ∗ Pipeline.ΦT pre0 (tables m) c) from rfl, own_buffers]
  unfold weightsHeld
  iintro ⟨⟨⟨⟨%p, HS0⟩, ⟨%d, HS1⟩⟩, Hg⟩, HT⟩
  isplitl [HS0 HS1]
  · iexists p, d
    isplitr
    · ipureintro; intro u hu; exact absurd hu (Nat.succ_ne_zero _)
    isplitl [HS0]; · iexact HS0
    iexact HS1
  isplitl [Hg]; · iexact Hg
  iexact HT

/-- After the last point the buffers are handed back. -/
theorem ends (hT : TablesOk m) (c : Dev nD) :
    (gridData m hT 0 c).Φ (Fin.last (gridAt m hT).N) ⊢ Pipeline.ΦA spec0 c := by
  rw [show (gridData m hT 0 c).Φ (Fin.last (gridAt m hT).N) = iprop(weightsHeld m hT c (gridAt m hT).N ∗ (∃ r, prngReg c r) ∗ Pipeline.ΦT pre0 (tables m) c) from rfl, own_buffers]
  unfold weightsHeld
  iintro ⟨⟨%p, %d, %hp, HS0, HS1⟩, Hg, HT⟩
  isplitl [HS0 HS1]
  · isplitl [HS0]
    · iexists _; iexact HS0
    iexists _; iexact HS1
  iexact Hg

set_option backward.isDefEq.respectTransparency.types false in
/-- Every run ends with every array at its final contents and every semaphore counter at zero. -/
theorem main_runs (hT : TablesOk m) : θ_run defs (onTc (τ := τ) (main (F := F))) (s₀ m ρ)
    (fun r => Pipeline.FramePost (Pipeline.pin pcfgs fun _ => good m hT) (gridData m hT) 0 (entry m) r ∧ r.2.sem = fun _ => 0) :=
  Pipeline.θ_run_frameP_track (Q' := _) pcfgs (fun _ => good m hT) (gridData m hT) (0 : Fin 1) launch0 defs₀ Variants.none m ρ main
    (hbody := fun c => (body_meets m hT c).loose) (hshare := fun c => (gridData m hT 0 c).share_full fun _ => rfl)
    (howed := fun _ _ => rfl) (V := entry m) (hmain := main_reaches m Variants.none) (hA := data_arrays m hT) (hpf := tables_entry m)
    (hin := starts m hT) (hout := ends m hT)

/-- Every run ends with the arguments unchanged and every semaphore counter at zero. -/
theorem unchanged (hT : TablesOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).2 main_arg0 (by decide : main_arg0 ∈ Pipeline.restRefs sig spec0),
     (h.1 c).2 main_arg1 (by decide : main_arg1 ∈ Pipeline.restRefs sig spec0),
     ((h.1 c).1 0).trans (((gridData m hT 0 c).arrAt_in 0 rfl _).trans (data_arrays m hT c 0)),
     ((h.1 c).1 1).trans (((gridData m hT 0 c).arrAt_in 1 rfl _).trans (data_arrays m hT c 1)),
     ((h.1 c).1 2).trans (((gridData m hT 0 c).arrAt_in 2 rfl _).trans (data_arrays m hT c 2)),
     ((h.1 c).1 3).trans (((gridData m hT 0 c).arrAt_in 3 rfl _).trans (data_arrays m hT c 3))⟩, h.2⟩) (main_runs m ρ hT)

end Cert.ExpertsIdeal.Hand

end
-- ==== Proof.Experts.Ideal.Ok.lean ====
/-
  The experts call (over the extended reals): under the precondition every block the tables name lies inside its array.
-/
module

public import proofs.«01_k».proof.Proof.Experts.Ideal.Frame
public import proofs.«01_k».proof.Proof.Experts.Pre

@[expose] public section

set_option maxRecDepth 16384

noncomputable section

namespace Cert.ExpertsIdeal.Hand

open Cert.ExpertsIdeal.Gen
open Idealize.ShloMosaic Idealize.ShloMosaic.TcCoe
open Idealize.SL.Sem

variable {F : FTy → Type} [FloatOps F]

variable (m : (ℓ : Loc nD τ sig) → Buf (Elt F) ℓ)

/-- The expert table's word that a point reads is the table's entry there. -/
theorem cur_word (c : Dev nD) (i : grid0.Coords) (f : TabBuf (F := F) c beRef) :
    curWord c i f = (f : IVec S2304 32) (ix1 (i 0)) := by
  refine (word_at c f _ _ (k0_off1_eq i) _ (by intro a; fin_cases a; have := (i 0).isLt; simpa [S1, S2304] using this)).trans ?_
  refine congrArg (f : IVec S2304 32) ?_
  funext a
  fin_cases a
  apply Fin.ext
  show (i 0).val + 1 * 0 = (i 0).val
  omega

/-- The block count's word is the count. -/
theorem used_word (c : Dev nD) (f : TabBuf (F := F) c nuRef) : usedWord c f = (f : IVec S1 32) (ix1 0) :=
  congrArg (f : IVec S1 32) (funext fun a => by fin_cases a; exact Subsingleton.elim (α := Fin 1) _ _)

/-- The token window's block: the point's, or the last in use. -/
def tokenBlock (i : grid0.Coords) (n : BitVec 32) : BitVec 32 := Scalar.minsi (BitVec.ofNat 32 (i 0).val) (Scalar.subi n 1#32)

/-- The smaller of two signed words, as integers. -/
theorem minsi_toInt (a b : BitVec 32) : (Scalar.minsi a b).toInt = min a.toInt b.toInt := by
  show (if a.slt b then a else b).toInt = _
  simp only [BitVec.slt, decide_eq_true_eq]
  split <;> omega

/-- A positive count less one. -/
theorem pred_toInt (n : BitVec 32) (h : 1 ≤ n.toInt) : (Scalar.subi n 1#32).toInt = n.toInt - 1 := by
  show (n - 1#32).toInt = _
  rw [BitVec.toInt_sub]
  have h1 := BitVec.toInt_lt (x := n)
  have e : (1#32).toInt = 1 := by decide
  rw [e, Int.bmod_eq_of_le] <;> omega

/-- The token window's block as an integer. -/
theorem tokenBlock_toInt (i : grid0.Coords) (n : BitVec 32) (h : 1 ≤ n.toInt) :
    (tokenBlock i n).toInt = min ((i 0).val : Int) (n.toInt - 1) := by
  unfold tokenBlock
  rw [minsi_toInt, pred_toInt n h, small_toInt _ (i 0).isLt]

/-- A word that is not negative is its own number. -/
theorem toNat_of_toInt (b : BitVec 32) (h : 0 ≤ b.toInt) : (b.toNat : Int) = b.toInt := by
  have h1 := b.isLt
  rw [BitVec.toInt_eq_toNat_cond] at h ⊢
  split at h <;> split <;> omega

/-- The expert of each block, as launched. -/
def expertOf : IVec S2304 32 := m (((0 : Dev nD).tc : Thread nD τ).loc main_arg0)
/-- The number of blocks in use, as launched. -/
def usedCount : BitVec 32 := (m (((0 : Dev nD).tc : Thread nD τ).loc main_arg1) : IVec S1 32) (ix1 0)

/-- The word a point reads off the expert table. -/
theorem expert_word (i : grid0.Coords) : curWord (0 : Dev nD) i (tables m 0) = expertOf m (ix1 (i 0)) := cur_word (0 : Dev nD) i (tables m 0)
/-- The word a point reads off the count's table. -/
theorem count_word : usedWord (0 : Dev nD) (tables m 1) = usedCount m := used_word (0 : Dev nD) (tables m 1)

/-- The first coordinate a window's map gives, at its point: the token window's, -/
theorem token_index (i : grid0.Coords) : cc0_transform_0 inb_S1_S1_0 numel1_S1 (tables m) i = ![(tokenBlock i (usedCount m)).toNat, 0] :=
  congrArg (fun w : BitVec 32 => ![(tokenBlock i w).toNat, 0]) (count_word m)
/-- and the weight windows'. -/
theorem weight_index (i : grid0.Coords) : cc0_transform_1 k0_off1_inb numel1_S1 (tables m) i = ![(expertOf m (ix1 (i 0))).toNat, 0, 0] :=
  congrArg (fun w : BitVec 32 => ![w.toNat, 0, 0]) (expert_word m i)

/-- Every entry of a pair of naturals. -/
theorem all2 {P : Fin 2 → Prop} (h0 : P 0) (h1 : P 1) : ∀ a, P a
  | 0 => h0
  | 1 => h1
/-- Every entry of a triple of naturals. -/
theorem all3 {P : Fin 3 → Prop} (h0 : P 0) (h1 : P 1) (h2 : P 2) : ∀ a, P a
  | 0 => h0
  | 1 => h1
  | 2 => h2

/-- The precondition of the launch memory. -/
abbrev Asked : Prop := ∀ c : Dev nD, Cert.Pre_expert_tables.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1

/-- Under the precondition the experts are among the 256, -/
theorem expert_range (h : Asked m) (i : S2304.Idx) : 0 ≤ (expertOf m i).toInt ∧ (expertOf m i).toInt < 256 :=
  (Cert.Pre_expert_tables.tables_of _ _ _ _ _ _ (h 0)).1 i
/-- at least one block is in use, -/
theorem count_pos (h : Asked m) : 1 ≤ (usedCount m).toInt :=
  (Cert.Pre_expert_tables.tables_of _ _ _ _ _ _ (h 0)).2 (ix1 0)
/-- the experts as naturals are below 256, -/
theorem expert_lt (h : Asked m) (i : S2304.Idx) : (expertOf m i).toNat < 256 := by
  obtain ⟨h1, h2⟩ := expert_range m h i
  have h3 := toNat_of_toInt _ h1
  omega
/-- and the token window's block is one of the 2304. -/
theorem token_lt (h : Asked m) (i : grid0.Coords) : (tokenBlock i (usedCount m)).toNat < 2304 := by
  have h1 := count_pos m h
  have h2 := tokenBlock_toInt i _ h1
  have h3 : (i 0).val < 2304 := (i 0).isLt
  have h4 := toNat_of_toInt (tokenBlock i (usedCount m)) (by omega)
  omega

/-- Under the precondition the tables are as the grid asks. -/
theorem tables_ok (h : Asked m) : TablesOk m := by
  have e := fun i : grid0.Coords => expert_lt m h (ix1 (i 0))
  have k := token_lt m h
  have w : ∀ i : grid0.Coords, ∀ a, (cc0_transform_1 k0_off1_inb numel1_S1 (tables m) i a + 1) * S1x1024x256.size a ≤ S256x1024x256.size a := fun i => by
    rw [weight_index]
    refine all3 ?_ (by show (0 + 1) * 1024 ≤ 1024; omega) (by show (0 + 1) * 256 ≤ 256; omega)
    show ((expertOf m (ix1 (i 0))).toNat + 1) * 1 ≤ 256
    have := e i; omega
  refine ⟨fun i => ⟨?_, .inl rfl⟩, fun i => ⟨w i, .inl rfl⟩, fun i => ⟨w i, .inl rfl⟩, fun i => ⟨?_, .inl rfl⟩⟩
  · rw [token_index]
    refine all2 ?_ (by show (0 + 1) * 1024 ≤ 1024; omega)
    show ((tokenBlock i (usedCount m)).toNat + 1) * 256 ≤ 589824
    have := k i; omega
  · show ∀ a, (cc0_transform_1 k0_off1_inb numel1_S1 (tables m) i a + 1) * S1x256x1024.size a ≤ S256x256x1024.size a
    rw [weight_index]
    refine all3 ?_ (by show (0 + 1) * 256 ≤ 256; omega) (by show (0 + 1) * 1024 ≤ 1024; omega)
    show ((expertOf m (ix1 (i 0))).toNat + 1) * 1 ≤ 256
    have := e i; omega

end Cert.ExpertsIdeal.Hand

end
-- ==== Proof.Experts.Math.lean ====
/- The experts layer in plain mathematics: what one token gets from one expert, and the whole call. -/
module

public import Idealize.ShloMosaic.Lib.Claim
public import Idealize.ShloMosaic.Lib.Pointwise

@[expose] public section

noncomputable section

namespace Cert.ExpertsMath

open Idealize.ShloMosaic

/-- The gate times its logistic, times the up projection. -/
def gated (g u : EReal) : EReal := g * Ideal.div 1 (1 + Ideal.exp (-g)) * u

/-- One output of one expert for one token: the gated hidden units against a column of the down weights. -/
def ffn (x : Fin 1024 → EReal) (wg wu : Fin 1024 → Fin 256 → EReal) (wd : Fin 256 → EReal) : EReal :=
  ∑ f, gated (∑ d, x d * wg d f) (∑ d, x d * wu d f) * wd f

/-- The expert of a block, as a row of the weights. -/
def expertRow (be : IVec ⟨1, ![2304]⟩ 32) (n : Fin 2304) : Fin 256 := ⟨min (be (ix1 n)).toInt.toNat 255, by omega⟩

/-- The whole call at a token and an output column: the token's block goes through that block's expert while the block
    is in use, and is zero otherwise. -/
def layer (be : IVec ⟨1, ![2304]⟩ 32) (nu : BitVec 32) (xs : FVec Ideal ⟨2, ![589824, 1024]⟩ .f32) (wg wu : FVec Ideal ⟨3, ![256, 1024, 256]⟩ .f32)
    (wd : FVec Ideal ⟨3, ![256, 256, 1024]⟩ .f32) (r : Fin 589824) (k : Fin 1024) : EReal :=
  if (((r : ℕ) / 256 : ℕ) : Int) < nu.toInt then
    ffn (fun d => xs (ix2 r d)) (fun d f => wg (ix3 (expertRow be ⟨(r : ℕ) / 256, by omega⟩) d f)) (fun d f => wu (ix3 (expertRow be ⟨(r : ℕ) / 256, by omega⟩) d f))
      (fun f => wd (ix3 (expertRow be ⟨(r : ℕ) / 256, by omega⟩) f k))
  else 0

end Cert.ExpertsMath

end
-- ==== Proof.Experts.Final.lean ====
/- The experts kernel's result as one function of its arguments. -/
module

public import proofs.«01_k».proof.Proof.Experts.Ideal.Ok
public import proofs.«01_k».proof.Proof.Experts.Math
public import Idealize.ShloMosaic.Lib.Claim
public import Idealize.ShloMosaic.Lib.Pipeline.ValueKit
public import Idealize.ShloMosaic.Lib.Pointwise

@[expose] public section

set_option maxRecDepth 16384

noncomputable section

namespace Cert.ExpertsIdeal.Hand

open Cert.ExpertsIdeal.Gen
open Idealize.ShloMosaic Idealize.ShloMosaic.TcCoe
open Idealize.SL.Sem

variable (m : (ℓ : Loc nD τ sig) → Buf (Elt Ideal) ℓ)

/-! ## The body's payloads at an index -/

/-- The packed weights at an index: the gate's columns, then the up projection's. -/
theorem pack_at (x1 x2 : Vec Ideal S1x1024x256 .f32) (y : S1024x512.Idx) :
    packOf x1 x2 y = if h : (y 1 : ℕ) < 256 then x1 (ix3 0 (y 0) ⟨(y 1 : ℕ), h⟩) else x2 (ix3 0 (y 0) ⟨(y 1 : ℕ) - 256, by have : (y 1 : ℕ) < 512 := (y 1).isLt; omega⟩) := by
  unfold packOf
  canon_tiles x h
  · pointwise [k0_pay2]
    rw [dif_neg (by omega)]
    refine congrArg x2 ?_
    congr 1 <;> apply Fin.ext <;> simp only <;> omega
  · pointwise [k0_pay1]
    rw [dif_pos (by omega)]
    refine congrArg x1 ?_
    congr 1 <;> apply Fin.ext <;> simp only <;> omega

/-- The packed weights in a gate column, -/
theorem pack_gate (x1 x2 : Vec Ideal S1x1024x256 .f32) (d : Fin 1024) (f : Fin 256) (j : Fin 512) (h : (j : ℕ) = f) :
    packOf x1 x2 (ix2 d j) = x1 (ix3 0 d f) := by
  rw [pack_at]
  refine (dif_pos (show (j : ℕ) < 256 by omega)).trans ?_
  exact congrArg (fun g => x1 (ix3 0 d g)) (Fin.ext h)
/-- and in an up column. -/
theorem pack_up (x1 x2 : Vec Ideal S1x1024x256 .f32) (d : Fin 1024) (f : Fin 256) (j : Fin 512) (h : (j : ℕ) = 256 + f) :
    packOf x1 x2 (ix2 d j) = x2 (ix3 0 d f) := by
  rw [pack_at]
  refine (dif_neg (show ¬ (j : ℕ) < 256 by omega)).trans ?_
  exact congrArg (fun g => x2 (ix3 0 d g)) (Fin.ext (by simp only; show (j : ℕ) - 256 = f; omega))

/-- The down weights at an index. -/
theorem down_at (x3 : Vec Ideal S1x256x1024 .f32) (y : S256x1024.Idx) : downOf x3 y = x3 (ix3 0 (y 0) (y 1)) := by
  unfold downOf
  canon_tiles x h
  pointwise [k0_pay3]
  refine congrArg x3 ?_
  congr 1 <;> apply Fin.ext <;> omega

/-- The product the body stores, at an index, from the packed and the down weights. -/
theorem pay_at (x : Vec Ideal S256x1024 .f32) (p : Vec Ideal S1024x512 .bf16) (d : Vec Ideal S256x1024 .bf16) (r : Fin 256) (k : Fin 1024)
    (G U : Fin 1024 → Fin 256 → EReal)
    (hg : ∀ e (f : Fin 256) (j : Fin 512), (j : ℕ) = f → p (ix2 e j) = G e f) (hu : ∀ e (f : Fin 256) (j : Fin 512), (j : ℕ) = 256 + f → p (ix2 e j) = U e f) :
    k0_pay4 x p d (ix2 r k) = ExpertsMath.ffn (fun e => x (ix2 r e)) G U (fun f => d (ix2 f k)) := by
  pointwise [k0_pay4]
  unfold ExpertsMath.ffn ExpertsMath.gated
  refine Finset.sum_congr rfl fun f _ => ?_
  simp only [hg _ f ⟨(f : ℕ), by omega⟩ rfl, hu _ f ⟨256 + (f : ℕ), by omega⟩ rfl, zero_sub]

/-- The offsets of a whole block. -/
theorem origin : ∀ a : Fin 2, (![0, 0] : Fin 2 → ℕ) a = 0 := by decide

/-- The block the body leaves for a block in use. -/
theorem res_at (x0 : Vec Ideal S256x1024 .f32) (x1 x2 : Vec Ideal S1x1024x256 .f32) (x3 : Vec Ideal S1x256x1024 .f32) (y : S256x1024.Idx) :
    resOf x0 (packOf x1 x2) (downOf x3) y
      = ExpertsMath.ffn (fun e => x0 (ix2 (y 0) e)) (fun e f => x1 (ix3 0 e f)) (fun e f => x2 (ix3 0 e f)) (fun f => x3 (ix3 0 f (y 1))) := by
  unfold resOf
  rw [View.canon_cons_unit_lit (h := origin)]
  idx_vars y
  have e0 : ∀ z, View.ld x0 rX z = x0 z := fun z => by rw [View.ld_unit_lit]; exact origin
  have e1 : ∀ z, View.ld (packOf x1 x2) rP z = packOf x1 x2 z := fun z => by rw [View.ld_unit_lit]; exact origin
  have e2 : ∀ z, View.ld (downOf x3) rX z = downOf x3 z := fun z => by rw [View.ld_unit_lit]; exact origin
  rw [pay_at (View.ld x0 rX) (View.ld (packOf x1 x2) rP) (View.ld (downOf x3) rX) _ _ (fun e f => x1 (ix3 0 e f)) (fun e f => x2 (ix3 0 e f))
    (fun e f j h => (e1 _).trans (pack_gate x1 x2 e f j h)) (fun e f j h => (e1 _).trans (pack_up x1 x2 e f j h))]
  simp only [e0, e2, down_at]
  rfl

/-- The block the body leaves for a block not in use. -/
theorem zero_at (y : S256x1024.Idx) : resZero (F := Ideal) y = 0 := by
  unfold resZero
  rw [View.canon_cons_unit_lit (h := origin)]
  idx_vars y
  pointwise [k0_pay5]

/-! ## The windows' blocks at an index -/

/-- The token window's block at a point, -/
theorem index0 (hT : TablesOk m) (t : Fin (gridAt m hT).N) :
    ((gridAt m hT).win 0).index t = ![(tokenBlock (grid0.coords t) (usedCount m)).toNat, 0] := token_index m (grid0.coords t)
/-- a weight window's, -/
theorem indexW (hT : TablesOk m) (t : Fin (gridAt m hT).N) :
    ((gridAt m hT).win 1).index t = ![(expertOf m (ix1 (grid0.coords t 0))).toNat, 0, 0] := weight_index m (grid0.coords t)
/-- and the result window's. -/
theorem index4 (hT : TablesOk m) (t : Fin (gridAt m hT).N) : ((gridAt m hT).win 4).index t = ![t.val, 0] := by
  have h : ∀ t : Fin grid0.N, cc0_transform_4 (grid0.coords t) = ![t.val, 0] := by decide +kernel
  exact h t

/-- The tokens of a point, from the argument. -/
theorem tokens_at (hT : TablesOk m) (t : Fin (gridAt m hT).N) (r : Fin 256) (d : Fin 1024) (R : Fin 589824)
    (hR : (R : ℕ) = (tokenBlock (grid0.coords t) (usedCount m)).toNat * 256 + r) :
    (blockAt m hT 0 0 t : Vec Ideal S256x1024 .f32) (ix2 r d) = (m (((0 : Dev nD).tc : Thread nD τ).loc main_arg2) : Vec Ideal S589824x1024 .f32) (ix2 R d) := by
  refine congrArg (m (((0 : Dev nD).tc : Thread nD τ).loc main_arg2) : Vec Ideal S589824x1024 .f32) (funext (all2 ?_ ?_))
  · apply Fin.ext
    refine (Pipeline.Window.rect_emb_val ((gridAt m hT).win 0) t (ix2 r d) (0 : Fin 2)).trans ?_
    rw [index0]
    exact hR.symm
  · apply Fin.ext
    refine (Pipeline.Window.rect_emb_val ((gridAt m hT).win 0) t (ix2 r d) (1 : Fin 2)).trans ?_
    rw [index0]
    show 0 * 1024 + (d : ℕ) = d
    omega

/-- The gate weights of a point's expert, from the argument, -/
theorem gate_at (hT : TablesOk m) (t : Fin (gridAt m hT).N) (d : Fin 1024) (f : Fin 256) (E : Fin 256) (hE : (E : ℕ) = (expertOf m (ix1 (grid0.coords t 0))).toNat) :
    (blockAt m hT 0 1 t : Vec Ideal S1x1024x256 .f32) (ix3 0 d f) = (m (((0 : Dev nD).tc : Thread nD τ).loc main_arg3) : Vec Ideal S256x1024x256 .f32) (ix3 E d f) := by
  refine congrArg (m (((0 : Dev nD).tc : Thread nD τ).loc main_arg3) : Vec Ideal S256x1024x256 .f32) (funext (all3 ?_ ?_ ?_))
  · apply Fin.ext
    refine (Pipeline.Window.rect_emb_val ((gridAt m hT).win 1) t (ix3 0 d f) (0 : Fin 3)).trans ?_
    rw [indexW]
    show (expertOf m (ix1 (grid0.coords t 0))).toNat * 1 + 0 = (E : ℕ)
    omega
  · apply Fin.ext
    refine (Pipeline.Window.rect_emb_val ((gridAt m hT).win 1) t (ix3 0 d f) (1 : Fin 3)).trans ?_
    rw [indexW]
    show 0 * 1024 + (d : ℕ) = d
    omega
  · apply Fin.ext
    refine (Pipeline.Window.rect_emb_val ((gridAt m hT).win 1) t (ix3 0 d f) (2 : Fin 3)).trans ?_
    rw [indexW]
    show 0 * 256 + (f : ℕ) = f
    omega
/-- the up weights, -/
theorem up_at (hT : TablesOk m) (t : Fin (gridAt m hT).N) (d : Fin 1024) (f : Fin 256) (E : Fin 256) (hE : (E : ℕ) = (expertOf m (ix1 (grid0.coords t 0))).toNat) :
    (blockAt m hT 0 2 t : Vec Ideal S1x1024x256 .f32) (ix3 0 d f) = (m (((0 : Dev nD).tc : Thread nD τ).loc main_arg4) : Vec Ideal S256x1024x256 .f32) (ix3 E d f) := by
  have hi : ((gridAt m hT).win 2).index t = ![(expertOf m (ix1 (grid0.coords t 0))).toNat, 0, 0] := indexW m hT t
  refine congrArg (m (((0 : Dev nD).tc : Thread nD τ).loc main_arg4) : Vec Ideal S256x1024x256 .f32) (funext (all3 ?_ ?_ ?_))
  · apply Fin.ext
    refine (Pipeline.Window.rect_emb_val ((gridAt m hT).win 2) t (ix3 0 d f) (0 : Fin 3)).trans ?_
    rw [hi]
    show (expertOf m (ix1 (grid0.coords t 0))).toNat * 1 + 0 = (E : ℕ)
    omega
  · apply Fin.ext
    refine (Pipeline.Window.rect_emb_val ((gridAt m hT).win 2) t (ix3 0 d f) (1 : Fin 3)).trans ?_
    rw [hi]
    show 0 * 1024 + (d : ℕ) = d
    omega
  · apply Fin.ext
    refine (Pipeline.Window.rect_emb_val ((gridAt m hT).win 2) t (ix3 0 d f) (2 : Fin 3)).trans ?_
    rw [hi]
    show 0 * 256 + (f : ℕ) = f
    omega
/-- and the down weights. -/
theorem downs_at (hT : TablesOk m) (t : Fin (gridAt m hT).N) (f : Fin 256) (k : Fin 1024) (E : Fin 256) (hE : (E : ℕ) = (expertOf m (ix1 (grid0.coords t 0))).toNat) :
    (blockAt m hT 0 3 t : Vec Ideal S1x256x1024 .f32) (ix3 0 f k) = (m (((0 : Dev nD).tc : Thread nD τ).loc main_arg5) : Vec Ideal S256x256x1024 .f32) (ix3 E f k) := by
  have hi : ((gridAt m hT).win 3).index t = ![(expertOf m (ix1 (grid0.coords t 0))).toNat, 0, 0] := indexW m hT t
  refine congrArg (m (((0 : Dev nD).tc : Thread nD τ).loc main_arg5) : Vec Ideal S256x256x1024 .f32) (funext (all3 ?_ ?_ ?_))
  · apply Fin.ext
    refine (Pipeline.Window.rect_emb_val ((gridAt m hT).win 3) t (ix3 0 f k) (0 : Fin 3)).trans ?_
    rw [hi]
    show (expertOf m (ix1 (grid0.coords t 0))).toNat * 1 + 0 = (E : ℕ)
    omega
  · apply Fin.ext
    refine (Pipeline.Window.rect_emb_val ((gridAt m hT).win 3) t (ix3 0 f k) (1 : Fin 3)).trans ?_
    rw [hi]
    show 0 * 256 + (f : ℕ) = f
    omega
  · apply Fin.ext
    refine (Pipeline.Window.rect_emb_val ((gridAt m hT).win 3) t (ix3 0 f k) (2 : Fin 3)).trans ?_
    rw [hi]
    show 0 * 1024 + (k : ℕ) = k
    omega

/-! ## The result -/

/-- The result window's blocks, all written back, cover the result. -/
theorem covers (hT : TablesOk m) : ((gridAt m hT).win 4).Covers := by
  have hN : (gridAt m hT).N = 2304 := (by decide : grid0.N = 2304)
  refine ⟨all2 (by show 0 < 256; omega) (by show 0 < 1024; omega), fun β => ?_⟩
  have h0 : (β (0 : Fin 2) : ℕ) < 2304 := lt_of_lt_of_eq (β (0 : Fin 2)).isLt (by show (589824 + 256 - 1) / 256 = 2304; rfl)
  have h1 : (β (1 : Fin 2) : ℕ) < 1 := lt_of_lt_of_eq (β (1 : Fin 2)).isLt (by show (1024 + 1024 - 1) / 1024 = 1; rfl)
  refine ⟨⟨β (0 : Fin 2), lt_of_lt_of_eq h0 hN.symm⟩, result_flushed (good m hT) _, ?_⟩
  rw [index4]
  exact all2 ⟨rfl, .inl rfl⟩ ⟨by show 0 = (β (1 : Fin 2) : ℕ); omega, .inl rfl⟩

/-- The kernel's result as one function of its arguments. -/
def result (be : IVec S2304 32) (nu : IVec S1 32) (xs : FVec Ideal S589824x1024 .f32) (wg wu : FVec Ideal S256x1024x256 .f32) (wd : FVec Ideal S256x256x1024 .f32) :
    FVec Ideal S589824x1024 .f32 := fun j => ExpertsMath.layer be (nu (ix1 0)) xs wg wu wd (j 0) (j 1)

/-- What a point leaves, at an index, is the layer there. -/
theorem left_at (h : Asked m) (t : Fin (gridAt m (tables_ok m h)).N) (y : S256x1024.Idx) (R : Fin 589824) (hR : (R : ℕ) = t.val * 256 + y 0) :
    (resAt m (tables_ok m h) 0 t : Vec Ideal S256x1024 .f32) y
      = ExpertsMath.layer (expertOf m) (usedCount m) (m (((0 : Dev nD).tc : Thread nD τ).loc main_arg2)) (m (((0 : Dev nD).tc : Thread nD τ).loc main_arg3))
          (m (((0 : Dev nD).tc : Thread nD τ).loc main_arg4)) (m (((0 : Dev nD).tc : Thread nD τ).loc main_arg5)) R (y 1) := by
  have hy : (y 0 : ℕ) < 256 := (y 0).isLt
  have hq : (R : ℕ) / 256 = t.val := by omega
  have hc : (grid0.coords t 0).val = t.val := coord_val t
  have hu : InUse m 0 t ↔ (((R : ℕ) / 256 : ℕ) : Int) < (usedCount m).toInt := by
    refine (used_iff (grid0.coords t) _).trans ?_
    rw [hc, hq]
    rw [show usedWord (0 : Dev nD) (tables m 1) = usedCount m from count_word m]
  unfold resAt ExpertsMath.layer
  by_cases hin : InUse m 0 t
  · rw [if_pos hin, if_pos (hu.mp hin)]
    unfold packAt downAt
    refine (res_at _ _ _ _ y).trans ?_
    have hlt := hu.mp hin
    rw [hq] at hlt
    have ht : (tokenBlock (grid0.coords t) (usedCount m)).toNat = t.val := by
      have h2 := tokenBlock_toInt (grid0.coords t) (usedCount m) (count_pos m h)
      rw [hc] at h2
      have h4 := toNat_of_toInt (tokenBlock (grid0.coords t) (usedCount m)) (by omega)
      omega
    have he : (ExpertsMath.expertRow (expertOf m) ⟨(R : ℕ) / 256, by omega⟩ : ℕ) = (expertOf m (ix1 (grid0.coords t 0))).toNat := by
      have e1 : (⟨(R : ℕ) / 256, by omega⟩ : Fin 2304) = grid0.coords t 0 := Fin.ext (by rw [hc]; exact hq)
      rw [e1]
      obtain ⟨g1, g2⟩ := expert_range m h (ix1 (grid0.coords t 0))
      have g3 := toNat_of_toInt _ g1
      show min (expertOf m (ix1 (grid0.coords t 0))).toInt.toNat 255 = _
      omega
    have a0 : (fun e : Fin 1024 => (blockAt m (tables_ok m h) 0 0 t : Vec Ideal S256x1024 .f32) (ix2 (y 0) e)) = fun e => (m (((0 : Dev nD).tc : Thread nD τ).loc main_arg2) : Vec Ideal S589824x1024 .f32) (ix2 R e) :=
      funext fun e => tokens_at m (tables_ok m h) t (y 0) e R (by rw [ht]; exact hR)
    have a1 := funext fun d => funext fun f => gate_at m (tables_ok m h) t d f _ he
    have a2 := funext fun d => funext fun f => up_at m (tables_ok m h) t d f _ he
    have a3 := funext fun f => downs_at m (tables_ok m h) t f (y 1) _ he
    exact congr (congr (congr (congrArg ExpertsMath.ffn a0) a1) a2) a3
  · rw [if_neg hin, if_neg fun g => hin (hu.mpr g)]
    exact zero_at y

/-- The kernel's result array is the layer of its arguments. -/
theorem final (h : Asked m) (c : Dev nD) : (gridData m (tables_ok m h) 0 c).arrAt 4 (gridAt m (tables_ok m h)).N
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  obtain rfl : c = 0 := Subsingleton.elim _ _
  refine (gridData m (tables_ok m h) 0 0).arrAt_eq_of_covers 4 _ (covers m (tables_ok m h)) fun t hf (y : S256x1024.Idx) => ?_
  obtain ⟨j, hj⟩ : ∃ j : S589824x1024.Idx, j = (((gridAt m (tables_ok m h)).win 4).rect t).emb y := ⟨_, rfl⟩
  have e0 : (j 0 : ℕ) = t.val * 256 + y 0 := by
    rw [hj]
    refine (Pipeline.Window.rect_emb_val ((gridAt m (tables_ok m h)).win 4) t y (0 : Fin 2)).trans ?_
    rw [index4]; rfl
  have e1 : (j 1 : ℕ) = y 1 := by
    rw [hj]
    refine (Pipeline.Window.rect_emb_val ((gridAt m (tables_ok m h)).win 4) t y (1 : Fin 2)).trans ?_
    rw [index4]; show 0 * 1024 + (y 1 : ℕ) = y 1; omega
  have e2 : (y 1 : Fin 1024) = j 1 := Fin.ext e1.symm
  refine Eq.trans (b := (resAt m (tables_ok m h) 0 t : Vec Ideal S256x1024 .f32) y) ?_ ?_
  · exact congrFun (left4 m (tables_ok m h) 0 t) y
  · refine ((left_at m h t y (j 0) e0).trans (congrArg (ExpertsMath.layer _ _ _ _ _ _ _) e2)).trans ?_
    rw [hj]
    rfl

/-- Every run ends with the layer of the arguments as the result, the arguments unchanged. -/
theorem run_result (ρ : Dev nD → PrngReg) (h : Asked m) : θ_run defs (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ g c =>
    ⟨((g.1 c).1 4).trans (final m h c),
     (g.1 c).2 main_arg0 (by decide : main_arg0 ∈ Pipeline.restRefs sig spec0),
     (g.1 c).2 main_arg1 (by decide : main_arg1 ∈ Pipeline.restRefs sig spec0),
     ((g.1 c).1 0).trans (((gridData m (tables_ok m h) 0 c).arrAt_in 0 rfl _).trans (data_arrays m (tables_ok m h) c 0)),
     ((g.1 c).1 1).trans (((gridData m (tables_ok m h) 0 c).arrAt_in 1 rfl _).trans (data_arrays m (tables_ok m h) c 1)),
     ((g.1 c).1 2).trans (((gridData m (tables_ok m h) 0 c).arrAt_in 2 rfl _).trans (data_arrays m (tables_ok m h) c 2)),
     ((g.1 c).1 3).trans (((gridData m (tables_ok m h) 0 c).arrAt_in 3 rfl _).trans (data_arrays m (tables_ok m h) c 3))⟩) (main_runs m ρ (tables_ok m h))

end Cert.ExpertsIdeal.Hand

end
-- ==== Proof.Experts.Ref.lean ====
/- The experts reference read at an index. -/
module

public import proofs.«01_k».proof.Proof.Gen.ExpertsReferenceIdeal.Run
public import proofs.«01_k».proof.Proof.Experts.Math
public import Idealize.ShloMosaic.Lib.Claim
public import Idealize.ShloMosaic.Lib.Pointwise

@[expose] public section

set_option maxRecDepth 16384

noncomputable section

namespace Cert.ExpertsReferenceIdeal.Hand

open Idealize.ShloMosaic Idealize.ShloMosaic.TcCoe Idealize.SL.Sem
open Cert.ExpertsReferenceIdeal Cert.ExpertsReferenceIdeal.Gen

section Rows
variable {α : Type}

/-- The dimension numbers of `w[e]`: matrices of a stack picked by a list of numbers. -/
abbrev stackDims (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Picking matrices of a stack, at an index: the matrix of the number, clamped into the stack. -/
theorem stack_at {N A B R w : ℕ} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (e : IVec ⟨2, ![R, 1]⟩ w) (r : Fin R) (a : Fin A) (b : Fin B) :
    Host.gather (stackDims N A B R wf) x e (ix3 r a b) = x (ix3 ⟨min (e (ix2 r 0)).toInt.toNat (N - 1), by omega⟩ a b) := by
  unfold Host.gather
  refine congrArg x ?_
  funext k
  refine Fin.ext ?_
  show (stackDims N A B R wf).start (ix3 r a b) e k + (stackDims N A B R wf).batchCoord (ix3 r a b) k + (stackDims N A B R wf).offCoord (ix3 r a b) k = _
  rw [GatherDims.batchCoord_eq_zero _ _ _ List.not_mem_nil]
  have hk : k = (0 : Fin 3) ∨ k = (1 : Fin 3) ∨ k = (2 : Fin 3) := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (stackDims N A B R wf).startIndexMap from List.mem_singleton.mpr rfl)]
    have hsi : (stackDims N A B R wf).siIdx (ix3 r a b) ⟨List.idxOf (0 : Fin 3) (stackDims N A B R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · unfold GatherDims.start GatherDims.offCoord
    rw [dif_neg (show ¬ (1 : Fin 3) ∈ (stackDims N A B R wf).startIndexMap from (by decide : ¬ (1 : Fin 3) ∈ ([0] : List (Fin 3)))),
      dif_pos (show (1 : Fin 3) ∈ (stackDims N A B R wf).sKept from (GatherDims.mem_sKept _ _).mpr ⟨(by decide : ¬ (1 : Fin 3) ∈ ([0] : List (Fin 3))), List.not_mem_nil⟩)]
    simp only [Nat.zero_add]
    rfl
  · unfold GatherDims.start GatherDims.offCoord
    rw [dif_neg (show ¬ (2 : Fin 3) ∈ (stackDims N A B R wf).startIndexMap from (by decide : ¬ (2 : Fin 3) ∈ ([0] : List (Fin 3)))),
      dif_pos (show (2 : Fin 3) ∈ (stackDims N A B R wf).sKept from (GatherDims.mem_sKept _ _).mpr ⟨(by decide : ¬ (2 : Fin 3) ∈ ([0] : List (Fin 3))), List.not_mem_nil⟩)]
    simp only [Nat.zero_add]
    rfl

end Rows

/-- The experts' numbers as the reference hands them to its gathers: a negative number counts from the end. -/
def numbers (be : IVec S2304 32) : IVec S2304x1 32 :=
  broadcastInDim S2304x1 ![0] bcast_S2304_S2304x1_0 (select (cmpi .slt be (broadcastInDim S2304 ![] bcast_S_S2304 (constantI S_ 32 0#32))) (addi be (broadcastInDim S2304 ![] bcast_S_S2304 (constantI S_ 32 256#32))) be)

/-- A projection of every block by its expert's weights. -/
def project (be : IVec S2304 32) (xs : FVec Ideal S589824x1024 .f32) (w : FVec Ideal S256x1024x256 .f32) : FVec Ideal S2304x256x256 .f32 :=
  Host.dotGeneral dot_S2304x256x1024_S2304x1024x256_S2304x256x256_2_1_1_2_0_0 none (shapeCast _ xs shapeCasts_S589824x1024_S2304x256x1024)
    (Host.gather gather_S256x1024x256_S2304x1_S2304x1024x256_12_0_n_n_0_1_11024256 w (numbers be))

/-- The gated hidden units. -/
def hidden (g u : FVec Ideal S2304x256x256 .f32) : FVec Ideal S2304x256x256 .f32 :=
  mulf (mulf g (Host.divf (broadcastInDim S2304x256x256 ![] bcast_S_S2304x256x256 (constant S_ .f32 0x3F800000#32)) (addf (broadcastInDim S2304x256x256 ![] bcast_S_S2304x256x256 (constant S_ .f32 0x3F800000#32)) (Host.exp (Host.negf g))))) u

/-- The down projection. -/
def lower (be : IVec S2304 32) (h : FVec Ideal S2304x256x256 .f32) (wd : FVec Ideal S256x256x1024 .f32) : FVec Ideal S2304x256x1024 .f32 :=
  Host.dotGeneral dot_S2304x256x256_S2304x256x1024_S2304x256x1024_2_1_1_2_0_0 none h
    (Host.gather gather_S256x256x1024_S2304x1_S2304x256x1024_12_0_n_n_0_1_12561024 wd (numbers be))

/-- Which blocks are in use. -/
def inUse (nu : IVec S1 32) : IVec S2304 1 :=
  cmpi .slt (iotaInDim S2304 32 0) (broadcastInDim S2304 ![] bcast_S_S2304 (shapeCast _ nu shapeCasts_S1_S_))

/-- The blocks in use, the others zero, as one array of tokens. -/
def kept (b : IVec S2304 1) (y : FVec Ideal S2304x256x1024 .f32) : FVec Ideal S589824x1024 .f32 :=
  shapeCast _ (select (broadcastInDim S2304x256x1024 ![0, 1, 2] bcast_S2304x1x1_S2304x256x1024_0_1_2 (broadcastInDim S2304x1x1 ![0] bcast_S2304_S2304x1x1_0 b)) y
    (broadcastInDim S2304x256x1024 ![] bcast_S_S2304x256x1024 (constant S_ .f32 0x00000000#32))) shapeCasts_S2304x256x1024_S589824x1024

/-- The reference as one function of its arguments. -/
def REF (be : IVec S2304 32) (nu : IVec S1 32) (xs : FVec Ideal S589824x1024 .f32) (wg wu : FVec Ideal S256x1024x256 .f32) (wd : FVec Ideal S256x256x1024 .f32) : FVec Ideal S589824x1024 .f32 :=
  kept (inUse nu) (lower be (hidden (project be xs wg) (project be xs wu)) wd)

/-- A number that is not negative is handed on as it is. -/
theorem numbers_at (be : IVec S2304 32) (n : Fin 2304) (h : 0 ≤ (be (ix1 n)).toInt) : numbers be (ix2 n 0) = be (ix1 n) := by
  have e : IntOp.cmpi .slt (be (ix1 n)) 0#32 = 0#1 := by
    show BitVec.ofBool ((be (ix1 n)).slt 0#32) = 0#1
    have : (be (ix1 n)).slt 0#32 = false := by
      simp only [BitVec.slt, decide_eq_false_iff_not, not_lt]; exact h
    rw [this]; rfl
  pointwise [numbers]
  rw [e]
  try rfl

/-- A projection at an index. -/
theorem project_at (be : IVec S2304 32) (xs : FVec Ideal S589824x1024 .f32) (w : FVec Ideal S256x1024x256 .f32) (n : Fin 2304) (r : Fin 256) (f : Fin 256) (h : 0 ≤ (be (ix1 n)).toInt) :
    project be xs w (ix3 n r f) = ∑ d : Fin 1024, xs (ix2 ⟨(n : ℕ) * 256 + r, by omega⟩ d) * w (ix3 (ExpertsMath.expertRow be n) d f) := by
  have e : ∀ d : Fin 1024, Host.gather gather_S256x1024x256_S2304x1_S2304x1024x256_12_0_n_n_0_1_11024256 w (numbers be) (ix3 n d f) = w (ix3 (ExpertsMath.expertRow be n) d f) := fun d => by
    refine (stack_at (by norm_num) gather_S256x1024x256_S2304x1_S2304x1024x256_12_0_n_n_0_1_11024256_wf w (numbers be) n d f).trans ?_
    simp only [numbers_at be n h]
    rfl
  unfold project
  generalize Host.gather gather_S256x1024x256_S2304x1_S2304x1024x256_12_0_n_n_0_1_11024256 w (numbers be) = W at e
  pointwise []
  simp only [e]

/-- A hidden unit at an index. -/
theorem hidden_at (g u : FVec Ideal S2304x256x256 .f32) (n : Fin 2304) (r : Fin 256) (f : Fin 256) :
    hidden g u (ix3 n r f) = ExpertsMath.gated (g (ix3 n r f)) (u (ix3 n r f)) := by
  pointwise [hidden]
  rfl

/-- The down projection at an index. -/
theorem lower_at (be : IVec S2304 32) (g : FVec Ideal S2304x256x256 .f32) (wd : FVec Ideal S256x256x1024 .f32) (n : Fin 2304) (r : Fin 256) (k : Fin 1024) (h : 0 ≤ (be (ix1 n)).toInt) :
    lower be g wd (ix3 n r k) = ∑ f : Fin 256, g (ix3 n r f) * wd (ix3 (ExpertsMath.expertRow be n) f k) := by
  have e : ∀ f : Fin 256, Host.gather gather_S256x256x1024_S2304x1_S2304x256x1024_12_0_n_n_0_1_12561024 wd (numbers be) (ix3 n f k) = wd (ix3 (ExpertsMath.expertRow be n) f k) := fun f => by
    refine (stack_at (by norm_num) gather_S256x256x1024_S2304x1_S2304x256x1024_12_0_n_n_0_1_12561024_wf wd (numbers be) n f k).trans ?_
    simp only [numbers_at be n h]
    rfl
  unfold lower
  generalize Host.gather gather_S256x256x1024_S2304x1_S2304x256x1024_12_0_n_n_0_1_12561024 wd (numbers be) = W at e
  pointwise []
  simp only [e]

/-- Whether a block is in use. -/
theorem inUse_at (nu : IVec S1 32) (n : Fin 2304) : inUse nu (ix1 n) = if ((n : ℕ) : Int) < (nu (ix1 0)).toInt then 1#1 else 0#1 := by
  have hn := n.isLt
  have e : (BitVec.ofNat 32 (n : ℕ)).toInt = (n : ℕ) := by
    rw [BitVec.toInt_eq_toNat_of_lt (by rw [BitVec.toNat_ofNat]; omega), BitVec.toNat_ofNat]; omega
  have key : ∀ w : BitVec 32, IntOp.cmpi .slt (BitVec.ofNat 32 (n : ℕ)) w = if ((n : ℕ) : Int) < w.toInt then 1#1 else 0#1 := fun w => by
    show BitVec.ofBool ((BitVec.ofNat 32 (n : ℕ)).slt w) = _
    rw [BitVec.slt, e]
    by_cases h : ((n : ℕ) : Int) < w.toInt
    · rw [if_pos h, decide_eq_true h]; rfl
    · rw [if_neg h, decide_eq_false h]; rfl
  pointwise [inUse]
  exact key _

/-- The kept blocks at an index. -/
theorem kept_at (b : IVec S2304 1) (y : FVec Ideal S2304x256x1024 .f32) (R : Fin 589824) (k : Fin 1024) :
    kept b y (ix2 R k) = Scalar.select (b (ix1 ⟨(R : ℕ) / 256, by omega⟩)) (y (ix3 ⟨(R : ℕ) / 256, by omega⟩ ⟨(R : ℕ) % 256, by omega⟩ k)) 0 := by
  pointwise [kept]

/-- The reference at an index, when no expert's number is negative. -/
theorem ref_at (be : IVec S2304 32) (nu : IVec S1 32) (xs : FVec Ideal S589824x1024 .f32) (wg wu : FVec Ideal S256x1024x256 .f32) (wd : FVec Ideal S256x256x1024 .f32)
    (h : ∀ i, 0 ≤ (be i).toInt) (R : Fin 589824) (k : Fin 1024) :
    REF be nu xs wg wu wd (ix2 R k) = ExpertsMath.layer be (nu (ix1 0)) xs wg wu wd R k := by
  unfold REF ExpertsMath.layer
  rw [kept_at, inUse_at]
  by_cases hu : (((R : ℕ) / 256 : ℕ) : Int) < (nu (ix1 0)).toInt
  · rw [if_pos hu, if_pos hu]
    refine (lower_at be _ wd _ _ k (h _)).trans ?_
    unfold ExpertsMath.ffn
    refine Finset.sum_congr rfl fun f _ => ?_
    rw [hidden_at, project_at _ _ _ _ _ _ (h _), project_at _ _ _ _ _ _ (h _)]
    have e : (⟨(R : ℕ) / 256 * 256 + (R : ℕ) % 256, by omega⟩ : Fin 589824) = R := Fin.ext (by simp only; omega)
    simp only [e]
  · rw [if_neg hu, if_neg hu]
    rfl

end Cert.ExpertsReferenceIdeal.Hand

end
-- ==== Proof.Inproj.Pre.lean ====
/- What the precondition of the input projection says: the numbers behind the heads are real. -/
module

public import proofs.«01_k».proof.Defs
public import proofs.«01_k».proof.Proof.Attn.Pre
public import proofs.«01_k».proof.Proof.Inproj.Math
public import Idealize.ShloMosaic.Lib.Claim
public import Idealize.ShloMosaic.Lib.Pointwise
public import Idealize.ShloMosaic.Lib.ReduceAll

@[expose] public section

set_option maxRecDepth 16384

noncomputable section

namespace Cert.Pre_finite_heads

open Idealize.ShloMosaic

/-- The side conditions of the predicate's operations. -/
instance facts : Facts where
  slices_S40x6x1x1024_S32x2x1x1024_0_0_0_0 := by decide
  bcast_S_S32x2x1x1024 := by decide
  reducesTo_S32x2x1x1024_S_d0_1_2_3 := by decide
  h_S_ := by decide
  bcast_S_S1x1024 := by decide
  reducesTo_S1x1024_S_d0_1 := by decide
  slices_S1024x256_S1024x128_0_0 := by decide
  bitsLt_bf16_f32 := by decide
  bcast_S_S1024x128 := by decide
  reducesTo_S1024x128_S_d0_1 := by decide
  bcast_S_S1024x512 := by decide
  reducesTo_S1024x512_S_d0_1 := by decide

/-- Under the precondition the shifts and scales read, the scale of the rows, the key columns and the query columns are real. -/
theorem real_of (x0 : FVec Ideal S32x2048x1024 .f32) (x1 : FVec Ideal S40x6x1x1024 .f32) (x2 : FVec Ideal S1x1024 .f32) (x3 : FVec Ideal S1024x256 .bf16) (x4 : FVec Ideal S1024x1536 .bf16)
    (x5 : FVec Ideal S1024x128 .bf16) (x6 x7 : FVec Ideal S1x128 .f32) (x8 x9 : FVec Ideal S1024x512 .bf16) (x10 : FVec Ideal S1024x2048 .bf16) (x11 : FVec Ideal S1x512 .f32) (x12 x13 : FVec Ideal S2048x512 .f32)
    (h : fn (F := Ideal) x0 x1 x2 x3 x4 x5 x6 x7 x8 x9 x10 x11 x12 x13 = fun _ => 1#1) :
    (∀ (b : Fin 32) (t : Fin 2) (i : Fin 1024), ∃ r : ℝ, x1 (ix4 ⟨b, by omega⟩ ⟨t, by omega⟩ 0 i) = r) ∧ (∀ i, ∃ r : ℝ, x2 i = r)
      ∧ (∀ (i : Fin 1024) (j : Fin 128), ∃ r : ℝ, x3 (ix2 i ⟨j, by omega⟩) = r) ∧ (∀ i, ∃ r : ℝ, x8 i = r) := by
  haveI : Subsingleton S_.Idx := ⟨fun a b => funext fun i => i.elim0⟩
  have h0 := congrFun h ix0
  unfold fn fn_part1 at h0
  obtain ⟨h1, h8⟩ := IntOp.andi_eq_one.1 h0
  obtain ⟨h2, h7⟩ := IntOp.andi_eq_one.1 h1
  obtain ⟨h3, h4⟩ := IntOp.andi_eq_one.1 h2
  refine ⟨fun b t i => ?_, fun i => ?_, fun i j => ?_, fun i => ?_⟩
  · have e := Host.reduce_andi_all _ _ _ _ _ h3 (ix4 b t 0 i)
    obtain ⟨r, hr⟩ := Cert.Pre_finite_scores.real_elem _ e
    refine ⟨r, hr.symm.trans ?_ |>.symm⟩
    pointwise
  · have e := Host.reduce_andi_all _ _ _ _ _ h4 i
    exact Cert.Pre_finite_scores.real_elem _ e
  · have e := Host.reduce_andi_all _ _ _ _ _ h7 (ix2 i j)
    obtain ⟨r, hr⟩ := Cert.Pre_finite_scores.real_elem _ e
    refine ⟨r, hr.symm.trans ?_ |>.symm⟩
    pointwise
  · have e := Host.reduce_andi_all _ _ _ _ _ h8 i
    exact Cert.Pre_finite_scores.real_elem _ e

end Cert.Pre_finite_heads

end
-- ==== Proof.Inproj.Ref.lean ====
/- The input projection reference read at an index. -/
module

public import proofs.«01_k».proof.Proof.Gen.InprojReferenceIdeal.Run
public import proofs.«01_k».proof.Proof.Inproj.Math
public import Idealize.ShloMosaic.Lib.Claim
public import Idealize.ShloMosaic.Lib.Pointwise

@[expose] public section

set_option maxRecDepth 16384

noncomputable section

namespace Cert.InprojReferenceIdeal.Hand

open Idealize.ShloMosaic Idealize.ShloMosaic.TcCoe Idealize.SL.Sem
open Cert.InprojReferenceIdeal Cert.InprojReferenceIdeal.Gen

/-- The normalised rows. -/
def rows (a0 : FVec Ideal S32x2048x1024 .f32) (a1 : FVec Ideal S40x6x1x1024 .f32) (a2 : FVec Ideal S1x1024 .f32) : FVec Ideal S32x2048x1024 .f32 :=
  addf (mulf (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![1, 2] bcast_S1x1024_S1x1x1024_1_2 a2))) (broadcastInDim S32x2048x1024 ![0, 1, 2] bcast_S32x1x1024_S32x2048x1024_0_1_2 (addf (broadcastInDim S32x1x1024 ![] bcast_S_S32x1x1024 (constant S_ .f32 0x3F800000#32)) (shapeCast _ (extractStridedSlice S32x1x1x1024 ![0, 1, 0, 0] a1 slices_S40x6x1x1024_S32x1x1x1024_0_1_0_0) shapeCasts_S32x1x1x1024_S32x1x1024)))) (broadcastInDim S32x2048x1024 ![0, 1, 2] bcast_S32x1x1024_S32x2048x1024_0_1_2 (shapeCast _ (extractStridedSlice S32x1x1x1024 ![0, 0, 0, 0] a1 slices_S40x6x1x1024_S32x1x1x1024_0_0_0_0) shapeCasts_S32x1x1x1024_S32x1x1024))

/-- The key and value columns. -/
def kv (h : FVec Ideal S32x2048x1024 .f32) (a3 : FVec Ideal S1024x256 .bf16) : FVec Ideal S32x2048x256 .f32 :=
  Host.dotGeneral dot_S32x2048x1024_S1024x256_S32x2048x256_2_0_01_1_n_n none h (extf .f32 a3 bitsLt_bf16_f32)

/-- The keys by heads. -/
def keys (p : FVec Ideal S32x2048x256 .f32) : FVec Ideal S32x2048x2x64 .f32 :=
  shapeCast _ (extractStridedSlice S32x2048x128 ![0, 0, 0] p slices_S32x2048x256_S32x2048x128_0_0_0) shapeCasts_S32x2048x128_S32x2048x2x64

/-- The angles of the keys. -/
def cut (a : FVec Ideal S2048x512 .f32) : FVec Ideal S2048x2x2x2x16 .f32 :=
  shapeCast _ (extractStridedSlice S2048x128 ![0, 0] a slices_S2048x512_S2048x128_0_0) shapeCasts_S2048x128_S2048x2x2x2x16

/-- The normalised keys. -/
def normK (k : FVec Ideal S32x2048x2x64 .f32) (g : FVec Ideal S1x128 .f32) : FVec Ideal S32x2048x2x64 .f32 :=
  mulf (mulf k (broadcastInDim S32x2048x2x64 ![0, 1, 2, 3] bcast_S32x2048x2x1_S32x2048x2x64_0_1_2_3 (Host.rsqrt (addf (Host.divf (broadcastInDim S32x2048x2x1 ![0, 1, 2] bcast_S32x2048x2_S32x2048x2x1_0_1_2 (Host.reduceAdd (mulf k k) (constant S_ .f32 0x00000000#32) reducesTo_S32x2048x2x64_S32x2048x2_d3 h_S_)) (broadcastInDim S32x2048x2x1 ![] bcast_S_S32x2048x2x1 (constant S_ .f32 0x42800000#32))) (broadcastInDim S32x2048x2x1 ![] bcast_S_S32x2048x2x1 (constant S_ .f32 0x358637BD#32)))))) (broadcastInDim S32x2048x2x64 ![0, 1, 2, 3] bcast_S1x1x2x64_S32x2048x2x64_0_1_2_3 (broadcastInDim S1x1x2x64 ![2, 3] bcast_S2x64_S1x1x2x64_2_3 (shapeCast _ g shapeCasts_S1x128_S2x64)))

/-- The keys by halves. -/
def halvesK (k : FVec Ideal S32x2048x2x64 .f32) : FVec Ideal S32x2048x2x2x2x16 .f32 :=
  shapeCast _ k shapeCasts_S32x2048x2x64_S32x2048x2x2x2x16

/-- The first halves. -/
def firstK (k : FVec Ideal S32x2048x2x2x2x16 .f32) : FVec Ideal S32x2048x2x2x16 .f32 :=
  shapeCast _ (extractStridedSlice S32x2048x2x2x1x16 ![0, 0, 0, 0, 0, 0] k slices_S32x2048x2x2x2x16_S32x2048x2x2x1x16_0_0_0_0_0_0) shapeCasts_S32x2048x2x2x1x16_S32x2048x2x2x16

/-- The second halves. -/
def secondK (k : FVec Ideal S32x2048x2x2x2x16 .f32) : FVec Ideal S32x2048x2x2x16 .f32 :=
  shapeCast _ (extractStridedSlice S32x2048x2x2x1x16 ![0, 0, 0, 0, 1, 0] k slices_S32x2048x2x2x2x16_S32x2048x2x2x1x16_0_0_0_0_1_0) shapeCasts_S32x2048x2x2x1x16_S32x2048x2x2x16

/-- The rotated first halves. -/
def lowK (f s : FVec Ideal S32x2048x2x2x16 .f32) (c z : FVec Ideal S2048x2x2x2x16 .f32) : FVec Ideal S32x2048x2x2x1x16 .f32 :=
  (broadcastInDim S32x2048x2x2x1x16 ![0, 1, 2, 3, 5] bcast_S32x2048x2x2x16_S32x2048x2x2x1x16_0_1_2_3_5 (addf (mulf f (broadcastInDim S32x2048x2x2x16 ![0, 1, 2, 3, 4] bcast_S1x2048x2x2x16_S32x2048x2x2x16_0_1_2_3_4 (broadcastInDim S1x2048x2x2x16 ![1, 2, 3, 4] bcast_S2048x2x2x16_S1x2048x2x2x16_1_2_3_4 (shapeCast _ (extractStridedSlice S2048x2x2x1x16 ![0, 0, 0, 0, 0] c slices_S2048x2x2x2x16_S2048x2x2x1x16_0_0_0_0_0) shapeCasts_S2048x2x2x1x16_S2048x2x2x16)))) (mulf s (broadcastInDim S32x2048x2x2x16 ![0, 1, 2, 3, 4] bcast_S1x2048x2x2x16_S32x2048x2x2x16_0_1_2_3_4 (broadcastInDim S1x2048x2x2x16 ![1, 2, 3, 4] bcast_S2048x2x2x16_S1x2048x2x2x16_1_2_3_4 (shapeCast _ (extractStridedSlice S2048x2x2x1x16 ![0, 0, 0, 0, 0] z slices_S2048x2x2x2x16_S2048x2x2x1x16_0_0_0_0_0) shapeCasts_S2048x2x2x1x16_S2048x2x2x16))))))

/-- The rotated second halves. -/
def highK (f s : FVec Ideal S32x2048x2x2x16 .f32) (c z : FVec Ideal S2048x2x2x2x16 .f32) : FVec Ideal S32x2048x2x2x1x16 .f32 :=
  (broadcastInDim S32x2048x2x2x1x16 ![0, 1, 2, 3, 5] bcast_S32x2048x2x2x16_S32x2048x2x2x1x16_0_1_2_3_5 (addf (mulf s (broadcastInDim S32x2048x2x2x16 ![0, 1, 2, 3, 4] bcast_S1x2048x2x2x16_S32x2048x2x2x16_0_1_2_3_4 (broadcastInDim S1x2048x2x2x16 ![1, 2, 3, 4] bcast_S2048x2x2x16_S1x2048x2x2x16_1_2_3_4 (shapeCast _ (extractStridedSlice S2048x2x2x1x16 ![0, 0, 0, 1, 0] c slices_S2048x2x2x2x16_S2048x2x2x1x16_0_0_0_1_0) shapeCasts_S2048x2x2x1x16_S2048x2x2x16)))) (mulf f (broadcastInDim S32x2048x2x2x16 ![0, 1, 2, 3, 4] bcast_S1x2048x2x2x16_S32x2048x2x2x16_0_1_2_3_4 (broadcastInDim S1x2048x2x2x16 ![1, 2, 3, 4] bcast_S2048x2x2x16_S1x2048x2x2x16_1_2_3_4 (shapeCast _ (extractStridedSlice S2048x2x2x1x16 ![0, 0, 0, 1, 0] z slices_S2048x2x2x2x16_S2048x2x2x1x16_0_0_0_1_0) shapeCasts_S2048x2x2x1x16_S2048x2x2x16))))))

/-- The rotated keys. -/
def joinK (u v : FVec Ideal S32x2048x2x2x1x16 .f32) : FVec Ideal S32x2048x128 .bf16 :=
  truncf .bf16 (shapeCast _ (concatenate S32x2048x2x2x2x16 4 [⟨S32x2048x2x2x1x16, u⟩, ⟨S32x2048x2x2x1x16, v⟩] concatenates_S32x2048x2x2x1x16_S32x2048x2x2x1x16_S32x2048x2x2x2x16_d4) shapeCasts_S32x2048x2x2x2x16_S32x2048x128) bitsLt_bf16_f32

/-- The queries by heads. -/
def queries (h : FVec Ideal S32x2048x1024 .f32) (a8 : FVec Ideal S1024x512 .bf16) : FVec Ideal S32x2048x8x64 .f32 :=
  shapeCast _ (Host.dotGeneral dot_S32x2048x1024_S1024x512_S32x2048x512_2_0_01_1_n_n none h (extf .f32 a8 bitsLt_bf16_f32)) shapeCasts_S32x2048x512_S32x2048x8x64

/-- The angles of the queries. -/
def wide (a : FVec Ideal S2048x512 .f32) : FVec Ideal S2048x8x2x2x16 .f32 :=
  shapeCast _ a shapeCasts_S2048x512_S2048x8x2x2x16

/-- The normalised queries. -/
def normQ (k : FVec Ideal S32x2048x8x64 .f32) (g : FVec Ideal S1x512 .f32) : FVec Ideal S32x2048x8x64 .f32 :=
  mulf (mulf k (broadcastInDim S32x2048x8x64 ![0, 1, 2, 3] bcast_S32x2048x8x1_S32x2048x8x64_0_1_2_3 (Host.rsqrt (addf (Host.divf (broadcastInDim S32x2048x8x1 ![0, 1, 2] bcast_S32x2048x8_S32x2048x8x1_0_1_2 (Host.reduceAdd (mulf k k) (constant S_ .f32 0x00000000#32) reducesTo_S32x2048x8x64_S32x2048x8_d3 h_S_)) (broadcastInDim S32x2048x8x1 ![] bcast_S_S32x2048x8x1 (constant S_ .f32 0x42800000#32))) (broadcastInDim S32x2048x8x1 ![] bcast_S_S32x2048x8x1 (constant S_ .f32 0x358637BD#32)))))) (broadcastInDim S32x2048x8x64 ![0, 1, 2, 3] bcast_S1x1x8x64_S32x2048x8x64_0_1_2_3 (broadcastInDim S1x1x8x64 ![2, 3] bcast_S8x64_S1x1x8x64_2_3 (shapeCast _ g shapeCasts_S1x512_S8x64)))

/-- The queries by halves. -/
def halvesQ (k : FVec Ideal S32x2048x8x64 .f32) : FVec Ideal S32x2048x8x2x2x16 .f32 :=
  shapeCast _ k shapeCasts_S32x2048x8x64_S32x2048x8x2x2x16

/-- The first halves. -/
def firstQ (k : FVec Ideal S32x2048x8x2x2x16 .f32) : FVec Ideal S32x2048x8x2x16 .f32 :=
  shapeCast _ (extractStridedSlice S32x2048x8x2x1x16 ![0, 0, 0, 0, 0, 0] k slices_S32x2048x8x2x2x16_S32x2048x8x2x1x16_0_0_0_0_0_0) shapeCasts_S32x2048x8x2x1x16_S32x2048x8x2x16

/-- The second halves. -/
def secondQ (k : FVec Ideal S32x2048x8x2x2x16 .f32) : FVec Ideal S32x2048x8x2x16 .f32 :=
  shapeCast _ (extractStridedSlice S32x2048x8x2x1x16 ![0, 0, 0, 0, 1, 0] k slices_S32x2048x8x2x2x16_S32x2048x8x2x1x16_0_0_0_0_1_0) shapeCasts_S32x2048x8x2x1x16_S32x2048x8x2x16

/-- The rotated first halves. -/
def lowQ (f s : FVec Ideal S32x2048x8x2x16 .f32) (c z : FVec Ideal S2048x8x2x2x16 .f32) : FVec Ideal S32x2048x8x2x1x16 .f32 :=
  (broadcastInDim S32x2048x8x2x1x16 ![0, 1, 2, 3, 5] bcast_S32x2048x8x2x16_S32x2048x8x2x1x16_0_1_2_3_5 (addf (mulf f (broadcastInDim S32x2048x8x2x16 ![0, 1, 2, 3, 4] bcast_S1x2048x8x2x16_S32x2048x8x2x16_0_1_2_3_4 (broadcastInDim S1x2048x8x2x16 ![1, 2, 3, 4] bcast_S2048x8x2x16_S1x2048x8x2x16_1_2_3_4 (shapeCast _ (extractStridedSlice S2048x8x2x1x16 ![0, 0, 0, 0, 0] c slices_S2048x8x2x2x16_S2048x8x2x1x16_0_0_0_0_0) shapeCasts_S2048x8x2x1x16_S2048x8x2x16)))) (mulf s (broadcastInDim S32x2048x8x2x16 ![0, 1, 2, 3, 4] bcast_S1x2048x8x2x16_S32x2048x8x2x16_0_1_2_3_4 (broadcastInDim S1x2048x8x2x16 ![1, 2, 3, 4] bcast_S2048x8x2x16_S1x2048x8x2x16_1_2_3_4 (shapeCast _ (extractStridedSlice S2048x8x2x1x16 ![0, 0, 0, 0, 0] z slices_S2048x8x2x2x16_S2048x8x2x1x16_0_0_0_0_0) shapeCasts_S2048x8x2x1x16_S2048x8x2x16))))))

/-- The rotated second halves. -/
def highQ (f s : FVec Ideal S32x2048x8x2x16 .f32) (c z : FVec Ideal S2048x8x2x2x16 .f32) : FVec Ideal S32x2048x8x2x1x16 .f32 :=
  (broadcastInDim S32x2048x8x2x1x16 ![0, 1, 2, 3, 5] bcast_S32x2048x8x2x16_S32x2048x8x2x1x16_0_1_2_3_5 (addf (mulf s (broadcastInDim S32x2048x8x2x16 ![0, 1, 2, 3, 4] bcast_S1x2048x8x2x16_S32x2048x8x2x16_0_1_2_3_4 (broadcastInDim S1x2048x8x2x16 ![1, 2, 3, 4] bcast_S2048x8x2x16_S1x2048x8x2x16_1_2_3_4 (shapeCast _ (extractStridedSlice S2048x8x2x1x16 ![0, 0, 0, 1, 0] c slices_S2048x8x2x2x16_S2048x8x2x1x16_0_0_0_1_0) shapeCasts_S2048x8x2x1x16_S2048x8x2x16)))) (mulf f (broadcastInDim S32x2048x8x2x16 ![0, 1, 2, 3, 4] bcast_S1x2048x8x2x16_S32x2048x8x2x16_0_1_2_3_4 (broadcastInDim S1x2048x8x2x16 ![1, 2, 3, 4] bcast_S2048x8x2x16_S1x2048x8x2x16_1_2_3_4 (shapeCast _ (extractStridedSlice S2048x8x2x1x16 ![0, 0, 0, 1, 0] z slices_S2048x8x2x2x16_S2048x8x2x1x16_0_0_0_1_0) shapeCasts_S2048x8x2x1x16_S2048x8x2x16))))))

/-- The rotated and scaled queries. -/
def joinQ (u v : FVec Ideal S32x2048x8x2x1x16 .f32) : FVec Ideal S32x2048x512 .bf16 :=
  truncf .bf16 (mulf (shapeCast _ (concatenate S32x2048x8x2x2x16 4 [⟨S32x2048x8x2x1x16, u⟩, ⟨S32x2048x8x2x1x16, v⟩] concatenates_S32x2048x8x2x1x16_S32x2048x8x2x1x16_S32x2048x8x2x2x16_d4) shapeCasts_S32x2048x8x2x2x16_S32x2048x512) (broadcastInDim S32x2048x512 ![] bcast_S_S32x2048x512 (constant S_ .f32 0x3E000000#32))) bitsLt_bf16_f32

/-- The columns of the inner cell. -/
def cell (h : FVec Ideal S32x2048x1024 .f32) (a4 : FVec Ideal S1024x1536 .bf16) : FVec Ideal S32x2048x1536 .f32 :=
  Host.dotGeneral dot_S32x2048x1024_S1024x1536_S32x2048x1536_2_0_01_1_n_n none h (extf .f32 a4 bitsLt_bf16_f32)

/-- The gates before the logistic function. -/
def pre (h : FVec Ideal S32x2048x1024 .f32) (a5 : FVec Ideal S1024x128 .bf16) (a6 : FVec Ideal S1x128 .f32) : FVec Ideal S32x2048x128 .f32 :=
  addf (Host.dotGeneral dot_S32x2048x1024_S1024x128_S32x2048x128_2_0_01_1_n_n none h (extf .f32 a5 bitsLt_bf16_f32)) (broadcastInDim S32x2048x128 ![0, 1, 2] bcast_S1x1x128_S32x2048x128_0_1_2 (broadcastInDim S1x1x128 ![1, 2] bcast_S1x128_S1x1x128_1_2 a6))

/-- The negated gates. -/
def minus (p : FVec Ideal S32x2048x128 .f32) : FVec Ideal S32x2048x120 .f32 :=
  Host.negf (extractStridedSlice S32x2048x120 ![0, 0, 8] p slices_S32x2048x128_S32x2048x120_0_0_8)

/-- The negated gates less zero. -/
def diff (n : FVec Ideal S32x2048x120 .f32) : FVec Ideal S32x2048x120 .f32 :=
  subf n (broadcastInDim S32x2048x120 ![] bcast_S_S32x2048x120 (constant S_ .f32 0x00000000#32))

/-- The logarithm of the logistic function. -/
def soft (n d : FVec Ideal S32x2048x120 .f32) : FVec Ideal S32x2048x120 .f32 :=
  (Host.negf (select (cmpf .une d d) (addf n (broadcastInDim S32x2048x120 ![] bcast_S_S32x2048x120 (constant S_ .f32 0x00000000#32))) (addf (maximumf n (broadcastInDim S32x2048x120 ![] bcast_S_S32x2048x120 (constant S_ .f32 0x00000000#32))) (Host.log1p (Host.exp (Host.negf (Host.absf d)))))))

/-- The gates. -/
def gates (p : FVec Ideal S32x2048x128 .f32) (q : FVec Ideal S32x2048x120 .f32) : FVec Ideal S32x2048x128 .f32 :=
  concatenate S32x2048x128 2 [⟨S32x2048x8, (extractStridedSlice S32x2048x8 ![0, 0, 0] p slices_S32x2048x128_S32x2048x8_0_0_0)⟩, ⟨S32x2048x120, q⟩] concatenates_S32x2048x8_S32x2048x120_S32x2048x128_d2

/-- The gates by rows. -/
def turned (g : FVec Ideal S32x2048x128 .f32) : FVec Ideal S32x16x2048 .f32 :=
  transpose S32x16x2048 [0, 2, 1] (extractStridedSlice S32x2048x16 ![0, 0, 0] g slices_S32x2048x128_S32x2048x16_0_0_0) transposes_S32x2048x16_S32x16x2048_0_2_1

/-- The value columns. -/
def outK (p : FVec Ideal S32x2048x256 .f32) : FVec Ideal S32x2048x128 .bf16 :=
  truncf .bf16 (extractStridedSlice S32x2048x128 ![0, 0, 128] p slices_S32x2048x256_S32x2048x128_0_0_128) bitsLt_bf16_f32

/-- The query and key columns of the inner cell. -/
def outM (p : FVec Ideal S32x2048x1536 .f32) : FVec Ideal S32x2048x1024 .bf16 :=
  truncf .bf16 (extractStridedSlice S32x2048x1024 ![0, 0, 0] p slices_S32x2048x1536_S32x2048x1024_0_0_0) bitsLt_bf16_f32

/-- The value columns of the inner cell. -/
def outV (p : FVec Ideal S32x2048x1536 .f32) : FVec Ideal S32x2048x512 .bf16 :=
  truncf .bf16 (extractStridedSlice S32x2048x512 ![0, 0, 1024] p slices_S32x2048x1536_S32x2048x512_0_0_1024) bitsLt_bf16_f32

/-- The output gate columns. -/
def outO (h : FVec Ideal S32x2048x1024 .f32) (a9 : FVec Ideal S1024x512 .bf16) : FVec Ideal S32x2048x512 .bf16 :=
  truncf .bf16 (Host.dotGeneral dot_S32x2048x1024_S1024x512_S32x2048x512_2_0_01_1_n_n none h (extf .f32 a9 bitsLt_bf16_f32)) bitsLt_bf16_f32

/-- The merge gate columns. -/
def outG (h : FVec Ideal S32x2048x1024 .f32) (a10 : FVec Ideal S1024x2048 .bf16) : FVec Ideal S32x2048x2048 .bf16 :=
  truncf .bf16 (Host.dotGeneral dot_S32x2048x1024_S1024x2048_S32x2048x2048_2_0_01_1_n_n none h (extf .f32 a10 bitsLt_bf16_f32)) bitsLt_bf16_f32

variable (b : Fin 32) (s : Fin 2048)

/-- The normalised rows at an index. -/
theorem rows_at (a0 : FVec Ideal S32x2048x1024 .f32) (a1 : FVec Ideal S40x6x1x1024 .f32) (a2 : FVec Ideal S1x1024 .f32) (k : Fin 1024) :
    rows a0 a1 a2 (ix3 b s k) = Inproj.hrow (fun i => a0 (ix3 b s i)) (fun i => a2 (ix2 0 i)) (fun i => a1 (ix4 ⟨b, by omega⟩ 1 0 i)) (fun i => a1 (ix4 ⟨b, by omega⟩ 0 0 i)) k := by
  pointwise [rows]
  rfl

variable (h : FVec Ideal S32x2048x1024 .f32)

/-- The key and value columns at an index. -/
theorem kv_at (a3 : FVec Ideal S1024x256 .bf16) (j : Fin 256) : kv h a3 (ix3 b s j) = Inproj.proj (fun i => h (ix3 b s i)) (fun i j => a3 (ix2 i j)) j := by
  pointwise [kv]
  rfl

/-- The keys by heads at an index. -/
theorem keys_at (p : FVec Ideal S32x2048x256 .f32) (g : Fin 2) (d : Fin 64) : keys p (ix4 b s g d) = p (ix3 b s ⟨(g : ℕ) * 64 + d, by omega⟩) := by
  pointwise [keys]

/-- The angles of the keys at an index. -/
theorem cut_at (a : FVec Ideal S2048x512 .f32) (g u v : Fin 2) (d : Fin 16) : cut a (ix5 s g u v d) = a (ix2 s ⟨(g : ℕ) * 64 + (u : ℕ) * 32 + (v : ℕ) * 16 + d, by omega⟩) := by
  pointwise [cut]

/-- The normalised keys at an index. -/
theorem normK_at (k : FVec Ideal S32x2048x2x64 .f32) (f : FVec Ideal S1x128 .f32) (g : Fin 2) (d : Fin 64) :
    normK k f (ix4 b s g d) = k (ix4 b s g d) * Ideal.rsqrt (Ideal.div (∑ d, k (ix4 b s g d) * k (ix4 b s g d)) (Ideal.ofBits .f32 0x42800000#32) + Inproj.eps) * f (ix2 0 ⟨(g : ℕ) * 64 + d, by omega⟩) := by
  pointwise [normK]

/-- The keys by halves at an index. -/
theorem halvesK_at (k : FVec Ideal S32x2048x2x64 .f32) (g u v : Fin 2) (d : Fin 16) : halvesK k (ix6 b s g u v d) = k (ix4 b s g ⟨(u : ℕ) * 32 + (v : ℕ) * 16 + d, by omega⟩) := by
  pointwise [halvesK]

/-- The first halves at an index. -/
theorem firstK_at (k : FVec Ideal S32x2048x2x2x2x16 .f32) (g u : Fin 2) (d : Fin 16) : firstK k (ix5 b s g u d) = k (ix6 b s g u 0 d) := by
  pointwise [firstK]

/-- The second halves at an index. -/
theorem secondK_at (k : FVec Ideal S32x2048x2x2x2x16 .f32) (g u : Fin 2) (d : Fin 16) : secondK k (ix5 b s g u d) = k (ix6 b s g u 1 d) := by
  pointwise [secondK]

/-- The rotated first halves at an index. -/
theorem lowK_at (f t : FVec Ideal S32x2048x2x2x16 .f32) (c z : FVec Ideal S2048x2x2x2x16 .f32) (g u : Fin 2) (d : Fin 16) :
    lowK f t c z (ix6 b s g u 0 d) = f (ix5 b s g u d) * c (ix5 s g u 0 d) + t (ix5 b s g u d) * z (ix5 s g u 0 d) := by
  pointwise [lowK]

/-- The rotated second halves at an index. -/
theorem highK_at (f t : FVec Ideal S32x2048x2x2x16 .f32) (c z : FVec Ideal S2048x2x2x2x16 .f32) (g u : Fin 2) (d : Fin 16) :
    highK f t c z (ix6 b s g u 0 d) = t (ix5 b s g u d) * c (ix5 s g u 1 d) + f (ix5 b s g u d) * z (ix5 s g u 1 d) := by
  pointwise [highK]

/-- The rotated keys at an index. -/
theorem joinK_at (u v : FVec Ideal S32x2048x2x2x1x16 .f32) (j : Fin 128) :
    joinK u v (ix3 b s j) = if (j : ℕ) % 32 < 16 then u (ix6 b s ⟨(j : ℕ) / 64, by omega⟩ ⟨(j : ℕ) / 32 % 2, by omega⟩ 0 ⟨(j : ℕ) % 16, by omega⟩)
      else v (ix6 b s ⟨(j : ℕ) / 64, by omega⟩ ⟨(j : ℕ) / 32 % 2, by omega⟩ 0 ⟨(j : ℕ) % 16, by omega⟩) := by
  pointwise [joinK]
  by_cases hj : (j : ℕ) % 32 < 16
  · have e : (j : ℕ) / 16 % 2 = 0 := by omega
    simp only [e, hj, if_true, dif_pos (show 0 < 1 by norm_num)]
    rfl
  · have e : (j : ℕ) / 16 % 2 = 1 := by omega
    simp only [e, hj, if_false, dif_neg (show ¬ 1 < 1 by norm_num)]
    rfl

/-- The columns of the inner cell at an index. -/
theorem cell_at (a4 : FVec Ideal S1024x1536 .bf16) (j : Fin 1536) : cell h a4 (ix3 b s j) = Inproj.proj (fun i => h (ix3 b s i)) (fun i j => a4 (ix2 i j)) j := by
  pointwise [cell]
  rfl

/-- The gates before the logistic function at an index. -/
theorem pre_at (a5 : FVec Ideal S1024x128 .bf16) (a6 : FVec Ideal S1x128 .f32) (j : Fin 128) :
    pre h a5 a6 (ix3 b s j) = Inproj.proj (fun i => h (ix3 b s i)) (fun i j => a5 (ix2 i j)) j + a6 (ix2 0 j) := by
  pointwise [pre]
  rfl

/-- The logarithm of the logistic function at an index. -/
theorem soft_at (p : FVec Ideal S32x2048x128 .f32) (j : Fin 120) : soft (minus p) (diff (minus p)) (ix3 b s j) = Inproj.logSig (p (ix3 b s ⟨8 + j, by omega⟩)) := by
  rw [← Inproj.logSig_eq]
  pointwise [soft, minus, diff]
  rw [if_neg fun hne => hne rfl]
  rfl

/-- The gates at an index. -/
theorem gates_at (p : FVec Ideal S32x2048x128 .f32) (q : FVec Ideal S32x2048x120 .f32) (j : Fin 128) :
    gates p q (ix3 b s j) = if hj : (j : ℕ) < 8 then p (ix3 b s j) else q (ix3 b s ⟨j - 8, by omega⟩) := by
  pointwise [gates]

/-- The gates by rows at an index. -/
theorem turned_at (g : FVec Ideal S32x2048x128 .f32) (j : Fin 16) : turned g (ix3 b j s) = g (ix3 b s ⟨j, by omega⟩) := by
  pointwise [turned]

/-- The value columns at an index. -/
theorem outK_at (p : FVec Ideal S32x2048x256 .f32) (j : Fin 128) : outK p (ix3 b s j) = p (ix3 b s ⟨128 + j, by omega⟩) := by
  pointwise [outK]

/-- The query and key columns of the inner cell at an index. -/
theorem outM_at (p : FVec Ideal S32x2048x1536 .f32) (j : Fin 1024) : outM p (ix3 b s j) = p (ix3 b s ⟨j, by omega⟩) := by
  pointwise [outM]

/-- The value columns of the inner cell at an index. -/
theorem outV_at (p : FVec Ideal S32x2048x1536 .f32) (j : Fin 512) : outV p (ix3 b s j) = p (ix3 b s ⟨1024 + j, by omega⟩) := by
  pointwise [outV]

/-- The output gate columns at an index. -/
theorem outO_at (a9 : FVec Ideal S1024x512 .bf16) (j : Fin 512) : outO h a9 (ix3 b s j) = Inproj.proj (fun i => h (ix3 b s i)) (fun i j => a9 (ix2 i j)) j := by
  pointwise [outO]
  rfl

/-- The merge gate columns at an index. -/
theorem outG_at (a10 : FVec Ideal S1024x2048 .bf16) (j : Fin 2048) : outG h a10 (ix3 b s j) = Inproj.proj (fun i => h (ix3 b s i)) (fun i j => a10 (ix2 i j)) j := by
  pointwise [outG]
  rfl

/-- The queries by heads at an index. -/
theorem queries_at (a8 : FVec Ideal S1024x512 .bf16) (g : Fin 8) (d : Fin 64) :
    queries h a8 (ix4 b s g d) = Inproj.proj (fun i => h (ix3 b s i)) (fun i j => a8 (ix2 i j)) (⟨(g : ℕ) * 64 + d, by omega⟩ : Fin 512) := by
  pointwise [queries]
  rfl

/-- The angles of the queries at an index. -/
theorem wide_at (a : FVec Ideal S2048x512 .f32) (g : Fin 8) (u v : Fin 2) (d : Fin 16) : wide a (ix5 s g u v d) = a (ix2 s ⟨(g : ℕ) * 64 + (u : ℕ) * 32 + (v : ℕ) * 16 + d, by omega⟩) := by
  pointwise [wide]

/-- The normalised queries at an index. -/
theorem normQ_at (k : FVec Ideal S32x2048x8x64 .f32) (f : FVec Ideal S1x512 .f32) (g : Fin 8) (d : Fin 64) :
    normQ k f (ix4 b s g d) = k (ix4 b s g d) * Ideal.rsqrt (Ideal.div (∑ d, k (ix4 b s g d) * k (ix4 b s g d)) (Ideal.ofBits .f32 0x42800000#32) + Inproj.eps) * f (ix2 0 ⟨(g : ℕ) * 64 + d, by omega⟩) := by
  pointwise [normQ]

/-- The queries by halves at an index. -/
theorem halvesQ_at (k : FVec Ideal S32x2048x8x64 .f32) (g : Fin 8) (u v : Fin 2) (d : Fin 16) : halvesQ k (ix6 b s g u v d) = k (ix4 b s g ⟨(u : ℕ) * 32 + (v : ℕ) * 16 + d, by omega⟩) := by
  pointwise [halvesQ]

/-- The first halves at an index. -/
theorem firstQ_at (k : FVec Ideal S32x2048x8x2x2x16 .f32) (g : Fin 8) (u : Fin 2) (d : Fin 16) : firstQ k (ix5 b s g u d) = k (ix6 b s g u 0 d) := by
  pointwise [firstQ]

/-- The second halves at an index. -/
theorem secondQ_at (k : FVec Ideal S32x2048x8x2x2x16 .f32) (g : Fin 8) (u : Fin 2) (d : Fin 16) : secondQ k (ix5 b s g u d) = k (ix6 b s g u 1 d) := by
  pointwise [secondQ]

/-- The rotated first halves at an index. -/
theorem lowQ_at (f t : FVec Ideal S32x2048x8x2x16 .f32) (c z : FVec Ideal S2048x8x2x2x16 .f32) (g : Fin 8) (u : Fin 2) (d : Fin 16) :
    lowQ f t c z (ix6 b s g u 0 d) = f (ix5 b s g u d) * c (ix5 s g u 0 d) + t (ix5 b s g u d) * z (ix5 s g u 0 d) := by
  pointwise [lowQ]

/-- The rotated second halves at an index. -/
theorem highQ_at (f t : FVec Ideal S32x2048x8x2x16 .f32) (c z : FVec Ideal S2048x8x2x2x16 .f32) (g : Fin 8) (u : Fin 2) (d : Fin 16) :
    highQ f t c z (ix6 b s g u 0 d) = t (ix5 b s g u d) * c (ix5 s g u 1 d) + f (ix5 b s g u d) * z (ix5 s g u 1 d) := by
  pointwise [highQ]

/-- The rotated and scaled queries at an index. -/
theorem joinQ_at (u v : FVec Ideal S32x2048x8x2x1x16 .f32) (j : Fin 512) :
    joinQ u v (ix3 b s j) = (if (j : ℕ) % 32 < 16 then u (ix6 b s ⟨(j : ℕ) / 64, by omega⟩ ⟨(j : ℕ) / 32 % 2, by omega⟩ 0 ⟨(j : ℕ) % 16, by omega⟩)
      else v (ix6 b s ⟨(j : ℕ) / 64, by omega⟩ ⟨(j : ℕ) / 32 % 2, by omega⟩ 0 ⟨(j : ℕ) % 16, by omega⟩)) * Ideal.ofBits .f32 0x3E000000#32 := by
  pointwise [joinQ]
  by_cases hj : (j : ℕ) % 32 < 16
  · have e : (j : ℕ) / 16 % 2 = 0 := by omega
    simp only [e, hj, if_true, dif_pos (show 0 < 1 by norm_num)]
    rfl
  · have e : (j : ℕ) / 16 % 2 = 1 := by omega
    simp only [e, hj, if_false, dif_neg (show ¬ 1 < 1 by norm_num)]
    rfl

end Cert.InprojReferenceIdeal.Hand

end
-- ==== Proof.Inproj.Body.lean ====
/- What the input projection kernel writes, read at an index of its blocks. -/
module

public import proofs.«01_k».proof.Proof.Gen.InprojIdeal.Frame
public import proofs.«01_k».proof.Proof.Inproj.Math
public import Idealize.ShloMosaic.Lib.Claim
public import Idealize.ShloMosaic.Lib.Pipeline.ValueKit
public import Idealize.ShloMosaic.Lib.Pointwise

@[expose] public section

set_option maxRecDepth 16384

noncomputable section

namespace Cert.InprojIdeal.Body

open Idealize.ShloMosaic Idealize.ShloMosaic.TcCoe Idealize.SL.Sem
open Cert.InprojIdeal Cert.InprojIdeal.Gen

variable (x0 : Vec Ideal S1x256x1024 .f32) (x1 x2 : Vec Ideal S1x1x1x1024 .f32) (x3 : Vec Ideal S1x1024 .f32)

/-- The normalised row of a token of the block. -/
def hb (r : Fin 256) (k : Fin 1024) : EReal :=
  Inproj.hrow (fun i => x0 (ix3 0 r i)) (fun i => x3 (ix2 0 i)) (fun i => x2 (ix4 0 0 0 i)) (fun i => x1 (ix4 0 0 0 i)) k

/-- The normalised rows at an index. -/
theorem hb_at (r : Fin 256) (k : Fin 1024) : k0_pay4 x0 x3 x2 x1 (ix2 r k) = hb x0 x1 x2 x3 r k := by
  pointwise [k0_pay4]
  rfl

/-- The products with the key and value columns at an index. -/
theorem kv_at (w : Vec Ideal S1024x256 .bf16) (r : Fin 256) (j : Fin 256) :
    k0_pay5 x0 x3 x2 x1 w (ix2 r j) = Inproj.proj (hb x0 x1 x2 x3 r) (fun i j => w (ix2 i j)) j := by
  pointwise [k0_pay5]
  simp only [hb_at]
  rfl

/-- The values' columns at an index. -/
theorem v_at (w : FVec Ideal S256x256 .f32) (r : Fin 256) (j : Fin 128) :
    k0_pay15 w (ix3 0 r j) = w (ix2 r ⟨128 + j, by omega⟩) := by
  pointwise [k0_pay15]

variable (h : FVec Ideal S256x1024 .bf16)

/-- The products with the first columns of the inner cell's weight at an index. -/
theorem mqk_at (w : Vec Ideal S1024x1536 .bf16) (r : Fin 256) (j : Fin 1024) :
    k0_pay17 h w (ix3 0 r j) = Inproj.proj (fun i => h (ix2 r i)) (fun i j => w (ix2 i j)) (⟨j, by omega⟩ : Fin 1536) := by
  pointwise [k0_pay17, k0_pay16]
  rfl

/-- The products with the last columns of the inner cell's weight at an index. -/
theorem mv_at (w : Vec Ideal S1024x1536 .bf16) (r : Fin 256) (j : Fin 512) :
    k0_pay18 h w (ix3 0 r j) = Inproj.proj (fun i => h (ix2 r i)) (fun i j => w (ix2 i j)) (⟨1024 + j, by omega⟩ : Fin 1536) := by
  pointwise [k0_pay18, k0_pay16]
  rfl

/-- The products with the output gate's weight at an index. -/
theorem mo_at (w : Vec Ideal S1024x512 .bf16) (r : Fin 256) (j : Fin 512) :
    k0_pay2 h w (ix3 0 r j) = Inproj.proj (fun i => h (ix2 r i)) (fun i j => w (ix2 i j)) j := by
  pointwise [k0_pay2]
  rfl

/-- The products with the merge gates' weight at an index. -/
theorem gg_at (w : Vec Ideal S1024x2048 .bf16) (r : Fin 256) (j : Fin 2048) :
    k0_pay3 h w (ix3 0 r j) = Inproj.proj (fun i => h (ix2 r i)) (fun i j => w (ix2 i j)) j := by
  pointwise [k0_pay3]
  rfl

/-- A choice by a decided bit. -/
theorem sel (p : Prop) [Decidable p] (a b : EReal) : Scalar.select (if p then 1#1 else 0#1) a b = if p then a else b := by
  by_cases hp : p
  · rw [if_pos hp, if_pos hp]; rfl
  · rw [if_neg hp, if_neg hp]; rfl

/-- A gate's lane at an index. -/
theorem gc_at (w : Vec Ideal S1024x128 .bf16) (b : Vec Ideal S1x128 .f32) (r : Fin 256) (j : Fin 128) :
    k0_pay22 (k0_pay19 h w b) k0_pay20 k0_pay21 (ix3 0 r j)
      = Inproj.gate j (Inproj.proj (fun i => h (ix2 r i)) (fun i j => w (ix2 i j)) j + b (ix2 0 j)) := by
  have hs : ∀ l : Fin 128, IntOp.cmpi .slt (BitVec.ofNat 32 (l : ℕ)) 8#32 = if (l : ℕ) < 8 then 1#1 else 0#1 := by decide
  pointwise [k0_pay22, k0_pay19, k0_pay20, k0_pay21]
  rw [hs, sel]
  rfl

/-- A gate's row at an index. -/
theorem gt_at (w : Vec Ideal S1024x128 .bf16) (b : Vec Ideal S1x128 .f32) (l : Fin 16) (r : Fin 256) :
    k0_pay23 h w b (ix3 0 l r)
      = Inproj.gate l (Inproj.proj (fun i => h (ix2 r i)) (fun i j => w (ix2 i j)) (⟨l, by omega⟩ : Fin 128) + b (ix2 0 ⟨l, by omega⟩)) := by
  have hs : ∀ l : Fin 16, IntOp.cmpi .slt (BitVec.ofNat 32 (l : ℕ)) 8#32 = if (l : ℕ) < 8 then 1#1 else 0#1 := by decide
  pointwise [k0_pay23]
  rw [hs, sel]
  simp only [mul_comm (w _)]
  rfl

/-- A lane's index within 32 lanes is below sixteen, as the kernel decides it. -/
theorem low_lane : ∀ j : Fin 512, IntOp.cmpi .slt
      (Scalar.select
        (IntOp.andi
          (IntOp.xori (IntOp.cmpi .slt (IntOp.remsi .vector (BitVec.ofNat 32 (j : ℕ)) (Scalar.select (Scalar.cmpi .eq 32#32 0#32) 1#32 32#32)) 0#32)
            (Scalar.cmpi .slt (Scalar.select (Scalar.cmpi .eq 32#32 0#32) 1#32 32#32) 0#32))
          (IntOp.cmpi .ne (IntOp.remsi .vector (BitVec.ofNat 32 (j : ℕ)) (Scalar.select (Scalar.cmpi .eq 32#32 0#32) 1#32 32#32)) 0#32))
        (IntOp.addi (IntOp.remsi .vector (BitVec.ofNat 32 (j : ℕ)) (Scalar.select (Scalar.cmpi .eq 32#32 0#32) 1#32 32#32)) (Scalar.select (Scalar.cmpi .eq 32#32 0#32) 1#32 32#32))
        (IntOp.remsi .vector (BitVec.ofNat 32 (j : ℕ)) (Scalar.select (Scalar.cmpi .eq 32#32 0#32) 1#32 32#32)))
      16#32 = if (j : ℕ) % 32 < 16 then 1#1 else 0#1 := by decide +kernel

/-- The lanes of the keys whose partner is further along. -/
theorem mask_at (r : Fin 256) (j : Fin 128) : k0_pay11 (ix2 r j) = if (j : ℕ) % 32 < 16 then 1#1 else 0#1 := by
  pointwise [k0_pay11]
  exact low_lane ⟨j, by omega⟩

/-- The choice between the two rotations is the partner lane. -/
theorem partner_at {n : ℕ} (hn : n % 64 = 0) (f : Fin n → EReal) (j u v : Fin n) (hu : (u : ℕ) = (j + n - (n - 16)) % n) (hv : (v : ℕ) = (j + n - 16) % n) :
    (if (j : ℕ) % 32 < 16 then f u else f v) = f (Inproj.partner hn j) := by
  have hj := j.isLt
  have h64 : 64 ≤ n := by omega
  unfold Inproj.partner
  by_cases hp : (j : ℕ) % 32 < 16
  · rw [if_pos hp, dif_pos hp]
    congr 1
    refine Fin.ext ?_
    rw [hu]
    have : (j : ℕ) + n - (n - 16) = j + 16 := by omega
    rw [this, Nat.mod_eq_of_lt (by omega)]
  · rw [if_neg hp, dif_neg hp]
    congr 1
    refine Fin.ext ?_
    rw [hv]
    have : (j : ℕ) + n - 16 = (j - 16) + n := by omega
    rw [this, Nat.add_mod_right, Nat.mod_eq_of_lt (by omega)]

/-- The rotated key columns at an index. -/
theorem kr_at (a : FVec Ideal S256x128 .f32) (c s : Vec Ideal S256x128 .f32) (r : Fin 256) (j : Fin 128) (p29 p31 p32 p33) :
    k0_pay14 (k0_pay10 a p29 p31 p32 p33) c s k0_pay11 (k0_pay12 a p29 p31 p32 p33) (k0_pay13 a p29 p31 p32 p33) (ix3 0 r j)
      = Inproj.rope (n := 128) (by norm_num) (fun j => k0_pay10 a p29 p31 p32 p33 (ix2 r j)) (fun j => c (ix2 r j)) (fun j => s (ix2 r j)) j := by
  pointwise [k0_pay14, k0_pay12, k0_pay13]
  rw [mask_at, sel, partner_at (n := 128) (by norm_num) (fun j => k0_pay10 a p29 p31 p32 p33 (ix2 r j)) j _ _ rfl rfl]
  rfl

/-- The rotated and scaled query columns at an index. -/
theorem qr_at (a : FVec Ideal S256x512 .f32) (c s : Vec Ideal S256x512 .f32) (r : Fin 256) (j : Fin 512) :
    k0_pay1 a c s (Scalar.select (Scalar.cmpi .eq 32#32 0#32) 1#32 32#32) k0_pay25 k0_pay26 k0_pay27 k0_pay28 (ix3 0 r j)
      = Inproj.rope (n := 512) (by norm_num) (fun j => a (ix2 r j)) (fun j => c (ix2 r j)) (fun j => s (ix2 r j)) j * Ideal.ofBits .f32 0x3E000000#32 := by
  pointwise [k0_pay1, k0_pay25, k0_pay26, k0_pay27, k0_pay28]
  rw [low_lane j, sel, partner_at (n := 512) (by norm_num) (fun j => a (ix2 r j)) j _ _ rfl rfl]
  rfl

/-- The normalised key columns at an index, for real products and a matrix of ones within the heads. -/
theorem kn_at (w : Vec Ideal S1024x256 .bf16) (g : Vec Ideal S1x128 .f32) (d : Vec Ideal S128x128 .bf16) (r : Fin 256) (j : Fin 128)
    (hd : ∀ i j : Fin 128, d (ix2 i j) = if (i : ℕ) / 64 = (j : ℕ) / 64 then 1 else 0)
    (hp : ∀ i : Fin 128, ∃ q : ℝ, Inproj.proj (hb x0 x1 x2 x3 r) (fun i j => w (ix2 i j)) (⟨i, by omega⟩ : Fin 256) = q) :
    k0_pay10 (k0_pay6 x0 x3 x2 x1 w) g (k0_pay7 d) (k0_pay8 x0 x3 x2 x1 w) (k0_pay9 x0 x3 x2 x1 w) (ix2 r j)
      = Inproj.normed (n := 128) (by norm_num) (fun j => Inproj.proj (hb x0 x1 x2 x3 r) (fun i j => w (ix2 i j)) (⟨j, by omega⟩ : Fin 256)) (fun j => g (ix2 0 j)) j := by
  pointwise [k0_pay10, k0_pay6, k0_pay7, k0_pay8, k0_pay9]
  simp only [kv_at]
  unfold Inproj.normed
  rw [← Inproj.split_sum (n := 128) (by norm_num) _ (fun i => d (ix2 i j)) j hp (fun i => hd i j)]

/-- The normalised query columns at an index, for real products and a matrix of ones within the heads. -/
theorem qn_at (w : Vec Ideal S1024x512 .bf16) (g : Vec Ideal S1x512 .f32) (d : Vec Ideal S512x512 .bf16) (r : Fin 256) (j : Fin 512)
    (hd : ∀ i j : Fin 512, d (ix2 i j) = if (i : ℕ) / 64 = (j : ℕ) / 64 then 1 else 0)
    (hp : ∀ i : Fin 512, ∃ q : ℝ, Inproj.proj (fun i => h (ix2 r i)) (fun i j => w (ix2 i j)) i = q) :
    k0_pay24 h w g d (ix2 r j)
      = Inproj.normed (n := 512) (by norm_num) (Inproj.proj (fun i => h (ix2 r i)) (fun i j => w (ix2 i j))) (fun j => g (ix2 0 j)) j := by
  pointwise [k0_pay24]
  unfold Inproj.normed
  rw [← Inproj.split_sum (n := 512) (by norm_num) _ (fun i => d (ix2 i j)) j hp (fun i => hd i j)]
  rfl

end Cert.InprojIdeal.Body

end
-- ==== Proof.Inproj.Final.lean ====
/- The input projection kernel's nine results as functions of its arguments. -/
module

public import proofs.«01_k».proof.Proof.Inproj.Body

@[expose] public section

set_option maxRecDepth 16384

noncomputable section

namespace Cert.InprojIdeal.Body

open Idealize.ShloMosaic Idealize.ShloMosaic.TcCoe Idealize.SL.Sem
open Cert.InprojIdeal Cert.InprojIdeal.Gen

variable (m : (ℓ : Loc nD τ sig) → Buf (Elt Ideal) ℓ) (c : Dev nD)

/-- Zero offsets of two, three and four axes. -/
theorem origin2 : ∀ a : Fin 2, (![0, 0] : Fin 2 → ℕ) a = 0 := by decide
theorem origin3 : ∀ a : Fin 3, (![0, 0, 0] : Fin 3 → ℕ) a = 0 := by decide
theorem origin4 : ∀ a : Fin 4, (![0, 0, 0, 0] : Fin 4 → ℕ) a = 0 := by decide

/-- The block that each windowed array has at a grid point. -/
theorem idx : ∀ t : Fin cfg0.N, win0_0.index t = ![t.val % 32, t.val / 32, 0] ∧ win0_1.index t = ![t.val % 32, 0, 0, 0] ∧ win0_2.index t = ![t.val % 32, 1, 0, 0]
    ∧ win0_14.index t = ![t.val / 32, 0] ∧ win0_15.index t = ![t.val / 32, 0]
    ∧ win0_16.index t = ![t.val % 32, t.val / 32, 0] ∧ win0_17.index t = ![t.val % 32, t.val / 32, 0] ∧ win0_18.index t = ![t.val % 32, t.val / 32, 0]
    ∧ win0_19.index t = ![t.val % 32, t.val / 32, 0] ∧ win0_20.index t = ![t.val % 32, t.val / 32, 0] ∧ win0_21.index t = ![t.val % 32, 0, t.val / 32]
    ∧ win0_22.index t = ![t.val % 32, t.val / 32, 0] ∧ win0_23.index t = ![t.val % 32, t.val / 32, 0] ∧ win0_24.index t = ![t.val % 32, t.val / 32, 0] :=
  (by decide +kernel : ∀ t : Fin grid0.N, _)

/-- The arrays that are one block have the same block at every point. -/
theorem idx0 : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-- The sequence that a point works on. -/
def bOf (t : Fin cfg0.N) : Fin 32 := ⟨t.val % 32, Nat.mod_lt _ (by norm_num)⟩

/-- The token that a row of a point's block is. -/
def sOf (t : Fin cfg0.N) (r : Fin 256) : Fin 2048 := ⟨t.val / 32 * 256 + r, by have := lt_of_lt_of_eq t.isLt (by decide : cfg0.N = 256); omega⟩

/-- A token's normalised row from the arguments. -/
def H (X : FVec Ideal S32x2048x1024 .f32) (M : FVec Ideal S40x6x1x1024 .f32) (G : FVec Ideal S1x1024 .f32) (b : Fin 32) (s : Fin 2048) : Fin 1024 → EReal :=
  Inproj.hrow (fun i => X (ix3 b s i)) (fun i => G (ix2 0 i)) (fun i => M (ix4 ⟨b, by omega⟩ 1 0 i)) (fun i => M (ix4 ⟨b, by omega⟩ 0 0 i))

/-- The tokens' block at an index. -/
theorem in0 (t : Fin cfg0.N) (r : Fin 256) (k : Fin 1024) : iblk m c 0 t (ix3 0 r k) = m ((c.tc : Thread nD τ).loc main_arg0) (ix3 (bOf t) (sOf t r) k) := by
  rw [← V_main_arg0 m c]
  blk_point [iblk, idx t, bOf, sOf]

/-- The shifts' block at an index. -/
theorem in1 (t : Fin cfg0.N) (k : Fin 1024) : iblk m c 1 t (ix4 0 0 0 k) = m ((c.tc : Thread nD τ).loc main_arg1) (ix4 ⟨bOf t, by omega⟩ 0 0 k) := by
  rw [← V_main_arg1 m c]
  blk_point [iblk, idx t, bOf]

/-- The scales' block at an index. -/
theorem in2 (t : Fin cfg0.N) (k : Fin 1024) : iblk m c 2 t (ix4 0 0 0 k) = m ((c.tc : Thread nD τ).loc main_arg1) (ix4 ⟨bOf t, by omega⟩ 1 0 k) := by
  rw [← V_main_arg1 m c]
  blk_point [iblk, idx t, bOf]

/-- The norm's factors. -/
theorem in3 (t : Fin cfg0.N) (k : Fin 1024) : iblk m c 3 t (ix2 0 k) = m ((c.tc : Thread nD τ).loc main_arg2) (ix2 0 k) := by
  rw [← V_main_arg2 m c]
  blk_point [iblk, idx0 t]

/-- The key and value weight. -/
theorem in4 (t : Fin cfg0.N) (i : Fin 1024) (k : Fin 256) : iblk m c 4 t (ix2 i k) = m ((c.tc : Thread nD τ).loc main_arg3) (ix2 i k) := by
  rw [← V_main_arg3 m c]
  blk_point [iblk, idx0 t]

/-- The inner cell weight. -/
theorem in5 (t : Fin cfg0.N) (i : Fin 1024) (k : Fin 1536) : iblk m c 5 t (ix2 i k) = m ((c.tc : Thread nD τ).loc main_arg4) (ix2 i k) := by
  rw [← V_main_arg4 m c]
  blk_point [iblk, idx0 t]

/-- The gate weight. -/
theorem in6 (t : Fin cfg0.N) (i : Fin 1024) (k : Fin 128) : iblk m c 6 t (ix2 i k) = m ((c.tc : Thread nD τ).loc main_arg5) (ix2 i k) := by
  rw [← V_main_arg5 m c]
  blk_point [iblk, idx0 t]

/-- The query weight. -/
theorem in10 (t : Fin cfg0.N) (i : Fin 1024) (k : Fin 512) : iblk m c 10 t (ix2 i k) = m ((c.tc : Thread nD τ).loc main_arg8) (ix2 i k) := by
  rw [← V_main_arg8 m c]
  blk_point [iblk, idx0 t]

/-- The output gate weight. -/
theorem in11 (t : Fin cfg0.N) (i : Fin 1024) (k : Fin 512) : iblk m c 11 t (ix2 i k) = m ((c.tc : Thread nD τ).loc main_arg9) (ix2 i k) := by
  rw [← V_main_arg9 m c]
  blk_point [iblk, idx0 t]

/-- The merge gate weight. -/
theorem in12 (t : Fin cfg0.N) (i : Fin 1024) (k : Fin 2048) : iblk m c 12 t (ix2 i k) = m ((c.tc : Thread nD τ).loc main_arg10) (ix2 i k) := by
  rw [← V_main_arg10 m c]
  blk_point [iblk, idx0 t]

/-- The gate bias. -/
theorem in7 (t : Fin cfg0.N) (k : Fin 128) : iblk m c 7 t (ix2 0 k) = m ((c.tc : Thread nD τ).loc main_arg6) (ix2 0 k) := by
  rw [← V_main_arg6 m c]
  blk_point [iblk, idx0 t]

/-- The key norm factors. -/
theorem in8 (t : Fin cfg0.N) (k : Fin 128) : iblk m c 8 t (ix2 0 k) = m ((c.tc : Thread nD τ).loc main_arg7) (ix2 0 k) := by
  rw [← V_main_arg7 m c]
  blk_point [iblk, idx0 t]

/-- The query norm factors. -/
theorem in13 (t : Fin cfg0.N) (k : Fin 512) : iblk m c 13 t (ix2 0 k) = m ((c.tc : Thread nD τ).loc main_arg11) (ix2 0 k) := by
  rw [← V_main_arg11 m c]
  blk_point [iblk, idx0 t]

/-- The cosines of a block's rows. -/
theorem in14 (t : Fin cfg0.N) (r : Fin 256) (k : Fin 512) : iblk m c 14 t (ix2 r k) = m ((c.tc : Thread nD τ).loc main_arg12) (ix2 (sOf t r) k) := by
  rw [← V_main_arg12 m c]
  blk_point [iblk, idx t, sOf]

/-- The sines of a block's rows. -/
theorem in15 (t : Fin cfg0.N) (r : Fin 256) (k : Fin 512) : iblk m c 15 t (ix2 r k) = m ((c.tc : Thread nD τ).loc main_arg13) (ix2 (sOf t r) k) := by
  rw [← V_main_arg13 m c]
  blk_point [iblk, idx t, sOf]

/-- The matrix of ones within the heads, as the host computes it. -/
def ones : FVec Ideal S512x512 .bf16 :=
  uitofp .bf16 (cmpi .eq
      (broadcastInDim S512x512 ![0, 1] bcast_S512x1_S512x512_0_1 (broadcastInDim S512x1 ![0] bcast_S512_S512x1_0 (Host.divsi (iotaInDim S512 32 0) (broadcastInDim S512 ![] bcast_S_S512 (constantI S_ 32 64#32)))))
      (broadcastInDim S512x512 ![0, 1] bcast_S1x512_S512x512_0_1 (broadcastInDim S1x512 ![1] bcast_S512_S1x512_1 (Host.divsi (iotaInDim S512 32 0) (broadcastInDim S512 ![] bcast_S_S512 (constantI S_ 32 64#32))))))

/-- The array that the region finds is that matrix. -/
theorem V_ones : V m c main_v8 = ones := by
  unfold V
  simp only [hostOps0]
  after_results_simp
  rfl

/-- The matrix at an index. -/
theorem ones_at (i j : Fin 512) : ones (ix2 i j) = if (i : ℕ) / 64 = (j : ℕ) / 64 then (1 : EReal) else 0 := by
  have hdiv : ∀ i : Fin 512, IntOp.divsi .host (BitVec.ofNat 32 (i : ℕ)) 64#32 = BitVec.ofNat 32 ((i : ℕ) / 64) := by decide +kernel
  have heq : ∀ a b : Fin 8, IntOp.cmpi .eq (BitVec.ofNat 32 (a : ℕ)) (BitVec.ofNat 32 (b : ℕ)) = if (a : ℕ) = (b : ℕ) then 1#1 else 0#1 := by decide
  have h1 : FloatOps.uitofp (F := Ideal) .bf16 (1#1 : BitVec 1) = (1 : EReal) := by
    change (((1#1 : BitVec 1).toNat : ℝ) : EReal) = 1
    simp
  have h0 : FloatOps.uitofp (F := Ideal) .bf16 (0#1 : BitVec 1) = (0 : EReal) := by
    change (((0#1 : BitVec 1).toNat : ℝ) : EReal) = 0
    simp
  pointwise [ones]
  rw [hdiv, hdiv]
  have e := heq ⟨(i : ℕ) / 64, by omega⟩ ⟨(j : ℕ) / 64, by omega⟩
  simp only at e
  rw [e]
  by_cases h : (i : ℕ) / 64 = (j : ℕ) / 64
  · rw [if_pos h, if_pos h, h1]
  · rw [if_neg h, if_neg h, h0]

/-- The matrix's block at an index. -/
theorem in9 (t : Fin cfg0.N) (i j : Fin 512) : iblk m c 9 t (ix2 i j) = if (i : ℕ) / 64 = (j : ℕ) / 64 then (1 : EReal) else 0 := by
  rw [← ones_at, ← V_ones m c]
  blk_point [iblk, idx0 t]

/-- The normalised rows of a point's block are the tokens' rows. -/
theorem hb_eq (t : Fin cfg0.N) (r : Fin 256) : hb (iblk m c 0 t) (iblk m c 1 t) (iblk m c 2 t) (iblk m c 3 t) r
    = H (m ((c.tc : Thread nD τ).loc main_arg0)) (m ((c.tc : Thread nD τ).loc main_arg1)) (m ((c.tc : Thread nD τ).loc main_arg2)) (bOf t) (sOf t r) := by
  funext k
  unfold hb H
  simp only [in0, in1, in2, in3]

variable (x0 : Vec Ideal S1x256x1024 .f32) (x1 x2 : Vec Ideal S1x1x1x1024 .f32) (x3 : Vec Ideal S1x1024 .f32) (x4 : Vec Ideal S1024x256 .bf16) (x5 : Vec Ideal S1024x1536 .bf16) (x6 : Vec Ideal S1024x128 .bf16) (x7 x8 : Vec Ideal S1x128 .f32) (x9 : Vec Ideal S512x512 .bf16) (x10 x11 : Vec Ideal S1024x512 .bf16) (x12 : Vec Ideal S1024x2048 .bf16) (x13 : Vec Ideal S1x512 .f32) (x14 x15 : Vec Ideal S256x512 .f32)

/-- The normalised rows that the later products read. -/
theorem p29_at (r : Fin 256) : (fun k => k0_pay29 (F := Ideal) x0 x1 x2 x3 x4 x5 x6 x7 x8 x9 x10 x11 x12 x13 x14 x15 (ix2 r k)) = hb x0 x1 x2 x3 r := by
  funext k
  unfold k0_pay29
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  rw [e0, e1, e2, e3, hb_at]

/-- The value columns: the block from the input blocks. -/
theorem out17_at (r : Fin 256) (j : Fin 128) :
    out0_17 (F := Ideal) x0 x1 x2 x3 x4 x5 x6 x7 x8 x9 x10 x11 x12 x13 x14 x15 (ix3 0 r j)
      = Inproj.proj (hb x0 x1 x2 x3 r) (fun i j => x4 (ix2 i j)) (⟨128 + j, by omega⟩ : Fin 256) := by
  unfold out0_17
  rw [View.canon_cons_unit_lit (h := origin3)]
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  have e4 : View.ld x4 r0_3 = x4 := View.ld_unit_lit _ _ origin2
  rw [e0, e1, e2, e3, e4, v_at, kv_at]

/-- The value columns, from the arguments. -/
def G17 (X : FVec Ideal S32x2048x1024 .f32) (M : FVec Ideal S40x6x1x1024 .f32) (G : FVec Ideal S1x1024 .f32) (W : FVec Ideal S1024x256 .bf16) : FVec Ideal S32x2048x128 .bf16 :=
  fun j => Inproj.proj (H X M G (j 0) (j 1)) (fun i k => W (ix2 i k)) (⟨128 + (j 2 : ℕ), by have : (j 2 : ℕ) < 128 := (j 2).isLt; omega⟩ : Fin 256)

/-- The value columns: the kernel's result array. -/
theorem final17 : (dats m 0 c).arrAt 17 (cfgs 0).N
    = G17 (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 17 _ (by decide +kernel) fun t hf y => ?_
  blk_simp
  rw [after0_17]
  have hy : ∀ y : S1x256x128.Idx, (win0_17.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out17_at, hb_eq]
  simp only [in4]
  rfl

/-- The query and key columns of the inner cell: the block from the input blocks. -/
theorem out18_at (r : Fin 256) (j : Fin 1024) :
    out0_18 (F := Ideal) x0 x1 x2 x3 x4 x5 x6 x7 x8 x9 x10 x11 x12 x13 x14 x15 (ix3 0 r j)
      = Inproj.proj (hb x0 x1 x2 x3 r) (fun i j => x5 (ix2 i j)) (⟨j, by omega⟩ : Fin 1536) := by
  unfold out0_18
  rw [View.canon_cons_unit_lit (h := origin3)]
  have e5 : View.ld x5 r0_8 = x5 := View.ld_unit_lit _ _ origin2
  rw [e5, mqk_at, p29_at]

/-- The query and key columns of the inner cell, from the arguments. -/
def G18 (X : FVec Ideal S32x2048x1024 .f32) (M : FVec Ideal S40x6x1x1024 .f32) (G : FVec Ideal S1x1024 .f32) (W : FVec Ideal S1024x1536 .bf16) : FVec Ideal S32x2048x1024 .bf16 :=
  fun j => Inproj.proj (H X M G (j 0) (j 1)) (fun i k => W (ix2 i k)) (⟨(j 2 : ℕ), by have : (j 2 : ℕ) < 1024 := (j 2).isLt; omega⟩ : Fin 1536)

/-- The query and key columns of the inner cell: the kernel's result array. -/
theorem final18 : (dats m 0 c).arrAt 18 (cfgs 0).N
    = G18 (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 18 _ (by decide +kernel) fun t hf y => ?_
  blk_simp
  rw [after0_18]
  have hy : ∀ y : S1x256x1024.Idx, (win0_18.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out18_at, hb_eq]
  simp only [in5]
  rfl

/-- The value columns of the inner cell: the block from the input blocks. -/
theorem out19_at (r : Fin 256) (j : Fin 512) :
    out0_19 (F := Ideal) x0 x1 x2 x3 x4 x5 x6 x7 x8 x9 x10 x11 x12 x13 x14 x15 (ix3 0 r j)
      = Inproj.proj (hb x0 x1 x2 x3 r) (fun i j => x5 (ix2 i j)) (⟨1024 + j, by omega⟩ : Fin 1536) := by
  unfold out0_19
  rw [View.canon_cons_unit_lit (h := origin3)]
  have e5 : View.ld x5 r0_8 = x5 := View.ld_unit_lit _ _ origin2
  rw [e5, mv_at, p29_at]

/-- The value columns of the inner cell, from the arguments. -/
def G19 (X : FVec Ideal S32x2048x1024 .f32) (M : FVec Ideal S40x6x1x1024 .f32) (G : FVec Ideal S1x1024 .f32) (W : FVec Ideal S1024x1536 .bf16) : FVec Ideal S32x2048x512 .bf16 :=
  fun j => Inproj.proj (H X M G (j 0) (j 1)) (fun i k => W (ix2 i k)) (⟨1024 + (j 2 : ℕ), by have : (j 2 : ℕ) < 512 := (j 2).isLt; omega⟩ : Fin 1536)

/-- The value columns of the inner cell: the kernel's result array. -/
theorem final19 : (dats m 0 c).arrAt 19 (cfgs 0).N
    = G19 (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 19 _ (by decide +kernel) fun t hf y => ?_
  blk_simp
  rw [after0_19]
  have hy : ∀ y : S1x256x512.Idx, (win0_19.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out19_at, hb_eq]
  simp only [in5]
  rfl

/-- The gates by lanes: the block from the input blocks. -/
theorem out20_at (r : Fin 256) (j : Fin 128) :
    out0_20 (F := Ideal) x0 x1 x2 x3 x4 x5 x6 x7 x8 x9 x10 x11 x12 x13 x14 x15 (ix3 0 r j)
      = Inproj.gate j (Inproj.proj (hb x0 x1 x2 x3 r) (fun i j => x6 (ix2 i j)) j + x7 (ix2 0 j)) := by
  unfold out0_20
  rw [View.canon_cons_unit_lit (h := origin3)]
  have e6 : View.ld x6 r0_10 = x6 := View.ld_unit_lit _ _ origin2
  have e7 : View.ld x7 r0_4 = x7 := View.ld_unit_lit _ _ origin2
  rw [e6, e7, gc_at, p29_at]

/-- The gates by lanes, from the arguments. -/
def G20 (X : FVec Ideal S32x2048x1024 .f32) (M : FVec Ideal S40x6x1x1024 .f32) (G : FVec Ideal S1x1024 .f32) (W : FVec Ideal S1024x128 .bf16) (B : FVec Ideal S1x128 .f32) : FVec Ideal S32x2048x128 .f32 :=
  fun j => Inproj.gate (j 2 : ℕ) (Inproj.proj (H X M G (j 0) (j 1)) (fun i k => W (ix2 i k)) (j 2) + B (ix2 0 (j 2)))

/-- The gates by lanes: the kernel's result array. -/
theorem final20 : (dats m 0 c).arrAt 20 (cfgs 0).N
    = G20 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 20 _ (by decide +kernel) fun t hf y => ?_
  blk_simp
  rw [after0_20]
  have hy : ∀ y : S1x256x128.Idx, (win0_20.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out20_at, hb_eq]
  simp only [in6, in7]
  rfl

/-- The gates by rows: the block from the input blocks. -/
theorem out21_at (r : Fin 256) (j : Fin 16) :
    out0_21 (F := Ideal) x0 x1 x2 x3 x4 x5 x6 x7 x8 x9 x10 x11 x12 x13 x14 x15 (ix3 0 j r)
      = Inproj.gate j (Inproj.proj (hb x0 x1 x2 x3 r) (fun i j => x6 (ix2 i j)) (⟨j, by omega⟩ : Fin 128) + x7 (ix2 0 ⟨j, by omega⟩)) := by
  unfold out0_21
  rw [View.canon_cons_unit_lit (h := origin3)]
  have e6 : View.ld x6 r0_10 = x6 := View.ld_unit_lit _ _ origin2
  have e7 : View.ld x7 r0_4 = x7 := View.ld_unit_lit _ _ origin2
  rw [e6, e7, gt_at, p29_at]

/-- The gates by rows, from the arguments. -/
def G21 (X : FVec Ideal S32x2048x1024 .f32) (M : FVec Ideal S40x6x1x1024 .f32) (G : FVec Ideal S1x1024 .f32) (W : FVec Ideal S1024x128 .bf16) (B : FVec Ideal S1x128 .f32) : FVec Ideal S32x16x2048 .f32 :=
  fun j => Inproj.gate (j 1 : ℕ) (Inproj.proj (H X M G (j 0) (j 2)) (fun i k => W (ix2 i k)) (⟨(j 1 : ℕ), by have : (j 1 : ℕ) < 16 := (j 1).isLt; omega⟩ : Fin 128) + B (ix2 0 ⟨(j 1 : ℕ), by have : (j 1 : ℕ) < 16 := (j 1).isLt; omega⟩))

/-- The gates by rows: the kernel's result array. -/
theorem final21 : (dats m 0 c).arrAt 21 (cfgs 0).N
    = G21 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 21 _ (by decide +kernel) fun t hf y => ?_
  blk_simp
  rw [after0_21]
  have hy : ∀ y : S1x16x256.Idx, (win0_21.blk t).view.emb y = ix3 (bOf t) (y 1) (sOf t (y 2)) := by
    intro y
    idx_vars y
    obtain rfl : y0 = 0 := Subsingleton.elim _ _
    blk_ext [idx t, bOf, sOf]
  rw [hy y]
  idx_vars y
  obtain rfl : y0 = 0 := Subsingleton.elim _ _
  rw [out21_at, hb_eq]
  simp only [in6, in7]
  rfl

/-- The output gate columns: the block from the input blocks. -/
theorem out23_at (r : Fin 256) (j : Fin 512) :
    out0_23 (F := Ideal) x0 x1 x2 x3 x4 x5 x6 x7 x8 x9 x10 x11 x12 x13 x14 x15 (ix3 0 r j)
      = Inproj.proj (hb x0 x1 x2 x3 r) (fun i j => x11 (ix2 i j)) j := by
  unfold out0_23
  rw [View.canon_cons_unit_lit (h := origin3)]
  have e11 : View.ld x11 r0_12 = x11 := View.ld_unit_lit _ _ origin2
  rw [e11, mo_at, p29_at]

/-- The output gate columns, from the arguments. -/
def G23 (X : FVec Ideal S32x2048x1024 .f32) (M : FVec Ideal S40x6x1x1024 .f32) (G : FVec Ideal S1x1024 .f32) (W : FVec Ideal S1024x512 .bf16) : FVec Ideal S32x2048x512 .bf16 :=
  fun j => Inproj.proj (H X M G (j 0) (j 1)) (fun i k => W (ix2 i k)) (j 2)

/-- The output gate columns: the kernel's result array. -/
theorem final23 : (dats m 0 c).arrAt 23 (cfgs 0).N
    = G23 (m ((c.tc : Thread nD τ).loc main_arg0)) (m ((c.tc : Thread nD τ).loc main_arg1)) (m ((c.tc : Thread nD τ).loc main_arg2)) (m ((c.tc : Thread nD τ).loc main_arg9)) := by
  refine (dats m 0 c).arrAt_eq_of_covers 23 _ (by decide +kernel) fun t hf y => ?_
  blk_simp
  rw [after0_23]
  have hy : ∀ y : S1x256x512.Idx, (win0_23.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out23_at, hb_eq]
  simp only [in11]
  rfl

/-- The merge gate columns: the block from the input blocks. -/
theorem out24_at (r : Fin 256) (j : Fin 2048) :
    out0_24 (F := Ideal) x0 x1 x2 x3 x4 x5 x6 x7 x8 x9 x10 x11 x12 x13 x14 x15 (ix3 0 r j)
      = Inproj.proj (hb x0 x1 x2 x3 r) (fun i j => x12 (ix2 i j)) j := by
  unfold out0_24
  rw [View.canon_cons_unit_lit (h := origin3)]
  have e12 : View.ld x12 r0_16 = x12 := View.ld_unit_lit _ _ origin2
  rw [e12, gg_at, p29_at]

/-- The merge gate columns, from the arguments. -/
def G24 (X : FVec Ideal S32x2048x1024 .f32) (M : FVec Ideal S40x6x1x1024 .f32) (G : FVec Ideal S1x1024 .f32) (W : FVec Ideal S1024x2048 .bf16) : FVec Ideal S32x2048x2048 .bf16 :=
  fun j => Inproj.proj (H X M G (j 0) (j 1)) (fun i k => W (ix2 i k)) (j 2)

/-- The merge gate columns: the kernel's result array. -/
theorem final24 : (dats m 0 c).arrAt 24 (cfgs 0).N
    = G24 (m ((c.tc : Thread nD τ).loc main_arg0)) (m ((c.tc : Thread nD τ).loc main_arg1)) (m ((c.tc : Thread nD τ).loc main_arg2)) (m ((c.tc : Thread nD τ).loc main_arg10)) := by
  refine (dats m 0 c).arrAt_eq_of_covers 24 _ (by decide +kernel) fun t hf y => ?_
  blk_simp
  rw [after0_24]
  have hy : ∀ y : S1x256x2048.Idx, (win0_24.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out24_at, hb_eq]
  simp only [in12]
  rfl

/-- The query columns: the block from the input blocks. -/
theorem out22_at (r : Fin 256) (j : Fin 512)
    (hd : ∀ i j : Fin 512, x9 (ix2 i j) = if (i : ℕ) / 64 = (j : ℕ) / 64 then 1 else 0)
    (hp : ∀ i : Fin 512, ∃ q : ℝ, Inproj.proj (hb x0 x1 x2 x3 r) (fun i j => x10 (ix2 i j)) i = q) :
    out0_22 (F := Ideal) x0 x1 x2 x3 x4 x5 x6 x7 x8 x9 x10 x11 x12 x13 x14 x15 (ix3 0 r j)
      = Inproj.rope (n := 512) (by norm_num) (Inproj.normed (n := 512) (by norm_num) (Inproj.proj (hb x0 x1 x2 x3 r) (fun i j => x10 (ix2 i j))) (fun j => x13 (ix2 0 j))) (fun j => x14 (ix2 r j)) (fun j => x15 (ix2 r j)) j * Ideal.ofBits .f32 0x3E000000#32 := by
  unfold out0_22
  rw [View.canon_cons_unit_lit (h := origin3)]
  have e10 : View.ld x10 r0_12 = x10 := View.ld_unit_lit _ _ origin2
  have e13 : View.ld x13 r0_13 = x13 := View.ld_unit_lit _ _ origin2
  have e9 : View.ld x9 r0_14 = x9 := View.ld_unit_lit _ _ origin2
  have e14 : View.ld x14 r0_15 = x14 := View.ld_unit_lit _ _ origin2
  have e15 : View.ld x15 r0_15 = x15 := View.ld_unit_lit _ _ origin2
  rw [e10, e13, e9, e14, e15, qr_at]
  have hn : (fun j => k0_pay24 (k0_pay29 (F := Ideal) x0 x1 x2 x3 x4 x5 x6 x7 x8 x9 x10 x11 x12 x13 x14 x15) x10 x13 x9 (ix2 r j)) = Inproj.normed (n := 512) (by norm_num) (Inproj.proj (hb x0 x1 x2 x3 r) (fun i j => x10 (ix2 i j))) (fun j => x13 (ix2 0 j)) := by
    funext j
    rw [qn_at _ _ _ _ _ _ hd (by rw [p29_at]; exact hp), p29_at]
  rw [hn]

/-- The query columns, from the arguments. -/
def G22 (X : FVec Ideal S32x2048x1024 .f32) (M : FVec Ideal S40x6x1x1024 .f32) (G : FVec Ideal S1x1024 .f32) (W : FVec Ideal S1024x512 .bf16) (N : FVec Ideal S1x512 .f32) (C S : FVec Ideal S2048x512 .f32) : FVec Ideal S32x2048x512 .bf16 :=
  fun j => Inproj.rope (n := 512) (by norm_num) (Inproj.normed (n := 512) (by norm_num) (Inproj.proj (H X M G (j 0) (j 1)) (fun i k => W (ix2 i k))) (fun k => N (ix2 0 k))) (fun k => C (ix2 (j 1) k)) (fun k => S (ix2 (j 1) k)) (j 2) * Ideal.ofBits .f32 0x3E000000#32

/-- The query columns: the kernel's result array. -/
theorem final22
    (hreal : ∀ b s (i : Fin 512), ∃ q : ℝ, Inproj.proj (H (m ((c.tc : Thread nD τ).loc main_arg0)) (m ((c.tc : Thread nD τ).loc main_arg1)) (m ((c.tc : Thread nD τ).loc main_arg2)) b s) (fun i k => (m ((c.tc : Thread nD τ).loc main_arg8)) (ix2 i k)) i = q) : (dats m 0 c).arrAt 22 (cfgs 0).N
    = G22 (m ((c.tc : Thread nD τ).loc main_arg0)) (m ((c.tc : Thread nD τ).loc main_arg1)) (m ((c.tc : Thread nD τ).loc main_arg2)) (m ((c.tc : Thread nD τ).loc main_arg8)) (m ((c.tc : Thread nD τ).loc main_arg11)) (m ((c.tc : Thread nD τ).loc main_arg12)) (m ((c.tc : Thread nD τ).loc main_arg13)) := by
  refine (dats m 0 c).arrAt_eq_of_covers 22 _ (by decide +kernel) fun t hf y => ?_
  blk_simp
  rw [after0_22]
  have hy : ∀ y : S1x256x512.Idx, (win0_22.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out22_at (hd := in9 m c t) (hp := fun i => by rw [hb_eq]; simp only [in10]; exact hreal _ _ i), hb_eq]
  simp only [in10, in13, in14, in15]
  rfl

/-- The key columns: the block from the input blocks. -/
theorem out16_at (r : Fin 256) (j : Fin 128)
    (hd : ∀ i j : Fin 512, x9 (ix2 i j) = if (i : ℕ) / 64 = (j : ℕ) / 64 then 1 else 0)
    (hp : ∀ i : Fin 128, ∃ q : ℝ, Inproj.proj (hb x0 x1 x2 x3 r) (fun i j => x4 (ix2 i j)) (⟨i, by omega⟩ : Fin 256) = q) :
    out0_16 (F := Ideal) x0 x1 x2 x3 x4 x5 x6 x7 x8 x9 x10 x11 x12 x13 x14 x15 (ix3 0 r j)
      = Inproj.rope (n := 128) (by norm_num) (Inproj.normed (n := 128) (by norm_num) (fun j => Inproj.proj (hb x0 x1 x2 x3 r) (fun i j => x4 (ix2 i j)) (⟨j, by omega⟩ : Fin 256)) (fun j => x8 (ix2 0 j))) (fun j => x14 (ix2 r ⟨j, by omega⟩)) (fun j => x15 (ix2 r ⟨j, by omega⟩)) j := by
  unfold out0_16
  rw [View.canon_cons_unit_lit (h := origin3)]
  have e0 : View.ld x0 r0_0 = x0 := View.ld_unit_lit _ _ origin3
  have e1 : View.ld x1 r0_2 = x1 := View.ld_unit_lit _ _ origin4
  have e2 : View.ld x2 r0_2 = x2 := View.ld_unit_lit _ _ origin4
  have e3 : View.ld x3 r0_1 = x3 := View.ld_unit_lit _ _ origin2
  have e4 : View.ld x4 r0_3 = x4 := View.ld_unit_lit _ _ origin2
  have e8 : View.ld x8 r0_4 = x8 := View.ld_unit_lit _ _ origin2
  have ed : ∀ i j : Fin 128, View.ld x9 r0_5 (ix2 i j) = if (i : ℕ) / 64 = (j : ℕ) / 64 then (1 : EReal) else 0 := by
    intro i j
    rw [← hd ⟨i, by omega⟩ ⟨j, by omega⟩]
    pointwise []
    blk_ext
  have ec : ∀ j : Fin 128, View.ld x14 r0_6 (ix2 r j) = x14 (ix2 r ⟨j, by omega⟩) := by
    intro j
    pointwise []
    blk_ext
  have es : ∀ j : Fin 128, View.ld x15 r0_6 (ix2 r j) = x15 (ix2 r ⟨j, by omega⟩) := by
    intro j
    pointwise []
    blk_ext
  rw [kr_at]
  unfold k0_pay33 k0_pay32 k0_pay31 k0_pay30
  rw [e0, e1, e2, e3, e4, e8]
  simp only [kn_at _ _ _ _ _ _ _ _ _ ed hp, ec, es]

/-- The key columns, from the arguments. -/
def G16 (X : FVec Ideal S32x2048x1024 .f32) (M : FVec Ideal S40x6x1x1024 .f32) (G : FVec Ideal S1x1024 .f32) (W : FVec Ideal S1024x256 .bf16) (N : FVec Ideal S1x128 .f32) (C S : FVec Ideal S2048x512 .f32) : FVec Ideal S32x2048x128 .bf16 :=
  fun j => Inproj.rope (n := 128) (by norm_num) (Inproj.normed (n := 128) (by norm_num) (fun k => Inproj.proj (H X M G (j 0) (j 1)) (fun i k => W (ix2 i k)) (⟨k, by omega⟩ : Fin 256)) (fun k => N (ix2 0 k))) (fun k => C (ix2 (j 1) ⟨k, by omega⟩)) (fun k => S (ix2 (j 1) ⟨k, by omega⟩)) (j 2)

/-- The key columns: the kernel's result array. -/
theorem final16
    (hreal : ∀ b s (i : Fin 128), ∃ q : ℝ, Inproj.proj (H (m ((c.tc : Thread nD τ).loc main_arg0)) (m ((c.tc : Thread nD τ).loc main_arg1)) (m ((c.tc : Thread nD τ).loc main_arg2)) b s) (fun i k => (m ((c.tc : Thread nD τ).loc main_arg3)) (ix2 i k)) (⟨i, by omega⟩ : Fin 256) = q) : (dats m 0 c).arrAt 16 (cfgs 0).N
    = G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg12)) (m ((c.tc : Thread nD τ).loc main_arg13)) := by
  refine (dats m 0 c).arrAt_eq_of_covers 16 _ (by decide +kernel) fun t hf y => ?_
  blk_simp
  rw [after0_16]
  have hy : ∀ y : S1x256x128.Idx, (win0_16.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out16_at (hd := in9 m c t) (hp := fun i => by rw [hb_eq]; simp only [in4]; exact hreal _ _ i), hb_eq]
  simp only [in4, in8, in14, in15]
  rfl

end Cert.InprojIdeal.Body

end
-- ==== Proof.Inproj.Link.lean ====
/- The input projection reference's nine results are the kernel's functions of the arguments. -/
module

public import proofs.«01_k».proof.Proof.Inproj.Ref
public import proofs.«01_k».proof.Proof.Inproj.Final

@[expose] public section

set_option maxRecDepth 16384

noncomputable section

namespace Cert.InprojReferenceIdeal.Hand

open Idealize.ShloMosaic Idealize.ShloMosaic.TcCoe Idealize.SL.Sem
open Cert.InprojReferenceIdeal Cert.InprojReferenceIdeal.Gen

variable (a0 : FVec Ideal S32x2048x1024 .f32) (a1 : FVec Ideal S40x6x1x1024 .f32) (a2 : FVec Ideal S1x1024 .f32)
variable (b : Fin 32) (s : Fin 2048)

/-- A row of the normalised rows is the row the kernel's results are stated with. -/
theorem rows_row : (fun i => rows a0 a1 a2 (ix3 b s i)) = Cert.InprojIdeal.Body.H a0 a1 a2 b s := funext fun i => rows_at b s a0 a1 a2 i

/-- The gate of a lane. -/
theorem gate_at (p : FVec Ideal S32x2048x128 .f32) (j : Fin 128) : gates p (soft (minus p) (diff (minus p))) (ix3 b s j) = Inproj.gate (j : ℕ) (p (ix3 b s j)) := by
  rw [gates_at]
  unfold Inproj.gate
  split
  · rfl
  · rename_i hj
    rw [soft_at]
    congr 2
    congr 1
    apply Fin.ext
    show 8 + ((j : ℕ) - 8) = j
    omega

/-- The normalised keys at a lane. -/
theorem normK_lane (p : FVec Ideal S32x2048x256 .f32) (f : FVec Ideal S1x128 .f32) (g : Fin 2) (d : Fin 64) (j : Fin 128) (hj : (j : ℕ) = (g : ℕ) * 64 + d) :
    normK (keys p) f (ix4 b s g d) = Inproj.normed (n := 128) (by norm_num) (fun k => p (ix3 b s ⟨k, by omega⟩)) (fun k => f (ix2 0 k)) j := by
  have hlt : (g : ℕ) * 64 + (d : ℕ) < 128 := by omega
  obtain rfl : j = ⟨(g : ℕ) * 64 + d, hlt⟩ := Fin.ext hj
  rw [normK_at]
  simp only [keys_at]
  unfold Inproj.normed Inproj.headSum
  have e : ((g : ℕ) * 64 + (d : ℕ)) / 64 = g := by omega
  simp only [e]

/-- The keys from the normalised ones and the angles. -/
def turnK (t : FVec Ideal S32x2048x2x64 .f32) (c z : FVec Ideal S2048x512 .f32) : FVec Ideal S32x2048x128 .bf16 :=
  joinK (lowK (firstK (halvesK t)) (secondK (halvesK t)) (cut c) (cut z)) (highK (firstK (halvesK t)) (secondK (halvesK t)) (cut c) (cut z))

/-- The rotated keys at a lane. -/
theorem turnK_at (t : FVec Ideal S32x2048x2x64 .f32) (c z : FVec Ideal S2048x512 .f32) (v : Fin 128 → EReal)
    (hv : ∀ (g : Fin 2) (d : Fin 64) (j : Fin 128), (j : ℕ) = (g : ℕ) * 64 + d → t (ix4 b s g d) = v j) (j : Fin 128) :
    turnK t c z (ix3 b s j) = Inproj.rope (n := 128) (by norm_num) v (fun k => c (ix2 s ⟨k, by omega⟩)) (fun k => z (ix2 s ⟨k, by omega⟩)) j := by
  unfold turnK Inproj.rope Inproj.partner
  rw [joinK_at]
  by_cases hj : (j : ℕ) % 32 < 16
  · rw [if_pos hj, dif_pos hj, lowK_at, firstK_at, secondK_at, halvesK_at, halvesK_at, cut_at, cut_at]
    rw [hv _ _ j (by show (j : ℕ) = (j : ℕ) / 64 * 64 + ((j : ℕ) / 32 % 2 * 32 + 0 * 16 + (j : ℕ) % 16); omega)]
    rw [hv _ _ ⟨(j : ℕ) + 16, by omega⟩ (by show (j : ℕ) + 16 = (j : ℕ) / 64 * 64 + ((j : ℕ) / 32 % 2 * 32 + 1 * 16 + (j : ℕ) % 16); omega)]
    have e : (j : ℕ) / 64 * 64 + (j : ℕ) / 32 % 2 * 32 + 0 * 16 + (j : ℕ) % 16 = j := by omega
    simp only [Fin.val_zero, e]
  · rw [if_neg hj, dif_neg hj, highK_at, firstK_at, secondK_at, halvesK_at, halvesK_at, cut_at, cut_at]
    rw [hv _ _ j (by show (j : ℕ) = (j : ℕ) / 64 * 64 + ((j : ℕ) / 32 % 2 * 32 + 1 * 16 + (j : ℕ) % 16); omega)]
    rw [hv _ _ ⟨(j : ℕ) - 16, by omega⟩ (by show (j : ℕ) - 16 = (j : ℕ) / 64 * 64 + ((j : ℕ) / 32 % 2 * 32 + 0 * 16 + (j : ℕ) % 16); omega)]
    have e : (j : ℕ) / 64 * 64 + (j : ℕ) / 32 % 2 * 32 + 1 * 16 + (j : ℕ) % 16 = j := by omega
    simp only [Fin.val_one, e]

/-- The normalised queries at a lane. -/
theorem normQ_lane (h : FVec Ideal S32x2048x1024 .f32) (a8 : FVec Ideal S1024x512 .bf16) (f : FVec Ideal S1x512 .f32) (g : Fin 8) (d : Fin 64) (j : Fin 512) (hj : (j : ℕ) = (g : ℕ) * 64 + d) :
    normQ (queries h a8) f (ix4 b s g d) = Inproj.normed (n := 512) (by norm_num) (Inproj.proj (fun i => h (ix3 b s i)) (fun i j => a8 (ix2 i j))) (fun k => f (ix2 0 k)) j := by
  have hlt : (g : ℕ) * 64 + (d : ℕ) < 512 := by omega
  obtain rfl : j = ⟨(g : ℕ) * 64 + d, hlt⟩ := Fin.ext hj
  rw [normQ_at]
  simp only [queries_at]
  unfold Inproj.normed Inproj.headSum
  have e : ((g : ℕ) * 64 + (d : ℕ)) / 64 = g := by omega
  simp only [e]

/-- The queries from the normalised ones and the angles. -/
def turnQ (t : FVec Ideal S32x2048x8x64 .f32) (c z : FVec Ideal S2048x512 .f32) : FVec Ideal S32x2048x512 .bf16 :=
  joinQ (lowQ (firstQ (halvesQ t)) (secondQ (halvesQ t)) (wide c) (wide z)) (highQ (firstQ (halvesQ t)) (secondQ (halvesQ t)) (wide c) (wide z))

/-- The rotated queries at a lane. -/
theorem turnQ_at (t : FVec Ideal S32x2048x8x64 .f32) (c z : FVec Ideal S2048x512 .f32) (v : Fin 512 → EReal)
    (hv : ∀ (g : Fin 8) (d : Fin 64) (j : Fin 512), (j : ℕ) = (g : ℕ) * 64 + d → t (ix4 b s g d) = v j) (j : Fin 512) :
    turnQ t c z (ix3 b s j) = Inproj.rope (n := 512) (by norm_num) v (fun k => c (ix2 s k)) (fun k => z (ix2 s k)) j * Ideal.ofBits .f32 0x3E000000#32 := by
  unfold turnQ Inproj.rope Inproj.partner
  rw [joinQ_at]
  by_cases hj : (j : ℕ) % 32 < 16
  · rw [if_pos hj, dif_pos hj, lowQ_at, firstQ_at, secondQ_at, halvesQ_at, halvesQ_at, wide_at, wide_at]
    rw [hv _ _ j (by show (j : ℕ) = (j : ℕ) / 64 * 64 + ((j : ℕ) / 32 % 2 * 32 + 0 * 16 + (j : ℕ) % 16); omega)]
    rw [hv _ _ ⟨(j : ℕ) + 16, by omega⟩ (by show (j : ℕ) + 16 = (j : ℕ) / 64 * 64 + ((j : ℕ) / 32 % 2 * 32 + 1 * 16 + (j : ℕ) % 16); omega)]
    have e : (j : ℕ) / 64 * 64 + (j : ℕ) / 32 % 2 * 32 + 0 * 16 + (j : ℕ) % 16 = j := by omega
    simp only [Fin.val_zero, e]
  · rw [if_neg hj, dif_neg hj, highQ_at, firstQ_at, secondQ_at, halvesQ_at, halvesQ_at, wide_at, wide_at]
    rw [hv _ _ j (by show (j : ℕ) = (j : ℕ) / 64 * 64 + ((j : ℕ) / 32 % 2 * 32 + 1 * 16 + (j : ℕ) % 16); omega)]
    rw [hv _ _ ⟨(j : ℕ) - 16, by omega⟩ (by show (j : ℕ) - 16 = (j : ℕ) / 64 * 64 + ((j : ℕ) / 32 % 2 * 32 + 0 * 16 + (j : ℕ) % 16); omega)]
    have e : (j : ℕ) / 64 * 64 + (j : ℕ) / 32 % 2 * 32 + 1 * 16 + (j : ℕ) % 16 = j := by omega
    simp only [Fin.val_one, e]

/-- Result 0 of the reference. -/
theorem ref16 (a3 : FVec Ideal S1024x256 .bf16) (a7 : FVec Ideal S1x128 .f32) (a12 : FVec Ideal S2048x512 .f32) (a13 : FVec Ideal S2048x512 .f32) : turnK (normK (keys (kv (rows a0 a1 a2) a3)) a7) a12 a13 = Cert.InprojIdeal.Body.G16 a0 a1 a2 a3 a7 a12 a13 := by
  funext i
  obtain ⟨b, s, j, rfl⟩ : ∃ x y z, i = ix3 x y z := ⟨i 0, i 1, i 2, by funext q; fin_cases q <;> rfl⟩
  rw [turnK_at b s _ _ _ (Inproj.normed (n := 128) (by norm_num) (fun k => kv (rows a0 a1 a2) a3 (ix3 b s ⟨k, by omega⟩)) (fun k => a7 (ix2 0 k))) (fun g d j hj => normK_lane b s _ _ g d j hj)]
  simp only [kv_at, rows_row]
  rfl

/-- Result 1 of the reference. -/
theorem ref17 (a3 : FVec Ideal S1024x256 .bf16) : outK (kv (rows a0 a1 a2) a3) = Cert.InprojIdeal.Body.G17 a0 a1 a2 a3 := by
  funext i
  obtain ⟨b, s, j, rfl⟩ : ∃ x y z, i = ix3 x y z := ⟨i 0, i 1, i 2, by funext q; fin_cases q <;> rfl⟩
  rw [outK_at, kv_at, rows_row]
  rfl

/-- Result 2 of the reference. -/
theorem ref18 (a4 : FVec Ideal S1024x1536 .bf16) : outM (cell (rows a0 a1 a2) a4) = Cert.InprojIdeal.Body.G18 a0 a1 a2 a4 := by
  funext i
  obtain ⟨b, s, j, rfl⟩ : ∃ x y z, i = ix3 x y z := ⟨i 0, i 1, i 2, by funext q; fin_cases q <;> rfl⟩
  rw [outM_at, cell_at, rows_row]
  rfl

/-- Result 3 of the reference. -/
theorem ref19 (a4 : FVec Ideal S1024x1536 .bf16) : outV (cell (rows a0 a1 a2) a4) = Cert.InprojIdeal.Body.G19 a0 a1 a2 a4 := by
  funext i
  obtain ⟨b, s, j, rfl⟩ : ∃ x y z, i = ix3 x y z := ⟨i 0, i 1, i 2, by funext q; fin_cases q <;> rfl⟩
  rw [outV_at, cell_at, rows_row]
  rfl

/-- Result 4 of the reference. -/
theorem ref20 (a5 : FVec Ideal S1024x128 .bf16) (a6 : FVec Ideal S1x128 .f32) : gates (pre (rows a0 a1 a2) a5 a6) (soft (minus (pre (rows a0 a1 a2) a5 a6)) (diff (minus (pre (rows a0 a1 a2) a5 a6)))) = Cert.InprojIdeal.Body.G20 a0 a1 a2 a5 a6 := by
  funext i
  obtain ⟨b, s, j, rfl⟩ : ∃ x y z, i = ix3 x y z := ⟨i 0, i 1, i 2, by funext q; fin_cases q <;> rfl⟩
  rw [gate_at, pre_at, rows_row]
  rfl

/-- Result 5 of the reference. -/
theorem ref21 (a5 : FVec Ideal S1024x128 .bf16) (a6 : FVec Ideal S1x128 .f32) : turned (gates (pre (rows a0 a1 a2) a5 a6) (soft (minus (pre (rows a0 a1 a2) a5 a6)) (diff (minus (pre (rows a0 a1 a2) a5 a6))))) = Cert.InprojIdeal.Body.G21 a0 a1 a2 a5 a6 := by
  funext i
  obtain ⟨b, j, s, rfl⟩ : ∃ x y z, i = ix3 x y z := ⟨i 0, i 1, i 2, by funext q; fin_cases q <;> rfl⟩
  rw [turned_at, gate_at, pre_at, rows_row]
  rfl

/-- Result 6 of the reference. -/
theorem ref22 (a8 : FVec Ideal S1024x512 .bf16) (a11 : FVec Ideal S1x512 .f32) (a12 : FVec Ideal S2048x512 .f32) (a13 : FVec Ideal S2048x512 .f32) : turnQ (normQ (queries (rows a0 a1 a2) a8) a11) a12 a13 = Cert.InprojIdeal.Body.G22 a0 a1 a2 a8 a11 a12 a13 := by
  funext i
  obtain ⟨b, s, j, rfl⟩ : ∃ x y z, i = ix3 x y z := ⟨i 0, i 1, i 2, by funext q; fin_cases q <;> rfl⟩
  rw [turnQ_at b s _ _ _ _ (fun g d j hj => normQ_lane b s _ _ _ g d j hj), rows_row]
  rfl

/-- Result 7 of the reference. -/
theorem ref23 (a9 : FVec Ideal S1024x512 .bf16) : outO (rows a0 a1 a2) a9 = Cert.InprojIdeal.Body.G23 a0 a1 a2 a9 := by
  funext i
  obtain ⟨b, s, j, rfl⟩ : ∃ x y z, i = ix3 x y z := ⟨i 0, i 1, i 2, by funext q; fin_cases q <;> rfl⟩
  rw [outO_at, rows_row]
  rfl

/-- Result 8 of the reference. -/
theorem ref24 (a10 : FVec Ideal S1024x2048 .bf16) : outG (rows a0 a1 a2) a10 = Cert.InprojIdeal.Body.G24 a0 a1 a2 a10 := by
  funext i
  obtain ⟨b, s, j, rfl⟩ : ∃ x y z, i = ix3 x y z := ⟨i 0, i 1, i 2, by funext q; fin_cases q <;> rfl⟩
  rw [outG_at, rows_row]
  rfl

end Cert.InprojReferenceIdeal.Hand

end
-- ==== Proof.Merge.Body.lean ====
/- What the merge kernel writes, read at an index of its blocks. -/
module

public import proofs.«01_k».proof.Proof.Gen.MergeIdeal.Frame
public import proofs.«01_k».proof.Proof.Merge.Math
public import Idealize.ShloMosaic.Lib.Claim
public import Idealize.ShloMosaic.Lib.Pipeline.ValueKit
public import Idealize.ShloMosaic.Lib.Pointwise

@[expose] public section

set_option maxRecDepth 16384

noncomputable section

namespace Cert.MergeIdeal.Body

open Idealize.ShloMosaic Idealize.ShloMosaic.TcCoe Idealize.SL.Sem
open Cert.MergeIdeal Cert.MergeIdeal.Gen

variable (x2 x3 x4 x1 : Vec Ideal S1x256x512 .bf16) (x9 : Vec Ideal S1x512 .f32)

/-- The sum of the two directions' rows. -/
def hs (r : Fin 256) (k : Fin 512) : EReal := x2 (ix3 0 r k) + x3 (ix3 0 r k)

/-- The sum at an index. -/
theorem hs_at (r : Fin 256) (k : Fin 512) : k0_pay2 x2 x3 (ix2 r k) = hs x2 x3 r k := by
  pointwise [k0_pay2]
  rfl

/-- The first head at an index. -/
theorem head0_at (r : Fin 256) (d : Fin 128) (j : Fin 512) (hj : (j : ℕ) = d) : k0_pay3 x2 x3 x9 (ix2 r d) = MergeMath.normed (hs x2 x3 r) (fun i => x9 (ix2 0 i)) j := by
  have hlt : (d : ℕ) < 512 := by omega
  obtain rfl : j = ⟨d, hlt⟩ := Fin.ext hj
  have e : (d : ℕ) / 128 = 0 := by omega
  pointwise [k0_pay3, k0_pay2]
  unfold MergeMath.normed MergeMath.headSum hs
  simp only [e, zero_mul, zero_add]

/-- The second head at an index. -/
theorem head1_at (r : Fin 256) (d : Fin 128) (j : Fin 512) (hj : (j : ℕ) = 128 + d) : k0_pay4 x2 x3 x9 (ix2 r d) = MergeMath.normed (hs x2 x3 r) (fun i => x9 (ix2 0 i)) j := by
  have hlt : 128 + (d : ℕ) < 512 := by omega
  obtain rfl : j = ⟨128 + d, hlt⟩ := Fin.ext hj
  have e : (128 + (d : ℕ)) / 128 = 1 := by omega
  pointwise [k0_pay4, k0_pay2]
  unfold MergeMath.normed MergeMath.headSum hs
  simp only [e, one_mul]

/-- The gated result at an index. -/
theorem cell_at (r : Fin 256) (j : Fin 512) :
    k0_pay9 (k0_pay2 x2 x3) x9 (k0_pay3 x2 x3 x9) (k0_pay4 x2 x3 x9) (k0_pay5 x2 x3) (k0_pay6 x9) (k0_pay7 x2 x3) (k0_pay8 (F := Ideal)) x4 (ix2 r j)
      = MergeMath.cell (hs x2 x3 r) (fun i => x9 (ix2 0 i)) (fun i => x4 (ix3 0 r i)) j := by
  pointwise [k0_pay9, k0_pay5, k0_pay6, k0_pay7, k0_pay8]
  simp only [hs_at]
  rw [MergeMath.sig_sub]
  unfold MergeMath.cell
  congr 1
  by_cases h0 : (j : ℕ) < 128
  · rw [dif_pos h0]
    exact head0_at x2 x3 x9 r ⟨j, h0⟩ j rfl
  rw [dif_neg h0]
  by_cases h1 : (j : ℕ) - 128 < 128
  · rw [dif_pos h1]
    exact head1_at x2 x3 x9 r ⟨(j : ℕ) - 128, h1⟩ j (by show (j : ℕ) = 128 + ((j : ℕ) - 128); omega)
  rw [dif_neg h1]
  unfold MergeMath.normed MergeMath.headSum
  by_cases h2 : (j : ℕ) - 128 - 128 < 128
  · rw [dif_pos h2]
    have e1 : (j : ℕ) / 128 * 128 = 256 := by omega
    have e2 : 256 + ((j : ℕ) - 128 - 128) = j := by omega
    simp only [e1, e2]
  · rw [dif_neg h2]
    have e1 : (j : ℕ) / 128 * 128 = 384 := by omega
    have e2 : 384 + ((j : ℕ) - 128 - 128 - 128) = j := by omega
    simp only [e1, e2]

variable (h : FVec Ideal S256x512 .bf16) (x5 : Vec Ideal S1x256x2048 .bf16) (x12 x13 : Vec Ideal S512x1024 .bf16) (x14 : Vec Ideal S1024x1024 .bf16)

/-- The projected mixture at an index. -/
theorem mix_at (r : Fin 256) (k : Fin 1024) :
    k0_pay12 h (k0_pay10 x5) (k0_pay11 x5) (Scalar.ofBits .f32 0x3F800000#32) x1 x12 x13 x14 (ix2 r k)
      = MergeMath.proj (MergeMath.mix (fun k => x5 (ix3 0 r ⟨k, by omega⟩)) (fun k => x5 (ix3 0 r ⟨1024 + k, by omega⟩)) (fun i => x1 (ix3 0 r i)) (fun i => h (ix2 r i)) (fun i k => x12 (ix2 i k)) (fun i k => x13 (ix2 i k))) (fun i k => x14 (ix2 i k)) k := by
  pointwise [k0_pay12, k0_pay10, k0_pay11]
  simp only [MergeMath.sig_sub]
  rfl

variable (y x : FVec Ideal S256x1024 .f32) (s : FVec Ideal S1x1024 .f32) (g : Vec Ideal S1x1024 .f32) (q e : FVec Ideal S256x1 .f32) (g2 : Vec Ideal S1x1024 .f32) (sc sh : Vec Ideal S1x1x1x1024 .f32)

/-- The mean square at an index. -/
theorem mean_at (r : Fin 256) : k0_pay15 h (k0_pay10 x5) (k0_pay11 x5) (Scalar.ofBits .f32 0x3F800000#32) x1 x12 x13 x14 (ix2 r 0)
    = Ideal.div (∑ i, k0_pay12 h (k0_pay10 x5) (k0_pay11 x5) (Scalar.ofBits .f32 0x3F800000#32) x1 x12 x13 x14 (ix2 r i) * k0_pay12 h (k0_pay10 x5) (k0_pay11 x5) (Scalar.ofBits .f32 0x3F800000#32) x1 x12 x13 x14 (ix2 r i)) (Ideal.ofBits .f32 0x44800000#32) := by
  pointwise [k0_pay15]

/-- The residual rows at an index. -/
theorem resid_at (r : Fin 256) (k : Fin 1024) : k0_pay17 y x s g q e (ix2 r k) = x (ix2 r k) + s (ix2 0 k) * (y (ix2 r k) * Ideal.rsqrt (q (ix2 r 0) + e (ix2 r 0)) * g (ix2 0 k)) := by
  pointwise [k0_pay17]

/-- The residual block at an index. -/
theorem residB_at (r : Fin 256) (k : Fin 1024) : k0_pay18 y x s g q e (ix3 0 r k) = k0_pay17 y x s g q e (ix2 r k) := by
  pointwise [k0_pay18]

/-- The experts' rows at an index. -/
theorem fin_at (r : Fin 256) (k : Fin 1024) : k0_pay19 y x s g q e g2 sc sh (ix2 r k)
    = MergeMath.fin (fun k => k0_pay17 y x s g q e (ix2 r k)) (fun k => g2 (ix2 0 k)) (fun k => sc (ix4 0 0 0 k)) (fun k => sh (ix4 0 0 0 k)) k := by
  pointwise [k0_pay19]
  rfl

/-- The experts' block at an index. -/
theorem finB_at (r : Fin 256) (k : Fin 1024) : k0_pay20 y x s g q e g2 sc sh (ix3 0 r k) = k0_pay19 y x s g q e g2 sc sh (ix2 r k) := by
  pointwise [k0_pay20]

/-- The scores at an index. -/
theorem score_at (f : FVec Ideal S256x1024 .f32) (w : Vec Ideal S256x1024 .bf16) (l r : Fin 256) :
    k0_pay1 f w (ix2 l r) = MergeMath.score (fun i => f (ix2 r i)) (fun i => w (ix2 l i)) := by
  pointwise [k0_pay1]
  rw [MergeMath.sig_sub]
  simp only [mul_comm (w _)]
  rfl

end Cert.MergeIdeal.Body
-- ==== Proof.Merge.Final.lean ====
/- The merge kernel's three results as functions of its arguments. -/
module

public import proofs.«01_k».proof.Proof.Merge.Body

@[expose] public section

set_option maxRecDepth 16384

noncomputable section

namespace Cert.MergeIdeal.Body

open Idealize.ShloMosaic Idealize.ShloMosaic.TcCoe Idealize.SL.Sem
open Cert.MergeIdeal Cert.MergeIdeal.Gen

variable (m : (ℓ : Loc nD τ sig) → Buf (Elt Ideal) ℓ) (c : Dev nD)

/-- Zero offsets of two, three and four axes. -/
theorem origin2 : ∀ a : Fin 2, (![0, 0] : Fin 2 → ℕ) a = 0 := by decide
theorem origin3 : ∀ a : Fin 3, (![0, 0, 0] : Fin 3 → ℕ) a = 0 := by decide
theorem origin4 : ∀ a : Fin 4, (![0, 0, 0, 0] : Fin 4 → ℕ) a = 0 := by decide

/-- The block that each windowed array has at a grid point. -/
theorem idx : ∀ t : Fin cfg0.N, win0_0.index t = ![t.val % 32, t.val / 32, 0] ∧ win0_1.index t = ![t.val % 32, t.val / 32, 0] ∧ win0_2.index t = ![t.val % 32, t.val / 32, 0]
    ∧ win0_3.index t = ![t.val % 32, t.val / 32, 0] ∧ win0_4.index t = ![t.val % 32, t.val / 32, 0] ∧ win0_5.index t = ![t.val % 32, t.val / 32, 0]
    ∧ win0_6.index t = ![t.val % 32, 2, 0, 0] ∧ win0_7.index t = ![t.val % 32, 3, 0, 0] ∧ win0_8.index t = ![t.val % 32, 4, 0, 0]
    ∧ win0_16.index t = ![t.val % 32, t.val / 32, 0] ∧ win0_17.index t = ![t.val % 32, t.val / 32, 0] ∧ win0_18.index t = ![0, t.val % 32 * 8 + t.val / 32] :=
  (by decide +kernel : ∀ t : Fin grid0.N, _)

/-- The arrays that are one block have the same block at every point. -/
theorem idx0 : ∀ t : Fin cfg0.N, win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

/-- The sequence that a point works on. -/
def bOf (t : Fin cfg0.N) : Fin 32 := ⟨t.val % 32, Nat.mod_lt _ (by norm_num)⟩

/-- The token that a row of a point's block is. -/
def sOf (t : Fin cfg0.N) (r : Fin 256) : Fin 2048 := ⟨t.val / 32 * 256 + r, by have := lt_of_lt_of_eq t.isLt (by decide : cfg0.N = 256); omega⟩

/-- The tokens block at an index. -/
theorem in0 (t : Fin cfg0.N) (r : Fin 256) (k : Fin 1024) : iblk m c 0 t (ix3 0 r k) = m ((c.tc : Thread nD τ).loc main_arg0) (ix3 (bOf t) (sOf t r) k) := by
  rw [← V_main_arg0 m c]
  blk_point [iblk, idx t, bOf, sOf]

/-- The attention's block at an index. -/
theorem in1 (t : Fin cfg0.N) (r : Fin 256) (k : Fin 512) : iblk m c 1 t (ix3 0 r k) = m ((c.tc : Thread nD τ).loc main_arg1) (ix3 (bOf t) (sOf t r) k) := by
  rw [← V_main_arg1 m c]
  blk_point [iblk, idx t, bOf, sOf]

/-- The forward direction's block at an index. -/
theorem in2 (t : Fin cfg0.N) (r : Fin 256) (k : Fin 512) : iblk m c 2 t (ix3 0 r k) = m ((c.tc : Thread nD τ).loc main_arg2) (ix3 (bOf t) (sOf t r) k) := by
  rw [← V_main_arg2 m c]
  blk_point [iblk, idx t, bOf, sOf]

/-- The backward direction's block at an index. -/
theorem in3 (t : Fin cfg0.N) (r : Fin 256) (k : Fin 512) : iblk m c 3 t (ix3 0 r k) = m ((c.tc : Thread nD τ).loc main_arg3) (ix3 (bOf t) (sOf t r) k) := by
  rw [← V_main_arg3 m c]
  blk_point [iblk, idx t, bOf, sOf]

/-- The output gate's block at an index. -/
theorem in4 (t : Fin cfg0.N) (r : Fin 256) (k : Fin 512) : iblk m c 4 t (ix3 0 r k) = m ((c.tc : Thread nD τ).loc main_arg4) (ix3 (bOf t) (sOf t r) k) := by
  rw [← V_main_arg4 m c]
  blk_point [iblk, idx t, bOf, sOf]

/-- The merge gates' block at an index. -/
theorem in5 (t : Fin cfg0.N) (r : Fin 256) (k : Fin 2048) : iblk m c 5 t (ix3 0 r k) = m ((c.tc : Thread nD τ).loc main_arg5) (ix3 (bOf t) (sOf t r) k) := by
  rw [← V_main_arg5 m c]
  blk_point [iblk, idx t, bOf, sOf]

/-- The residual's factors at an index. -/
theorem in6 (t : Fin cfg0.N) (k : Fin 1024) : iblk m c 6 t (ix4 0 0 0 k) = m ((c.tc : Thread nD τ).loc main_arg6) (ix4 ⟨bOf t, by omega⟩ 2 0 k) := by
  rw [← V_main_arg6 m c]
  blk_point [iblk, idx t, bOf]

/-- The shifts at an index. -/
theorem in7 (t : Fin cfg0.N) (k : Fin 1024) : iblk m c 7 t (ix4 0 0 0 k) = m ((c.tc : Thread nD τ).loc main_arg6) (ix4 ⟨bOf t, by omega⟩ 3 0 k) := by
  rw [← V_main_arg6 m c]
  blk_point [iblk, idx t, bOf]

/-- The scales at an index. -/
theorem in8 (t : Fin cfg0.N) (k : Fin 1024) : iblk m c 8 t (ix4 0 0 0 k) = m ((c.tc : Thread nD τ).loc main_arg6) (ix4 ⟨bOf t, by omega⟩ 4 0 k) := by
  rw [← V_main_arg6 m c]
  blk_point [iblk, idx t, bOf]

/-- The inner cell's norm factors at an index. -/
theorem in9 (t : Fin cfg0.N) (k : Fin 512) : iblk m c 9 t (ix2 0 k) = m ((c.tc : Thread nD τ).loc main_arg7) (ix2 0 k) := by
  rw [← V_main_arg7 m c]
  blk_point [iblk, idx0 t]

/-- The first norm's factors at an index. -/
theorem in10 (t : Fin cfg0.N) (k : Fin 1024) : iblk m c 10 t (ix2 0 k) = m ((c.tc : Thread nD τ).loc main_arg8) (ix2 0 k) := by
  rw [← V_main_arg8 m c]
  blk_point [iblk, idx0 t]

/-- The second norm's factors at an index. -/
theorem in11 (t : Fin cfg0.N) (k : Fin 1024) : iblk m c 11 t (ix2 0 k) = m ((c.tc : Thread nD τ).loc main_arg9) (ix2 0 k) := by
  rw [← V_main_arg9 m c]
  blk_point [iblk, idx0 t]

/-- The attention's weight at an index. -/
theorem in12 (t : Fin cfg0.N) (i : Fin 512) (k : Fin 1024) : iblk m c 12 t (ix2 i k) = m ((c.tc : Thread nD τ).loc main_arg10) (ix2 i k) := by
  rw [← V_main_arg10 m c]
  blk_point [iblk, idx0 t]

/-- The inner cell's weight at an index. -/
theorem in13 (t : Fin cfg0.N) (i : Fin 512) (k : Fin 1024) : iblk m c 13 t (ix2 i k) = m ((c.tc : Thread nD τ).loc main_arg11) (ix2 i k) := by
  rw [← V_main_arg11 m c]
  blk_point [iblk, idx0 t]

/-- The output weight at an index. -/
theorem in14 (t : Fin cfg0.N) (i : Fin 1024) (k : Fin 1024) : iblk m c 14 t (ix2 i k) = m ((c.tc : Thread nD τ).loc main_arg12) (ix2 i k) := by
  rw [← V_main_arg12 m c]
  blk_point [iblk, idx0 t]

/-- The router's weight at an index. -/
theorem in15 (t : Fin cfg0.N) (i : Fin 256) (k : Fin 1024) : iblk m c 15 t (ix2 i k) = m ((c.tc : Thread nD τ).loc main_arg13) (ix2 i k) := by
  rw [← V_main_arg13 m c]
  blk_point [iblk, idx0 t]

variable (x0 : Vec Ideal S1x256x1024 .f32) (x1 x2 x3 x4 : Vec Ideal S1x256x512 .bf16) (x5 : Vec Ideal S1x256x2048 .bf16) (x6 x7 x8 : Vec Ideal S1x1x1x1024 .f32) (x9 : Vec Ideal S1x512 .f32) (x10 x11 : Vec Ideal S1x1024 .f32) (x12 x13 : Vec Ideal S512x1024 .bf16) (x14 : Vec Ideal S1024x1024 .bf16) (x15 : Vec Ideal S256x1024 .bf16)

/-- The projected mixture of a row of the block. -/
def yb (r : Fin 256) : Fin 1024 → EReal :=
  MergeMath.yrow (fun i => x2 (ix3 0 r i)) (fun i => x3 (ix3 0 r i)) (fun i => x4 (ix3 0 r i)) (fun i => x1 (ix3 0 r i)) (fun i => x5 (ix3 0 r ⟨i, by omega⟩)) (fun i => x5 (ix3 0 r ⟨1024 + i, by omega⟩))
    (fun i => x9 (ix2 0 i)) (fun i k => x12 (ix2 i k)) (fun i k => x13 (ix2 i k)) (fun i k => x14 (ix2 i k))

/-- The residual row of a row of the block. -/
def xb (r : Fin 256) : Fin 1024 → EReal :=
  MergeMath.resid (fun i => x0 (ix3 0 r i)) (fun i => x6 (ix4 0 0 0 i)) (fun i => x10 (ix2 0 i)) (yb x1 x2 x3 x4 x5 x9 x12 x13 x14 r)

/-- The experts' row of a row of the block. -/
def fb (r : Fin 256) : Fin 1024 → EReal :=
  MergeMath.fin (xb x0 x1 x2 x3 x4 x5 x6 x9 x10 x12 x13 x14 r) (fun i => x11 (ix2 0 i)) (fun i => x8 (ix4 0 0 0 i)) (fun i => x7 (ix4 0 0 0 i))

/-- The projected mixture from the input blocks. -/
theorem p24_at (r : Fin 256) (k : Fin 1024) : k0_pay24 (F := Ideal) x0 x1 x2 x3 x4 x5 x6 x7 x8 x9 x10 x11 x12 x13 x14 x15 (ix2 r k) = yb x1 x2 x3 x4 x5 x9 x12 x13 x14 r k := by
  unfold k0_pay24 k0_pay23 k0_pay22 k0_pay21
  have e1 : View.ld x1 r0_0 = x1 := View.ld_unit_lit _ _ origin3
  have e2 : View.ld x2 r0_0 = x2 := View.ld_unit_lit _ _ origin3
  have e3 : View.ld x3 r0_0 = x3 := View.ld_unit_lit _ _ origin3
  have e4 : View.ld x4 r0_0 = x4 := View.ld_unit_lit _ _ origin3
  have e5 : View.ld x5 r0_2 = x5 := View.ld_unit_lit _ _ origin3
  have e9 : View.ld x9 r0_1 = x9 := View.ld_unit_lit _ _ origin2
  have e12 : View.ld x12 r0_3 = x12 := View.ld_unit_lit _ _ origin2
  have e13 : View.ld x13 r0_3 = x13 := View.ld_unit_lit _ _ origin2
  have e14 : View.ld x14 r0_4 = x14 := View.ld_unit_lit _ _ origin2
  rw [e1, e2, e3, e4, e5, e9, e12, e13, e14, mix_at]
  simp only [cell_at]
  rfl

/-- The mean square of the projected mixture from the input blocks. -/
theorem p27_at (r : Fin 256) : k0_pay27 (F := Ideal) x0 x1 x2 x3 x4 x5 x6 x7 x8 x9 x10 x11 x12 x13 x14 x15 (ix2 r 0)
    = Ideal.div (∑ i, yb x1 x2 x3 x4 x5 x9 x12 x13 x14 r i * yb x1 x2 x3 x4 x5 x9 x12 x13 x14 r i) (Ideal.ofBits .f32 0x44800000#32) := by
  unfold k0_pay27 k0_pay23 k0_pay22
  rw [mean_at]
  change Ideal.div (∑ i, k0_pay24 (F := Ideal) x0 x1 x2 x3 x4 x5 x6 x7 x8 x9 x10 x11 x12 x13 x14 x15 (ix2 r i) * k0_pay24 (F := Ideal) x0 x1 x2 x3 x4 x5 x6 x7 x8 x9 x10 x11 x12 x13 x14 x15 (ix2 r i)) _ = _
  simp only [p24_at]

/-- The residual rows from the input blocks. -/
theorem p17_at (r : Fin 256) (k : Fin 1024) :
    k0_pay17 (k0_pay24 (F := Ideal) x0 x1 x2 x3 x4 x5 x6 x7 x8 x9 x10 x11 x12 x13 x14 x15) (k0_pay25 (F := Ideal) x0 x1 x2 x3 x4 x5 x6 x7 x8 x9 x10 x11 x12 x13 x14 x15) (k0_pay26 (F := Ideal) x0 x1 x2 x3 x4 x5 x6 x7 x8 x9 x10 x11 x12 x13 x14 x15) (View.ld x10 r0_7) (k0_pay27 (F := Ideal) x0 x1 x2 x3 x4 x5 x6 x7 x8 x9 x10 x11 x12 x13 x14 x15) (k0_pay28 (F := Ideal) x0 x1 x2 x3 x4 x5 x6 x7 x8 x9 x10 x11 x12 x13 x14 x15) (ix2 r k)
      = xb x0 x1 x2 x3 x4 x5 x6 x9 x10 x12 x13 x14 r k := by
  have e0 : View.ld x0 r0_5 = x0 := View.ld_unit_lit _ _ origin3
  have e6 : View.ld x6 r0_6 = x6 := View.ld_unit_lit _ _ origin4
  have e10 : View.ld x10 r0_7 = x10 := View.ld_unit_lit _ _ origin2
  have h0 : k0_pay25 (F := Ideal) x0 x1 x2 x3 x4 x5 x6 x7 x8 x9 x10 x11 x12 x13 x14 x15 (ix2 r k) = x0 (ix3 0 r k) := by
    unfold k0_pay25
    rw [e0]
    pointwise [k0_pay13]
  have h6 : k0_pay26 (F := Ideal) x0 x1 x2 x3 x4 x5 x6 x7 x8 x9 x10 x11 x12 x13 x14 x15 (ix2 0 k) = x6 (ix4 0 0 0 k) := by
    unfold k0_pay26
    rw [e6]
    pointwise [k0_pay14]
  have h8 : k0_pay28 (F := Ideal) x0 x1 x2 x3 x4 x5 x6 x7 x8 x9 x10 x11 x12 x13 x14 x15 (ix2 r 0) = MergeMath.eps := by
    unfold k0_pay28
    pointwise [k0_pay16]
  rw [e10, resid_at, p24_at, p27_at, h0, h6, h8]
  rfl

/-- The residual rows: the block from the input blocks. -/
theorem out16_at (r : Fin 256) (k : Fin 1024) : out0_16 (F := Ideal) x0 x1 x2 x3 x4 x5 x6 x7 x8 x9 x10 x11 x12 x13 x14 x15 (ix3 0 r k) = xb x0 x1 x2 x3 x4 x5 x6 x9 x10 x12 x13 x14 r k := by
  unfold out0_16
  rw [View.canon_cons_unit_lit (h := origin3), residB_at, p17_at]

/-- The experts' rows: the block from the input blocks. -/
theorem out17_at (r : Fin 256) (k : Fin 1024) : out0_17 (F := Ideal) x0 x1 x2 x3 x4 x5 x6 x7 x8 x9 x10 x11 x12 x13 x14 x15 (ix3 0 r k) = fb x0 x1 x2 x3 x4 x5 x6 x7 x8 x9 x10 x11 x12 x13 x14 r k := by
  unfold out0_17
  rw [View.canon_cons_unit_lit (h := origin3), finB_at, fin_at]
  simp only [p17_at]
  have e7 : View.ld x7 r0_6 = x7 := View.ld_unit_lit _ _ origin4
  have e8 : View.ld x8 r0_6 = x8 := View.ld_unit_lit _ _ origin4
  have e11 : View.ld x11 r0_7 = x11 := View.ld_unit_lit _ _ origin2
  rw [e7, e8, e11]
  rfl

/-- The scores: the block from the input blocks. -/
theorem out18_at (l r : Fin 256) : out0_18 (F := Ideal) x0 x1 x2 x3 x4 x5 x6 x7 x8 x9 x10 x11 x12 x13 x14 x15 (ix2 l r) = MergeMath.score (fb x0 x1 x2 x3 x4 x5 x6 x7 x8 x9 x10 x11 x12 x13 x14 r) (fun i => x15 (ix2 l i)) := by
  unfold out0_18
  rw [View.canon_cons_unit_lit (h := origin2), score_at]
  simp only [fin_at, p17_at]
  have e7 : View.ld x7 r0_6 = x7 := View.ld_unit_lit _ _ origin4
  have e8 : View.ld x8 r0_6 = x8 := View.ld_unit_lit _ _ origin4
  have e11 : View.ld x11 r0_7 = x11 := View.ld_unit_lit _ _ origin2
  have e15 : View.ld x15 r0_8 = x15 := View.ld_unit_lit _ _ origin2
  rw [e7, e8, e11, e15]
  rfl

/-- The projected mixture of a token from the arguments. -/
def Y (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a7 : FVec Ideal S1x512 .f32) (a10 : FVec Ideal S512x1024 .bf16) (a11 : FVec Ideal S512x1024 .bf16) (a12 : FVec Ideal S1024x1024 .bf16) (b : Fin 32) (s : Fin 2048) : Fin 1024 → EReal :=
  MergeMath.yrow (fun i => a2 (ix3 b s i)) (fun i => a3 (ix3 b s i)) (fun i => a4 (ix3 b s i)) (fun i => a1 (ix3 b s i)) (fun i => a5 (ix3 b s ⟨i, by omega⟩)) (fun i => a5 (ix3 b s ⟨1024 + i, by omega⟩))
    (fun i => a7 (ix2 0 i)) (fun i k => a10 (ix2 i k)) (fun i k => a11 (ix2 i k)) (fun i k => a12 (ix2 i k))

/-- The residual row of a token from the arguments. -/
def X (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a10 : FVec Ideal S512x1024 .bf16) (a11 : FVec Ideal S512x1024 .bf16) (a12 : FVec Ideal S1024x1024 .bf16) (b : Fin 32) (s : Fin 2048) : Fin 1024 → EReal :=
  MergeMath.resid (fun i => a0 (ix3 b s i)) (fun i => a6 (ix4 ⟨b, by omega⟩ 2 0 i)) (fun i => a8 (ix2 0 i)) (Y a1 a2 a3 a4 a5 a7 a10 a11 a12 b s)

/-- The experts' row of a token from the arguments. -/
def N (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a9 : FVec Ideal S1x1024 .f32) (a10 : FVec Ideal S512x1024 .bf16) (a11 : FVec Ideal S512x1024 .bf16) (a12 : FVec Ideal S1024x1024 .bf16) (b : Fin 32) (s : Fin 2048) : Fin 1024 → EReal :=
  MergeMath.fin (X a0 a1 a2 a3 a4 a5 a6 a7 a8 a10 a11 a12 b s) (fun i => a9 (ix2 0 i)) (fun i => a6 (ix4 ⟨b, by omega⟩ 4 0 i)) (fun i => a6 (ix4 ⟨b, by omega⟩ 3 0 i))

/-- The projected mixtures of a point's block are the tokens'. -/
theorem yb_eq (t : Fin cfg0.N) (r : Fin 256) : yb (iblk m c 1 t) (iblk m c 2 t) (iblk m c 3 t) (iblk m c 4 t) (iblk m c 5 t) (iblk m c 9 t) (iblk m c 12 t) (iblk m c 13 t) (iblk m c 14 t) r = Y (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10)) (m ((c.tc : Thread nD τ).loc main_arg11)) (m ((c.tc : Thread nD τ).loc main_arg12)) (bOf t) (sOf t r) := by
  unfold yb Y
  simp only [in1, in2, in3, in4, in5, in9, in12, in13, in14]

/-- The residual rows of a point's block are the tokens'. -/
theorem xb_eq (t : Fin cfg0.N) (r : Fin 256) : xb (iblk m c 0 t) (iblk m c 1 t) (iblk m c 2 t) (iblk m c 3 t) (iblk m c 4 t) (iblk m c 5 t) (iblk m c 6 t) (iblk m c 9 t) (iblk m c 10 t) (iblk m c 12 t) (iblk m c 13 t) (iblk m c 14 t) r = X (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) (bOf t) (sOf t r) := by
  unfold xb X
  rw [yb_eq]
  simp only [in0, in6, in10]

/-- The experts' rows of a point's block are the tokens'. -/
theorem fb_eq (t : Fin cfg0.N) (r : Fin 256) : fb (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r = N (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (bOf t) (sOf t r) := by
  unfold fb N
  rw [xb_eq]
  simp only [in7, in8, in11]

/-- The residual rows, from the arguments. -/
def G16 (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a10 : FVec Ideal S512x1024 .bf16) (a11 : FVec Ideal S512x1024 .bf16) (a12 : FVec Ideal S1024x1024 .bf16) : FVec Ideal S32x2048x1024 .f32 := fun j => X a0 a1 a2 a3 a4 a5 a6 a7 a8 a10 a11 a12 (j 0) (j 1) (j 2)

/-- The experts' rows, from the arguments. -/
def G17 (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a9 : FVec Ideal S1x1024 .f32) (a10 : FVec Ideal S512x1024 .bf16) (a11 : FVec Ideal S512x1024 .bf16) (a12 : FVec Ideal S1024x1024 .bf16) : FVec Ideal S32x2048x1024 .f32 := fun j => N a0 a1 a2 a3 a4 a5 a6 a7 a8 a9 a10 a11 a12 (j 0) (j 1) (j 2)

/-- The scores, from the arguments: an expert per row and a token per column. -/
def G18 (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a9 : FVec Ideal S1x1024 .f32) (a10 : FVec Ideal S512x1024 .bf16) (a11 : FVec Ideal S512x1024 .bf16) (a12 : FVec Ideal S1024x1024 .bf16) (a13 : FVec Ideal S256x1024 .bf16) : FVec Ideal S256x65536 .f32 :=
  fun j => MergeMath.score (N a0 a1 a2 a3 a4 a5 a6 a7 a8 a9 a10 a11 a12 ⟨(j 1 : ℕ) / 2048, by have : (j 1 : ℕ) < 65536 := (j 1).isLt; omega⟩ ⟨(j 1 : ℕ) % 2048, Nat.mod_lt _ (by norm_num)⟩) (fun i => a13 (ix2 (j 0) i))

/-- The residual rows: the kernel's result array. -/
theorem final16 : (dats m 0 c).arrAt 16 (cfgs 0).N = G16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10)) (m ((c.tc : Thread nD τ).loc main_arg11)) (m ((c.tc : Thread nD τ).loc main_arg12)) := by
  refine (dats m 0 c).arrAt_eq_of_covers 16 _ (by decide +kernel) fun t hf y => ?_
  blk_simp
  rw [after0_16]
  have hy : ∀ y : S1x256x1024.Idx, (win0_16.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out16_at, xb_eq]
  rfl

/-- The experts' rows: the kernel's result array. -/
theorem final17 : (dats m 0 c).arrAt 17 (cfgs 0).N = G17 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 17 _ (by decide +kernel) fun t hf y => ?_
  blk_simp
  rw [after0_17]
  have hy : ∀ y : S1x256x1024.Idx, (win0_17.blk t).view.emb y = ix3 (bOf t) (sOf t (y 1)) (y 2) := by
    intro y
    idx_vars y
    obtain rfl : y0 = 0 := Subsingleton.elim _ _
    blk_ext [idx t, bOf, sOf]
  rw [hy y]
  idx_vars y
  obtain rfl : y0 = 0 := Subsingleton.elim _ _
  rw [out17_at, fb_eq]
  rfl

/-- The scores: the kernel's result array. -/
theorem final18 : (dats m 0 c).arrAt 18 (cfgs 0).N = G18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (dats m 0 c).arrAt_eq_of_covers 18 _ (by decide +kernel) fun t hf y => ?_
  blk_simp
  rw [after0_18]
  have hN := lt_of_lt_of_eq t.isLt (by decide : cfg0.N = 256)
  have hlt : ∀ r : Fin 256, (t.val % 32 * 8 + t.val / 32) * 256 + (r : ℕ) < 65536 := by intro r; omega
  have hy : ∀ y : S256x256.Idx, (win0_18.blk t).view.emb y = ix2 (y 0) ⟨(t.val % 32 * 8 + t.val / 32) * 256 + (y 1 : ℕ), hlt (y 1)⟩ := by
    intro y
    idx_vars y
    blk_ext [idx t]
  rw [hy y]
  idx_vars y
  rw [out18_at, fb_eq]
  simp only [in15]
  unfold G18
  have hb : (⟨((t.val % 32 * 8 + t.val / 32) * 256 + (y1 : ℕ)) / 2048, by have := hlt y1; omega⟩ : Fin 32) = bOf t := Fin.ext (by show _ = t.val % 32; simp only; omega)
  have hs : (⟨((t.val % 32 * 8 + t.val / 32) * 256 + (y1 : ℕ)) % 2048, Nat.mod_lt _ (by norm_num)⟩ : Fin 2048) = sOf t y1 := Fin.ext (by show _ = t.val / 32 * 256 + (y1 : ℕ); simp only; omega)
  rw [← hb, ← hs]
  rfl

end Cert.MergeIdeal.Body
-- ==== Proof.Merge.Ref.lean ====
/- The merge reference read at an index, and its three results as the kernel's functions of the arguments. -/
module

public import proofs.«01_k».proof.Proof.Gen.MergeReferenceIdeal.Run
public import proofs.«01_k».proof.Proof.Merge.Final
public import Idealize.ShloMosaic.Lib.Claim
public import Idealize.ShloMosaic.Lib.Pointwise

@[expose] public section

set_option maxRecDepth 16384

noncomputable section

namespace Cert.MergeReferenceIdeal.Hand

open Idealize.ShloMosaic Idealize.ShloMosaic.TcCoe Idealize.SL.Sem
open Cert.MergeReferenceIdeal Cert.MergeReferenceIdeal.Gen

/-- The sum of the two directions, by heads. -/
def heads (a2 a3 : FVec Ideal S32x2048x512 .bf16) : FVec Ideal S32x2048x4x128 .f32 :=
  shapeCast _ (addf (extf .f32 a2 bitsLt_bf16_f32) (extf .f32 a3 bitsLt_bf16_f32)) shapeCasts_S32x2048x512_S32x2048x4x128

/-- The normalised heads. -/
def normH (k : FVec Ideal S32x2048x4x128 .f32) (a7 : FVec Ideal S1x512 .f32) : FVec Ideal S32x2048x4x128 .f32 :=
  mulf (mulf k (broadcastInDim S32x2048x4x128 ![0, 1, 2, 3] bcast_S32x2048x4x1_S32x2048x4x128_0_1_2_3 (Host.rsqrt (addf (Host.divf (broadcastInDim S32x2048x4x1 ![0, 1, 2] bcast_S32x2048x4_S32x2048x4x1_0_1_2 (Host.reduceAdd (mulf k k) (constant S_ .f32 0x00000000#32) reducesTo_S32x2048x4x128_S32x2048x4_d3 h_S_)) (broadcastInDim S32x2048x4x1 ![] bcast_S_S32x2048x4x1 (constant S_ .f32 0x43000000#32))) (broadcastInDim S32x2048x4x1 ![] bcast_S_S32x2048x4x1 (constant S_ .f32 0x358637BD#32)))))) (broadcastInDim S32x2048x4x128 ![0, 1, 2, 3] bcast_S1x1x4x128_S32x2048x4x128_0_1_2_3 (broadcastInDim S1x1x4x128 ![2, 3] bcast_S4x128_S1x1x4x128_2_3 (shapeCast _ a7 shapeCasts_S1x512_S4x128)))

/-- The gated result of the inner cell. -/
def cell (k : FVec Ideal S32x2048x4x128 .f32) (a4 : FVec Ideal S32x2048x512 .bf16) : FVec Ideal S32x2048x512 .f32 :=
  mulf (shapeCast _ k shapeCasts_S32x2048x4x128_S32x2048x512) (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (extf .f32 a4 bitsLt_bf16_f32)))))

/-- The two branches, projected and weighted. -/
def mix (a1 : FVec Ideal S32x2048x512 .bf16) (a5 : FVec Ideal S32x2048x2048 .bf16) (h : FVec Ideal S32x2048x512 .f32) (a10 a11 : FVec Ideal S512x1024 .bf16) : FVec Ideal S32x2048x1024 .f32 :=
  addf (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extf .f32 (extractStridedSlice S32x2048x1024 ![0, 0, 0] a5 slices_S32x2048x2048_S32x2048x1024_0_0_0) bitsLt_bf16_f32))))) (Host.dotGeneral dot_S32x2048x512_S512x1024_S32x2048x1024_2_0_01_1_n_n none (extf .f32 a1 bitsLt_bf16_f32) (extf .f32 a10 bitsLt_bf16_f32))) (mulf (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extf .f32 (extractStridedSlice S32x2048x1024 ![0, 0, 1024] a5 slices_S32x2048x2048_S32x2048x1024_0_0_1024) bitsLt_bf16_f32))))) (Host.dotGeneral dot_S32x2048x512_S512x1024_S32x2048x1024_2_0_01_1_n_n none h (extf .f32 a11 bitsLt_bf16_f32)))

/-- The output projection. -/
def outp (y : FVec Ideal S32x2048x1024 .f32) (a12 : FVec Ideal S1024x1024 .bf16) : FVec Ideal S32x2048x1024 .f32 :=
  Host.dotGeneral dot_S32x2048x1024_S1024x1024_S32x2048x1024_2_0_01_1_n_n none y (extf .f32 a12 bitsLt_bf16_f32)

/-- The normalised rows. -/
def normX (y : FVec Ideal S32x2048x1024 .f32) (g : FVec Ideal S1x1024 .f32) : FVec Ideal S32x2048x1024 .f32 :=
  mulf (mulf y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf y y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![1, 2] bcast_S1x1024_S1x1x1024_1_2 g))

/-- The residual rows. -/
def resid (a0 : FVec Ideal S32x2048x1024 .f32) (a6 : FVec Ideal S40x6x1x1024 .f32) (n : FVec Ideal S32x2048x1024 .f32) : FVec Ideal S32x2048x1024 .f32 :=
  addf a0 (mulf (broadcastInDim S32x2048x1024 ![0, 1, 2] bcast_S32x1x1024_S32x2048x1024_0_1_2 (shapeCast _ (extractStridedSlice S32x1x1x1024 ![0, 2, 0, 0] a6 slices_S40x6x1x1024_S32x1x1x1024_0_2_0_0) shapeCasts_S32x1x1x1024_S32x1x1024)) n)

/-- The experts' rows. -/
def fin (n : FVec Ideal S32x2048x1024 .f32) (a6 : FVec Ideal S40x6x1x1024 .f32) : FVec Ideal S32x2048x1024 .f32 :=
  addf (mulf n (broadcastInDim S32x2048x1024 ![0, 1, 2] bcast_S32x1x1024_S32x2048x1024_0_1_2 (addf (broadcastInDim S32x1x1024 ![] bcast_S_S32x1x1024 (constant S_ .f32 0x3F800000#32)) (shapeCast _ (extractStridedSlice S32x1x1x1024 ![0, 4, 0, 0] a6 slices_S40x6x1x1024_S32x1x1x1024_0_4_0_0) shapeCasts_S32x1x1x1024_S32x1x1024)))) (broadcastInDim S32x2048x1024 ![0, 1, 2] bcast_S32x1x1024_S32x2048x1024_0_1_2 (shapeCast _ (extractStridedSlice S32x1x1x1024 ![0, 3, 0, 0] a6 slices_S40x6x1x1024_S32x1x1x1024_0_3_0_0) shapeCasts_S32x1x1x1024_S32x1x1024))

/-- The scores. -/
def scores (f : FVec Ideal S32x2048x1024 .f32) (a13 : FVec Ideal S256x1024 .bf16) : FVec Ideal S256x65536 .f32 :=
  transpose S256x65536 [1, 0] (Host.divf (broadcastInDim S65536x256 ![] bcast_S_S65536x256 (constant S_ .f32 0x3F800000#32)) (addf (broadcastInDim S65536x256 ![] bcast_S_S65536x256 (constant S_ .f32 0x3F800000#32)) (Host.exp (Host.negf (Host.dotGeneral dot_S65536x1024_S256x1024_S65536x256_1_1_0_0_n_n none (shapeCast _ f shapeCasts_S32x2048x1024_S65536x1024) (extf .f32 a13 bitsLt_bf16_f32)))))) transposes_S65536x256_S256x65536_1_0

variable (b : Fin 32) (s : Fin 2048)

/-- The heads at an index. -/
theorem heads_at (a2 a3 : FVec Ideal S32x2048x512 .bf16) (g : Fin 4) (d : Fin 128) : heads a2 a3 (ix4 b s g d) = a2 (ix3 b s ⟨(g : ℕ) * 128 + d, by omega⟩) + a3 (ix3 b s ⟨(g : ℕ) * 128 + d, by omega⟩) := by
  pointwise [heads]

/-- The normalised heads at an index. -/
theorem normH_at (k : FVec Ideal S32x2048x4x128 .f32) (f : FVec Ideal S1x512 .f32) (g : Fin 4) (d : Fin 128) :
    normH k f (ix4 b s g d) = k (ix4 b s g d) * Ideal.rsqrt (Ideal.div (∑ d, k (ix4 b s g d) * k (ix4 b s g d)) (Ideal.ofBits .f32 0x43000000#32) + MergeMath.eps) * f (ix2 0 ⟨(g : ℕ) * 128 + d, by omega⟩) := by
  pointwise [normH]

/-- The normalised heads at a lane. -/
theorem normH_lane (a2 a3 : FVec Ideal S32x2048x512 .bf16) (f : FVec Ideal S1x512 .f32) (g : Fin 4) (d : Fin 128) (j : Fin 512) (hj : (j : ℕ) = (g : ℕ) * 128 + d) :
    normH (heads a2 a3) f (ix4 b s g d) = MergeMath.normed (fun k => a2 (ix3 b s k) + a3 (ix3 b s k)) (fun k => f (ix2 0 k)) j := by
  have hlt : (g : ℕ) * 128 + (d : ℕ) < 512 := by omega
  obtain rfl : j = ⟨(g : ℕ) * 128 + d, hlt⟩ := Fin.ext hj
  rw [normH_at]
  simp only [heads_at]
  unfold MergeMath.normed MergeMath.headSum
  have e : ((g : ℕ) * 128 + (d : ℕ)) / 128 = g := by omega
  simp only [e]

/-- The gated result at an index. -/
theorem cell_at (k : FVec Ideal S32x2048x4x128 .f32) (a4 : FVec Ideal S32x2048x512 .bf16) (j : Fin 512) : cell k a4 (ix3 b s j) = k (ix4 b s ⟨(j : ℕ) / 128, by omega⟩ ⟨(j : ℕ) % 128, Nat.mod_lt _ (by norm_num)⟩) * MergeMath.sig (a4 (ix3 b s j)) := by
  pointwise [cell]
  rfl

/-- The gated result at a lane. -/
theorem cell_lane (a2 a3 a4 : FVec Ideal S32x2048x512 .bf16) (f : FVec Ideal S1x512 .f32) (j : Fin 512) :
    cell (normH (heads a2 a3) f) a4 (ix3 b s j) = MergeMath.cell (fun k => a2 (ix3 b s k) + a3 (ix3 b s k)) (fun k => f (ix2 0 k)) (fun k => a4 (ix3 b s k)) j := by
  rw [cell_at, normH_lane b s a2 a3 f _ _ j (by show (j : ℕ) = (j : ℕ) / 128 * 128 + (j : ℕ) % 128; omega)]
  rfl

/-- The mixture at an index. -/
theorem mix_at (a1 : FVec Ideal S32x2048x512 .bf16) (a5 : FVec Ideal S32x2048x2048 .bf16) (h : FVec Ideal S32x2048x512 .f32) (a10 a11 : FVec Ideal S512x1024 .bf16) (k : Fin 1024) :
    mix a1 a5 h a10 a11 (ix3 b s k) = MergeMath.mix (fun i => a5 (ix3 b s ⟨i, by omega⟩)) (fun i => a5 (ix3 b s ⟨1024 + i, by omega⟩)) (fun i => a1 (ix3 b s i)) (fun i => h (ix3 b s i)) (fun i k => a10 (ix2 i k)) (fun i k => a11 (ix2 i k)) k := by
  pointwise [mix]
  rfl

/-- The output projection at an index. -/
theorem outp_at (y : FVec Ideal S32x2048x1024 .f32) (a12 : FVec Ideal S1024x1024 .bf16) (k : Fin 1024) : outp y a12 (ix3 b s k) = MergeMath.proj (fun i => y (ix3 b s i)) (fun i k => a12 (ix2 i k)) k := by
  pointwise [outp]
  rfl

/-- The normalised rows at an index. -/
theorem normX_at (y : FVec Ideal S32x2048x1024 .f32) (g : FVec Ideal S1x1024 .f32) (k : Fin 1024) : normX y g (ix3 b s k) = MergeMath.norm (fun i => y (ix3 b s i)) (fun i => g (ix2 0 i)) k := by
  pointwise [normX]
  rfl

/-- The residual rows at an index. -/
theorem resid_at (a0 : FVec Ideal S32x2048x1024 .f32) (a6 : FVec Ideal S40x6x1x1024 .f32) (n : FVec Ideal S32x2048x1024 .f32) (k : Fin 1024) : resid a0 a6 n (ix3 b s k) = a0 (ix3 b s k) + a6 (ix4 ⟨b, by omega⟩ 2 0 k) * n (ix3 b s k) := by
  pointwise [resid]

/-- The experts' rows at an index. -/
theorem fin_at (n : FVec Ideal S32x2048x1024 .f32) (a6 : FVec Ideal S40x6x1x1024 .f32) (k : Fin 1024) : fin n a6 (ix3 b s k) = n (ix3 b s k) * (1 + a6 (ix4 ⟨b, by omega⟩ 4 0 k)) + a6 (ix4 ⟨b, by omega⟩ 3 0 k) := by
  pointwise [fin]

/-- The scores at an index. -/
theorem scores_at (f : FVec Ideal S32x2048x1024 .f32) (a13 : FVec Ideal S256x1024 .bf16) (l : Fin 256) (p : Fin 65536) :
    scores f a13 (ix2 l p) = MergeMath.score (fun i => f (ix3 ⟨(p : ℕ) / 2048, by omega⟩ ⟨(p : ℕ) % 2048, Nat.mod_lt _ (by norm_num)⟩ i)) (fun i => a13 (ix2 l i)) := by
  pointwise [scores]
  rfl

variable (a0 : FVec Ideal S32x2048x1024 .f32) (a1 : FVec Ideal S32x2048x512 .bf16) (a2 : FVec Ideal S32x2048x512 .bf16) (a3 : FVec Ideal S32x2048x512 .bf16) (a4 : FVec Ideal S32x2048x512 .bf16) (a5 : FVec Ideal S32x2048x2048 .bf16) (a6 : FVec Ideal S40x6x1x1024 .f32) (a7 : FVec Ideal S1x512 .f32) (a8 : FVec Ideal S1x1024 .f32) (a9 : FVec Ideal S1x1024 .f32) (a10 : FVec Ideal S512x1024 .bf16) (a11 : FVec Ideal S512x1024 .bf16) (a12 : FVec Ideal S1024x1024 .bf16) (a13 : FVec Ideal S256x1024 .bf16)

/-- The projected mixture of a token is the kernel's. -/
theorem y_at (k : Fin 1024) : (outp (mix a1 a5 (cell (normH (heads a2 a3) a7) a4) a10 a11) a12) (ix3 b s k) = Cert.MergeIdeal.Body.Y a1 a2 a3 a4 a5 a7 a10 a11 a12 b s k := by
  rw [outp_at]
  simp only [mix_at, cell_lane]
  rfl

/-- The residual row of a token is the kernel's. -/
theorem x_at (k : Fin 1024) : (resid a0 a6 (normX (outp (mix a1 a5 (cell (normH (heads a2 a3) a7) a4) a10 a11) a12) a8)) (ix3 b s k) = Cert.MergeIdeal.Body.X a0 a1 a2 a3 a4 a5 a6 a7 a8 a10 a11 a12 b s k := by
  rw [resid_at, normX_at]
  simp only [y_at]
  rfl

/-- The experts' row of a token is the kernel's. -/
theorem n_at (k : Fin 1024) : (fin (normX (resid a0 a6 (normX (outp (mix a1 a5 (cell (normH (heads a2 a3) a7) a4) a10 a11) a12) a8)) a9) a6) (ix3 b s k) = Cert.MergeIdeal.Body.N a0 a1 a2 a3 a4 a5 a6 a7 a8 a9 a10 a11 a12 b s k := by
  rw [fin_at, normX_at]
  simp only [x_at]
  rfl

/-- The reference's residual rows. -/
theorem ref16 : resid a0 a6 (normX (outp (mix a1 a5 (cell (normH (heads a2 a3) a7) a4) a10 a11) a12) a8) = Cert.MergeIdeal.Body.G16 a0 a1 a2 a3 a4 a5 a6 a7 a8 a10 a11 a12 := by
  funext i
  obtain ⟨b, s, j, rfl⟩ : ∃ x y z, i = ix3 x y z := ⟨i 0, i 1, i 2, by funext q; fin_cases q <;> rfl⟩
  exact x_at b s _ _ _ _ _ _ _ _ _ _ _ _ j

/-- The reference's experts' rows. -/
theorem ref17 : fin (normX (resid a0 a6 (normX (outp (mix a1 a5 (cell (normH (heads a2 a3) a7) a4) a10 a11) a12) a8)) a9) a6 = Cert.MergeIdeal.Body.G17 a0 a1 a2 a3 a4 a5 a6 a7 a8 a9 a10 a11 a12 := by
  funext i
  obtain ⟨b, s, j, rfl⟩ : ∃ x y z, i = ix3 x y z := ⟨i 0, i 1, i 2, by funext q; fin_cases q <;> rfl⟩
  exact n_at b s _ _ _ _ _ _ _ _ _ _ _ _ _ j

/-- The reference's scores. -/
theorem ref18 : scores (fin (normX (resid a0 a6 (normX (outp (mix a1 a5 (cell (normH (heads a2 a3) a7) a4) a10 a11) a12) a8)) a9) a6) a13 = Cert.MergeIdeal.Body.G18 a0 a1 a2 a3 a4 a5 a6 a7 a8 a9 a10 a11 a12 a13 := by
  funext i
  obtain ⟨l, p, rfl⟩ : ∃ x y, i = ix2 x y := ⟨i 0, i 1, by funext q; fin_cases q <;> rfl⟩
  rw [scores_at]
  simp only [n_at]
  rfl

end Cert.MergeReferenceIdeal.Hand
-- ==== Proof.Pos.Math.lean ====
/- The position of a token among the tokens sorted by expert, as a function of the selected experts. -/
module

public import Idealize.ShloMosaic.PureOps
public import Idealize.ShloMosaic.Lib.Pointwise
public import Idealize.ShloMosaic.Lib.ShapeFacts
public import Idealize.ShloMosaic.Lib.Routing.OpsOrder
public import Idealize.ShloMosaic.Lib.Pipeline.ValueKit

@[expose] public section

set_option maxRecDepth 16384

noncomputable section

namespace Cert.PosMath

open Idealize.ShloMosaic

/-- Whether a token selects an expert: one if it does, zero if not. -/
def mem {T : ℕ} (e : IVec ⟨2, ![8, T]⟩ 32) (x : Fin 256) (t : Fin T) : EReal :=
  if ∃ k : Fin 8, BitVec.ofNat 32 x = e (ix2 k t) then 1 else 0

/-- The same at any natural number, nothing past the last token. -/
def memN {T : ℕ} (e : IVec ⟨2, ![8, T]⟩ 32) (x : Fin 256) (n : ℕ) : EReal := if h : n < T then mem e x ⟨n, h⟩ else 0

/-- How many tokens before a given one select an expert. -/
def before {T : ℕ} (e : IVec ⟨2, ![8, T]⟩ 32) (x : Fin 256) (n : ℕ) : EReal := ∑ i ∈ Finset.range n, memN e x i

/-- Where a token stands among all that select its expert, from where the expert's tokens begin. -/
def position (e : IVec ⟨2, ![8, 65536]⟩ 32) (p : FVec Ideal ⟨2, ![256, 1]⟩ .f32) (k : Fin 8) (t : Fin 65536) : BitVec 32 :=
  Ideal.fptosi 32 (∑ x : Fin 256, if BitVec.ofNat 32 x = e (ix2 k t) then before e x t + p (ix2 x 0) else 0)

/-- Inside the tokens. -/
theorem memN_lt {T : ℕ} (e : IVec ⟨2, ![8, T]⟩ 32) (x : Fin 256) (t : Fin T) : memN e x t = mem e x t := dif_pos t.isLt

/-- The sum up to a token without that token's own share is the sum before it. -/
theorem before_succ_sub {T : ℕ} (e : IVec ⟨2, ![8, T]⟩ 32) (x : Fin 256) (t : Fin T) : before e x (t + 1) - mem e x t = before e x t := by
  unfold before
  rw [Finset.sum_range_succ, memN_lt]
  have h : ∃ b : ℝ, mem e x t = (b : EReal) := by
    unfold mem
    split
    · exact ⟨1, rfl⟩
    · exact ⟨0, rfl⟩
  obtain ⟨b, hb⟩ := h
  rw [hb, EReal.add_sub_cancel_right]

/-- A left fold of sums is the sum. -/
theorem foldl_sum {N : ℕ} (g : Fin N → EReal) (z : EReal) : (List.finRange N).foldl (fun r n => r + g n) z = z + ∑ n, g n := by
  have h : ∀ (l : List (Fin N)) (z : EReal), l.foldl (fun r n => r + g n) z = z + (l.map g).sum := by
    intro l
    induction l with
    | nil => intro z; simp
    | cons a l ih => intro z; rw [List.foldl_cons, ih, List.map_cons, List.sum_cons, add_assoc]
  rw [h, ← List.ofFn_eq_map, List.sum_ofFn]

/-- A sum over a window that reaches back over all earlier entries is the sum over these entries. -/
theorem sum_back (N1 j : ℕ) (h : j ≤ N1) (g : ℕ → EReal) :
    ∑ n ∈ Finset.range (N1 + 1), (if N1 ≤ j + n then g (j + n - N1) else 0) = ∑ i ∈ Finset.range (j + 1), g i := by
  rw [show N1 + 1 = (N1 - j) + (j + 1) by omega, Finset.sum_range_add]
  rw [Finset.sum_eq_zero fun n hn => if_neg (by have := Finset.mem_range.mp hn; omega), zero_add]
  refine Finset.sum_congr rfl fun n _ => ?_
  rw [if_pos (by omega)]
  congr 1
  omega

/-- A one-row window's position as its column. -/
theorem numel_row (N : ℕ) : (⟨2, ![1, N]⟩ : Shape).numel = N := (Shape.numel_rank2 _).trans (Nat.one_mul N)

/-- The running sum along the columns, at an entry: all earlier entries and the entry itself. -/
theorem cumsum_at {A N1 N : ℕ} (hN : N1 + 1 = N) (x : (⟨2, ![A, N]⟩ : Shape).Idx → EReal) (g : ℕ → EReal)
    (a : Fin A) (j : Fin N) (hx : ∀ i : Fin N, x (ix2 a i) = g i)
    (h : (⟨2, ![A, N]⟩ : Shape).ReduceWindows (![1, N] : Fin 2 → ℕ) ![1, 1] ![0, N1] ![0, 0] ⟨2, ![A, N]⟩) :
    Ideal.hostReduceWindowAdd ![1, N] ![1, 1] ![0, N1] ![0, 0] h x 0 (ix2 a j) = ∑ i ∈ Finset.range (j + 1), g i := by
  subst hN
  unfold Ideal.hostReduceWindowAdd Host.reduceWindow
  dsimp only
  refine (foldl_sum _ _).trans ?_
  rw [zero_add, ← sum_back N1 j (by omega) g]
  refine Eq.trans ?_ ((Fin.sum_univ_eq_sum_range (fun n => if N1 ≤ j + n then g (j + n - N1) else 0) (⟨2, ![1, N1 + 1]⟩ : Shape).numel).trans (by rw [numel_row]))
  refine Finset.sum_congr rfl fun n _ => ?_
  have hn : n.val < N1 + 1 := lt_of_lt_of_eq n.isLt (numel_row _)
  have hj := j.isLt
  have ha := a.isLt
  have hs : (⟨2, ![1, N1 + 1]⟩ : Shape).rowMajor.symm n = ix2 (0 : Fin 1) (⟨n.val, hn⟩ : Fin (N1 + 1)) :=
    ((⟨2, ![1, N1 + 1]⟩ : Shape).rowMajor.symm_apply_eq).2 (Fin.ext (by
      rw [Shape.rowMajor_val_two]
      show n.val = 0 * (N1 + 1) + n.val
      omega))
  have hw0 : ((⟨2, ![1, N1 + 1]⟩ : Shape).rowMajor.symm n 0).val = 0 := by rw [hs]; rfl
  have hw1 : ((⟨2, ![1, N1 + 1]⟩ : Shape).rowMajor.symm n 1).val = n.val := by rw [hs]; rfl
  split
  · next hin =>
    have h1 := hin 1
    change N1 ≤ j.val * 1 + ((⟨2, ![1, N1 + 1]⟩ : Shape).rowMajor.symm n 1).val
      ∧ j.val * 1 + ((⟨2, ![1, N1 + 1]⟩ : Shape).rowMajor.symm n 1).val - N1 < N1 + 1 at h1
    rw [hw1] at h1
    rw [if_pos (by omega)]
    refine (congrArg x (funext fun q => Fin.ext ?_)).trans (hx ⟨j.val + n.val - N1, by omega⟩)
    match q with
    | ⟨0, _⟩ =>
      show a.val * 1 + ((⟨2, ![1, N1 + 1]⟩ : Shape).rowMajor.symm n 0).val - 0 = a.val
      rw [hw0]
      omega
    | ⟨1, _⟩ =>
      show j.val * 1 + ((⟨2, ![1, N1 + 1]⟩ : Shape).rowMajor.symm n 1).val - N1 = j.val + n.val - N1
      rw [hw1, Nat.mul_one]
  · next hin =>
    refine (if_neg fun hle => hin fun q => ?_).symm
    match q with
    | ⟨0, _⟩ =>
      show 0 ≤ a.val * 1 + ((⟨2, ![1, N1 + 1]⟩ : Shape).rowMajor.symm n 0).val ∧ a.val * 1 + ((⟨2, ![1, N1 + 1]⟩ : Shape).rowMajor.symm n 0).val - 0 < A
      rw [hw0]
      omega
    | ⟨1, _⟩ =>
      show N1 ≤ j.val * 1 + ((⟨2, ![1, N1 + 1]⟩ : Shape).rowMajor.symm n 1).val
        ∧ j.val * 1 + ((⟨2, ![1, N1 + 1]⟩ : Shape).rowMajor.symm n 1).val - N1 < N1 + 1
      rw [hw1]
      omega

end Cert.PosMath

end
-- ==== Proof.Pos.Ref.lean ====
/- The reference of the tokens' positions by expert, read at an entry. -/
module

public import proofs.«01_k».proof.Proof.Gen.PosReferenceIdeal.Run
public import proofs.«01_k».proof.Proof.Pos.Math
public import Idealize.ShloMosaic.Lib.Pointwise

@[expose] public section

set_option maxRecDepth 16384

noncomputable section

namespace Cert.PosReferenceIdeal.Hand

open Idealize.ShloMosaic Idealize.ShloMosaic.TcCoe Idealize.SL.Sem
open Cert.PosReferenceIdeal Cert.PosReferenceIdeal.Gen

/-- Which of a token's places hold an expert. -/
def hot (e : IVec S8x65536 32) : IVec S8x256x65536 1 :=
  cmpi .eq (broadcastInDim S8x256x65536 ![0, 1, 2] bcast_S8x1x65536_S8x256x65536_0_1_2 (broadcastInDim S8x1x65536 ![0, 2] bcast_S8x65536_S8x1x65536_0_2 e)) (broadcastInDim S8x256x65536 ![0, 1, 2] bcast_S1x256x1_S8x256x65536_0_1_2 (broadcastInDim S1x256x1 ![1] bcast_S256_S1x256x1_1 (iotaInDim S256 32 0)))

/-- Which tokens select an expert. -/
def member (e : IVec S8x65536 32) : FVec Ideal S256x65536 .f32 := uitofp .f32 (Host.reduce IntOp.ori (hot e) (constantI S_ 1 0#1) reducesTo_S8x256x65536_S256x65536_d0 h_S_)

/-- How many tokens up to and including one select an expert. -/
def running (e : IVec S8x65536 32) : FVec Ideal S256x65536 .f32 :=
  Host.reduceWindowAdd ![1, 65536] ![1, 1] ![0, 65535] ![0, 0] (member e) (broadcastInDim S_ ![] bcast_S_S_ (constant (F := Ideal) S_ .f32 0x00000000#32)) reduceWindows_S256x65536_S256x65536_w1s1p0_0_w65536s1p65535_0 h_S_

/-- The reference's operations, of its arguments. -/
def rows (e : IVec S8x65536 32) (p : FVec Ideal S256x1 .f32) : IVec S8x65536 32 :=
  fptosi 32 (Host.reduceAdd (select (hot e) (broadcastInDim S8x256x65536 ![0, 1, 2] bcast_S1x256x65536_S8x256x65536_0_1_2 (broadcastInDim S1x256x65536 ![1, 2] bcast_S256x65536_S1x256x65536_1_2 (addf (subf (running e) (member e)) (broadcastInDim S256x65536 ![0, 1] bcast_S256x1_S256x65536_0_1 p)))) (broadcastInDim S8x256x65536 ![] bcast_S_S8x256x65536 (id (constant S_ .f32 0x00000000#32)))) (constant S_ .f32 0x00000000#32) reducesTo_S8x256x65536_S8x65536_d1 h_S_)

/-- Whether a place holds an expert. -/
theorem hot_at (e : IVec S8x65536 32) (k : Fin 8) (x : Fin 256) (t : Fin 65536) : hot e (ix3 k x t) = IntOp.cmpi .eq (e (ix2 k t)) (BitVec.ofNat 32 x) := by
  pointwise [hot]

/-- Whether a token selects an expert. -/
theorem member_at (e : IVec S8x65536 32) (x : Fin 256) (t : Fin 65536) : member e (ix2 x t) = PosMath.mem e x t := by
  pointwise [member, hot_at]
  have h1 : FloatOps.uitofp (F := Ideal) .f32 (1#1 : BitVec 1) = (1 : EReal) := by
    change (((1#1 : BitVec 1).toNat : ℝ) : EReal) = 1
    simp
  have h0 : FloatOps.uitofp (F := Ideal) .f32 (0#1 : BitVec 1) = (0 : EReal) := by
    change (((0#1 : BitVec 1).toNat : ℝ) : EReal) = 0
    simp
  have hf := Routing.fold_ori (Finset.univ : Finset (Fin 8)) (fun k : Fin 8 => IntOp.cmpi .eq (e (ix2 k t)) (BitVec.ofNat 32 (x : ℕ)))
  unfold PosMath.mem
  generalize hb : Finset.fold IntOp.ori (0#1) (fun k : Fin 8 => IntOp.cmpi .eq (e (ix2 k t)) (BitVec.ofNat 32 (x : ℕ))) Finset.univ = b at hf ⊢
  have hq : (∃ k ∈ (Finset.univ : Finset (Fin 8)), IntOp.cmpi .eq (e (ix2 k t)) (BitVec.ofNat 32 (x : ℕ)) = 1#1) ↔ ∃ k : Fin 8, BitVec.ofNat 32 (x : ℕ) = e (ix2 k t) := by
    simp only [WordCmp.cmpi_eq_eq, WordCmp.ofBool_decide_eq_one_iff, Finset.mem_univ, true_and]
    exact exists_congr fun k => eq_comm
  rw [hq] at hf
  rcases BitVec.eq_zero_or_eq_one b with rfl | rfl
  · rw [if_neg (fun h => absurd (hf.2 h) (by decide))]
    exact h0
  · rw [if_pos (hf.1 rfl)]
    exact h1

/-- The running count at a token. -/
theorem running_at (e : IVec S8x65536 32) (x : Fin 256) (t : Fin 65536) : running e (ix2 x t) = PosMath.before e x (t + 1) := by
  unfold running Host.reduceWindowAdd
  rw [Ideal.hostReduceWindowAdd_def]
  rw [show (broadcastInDim S_ ![] bcast_S_S_ (constant (F := Ideal) S_ .f32 0x00000000#32)) (Shape.Idx.first h_S_) = 0 by pointwise []]
  exact PosMath.cumsum_at (by norm_num) _ (PosMath.memN e x) x t (fun i => (member_at e x i).trans (PosMath.memN_lt e x i).symm) _

/-- The reference is the position at every entry. -/
theorem ref3 (e : IVec S8x65536 32) (p : FVec Ideal S256x1 .f32) : rows e p = fun i => PosMath.position e p (i 0) (i 1) := by
  funext i
  obtain ⟨k, t, rfl⟩ : ∃ a b, i = ix2 a b := ⟨i 0, i 1, by funext q; fin_cases q <;> rfl⟩
  pointwise [rows, hot_at, running_at, member_at]
  unfold PosMath.position
  rw [show id (constant (F := Ideal) S_ .f32 0x00000000#32) ix0 = (0 : EReal) by rw [id_eq]; pointwise []]
  simp only [PosMath.before_succ_sub, WordCmp.cmpi_eq_eq, WordCmp.select_decide]
  refine congrArg _ (Finset.sum_congr rfl fun x _ => ?_)
  exact if_congr eq_comm rfl rfl

end Cert.PosReferenceIdeal.Hand

end
-- ==== Proof.Pos.Body.lean ====
/- What a grid point of the positions' kernel computes, at an entry. -/
module

public import proofs.«01_k».proof.Proof.Gen.PosIdeal.Value
public import proofs.«01_k».proof.Proof.Pos.Math
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PosIdeal.Body

open Idealize.ShloMosaic Idealize.ShloMosaic.TcCoe Idealize.SL.Sem
open Cert.PosIdeal Cert.PosIdeal.Gen

/-- One where a condition holds is one if it is one elsewhere. -/
theorem one_of (P : Prop) [Decidable P] (v : EReal) (h : v = 1) : (if P then (1 : EReal) else v) = 1 := by
  split
  · rfl
  · exact h

/-- Which of a block's tokens select an expert, from the experts of the block. -/
theorem member_at (e : IVec S8x512 32) (x : Fin 256) (t : Fin 512) : k0_pay7 (F := Ideal) (k0_pay4 e) (k0_pay5 (F := Ideal) e) (k0_pay6 (F := Ideal)) (ix2 x t) = PosMath.mem e x t := by
  pointwise [k0_pay7, k0_pay4, k0_pay5, k0_pay6]
  simp only [WordCmp.cmpi_eq_eq, WordCmp.select_decide]
  unfold PosMath.mem
  by_cases h : ∃ k : Fin 8, BitVec.ofNat 32 (x : ℕ) = e (ix2 k t)
  · rw [if_pos h]
    obtain ⟨k, hk⟩ := h
    match k, hk with
    | 0, hk => exact one_of _ _ (one_of _ _ (one_of _ _ (one_of _ _ (one_of _ _ (one_of _ _ (one_of _ _ (if_pos hk)))))))
    | 1, hk => exact one_of _ _ (one_of _ _ (one_of _ _ (one_of _ _ (one_of _ _ (one_of _ _ (if_pos hk))))))
    | 2, hk => exact one_of _ _ (one_of _ _ (one_of _ _ (one_of _ _ (one_of _ _ (if_pos hk)))))
    | 3, hk => exact one_of _ _ (one_of _ _ (one_of _ _ (one_of _ _ (if_pos hk))))
    | 4, hk => exact one_of _ _ (one_of _ _ (one_of _ _ (if_pos hk)))
    | 5, hk => exact one_of _ _ (one_of _ _ (if_pos hk))
    | 6, hk => exact one_of _ _ (if_pos hk)
    | 7, hk => exact if_pos hk
  · have hn : ∀ k : Fin 8, ¬BitVec.ofNat 32 (x : ℕ) = e (ix2 k t) := fun k hk => h ⟨k, hk⟩
    rw [if_neg h, if_neg (hn 7), if_neg (hn 6), if_neg (hn 5), if_neg (hn 4), if_neg (hn 3), if_neg (hn 2), if_neg (hn 1), if_neg (hn 0)]

/-- A slot of a block: the earlier tokens of the block and what came before it. -/
theorem slot_at (e : IVec S8x512 32) (u : FVec Ideal S512x512 .bf16) (p r : FVec Ideal S256x1 .f32) (x : Fin 256) (t : Fin 512) :
    k0_pay8 (F := Ideal) (k0_pay4 e) (k0_pay5 (F := Ideal) e) (k0_pay6 (F := Ideal)) u p r (ix2 x t)
      = (∑ i : Fin 512, PosMath.mem e x i * u (ix2 i t)) + (p (ix2 x 0) + r (ix2 x 0)) := by
  pointwise [k0_pay8, member_at]

/-- The counts after a block. -/
theorem count_at (v : FVec Ideal S256x512 .f32) (r : FVec Ideal S256x128 .f32) (x : Fin 256) (l : Fin 128) :
    k0_pay2 (F := Ideal) v r (ix2 x l) = r (ix2 x l) + ∑ t : Fin 512, v (ix2 x t) := by
  pointwise [k0_pay2]

/-- The counts before the first block. -/
theorem zero_at (x : Fin 256) (l : Fin 128) : k0_pay3 (F := Ideal) (ix2 x l) = 0 := by
  pointwise [k0_pay3]

/-- The block of positions, from the block's inputs and the counts' column before it. -/
def out (e : IVec S8x512 32) (u : FVec Ideal S512x512 .bf16) (p r : FVec Ideal S256x1 .f32) : IVec S8x512 32 :=
  k0_pay1 (F := Ideal) e (iota .tc S256x512 32 [0] iota_S256x512_d0_w32) (k0_pay8 (k0_pay4 e) (k0_pay5 (F := Ideal) e) (k0_pay6 (F := Ideal)) u p r)
    (k0_pay9 e (iota .tc S256x512 32 [0] iota_S256x512_d0_w32) (k0_pay4 e) (k0_pay5 (F := Ideal) e) (k0_pay6 (F := Ideal)) u p r) (k0_pay10 e (iota .tc S256x512 32 [0] iota_S256x512_d0_w32) (k0_pay4 e) (k0_pay5 (F := Ideal) e) (k0_pay6 (F := Ideal)) u p r)
    (k0_pay11 e (iota .tc S256x512 32 [0] iota_S256x512_d0_w32) (k0_pay4 e) (k0_pay5 (F := Ideal) e) (k0_pay6 (F := Ideal)) u p r) (k0_pay12 e (iota .tc S256x512 32 [0] iota_S256x512_d0_w32) (k0_pay4 e) (k0_pay5 (F := Ideal) e) (k0_pay6 (F := Ideal)) u p r)
    (k0_pay13 e (iota .tc S256x512 32 [0] iota_S256x512_d0_w32) (k0_pay4 e) (k0_pay5 (F := Ideal) e) (k0_pay6 (F := Ideal)) u p r)

/-- A sum over the experts with a comparison's select as one with a condition. -/
theorem pick (b : BitVec 32) (s : Fin 256 → EReal) :
    (∑ x : Fin 256, Scalar.select (IntOp.cmpi .eq (BitVec.ofNat 32 (x : ℕ)) b) (s x) 0) = ∑ x : Fin 256, if BitVec.ofNat 32 (x : ℕ) = b then s x else 0 := by
  simp only [WordCmp.cmpi_eq_eq, WordCmp.select_decide]

/-- A position of the block: its expert's slot, as a whole number. -/
theorem out_at (e : IVec S8x512 32) (u : FVec Ideal S512x512 .bf16) (p r : FVec Ideal S256x1 .f32) (k : Fin 8) (j : Fin 512) :
    out e u p r (ix2 k j) = Ideal.fptosi 32 (∑ x : Fin 256, if BitVec.ofNat 32 (x : ℕ) = e (ix2 k j) then
      (∑ i : Fin 512, PosMath.mem e x i * u (ix2 i j)) + (p (ix2 x 0) + r (ix2 x 0)) else 0) := by
  rw [← pick]
  unfold out
  fin_cases k
  all_goals
    pointwise [k0_pay1, k0_pay9, k0_pay10, k0_pay11, k0_pay12, k0_pay13, slot_at]
    rfl

variable (m : (ℓ : Loc nD τ sig) → Buf (Elt Ideal) ℓ) (c : Dev nD)

/-- A block's members of every expert. -/
def mems (t : Fin cfg0.N) : FVec Ideal S256x512 .f32 := k0_pay7 (F := Ideal) (k0_pay4 (iblk m c 0 t)) (k0_pay5 (F := Ideal) (iblk m c 0 t)) (k0_pay6 (F := Ideal))

/-- The counts' column. -/
def col0 (X : FVec Ideal S256x128 .f32) : FVec Ideal S256x1 .f32 :=
  fun i => X ((Rect.unit (s := S256x128) ![0, 0] ![256, 1] inb_S256x128_S256x1_0_0).idx i)

/-- The counts' column at an expert. -/
theorem col0_at (X : FVec Ideal S256x128 .f32) (x : Fin 256) : col0 X (ix2 x 0) = X (ix2 x 0) := by
  refine congrArg X ?_
  funext a
  fin_cases a
  · exact Fin.ext (by show 0 + 1 * (x : ℕ) = x; omega)
  · rfl

/-- The first block's counts. -/
theorem scr_A (t : Fin cfg0.N) (h : t.val % 128 = 0) : (outsAt0 m c t.val t.isLt).2 = k0_pay2 (F := Ideal) (mems m c t) (k0_pay3 (F := Ideal)) := by
  rw [outsAt0_A m c t h]
  frame_out
  rfl

/-- A later block's counts, from those before. -/
theorem scr_B (t : Fin cfg0.N) (h : ¬t.val % 128 = 0) : (outsAt0 m c t.val t.isLt).2 = k0_pay2 (F := Ideal) (mems m c t) (outsAt0 m c (t.val - 1) (by have := t.isLt; omega)).2 := by
  rw [outsAt0_B m c t h]
  frame_out
  rw [read_unread_whole]
  rfl

/-- The first block's positions. -/
theorem out_A (t : Fin cfg0.N) (h : t.val % 128 = 0) : (outsAt0 m c t.val t.isLt).1 = out (iblk m c 0 t) (iblk m c 2 t) (iblk m c 1 t) (col0 (k0_pay3 (F := Ideal))) := by
  rw [outsAt0_A m c t h]
  frame_out
  rw [View.readCov_fill (h := by decide)]
  unfold out col0
  rfl

/-- A later block's positions, from the counts before. -/
theorem out_B (t : Fin cfg0.N) (h : ¬t.val % 128 = 0) :
    (outsAt0 m c t.val t.isLt).1 = out (iblk m c 0 t) (iblk m c 2 t) (iblk m c 1 t) (col0 (outsAt0 m c (t.val - 1) (by have := t.isLt; omega)).2) := by
  rw [outsAt0_B m c t h]
  frame_out
  rw [read_unread_whole]
  rfl

end Cert.PosIdeal.Body

end
-- ==== Proof.Pos.Final.lean ====
/- The positions' kernel: its result array as the positions of its arguments. -/
module

public import proofs.«01_k».proof.Proof.Pos.Body

@[expose] public section

set_option maxRecDepth 16384

noncomputable section

namespace Cert.PosIdeal.Body

open Idealize.ShloMosaic Idealize.ShloMosaic.TcCoe Idealize.SL.Sem
open Cert.PosIdeal Cert.PosIdeal.Gen

variable (m : (ℓ : Loc nD τ sig) → Buf (Elt Ideal) ℓ) (c : Dev nD)

/-- The block that each array has at a grid point: the tokens' arrays move with the point. -/
theorem idx : ∀ t : Fin cfg0.N, win0_0.index t = ![0, t.val % 128] ∧ win0_1.index t = ![0, 0] ∧ win0_2.index t = ![0, 0] ∧ win0_3.index t = ![0, t.val % 128] :=
  (by decide +kernel : ∀ t : Fin grid0.N, _)

/-- A point's number is below the number of blocks. -/
theorem point_lt : ∀ t : Fin cfg0.N, t.val < 128 := (by decide +kernel : ∀ t : Fin grid0.N, t.val < 128)

/-- A token of a point's block as a token of the whole. -/
def tok (t : Fin cfg0.N) (j : Fin 512) : Fin 65536 := ⟨t.val % 128 * 512 + j, by have := Nat.mod_lt t.val (show 0 < 128 by norm_num); omega⟩

/-- The selected experts' block at an index. -/
theorem in0 (t : Fin cfg0.N) (k : Fin 8) (j : Fin 512) : iblk m c 0 t (ix2 k j) = m ((c.tc : Thread nD τ).loc main_arg0) (ix2 k (tok t j)) := by
  rw [← V_main_arg0 m c]
  blk_point [iblk, idx t, tok]

/-- The experts' first places are one block. -/
theorem in1 (t : Fin cfg0.N) (x : Fin 256) : iblk m c 1 t (ix2 x 0) = m ((c.tc : Thread nD τ).loc main_arg1) (ix2 x 0) := by
  rw [← V_main_arg1 m c]
  blk_point [iblk, idx t]

/-- The matrix of ones above the diagonal, as the host computes it. -/
def upper : FVec Ideal S512x512 .bf16 :=
  uitofp .bf16 (cmpi .slt
      (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0))))

/-- The array that the region finds is that matrix. -/
theorem V_upper : V m c main_v6 = upper := by
  unfold V
  simp only [hostOps0]
  after_results_simp
  rfl

/-- The matrix at an index. -/
theorem upper_at (i j : Fin 512) : upper (ix2 i j) = if (i : ℕ) < (j : ℕ) then (1 : EReal) else 0 := by
  have h1 : FloatOps.uitofp (F := Ideal) .bf16 (1#1 : BitVec 1) = (1 : EReal) := by
    change (((1#1 : BitVec 1).toNat : ℝ) : EReal) = 1
    simp
  have h0 : FloatOps.uitofp (F := Ideal) .bf16 (0#1 : BitVec 1) = (0 : EReal) := by
    change (((0#1 : BitVec 1).toNat : ℝ) : EReal) = 0
    simp
  pointwise [upper]
  rw [WordCmp.cmpi_slt_ofNat (by have := i.isLt; omega) (by have := j.isLt; omega)]
  by_cases h : (i : ℕ) < (j : ℕ)
  · rw [if_pos h, decide_eq_true h]
    exact h1
  · rw [if_neg h, decide_eq_false h]
    exact h0

/-- The matrix of ones above the diagonal is one block. -/
theorem in2 (t : Fin cfg0.N) (i j : Fin 512) : iblk m c 2 t (ix2 i j) = if (i : ℕ) < (j : ℕ) then (1 : EReal) else 0 := by
  rw [← upper_at, ← V_upper m c]
  blk_point [iblk, idx t]

/-- A block's token selects an expert when that token of the whole does. -/
theorem mem_block (t : Fin cfg0.N) (x : Fin 256) (j : Fin 512) :
    PosMath.mem (T := 512) (iblk m c 0 t) x j = PosMath.memN (T := 65536) (m ((c.tc : Thread nD τ).loc main_arg0)) x (512 * t.val + j) := by
  have e : 512 * t.val + (j : ℕ) = ((tok t j : Fin 65536) : ℕ) := by
    show _ = t.val % 128 * 512 + (j : ℕ)
    rw [Nat.mod_eq_of_lt (point_lt t)]
    omega
  rw [e, PosMath.memN_lt]
  unfold PosMath.mem
  simp only [in0]

/-- A block's members of an expert, in number, after those before it. -/
theorem before_block (t : Fin cfg0.N) (x : Fin 256) :
    PosMath.before (T := 65536) (m ((c.tc : Thread nD τ).loc main_arg0)) x (512 * t.val) + ∑ j : Fin 512, mems m c t (ix2 x j)
      = PosMath.before (T := 65536) (m ((c.tc : Thread nD τ).loc main_arg0)) x (512 * (t.val + 1)) := by
  have hm : ∀ j : Fin 512, mems m c t (ix2 x j) = PosMath.memN (T := 65536) (m ((c.tc : Thread nD τ).loc main_arg0)) x (512 * t.val + j) :=
    fun j => (member_at (iblk m c 0 t) x j).trans (mem_block m c t x j)
  rw [Finset.sum_congr rfl fun j _ => hm j]
  unfold PosMath.before
  rw [show 512 * (t.val + 1) = 512 * t.val + 512 by ring, Finset.sum_range_add]
  congr 1

/-- The counts after a point: every token up to its block's last. -/
theorem counts (n : ℕ) (hn : n < cfg0.N) (x : Fin 256) (l : Fin 128) :
    (outsAt0 m c n hn).2 (ix2 x l) = PosMath.before (T := 65536) (m ((c.tc : Thread nD τ).loc main_arg0)) x (512 * (n + 1)) := by
  induction n with
  | zero =>
    have h := scr_A m c ⟨0, hn⟩ rfl
    have hb := before_block m c ⟨0, hn⟩ x
    refine (congrFun h _).trans ((count_at _ _ _ _).trans ?_)
    rw [zero_at]
    exact hb
  | succ n ih =>
    have hl := point_lt ⟨n + 1, hn⟩
    have h := scr_B m c ⟨n + 1, hn⟩ (by show ¬(n + 1) % 128 = 0; rw [Nat.mod_eq_of_lt (show n + 1 < 128 from hl)]; exact Nat.succ_ne_zero n)
    have hb := before_block m c ⟨n + 1, hn⟩ x
    refine (congrFun h _).trans ((count_at _ _ _ _).trans ?_)
    refine Eq.trans ?_ hb
    congr 1
    exact ih (Nat.lt_of_succ_lt hn)

/-- The earlier tokens of a block, selected by the matrix, after those before the block. -/
theorem earlier (t : Fin cfg0.N) (x : Fin 256) (j : Fin 512) :
    PosMath.before (T := 65536) (m ((c.tc : Thread nD τ).loc main_arg0)) x (512 * t.val) + ∑ i : Fin 512, PosMath.mem (T := 512) (iblk m c 0 t) x i * iblk m c 2 t (ix2 i j)
      = PosMath.before (T := 65536) (m ((c.tc : Thread nD τ).loc main_arg0)) x (tok t j) := by
  have e : ((tok t j : Fin 65536) : ℕ) = 512 * t.val + (j : ℕ) := by
    show t.val % 128 * 512 + (j : ℕ) = _
    rw [Nat.mod_eq_of_lt (point_lt t)]
    omega
  rw [e]
  unfold PosMath.before
  rw [Finset.sum_range_add]
  congr 1
  have hm : ∀ i : Fin 512, PosMath.mem (T := 512) (iblk m c 0 t) x i * iblk m c 2 t (ix2 i j)
      = (fun n : ℕ => if n < (j : ℕ) then PosMath.memN (T := 65536) (m ((c.tc : Thread nD τ).loc main_arg0)) x (512 * t.val + n) else 0) i := by
    intro i
    rw [in2, mem_block]
    dsimp only
    split
    · exact mul_one _
    · exact mul_zero _
  refine (Finset.sum_congr rfl fun i _ => hm i).trans ((Fin.sum_univ_eq_sum_range
    (fun n : ℕ => if n < (j : ℕ) then PosMath.memN (T := 65536) (m ((c.tc : Thread nD τ).loc main_arg0)) x (512 * t.val + n) else 0) 512).trans ?_)
  rw [← Finset.sum_filter]
  refine Finset.sum_congr ?_ fun _ _ => rfl
  ext n
  simp only [Finset.mem_filter, Finset.mem_range]
  have := j.isLt
  omega

/-- What a point writes, from the counts' column before it. -/
theorem block_at (t : Fin cfg0.N) (r : FVec Ideal S256x1 .f32)
    (hr : ∀ x : Fin 256, r (ix2 x 0) = PosMath.before (T := 65536) (m ((c.tc : Thread nD τ).loc main_arg0)) x (512 * t.val)) (k : Fin 8) (j : Fin 512) :
    out (iblk m c 0 t) (iblk m c 2 t) (iblk m c 1 t) r (ix2 k j)
      = PosMath.position (m ((c.tc : Thread nD τ).loc main_arg0)) (m ((c.tc : Thread nD τ).loc main_arg1)) k (tok t j) := by
  rw [out_at]
  unfold PosMath.position
  refine congrArg _ (Finset.sum_congr rfl fun x _ => ?_)
  rw [in0, in1, hr, ← earlier m c t x j]
  refine if_congr Iff.rfl ?_ rfl
  have comm : ∀ a b d : EReal, a + (b + d) = d + a + b := fun a b d => by rw [add_comm b d, ← add_assoc, add_comm a d]
  exact comm _ _ _

/-- A point's positions are those of its tokens. -/
theorem point_at (t : Fin cfg0.N) (k : Fin 8) (j : Fin 512) : (outsAt0 m c t.val t.isLt).1 (ix2 k j)
    = PosMath.position (m ((c.tc : Thread nD τ).loc main_arg0)) (m ((c.tc : Thread nD τ).loc main_arg1)) k (tok t j) := by
  have hl := point_lt t
  by_cases h : t.val % 128 = 0
  · rw [out_A m c t h]
    refine block_at m c t _ (fun x => ?_) k j
    rw [col0_at, zero_at]
    have h0 : t.val = 0 := by rwa [Nat.mod_eq_of_lt hl] at h
    rw [h0]
    rfl
  · rw [out_B m c t h]
    refine block_at m c t _ (fun x => ?_) k j
    rw [col0_at, counts]
    have h0 : ¬t.val = 0 := by rwa [Nat.mod_eq_of_lt hl] at h
    rw [show t.val - 1 + 1 = t.val by omega]

/-- The kernel's result array. -/
theorem final3 : (dats m 0 c).arrAt 3 (cfgs 0).N
    = fun i => PosMath.position (m ((c.tc : Thread nD τ).loc main_arg0)) (m ((c.tc : Thread nD τ).loc main_arg1)) (i 0) (i 1) := by
  refine (dats m 0 c).arrAt_eq_of_covers 3 _ (by decide +kernel) fun t hf y => ?_
  blk_simp
  rw [after0_3]
  have hy : ∀ y : S8x512.Idx, (win0_3.blk t).view.emb y = ix2 (y 0) (tok t (y 1)) := by
    intro y
    idx_vars y
    blk_ext [idx t, tok]
  rw [hy y]
  idx_vars y
  exact point_at m c t _ _

end Cert.PosIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.Inproj.Skeleton
public import proofs.«01_k».proof.Proof.Gen.Inproj.Launch
public import proofs.«01_k».proof.Proof.Gen.Inproj.Points
public import proofs.«01_k».proof.Proof.Gen.InprojReferenceIdeal
public import proofs.«01_k».proof.Proof.Gen.InprojReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.InprojCtx
public import proofs.«01_k».proof.Proof.Gen.InprojCtx.Skeleton
public import proofs.«01_k».proof.Proof.Gen.InprojCtx.Launch
public import proofs.«01_k».proof.Proof.Gen.InprojCtx.Points
public import proofs.«01_k».proof.Proof.Gen.InprojCtx.Frame
public import proofs.«01_k».proof.Proof.Gen.InprojCtxIdeal
public import proofs.«01_k».proof.Proof.Gen.InprojCtxIdeal.Skeleton
public import proofs.«01_k».proof.Proof.Gen.InprojCtxIdeal.Launch
public import proofs.«01_k».proof.Proof.Gen.InprojCtxIdeal.Points
public import proofs.«01_k».proof.Proof.Gen.InprojCtxIdeal.Frame
public import proofs.«01_k».proof.Proof.Gen.InprojCtxIdeal.Value
public import proofs.«01_k».proof.Proof.Gen.InprojCtxReferenceIdeal
public import proofs.«01_k».proof.Proof.Gen.InprojCtxReferenceIdeal.Run
public import proofs.«01_k».proof.Proof.InprojCtx.Pre
public import proofs.«01_k».proof.Proof.InprojCtx.Ref
public import proofs.«01_k».proof.Proof.Ada.Final
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.Pos
public import proofs.«01_k».proof.Proof.Gen.Pos.Skeleton
public import proofs.«01_k».proof.Proof.Gen.Pos.Launch
public import proofs.«01_k».proof.Proof.Gen.Pos.Points
public import proofs.«01_k».proof.Proof.Gen.Pos.Frame
public import proofs.«01_k».proof.Proof.Gen.PosIdeal
public import proofs.«01_k».proof.Proof.Gen.PosIdeal.Skeleton
public import proofs.«01_k».proof.Proof.Gen.PosIdeal.Launch
public import proofs.«01_k».proof.Proof.Gen.PosIdeal.Points
public import proofs.«01_k».proof.Proof.Gen.PosIdeal.Frame
public import proofs.«01_k».proof.Proof.Gen.PosIdeal.Value
public import proofs.«01_k».proof.Proof.Gen.PosReferenceIdeal
public import proofs.«01_k».proof.Proof.Gen.PosReferenceIdeal.Run
public import proofs.«01_k».proof.Proof.Attn.Pre
public import proofs.«01_k».proof.Proof.Attn.Ref
public import proofs.«01_k».proof.Proof.Attn.Final
public import proofs.«01_k».proof.Proof.Experts.Bits.Ok
public import proofs.«01_k».proof.Proof.Experts.Final
public import proofs.«01_k».proof.Proof.Experts.Ref
public import proofs.«01_k».proof.Proof.Inproj.Pre
public import proofs.«01_k».proof.Proof.Inproj.Link
public import proofs.«01_k».proof.Proof.Merge.Ref
public import proofs.«01_k».proof.Proof.Pos.Ref
public import proofs.«01_k».proof.Proof.Pos.Final
public import Idealize.ShloMosaic.Adequacy
public import Idealize.ShloMosaic.Init

@[expose] public section

noncomputable section

namespace Cert.Proof

open Idealize.ShloMosaic Idealize.SL.Sem Cert.Kernel

/-- The attention kernel and its reference end with equal results when the queries and the keys are finite. -/
theorem attention : Cert.algebraic_KernelIdeal_ReferenceIdeal_pre_finite_scores := by
  pair_intro
  · run_from Cert.KernelIdeal.Gen.run_main m g
  · refine θ_run_mono (Cert.ReferenceIdeal.Value.run m' g') fun r h c => ⟨(h c).1.trans ?_, (h c).2⟩
    obtain ⟨h0, h1, h2, h3, h4⟩ := hagree c
    rw [Cert.KernelIdeal.Attn.final m c]
    refine (Cert.ReferenceIdeal.Attn.run_eq m' c).trans ?_
    rw [h0, h1, h2, h3, h4]
    obtain ⟨hq, hc, hx⟩ := Cert.Pre_finite_scores.real_of _ _ _ _ _ (hpre c)
    funext j
    idx_vars j
    rw [Cert.ReferenceIdeal.Attn.ref_at]
    exact Cert.Attn.attendRef_eq _ _ _ _ _ _ (fun i => hq _) (fun k i => hc _) (fun k i => hx _)

/-- The attention reference runs, keeps its arguments and leaves every counter at zero. -/
theorem attention_reference : Cert.quiescent_ReferenceIdeal := fun m g _ =>
  θ_run_mono (Cert.ReferenceIdeal.Value.run m g) fun _ h => ⟨fun c => (h c).2, sem_eq_zero_of_no_sems rfl _⟩

/-- The experts kernel and its reference end with equal results when the tables are in range. -/
theorem experts : Cert.algebraic_ExpertsIdeal_ExpertsReferenceIdeal := by
  pair_intro
  · exact Cert.ExpertsIdeal.Hand.run_result m g hpre
  · refine θ_run_mono (Cert.ExpertsReferenceIdeal.Value.run m' g') fun r h c => ⟨(h c).1.trans ?_, (h c).2⟩
    obtain ⟨h0, h1, h2, h3, h4, h5⟩ := hagree c
    refine Eq.trans (b := Cert.ExpertsReferenceIdeal.Hand.REF (m' ((c.tc : Thread Cert.ExpertsReferenceIdeal.nD Cert.ExpertsReferenceIdeal.τ).loc Cert.ExpertsReferenceIdeal.main_arg0))
      (m' ((c.tc : Thread Cert.ExpertsReferenceIdeal.nD Cert.ExpertsReferenceIdeal.τ).loc Cert.ExpertsReferenceIdeal.main_arg1))
      (m' ((c.tc : Thread Cert.ExpertsReferenceIdeal.nD Cert.ExpertsReferenceIdeal.τ).loc Cert.ExpertsReferenceIdeal.main_arg2))
      (m' ((c.tc : Thread Cert.ExpertsReferenceIdeal.nD Cert.ExpertsReferenceIdeal.τ).loc Cert.ExpertsReferenceIdeal.main_arg3))
      (m' ((c.tc : Thread Cert.ExpertsReferenceIdeal.nD Cert.ExpertsReferenceIdeal.τ).loc Cert.ExpertsReferenceIdeal.main_arg4))
      (m' ((c.tc : Thread Cert.ExpertsReferenceIdeal.nD Cert.ExpertsReferenceIdeal.τ).loc Cert.ExpertsReferenceIdeal.main_arg5))) rfl ?_
    rw [h0, h1, h2, h3, h4, h5]
    funext j
    idx_vars j
    exact Cert.ExpertsReferenceIdeal.Hand.ref_at _ _ _ _ _ _ (fun i => ((Cert.Pre_expert_tables.tables_of _ _ _ _ _ _ (hpre c)).1 i).1) _ _

/-- The experts reference runs, keeps its arguments and leaves every counter at zero. -/
theorem experts_reference : Cert.quiescent_ExpertsReferenceIdeal := fun m g _ =>
  θ_run_mono (Cert.ExpertsReferenceIdeal.Value.run m g) fun _ h => ⟨fun c => (h c).2, sem_eq_zero_of_no_sems rfl _⟩

/-- Under the precondition every row the projection multiplies is a row of real numbers. -/
theorem rows_real (x0 : FVec Ideal Cert.Pre_finite_heads.S32x2048x1024 .f32) (x1 : FVec Ideal Cert.Pre_finite_heads.S40x6x1x1024 .f32) (x2 : FVec Ideal Cert.Pre_finite_heads.S1x1024 .f32)
    (h1 : ∀ (b : Fin 32) (t : Fin 2) (i : Fin 1024), ∃ r : ℝ, x1 (ix4 ⟨b, by omega⟩ ⟨t, by omega⟩ 0 i) = r) (h2 : ∀ i, ∃ r : ℝ, x2 i = r) (b : Fin 32) (s : Fin 2048) (k : Fin 1024) :
    ∃ r : ℝ, Cert.InprojIdeal.Body.H x0 x1 x2 b s k = r :=
  Cert.Inproj.hrow_real _ _ _ _ (fun i => h2 _) (fun i => h1 b 1 i) (fun i => h1 b 0 i) k

set_option maxHeartbeats 4000000 in
/-- The input projection kernel and its reference end with nine equal results when the numbers behind the heads are finite. -/
theorem projection : Cert.algebraic_InprojIdeal_InprojReferenceIdeal_pre_finite_heads := by
  intro m g m' g' hpre hagree
  refine ⟨fun c => (Cert.InprojIdeal.Gen.dats m 0 c).arrAt 16 Cert.InprojIdeal.cfg0.N, fun c => (Cert.InprojIdeal.Gen.dats m 0 c).arrAt 17 Cert.InprojIdeal.cfg0.N, fun c => (Cert.InprojIdeal.Gen.dats m 0 c).arrAt 18 Cert.InprojIdeal.cfg0.N, fun c => (Cert.InprojIdeal.Gen.dats m 0 c).arrAt 19 Cert.InprojIdeal.cfg0.N, fun c => (Cert.InprojIdeal.Gen.dats m 0 c).arrAt 20 Cert.InprojIdeal.cfg0.N, fun c => (Cert.InprojIdeal.Gen.dats m 0 c).arrAt 21 Cert.InprojIdeal.cfg0.N, fun c => (Cert.InprojIdeal.Gen.dats m 0 c).arrAt 22 Cert.InprojIdeal.cfg0.N, fun c => (Cert.InprojIdeal.Gen.dats m 0 c).arrAt 23 Cert.InprojIdeal.cfg0.N, fun c => (Cert.InprojIdeal.Gen.dats m 0 c).arrAt 24 Cert.InprojIdeal.cfg0.N, ?_, ?_⟩
  · exact Cert.InprojIdeal.Value.run_blocks m g
  · refine θ_run_mono (Cert.InprojReferenceIdeal.Value.run m' g') fun r h c => ?_
    obtain ⟨h0, h1, h2, h3, h4, h5, h6, h7, h8, h9, h10, h11, h12, h13⟩ := hagree c
    obtain ⟨r1, r2, r3, r8⟩ := Cert.Pre_finite_heads.real_of _ _ _ _ _ _ _ _ _ _ _ _ _ _ (hpre c)
    have hk := fun b s (i : Fin 128) => Cert.Inproj.proj_real (n := 128) _ (fun i k => (m ((c.tc : Thread Cert.InprojIdeal.nD Cert.InprojIdeal.τ).loc Cert.InprojIdeal.main_arg3)) (ix2 i ⟨k, by omega⟩)) (rows_real (m ((c.tc : Thread Cert.InprojIdeal.nD Cert.InprojIdeal.τ).loc Cert.InprojIdeal.main_arg0)) _ _ r1 r2 b s) (fun i k => r3 i k) i
    have hq := fun b s (i : Fin 512) => Cert.Inproj.proj_real _ (fun i k => (m ((c.tc : Thread Cert.InprojIdeal.nD Cert.InprojIdeal.τ).loc Cert.InprojIdeal.main_arg8)) (ix2 i k)) (rows_real (m ((c.tc : Thread Cert.InprojIdeal.nD Cert.InprojIdeal.τ).loc Cert.InprojIdeal.main_arg0)) _ _ r1 r2 b s) (fun i k => r8 _) i
    refine ⟨?_, ?_, ?_, ?_, ?_, ?_, ?_, ?_, ?_, (h c).2.2.2.2.2.2.2.2.2⟩
    · refine (h c).1.trans ((Cert.InprojReferenceIdeal.Hand.ref16 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg7)) (m' ((c.tc : Thread Cert.InprojReferenceIdeal.nD Cert.InprojReferenceIdeal.τ).loc Cert.InprojReferenceIdeal.main_arg12)) (m' ((c.tc : Thread Cert.InprojReferenceIdeal.nD Cert.InprojReferenceIdeal.τ).loc Cert.InprojReferenceIdeal.main_arg13))).trans (Eq.trans ?_ (Cert.InprojIdeal.Body.final16 m c hk).symm))
      rw [h0, h1, h2, h3, h7, h12, h13]
    · refine (h c).2.1.trans ((Cert.InprojReferenceIdeal.Hand.ref17 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3))).trans (Eq.trans ?_ (Cert.InprojIdeal.Body.final17 m c).symm))
      rw [h0, h1, h2, h3]
    · refine (h c).2.2.1.trans ((Cert.InprojReferenceIdeal.Hand.ref18 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg4))).trans (Eq.trans ?_ (Cert.InprojIdeal.Body.final18 m c).symm))
      rw [h0, h1, h2, h4]
    · refine (h c).2.2.2.1.trans ((Cert.InprojReferenceIdeal.Hand.ref19 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg4))).trans (Eq.trans ?_ (Cert.InprojIdeal.Body.final19 m c).symm))
      rw [h0, h1, h2, h4]
    · refine (h c).2.2.2.2.1.trans ((Cert.InprojReferenceIdeal.Hand.ref20 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg5)) (m' ((c.tc : Thread Cert.InprojReferenceIdeal.nD Cert.InprojReferenceIdeal.τ).loc Cert.InprojReferenceIdeal.main_arg6))).trans (Eq.trans ?_ (Cert.InprojIdeal.Body.final20 m c).symm))
      rw [h0, h1, h2, h5, h6]
    · refine (h c).2.2.2.2.2.1.trans ((Cert.InprojReferenceIdeal.Hand.ref21 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg5)) (m' ((c.tc : Thread Cert.InprojReferenceIdeal.nD Cert.InprojReferenceIdeal.τ).loc Cert.InprojReferenceIdeal.main_arg6))).trans (Eq.trans ?_ (Cert.InprojIdeal.Body.final21 m c).symm))
      rw [h0, h1, h2, h5, h6]
    · refine (h c).2.2.2.2.2.2.1.trans ((Cert.InprojReferenceIdeal.Hand.ref22 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg8)) (m' ((c.tc : Thread Cert.InprojReferenceIdeal.nD Cert.InprojReferenceIdeal.τ).loc Cert.InprojReferenceIdeal.main_arg11)) (m' ((c.tc : Thread Cert.InprojReferenceIdeal.nD Cert.InprojReferenceIdeal.τ).loc Cert.InprojReferenceIdeal.main_arg12)) (m' ((c.tc : Thread Cert.InprojReferenceIdeal.nD Cert.InprojReferenceIdeal.τ).loc Cert.InprojReferenceIdeal.main_arg13))).trans (Eq.trans ?_ (Cert.InprojIdeal.Body.final22 m c hq).symm))
      rw [h0, h1, h2, h8, h11, h12, h13]
    · refine (h c).2.2.2.2.2.2.2.1.trans ((Cert.InprojReferenceIdeal.Hand.ref23 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg9))).trans (Eq.trans ?_ (Cert.InprojIdeal.Body.final23 m c).symm))
      rw [h0, h1, h2, h9]
    · refine (h c).2.2.2.2.2.2.2.2.1.trans ((Cert.InprojReferenceIdeal.Hand.ref24 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg10))).trans (Eq.trans ?_ (Cert.InprojIdeal.Body.final24 m c).symm))
      rw [h0, h1, h2, h10]

/-- The input projection reference runs, keeps its arguments and leaves every counter at zero. -/
theorem projection_reference : Cert.quiescent_InprojReferenceIdeal := fun m g _ =>
  θ_run_mono (Cert.InprojReferenceIdeal.Value.run m g) fun _ h => ⟨fun c => (h c).2.2.2.2.2.2.2.2.2, sem_eq_zero_of_no_sems rfl _⟩

set_option maxHeartbeats 4000000 in
/-- The merge: on the extended reals the kernel's residual rows, experts' rows and scores are the reference's, at all arguments. -/
theorem merge : Cert.algebraic_MergeIdeal_MergeReferenceIdeal := by
  intro m g m' g' hpre hagree
  refine ⟨fun c => (Cert.MergeIdeal.Gen.dats m 0 c).arrAt 16 Cert.MergeIdeal.cfg0.N, fun c => (Cert.MergeIdeal.Gen.dats m 0 c).arrAt 17 Cert.MergeIdeal.cfg0.N, fun c => (Cert.MergeIdeal.Gen.dats m 0 c).arrAt 18 Cert.MergeIdeal.cfg0.N, ?_, ?_⟩
  · exact Cert.MergeIdeal.Value.run_blocks m g
  · refine θ_run_mono (Cert.MergeReferenceIdeal.Value.run m' g') fun r h c => ?_
    obtain ⟨h0, h1, h2, h3, h4, h5, h6, h7, h8, h9, h10, h11, h12, h13⟩ := hagree c
    refine ⟨?_, ?_, ?_, (h c).2.2.2⟩
    · refine (h c).1.trans ((Cert.MergeReferenceIdeal.Hand.ref16 (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg10)) (m' ((c.tc : Thread Cert.MergeReferenceIdeal.nD Cert.MergeReferenceIdeal.τ).loc Cert.MergeReferenceIdeal.main_arg11)) (m' ((c.tc : Thread Cert.MergeReferenceIdeal.nD Cert.MergeReferenceIdeal.τ).loc Cert.MergeReferenceIdeal.main_arg12))).trans (Eq.trans ?_ (Cert.MergeIdeal.Body.final16 m c).symm))
      rw [h0, h1, h2, h3, h4, h5, h6, h7, h8, h10, h11, h12]
    · refine (h c).2.1.trans ((Cert.MergeReferenceIdeal.Hand.ref17 (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg9)) (m' ((c.tc : Thread Cert.MergeReferenceIdeal.nD Cert.MergeReferenceIdeal.τ).loc Cert.MergeReferenceIdeal.main_arg10)) (m' ((c.tc : Thread Cert.MergeReferenceIdeal.nD Cert.MergeReferenceIdeal.τ).loc Cert.MergeReferenceIdeal.main_arg11)) (m' ((c.tc : Thread Cert.MergeReferenceIdeal.nD Cert.MergeReferenceIdeal.τ).loc Cert.MergeReferenceIdeal.main_arg12))).trans (Eq.trans ?_ (Cert.MergeIdeal.Body.final17 m c).symm))
      rw [h0, h1, h2, h3, h4, h5, h6, h7, h8, h9, h10, h11, h12]
    · refine (h c).2.2.1.trans ((Cert.MergeReferenceIdeal.Hand.ref18 (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3)) (m' ((c.tc : Thread Cert.MergeReferenceIdeal.nD Cert.MergeReferenceIdeal.τ).loc Cert.MergeReferenceIdeal.main_arg4)) (m' ((c.tc : Thread Cert.MergeReferenceIdeal.nD Cert.MergeReferenceIdeal.τ).loc Cert.MergeReferenceIdeal.main_arg5)) (m' ((c.tc : Thread Cert.MergeReferenceIdeal.nD Cert.MergeReferenceIdeal.τ).loc Cert.MergeReferenceIdeal.main_arg6)) (m' ((c.tc : Thread Cert.MergeReferenceIdeal.nD Cert.MergeReferenceIdeal.τ).loc Cert.MergeReferenceIdeal.main_arg7)) (m' ((c.tc : Thread Cert.MergeReferenceIdeal.nD Cert.MergeReferenceIdeal.τ).loc Cert.MergeReferenceIdeal.main_arg8)) (m' ((c.tc : Thread Cert.MergeReferenceIdeal.nD Cert.MergeReferenceIdeal.τ).loc Cert.MergeReferenceIdeal.main_arg9)) (m' ((c.tc : Thread Cert.MergeReferenceIdeal.nD Cert.MergeReferenceIdeal.τ).loc Cert.MergeReferenceIdeal.main_arg10)) (m' ((c.tc : Thread Cert.MergeReferenceIdeal.nD Cert.MergeReferenceIdeal.τ).loc Cert.MergeReferenceIdeal.main_arg11)) (m' ((c.tc : Thread Cert.MergeReferenceIdeal.nD Cert.MergeReferenceIdeal.τ).loc Cert.MergeReferenceIdeal.main_arg12)) (m' ((c.tc : Thread Cert.MergeReferenceIdeal.nD Cert.MergeReferenceIdeal.τ).loc Cert.MergeReferenceIdeal.main_arg13))).trans (Eq.trans ?_ (Cert.MergeIdeal.Body.final18 m c).symm))
      rw [h0, h1, h2, h3, h4, h5, h6, h7, h8, h9, h10, h11, h12, h13]

/-- The merge reference runs, keeps its arguments and leaves every counter at zero. -/
theorem merge_reference : Cert.quiescent_MergeReferenceIdeal := fun m g _ =>
  θ_run_mono (Cert.MergeReferenceIdeal.Value.run m g) fun _ h => ⟨fun c => (h c).2.2.2, sem_eq_zero_of_no_sems rfl _⟩

/-- Under the precondition every row the context projection multiplies is a row of real numbers. -/
theorem context_rows_real (x0 : FVec Ideal Cert.Pre_finite_keys.S32x256x1024 .f32) (x1 : FVec Ideal Cert.Pre_finite_keys.S40x6x1x1024 .f32) (x2 : FVec Ideal Cert.Pre_finite_keys.S1x1024 .f32)
    (h1 : ∀ (t : Fin 2) (i : Fin 1024), ∃ r : ℝ, x1 (ix4 ⟨32, by norm_num⟩ ⟨t, by omega⟩ 0 i) = r) (h2 : ∀ i, ∃ r : ℝ, x2 i = r) (b : Fin 32) (s : Fin 256) (k : Fin 1024) :
    ∃ r : ℝ, Cert.InprojCtxIdeal.Body.H x0 x1 x2 b s k = r :=
  Cert.Inproj.hrow_real _ _ _ _ (fun i => h2 _) (fun i => h1 1 i) (fun i => h1 0 i) k

set_option maxHeartbeats 4000000 in
/-- The context projection kernel and its reference end with six equal results when the numbers behind the keys are finite. -/
theorem context : Cert.algebraic_InprojCtxIdeal_InprojCtxReferenceIdeal_pre_finite_keys := by
  intro m g m' g' hpre hagree
  refine ⟨fun c => (Cert.InprojCtxIdeal.Gen.dats m 0 c).arrAt 10 Cert.InprojCtxIdeal.cfg0.N, fun c => (Cert.InprojCtxIdeal.Gen.dats m 0 c).arrAt 11 Cert.InprojCtxIdeal.cfg0.N, fun c => (Cert.InprojCtxIdeal.Gen.dats m 0 c).arrAt 12 Cert.InprojCtxIdeal.cfg0.N, fun c => (Cert.InprojCtxIdeal.Gen.dats m 0 c).arrAt 13 Cert.InprojCtxIdeal.cfg0.N, fun c => (Cert.InprojCtxIdeal.Gen.dats m 0 c).arrAt 14 Cert.InprojCtxIdeal.cfg0.N, fun c => (Cert.InprojCtxIdeal.Gen.dats m 0 c).arrAt 15 Cert.InprojCtxIdeal.cfg0.N, ?_, ?_⟩
  · exact Cert.InprojCtxIdeal.Value.run_blocks m g
  · refine θ_run_mono (Cert.InprojCtxReferenceIdeal.Value.run m' g') fun r h c => ?_
    obtain ⟨h0, h1, h2, h3, h4, h5, h6, h7⟩ := hagree c
    obtain ⟨r1, r2, r3⟩ := Cert.Pre_finite_keys.real_of _ _ _ _ _ _ _ _ (hpre c)
    have hk := fun b s (i : Fin 128) => Cert.Inproj.proj_real (n := 128) _ (fun i k => (m ((c.tc : Thread Cert.InprojCtxIdeal.nD Cert.InprojCtxIdeal.τ).loc Cert.InprojCtxIdeal.main_arg3)) (ix2 i ⟨k, by omega⟩)) (context_rows_real (m ((c.tc : Thread Cert.InprojCtxIdeal.nD Cert.InprojCtxIdeal.τ).loc Cert.InprojCtxIdeal.main_arg0)) _ _ r1 r2 b s) (fun i k => r3 i k) i
    refine ⟨?_, ?_, ?_, ?_, ?_, ?_, (h c).2.2.2.2.2.2⟩
    · refine (h c).1.trans ((Cert.InprojCtxReferenceIdeal.Hand.ref10 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg3)) (m' ((c.tc : Thread Cert.InprojCtxReferenceIdeal.nD Cert.InprojCtxReferenceIdeal.τ).loc Cert.InprojCtxReferenceIdeal.main_arg7))).trans (Eq.trans ?_ (Cert.InprojCtxIdeal.Body.final10 m c hk).symm))
      rw [h0, h1, h2, h3, h7]
    · refine (h c).2.1.trans ((Cert.InprojCtxReferenceIdeal.Hand.ref11 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg3))).trans (Eq.trans ?_ (Cert.InprojCtxIdeal.Body.final11 m c).symm))
      rw [h0, h1, h2, h3]
    · refine (h c).2.2.1.trans ((Cert.InprojCtxReferenceIdeal.Hand.ref12 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg4))).trans (Eq.trans ?_ (Cert.InprojCtxIdeal.Body.final12 m c).symm))
      rw [h0, h1, h2, h4]
    · refine (h c).2.2.2.1.trans ((Cert.InprojCtxReferenceIdeal.Hand.ref13 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg4))).trans (Eq.trans ?_ (Cert.InprojCtxIdeal.Body.final13 m c).symm))
      rw [h0, h1, h2, h4]
    · refine (h c).2.2.2.2.1.trans ((Cert.InprojCtxReferenceIdeal.Hand.ref14 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg5)) (m' ((c.tc : Thread Cert.InprojCtxReferenceIdeal.nD Cert.InprojCtxReferenceIdeal.τ).loc Cert.InprojCtxReferenceIdeal.main_arg6))).trans (Eq.trans ?_ (Cert.InprojCtxIdeal.Body.final14 m c).symm))
      rw [h0, h1, h2, h5, h6]
    · refine (h c).2.2.2.2.2.1.trans ((Cert.InprojCtxReferenceIdeal.Hand.ref15 (m' ((c.tc : Thread Cert.InprojCtxReferenceIdeal.nD Cert.InprojCtxReferenceIdeal.τ).loc Cert.InprojCtxReferenceIdeal.main_arg0)) (m' ((c.tc : Thread Cert.InprojCtxReferenceIdeal.nD Cert.InprojCtxReferenceIdeal.τ).loc Cert.InprojCtxReferenceIdeal.main_arg1)) (m' ((c.tc : Thread Cert.InprojCtxReferenceIdeal.nD Cert.InprojCtxReferenceIdeal.τ).loc Cert.InprojCtxReferenceIdeal.main_arg2)) (m' ((c.tc : Thread Cert.InprojCtxReferenceIdeal.nD Cert.InprojCtxReferenceIdeal.τ).loc Cert.InprojCtxReferenceIdeal.main_arg5)) (m' ((c.tc : Thread Cert.InprojCtxReferenceIdeal.nD Cert.InprojCtxReferenceIdeal.τ).loc Cert.InprojCtxReferenceIdeal.main_arg6))).trans (Eq.trans ?_ (Cert.InprojCtxIdeal.Body.final15 m c).symm))
      rw [h0, h1, h2, h5, h6]

/-- The context projection reference runs, keeps its arguments and leaves every counter at zero. -/
theorem context_reference : Cert.quiescent_InprojCtxReferenceIdeal := fun m g _ =>
  θ_run_mono (Cert.InprojCtxReferenceIdeal.Value.run m g) fun _ h => ⟨fun c => (h c).2.2.2.2.2.2, sem_eq_zero_of_no_sems rfl _⟩

/-- The modulation: on the extended reals the kernel's rows are the reference's, at all arguments. -/
theorem modulation : Cert.algebraic_AdaIdeal_AdaReferenceIdeal := by
  intro m g m' g' hpre hagree
  refine ⟨fun c => (Cert.AdaIdeal.Gen.dats m 0 c).arrAt 3 Cert.AdaIdeal.cfg0.N, ?_, ?_⟩
  · exact Cert.AdaIdeal.Value.run_blocks m g
  · refine θ_run_mono (Cert.AdaReferenceIdeal.Value.run m' g') fun r h c => ?_
    obtain ⟨h0, h1, h2⟩ := hagree c
    refine ⟨?_, (h c).2⟩
    refine (h c).1.trans ((Cert.AdaReferenceIdeal.Hand.ref3 (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1)) (m' ((c.tc : Thread Cert.AdaReferenceIdeal.nD Cert.AdaReferenceIdeal.τ).loc Cert.AdaReferenceIdeal.main_arg2))).trans (Eq.trans ?_ (Cert.AdaIdeal.Body.final3 m c).symm))
    rw [h0, h1, h2]
    rfl

/-- The modulation reference runs, keeps its arguments and leaves every counter at zero. -/
theorem modulation_reference : Cert.quiescent_AdaReferenceIdeal := fun m g _ =>
  θ_run_mono (Cert.AdaReferenceIdeal.Value.run m g) fun _ h => ⟨fun c => (h c).2, sem_eq_zero_of_no_sems rfl _⟩

/-- The positions: on the extended reals the kernel's places of the selected experts' tokens are the reference's, at all arguments. -/
theorem positions : Cert.algebraic_PosIdeal_PosReferenceIdeal := by
  intro m g m' g' hpre hagree
  refine ⟨fun c => (Cert.PosIdeal.Gen.dats m 0 c).arrAt 3 Cert.PosIdeal.cfg0.N, ?_, ?_⟩
  · exact Cert.PosIdeal.Value.run_blocks m g
  · refine θ_run_mono (Cert.PosReferenceIdeal.Value.run m' g') fun r h c => ?_
    obtain ⟨h0, h1⟩ := hagree c
    refine ⟨?_, (h c).2⟩
    refine (h c).1.trans ((Cert.PosReferenceIdeal.Hand.ref3 (m' ((c.tc : Thread Cert.PosReferenceIdeal.nD Cert.PosReferenceIdeal.τ).loc Cert.PosReferenceIdeal.main_arg0)) (m' ((c.tc : Thread Cert.PosReferenceIdeal.nD Cert.PosReferenceIdeal.τ).loc Cert.PosReferenceIdeal.main_arg1))).trans (Eq.trans ?_ (Cert.PosIdeal.Body.final3 m c).symm))
    rw [h0, h1]
    rfl

/-- The positions' reference runs, keeps its arguments and leaves every counter at zero. -/
theorem positions_reference : Cert.quiescent_PosReferenceIdeal := fun m g _ =>
  θ_run_mono (Cert.PosReferenceIdeal.Value.run m g) fun _ h => ⟨fun c => (h c).2, sem_eq_zero_of_no_sems rfl _⟩

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Inproj.Gen.facts, Cert.InprojIdeal.Gen.facts, Cert.InprojReferenceIdeal.Gen.facts,
  Cert.Merge.Gen.facts, Cert.MergeIdeal.Gen.facts, Cert.MergeReferenceIdeal.Gen.facts,
  Cert.InprojCtx.Gen.facts, Cert.InprojCtxIdeal.Gen.facts, Cert.InprojCtxReferenceIdeal.Gen.facts,
  Cert.Ada.Gen.facts, Cert.AdaIdeal.Gen.facts, Cert.AdaReferenceIdeal.Gen.facts,
  Cert.Pos.Gen.facts, Cert.PosIdeal.Gen.facts, Cert.PosReferenceIdeal.Gen.facts,
  Cert.Pre_finite_scores.facts, Cert.Pre_expert_tables.facts, Cert.Pre_finite_heads.facts, Cert.Pre_finite_keys.facts,
  fun m ρ _ => Cert.Kernel.Gen.frame m ρ, fun m ρ _ => Cert.KernelIdeal.Gen.frame m ρ, fun m ρ _ => Cert.KernelIdeal.Gen.frame m ρ,
  attention_reference, fun m ρ _ => attention_reference m ρ trivial,
  fun m ρ h => Cert.Experts.Hand.unchanged m ρ (Cert.Experts.Hand.tables_ok m h),
  fun m ρ h => Cert.ExpertsIdeal.Hand.unchanged m ρ (Cert.ExpertsIdeal.Hand.tables_ok m h),
  experts_reference, fun m ρ _ => experts_reference m ρ trivial,
  fun m ρ _ => Cert.Inproj.Gen.frame m ρ, fun m ρ _ => Cert.InprojIdeal.Gen.frame m ρ, fun m ρ _ => Cert.InprojIdeal.Gen.frame m ρ,
  projection_reference, fun m ρ _ => projection_reference m ρ trivial,
  fun m ρ _ => Cert.Merge.Gen.frame m ρ, fun m ρ _ => Cert.MergeIdeal.Gen.frame m ρ, merge_reference,
  fun m ρ _ => Cert.InprojCtx.Gen.frame m ρ, fun m ρ _ => Cert.InprojCtxIdeal.Gen.frame m ρ, fun m ρ _ => Cert.InprojCtxIdeal.Gen.frame m ρ,
  context_reference, fun m ρ _ => context_reference m ρ trivial,
  fun m ρ _ => Cert.Ada.Gen.frame m ρ, fun m ρ _ => Cert.AdaIdeal.Gen.frame m ρ, modulation_reference,
  fun m ρ _ => Cert.Pos.Gen.frame m ρ, fun m ρ _ => Cert.PosIdeal.Gen.frame m ρ, positions_reference,
  trivial, attention, trivial, experts, trivial, projection, trivial, merge, trivial, context, trivial, modulation, trivial, positions⟩

end Cert.Proof

end
